-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_ConvLayer (m : (ℓ : Loc Cert.ConvLayer.nD Cert.ConvLayer.τ Cert.ConvLayer.sig) → Buf (Elt Bits) ℓ) : Prop :=
  True

def Pre_ConvLayerIdeal (m : (ℓ : Loc Cert.ConvLayerIdeal.nD Cert.ConvLayerIdeal.τ Cert.ConvLayerIdeal.sig) → Buf (Elt Ideal) ℓ) : Prop :=
  True

def Pre_ConvLayerReferenceIdeal (m : (ℓ : Loc Cert.ConvLayerReferenceIdeal.nD Cert.ConvLayerReferenceIdeal.τ Cert.ConvLayerReferenceIdeal.sig) → Buf (Elt Ideal) ℓ) : Prop :=
  True

def Pre_OutLayer (m : (ℓ : Loc Cert.OutLayer.nD Cert.OutLayer.τ Cert.OutLayer.sig) → Buf (Elt Bits) ℓ) : Prop :=
  True

def Pre_OutLayerIdeal (m : (ℓ : Loc Cert.OutLayerIdeal.nD Cert.OutLayerIdeal.τ Cert.OutLayerIdeal.sig) → Buf (Elt Ideal) ℓ) : Prop :=
  True

def Pre_OutLayerReferenceIdeal (m : (ℓ : Loc Cert.OutLayerReferenceIdeal.nD Cert.OutLayerReferenceIdeal.τ Cert.OutLayerReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
      ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6))
      ∧ r.2.sem = fun _ => 0)

def quiescent_ConvLayer [hConvLayer : Cert.ConvLayer.Facts] : Prop :=
  ∀ (m : (ℓ : Loc Cert.ConvLayer.nD Cert.ConvLayer.τ Cert.ConvLayer.sig) → Buf (Elt Bits) ℓ) (g : Dev Cert.ConvLayer.nD → PrngReg), Pre_ConvLayer m →
    θ_run (Cert.ConvLayer.defs (F := Bits)) (onTc (τ := Cert.ConvLayer.τ) (Cert.ConvLayer.main (F := Bits))) ⟨m, fun _ => 0, g⟩ (fun r => (∀ c : Dev Cert.ConvLayer.nD,
      r.2.mem ((c.tc : Thread Cert.ConvLayer.nD Cert.ConvLayer.τ).loc Cert.ConvLayer.main_arg0) = m ((c.tc : Thread Cert.ConvLayer.nD Cert.ConvLayer.τ).loc Cert.ConvLayer.main_arg0)
      ∧ r.2.mem ((c.tc : Thread Cert.ConvLayer.nD Cert.ConvLayer.τ).loc Cert.ConvLayer.main_arg1) = m ((c.tc : Thread Cert.ConvLayer.nD Cert.ConvLayer.τ).loc Cert.ConvLayer.main_arg1)
      ∧ r.2.mem ((c.tc : Thread Cert.ConvLayer.nD Cert.ConvLayer.τ).loc Cert.ConvLayer.main_arg2) = m ((c.tc : Thread Cert.ConvLayer.nD Cert.ConvLayer.τ).loc Cert.ConvLayer.main_arg2)
      ∧ r.2.mem ((c.tc : Thread Cert.ConvLayer.nD Cert.ConvLayer.τ).loc Cert.ConvLayer.main_arg3) = m ((c.tc : Thread Cert.ConvLayer.nD Cert.ConvLayer.τ).loc Cert.ConvLayer.main_arg3)
      ∧ r.2.mem ((c.tc : Thread Cert.ConvLayer.nD Cert.ConvLayer.τ).loc Cert.ConvLayer.main_arg4) = m ((c.tc : Thread Cert.ConvLayer.nD Cert.ConvLayer.τ).loc Cert.ConvLayer.main_arg4)
      ∧ r.2.mem ((c.tc : Thread Cert.ConvLayer.nD Cert.ConvLayer.τ).loc Cert.ConvLayer.main_arg5) = m ((c.tc : Thread Cert.ConvLayer.nD Cert.ConvLayer.τ).loc Cert.ConvLayer.main_arg5))
      ∧ r.2.sem = fun _ => 0)

def quiescent_ConvLayerIdeal [hConvLayerIdeal : Cert.ConvLayerIdeal.Facts] : Prop :=
  ∀ (m : (ℓ : Loc Cert.ConvLayerIdeal.nD Cert.ConvLayerIdeal.τ Cert.ConvLayerIdeal.sig) → Buf (Elt Ideal) ℓ) (g : Dev Cert.ConvLayerIdeal.nD → PrngReg), Pre_ConvLayerIdeal m →
    θ_run (Cert.ConvLayerIdeal.defs (F := Ideal)) (onTc (τ := Cert.ConvLayerIdeal.τ) (Cert.ConvLayerIdeal.main (F := Ideal))) ⟨m, fun _ => 0, g⟩ (fun r => (∀ c : Dev Cert.ConvLayerIdeal.nD,
      r.2.mem ((c.tc : Thread Cert.ConvLayerIdeal.nD Cert.ConvLayerIdeal.τ).loc Cert.ConvLayerIdeal.main_arg0) = m ((c.tc : Thread Cert.ConvLayerIdeal.nD Cert.ConvLayerIdeal.τ).loc Cert.ConvLayerIdeal.main_arg0)
      ∧ r.2.mem ((c.tc : Thread Cert.ConvLayerIdeal.nD Cert.ConvLayerIdeal.τ).loc Cert.ConvLayerIdeal.main_arg1) = m ((c.tc : Thread Cert.ConvLayerIdeal.nD Cert.ConvLayerIdeal.τ).loc Cert.ConvLayerIdeal.main_arg1)
      ∧ r.2.mem ((c.tc : Thread Cert.ConvLayerIdeal.nD Cert.ConvLayerIdeal.τ).loc Cert.ConvLayerIdeal.main_arg2) = m ((c.tc : Thread Cert.ConvLayerIdeal.nD Cert.ConvLayerIdeal.τ).loc Cert.ConvLayerIdeal.main_arg2)
      ∧ r.2.mem ((c.tc : Thread Cert.ConvLayerIdeal.nD Cert.ConvLayerIdeal.τ).loc Cert.ConvLayerIdeal.main_arg3) = m ((c.tc : Thread Cert.ConvLayerIdeal.nD Cert.ConvLayerIdeal.τ).loc Cert.ConvLayerIdeal.main_arg3)
      ∧ r.2.mem ((c.tc : Thread Cert.ConvLayerIdeal.nD Cert.ConvLayerIdeal.τ).loc Cert.ConvLayerIdeal.main_arg4) = m ((c.tc : Thread Cert.ConvLayerIdeal.nD Cert.ConvLayerIdeal.τ).loc Cert.ConvLayerIdeal.main_arg4)
      ∧ r.2.mem ((c.tc : Thread Cert.ConvLayerIdeal.nD Cert.ConvLayerIdeal.τ).loc Cert.ConvLayerIdeal.main_arg5) = m ((c.tc : Thread Cert.ConvLayerIdeal.nD Cert.ConvLayerIdeal.τ).loc Cert.ConvLayerIdeal.main_arg5))
      ∧ r.2.sem = fun _ => 0)

def quiescent_ConvLayerReferenceIdeal [hConvLayerReferenceIdeal : Cert.ConvLayerReferenceIdeal.Facts] : Prop :=
  ∀ (m : (ℓ : Loc Cert.ConvLayerReferenceIdeal.nD Cert.ConvLayerReferenceIdeal.τ Cert.ConvLayerReferenceIdeal.sig) → Buf (Elt Ideal) ℓ) (g : Dev Cert.ConvLayerReferenceIdeal.nD → PrngReg), Pre_ConvLayerReferenceIdeal m →
    θ_run (Cert.ConvLayerReferenceIdeal.defs (F := Ideal)) (onTc (τ := Cert.ConvLayerReferenceIdeal.τ) (Cert.ConvLayerReferenceIdeal.main (F := Ideal))) ⟨m, fun _ => 0, g⟩ (fun r => (∀ c : Dev Cert.ConvLayerReferenceIdeal.nD,
      r.2.mem ((c.tc : Thread Cert.ConvLayerReferenceIdeal.nD Cert.ConvLayerReferenceIdeal.τ).loc Cert.ConvLayerReferenceIdeal.main_arg0) = m ((c.tc : Thread Cert.ConvLayerReferenceIdeal.nD Cert.ConvLayerReferenceIdeal.τ).loc Cert.ConvLayerReferenceIdeal.main_arg0)
      ∧ r.2.mem ((c.tc : Thread Cert.ConvLayerReferenceIdeal.nD Cert.ConvLayerReferenceIdeal.τ).loc Cert.ConvLayerReferenceIdeal.main_arg1) = m ((c.tc : Thread Cert.ConvLayerReferenceIdeal.nD Cert.ConvLayerReferenceIdeal.τ).loc Cert.ConvLayerReferenceIdeal.main_arg1)
      ∧ r.2.mem ((c.tc : Thread Cert.ConvLayerReferenceIdeal.nD Cert.ConvLayerReferenceIdeal.τ).loc Cert.ConvLayerReferenceIdeal.main_arg2) = m ((c.tc : Thread Cert.ConvLayerReferenceIdeal.nD Cert.ConvLayerReferenceIdeal.τ).loc Cert.ConvLayerReferenceIdeal.main_arg2)
      ∧ r.2.mem ((c.tc : Thread Cert.ConvLayerReferenceIdeal.nD Cert.ConvLayerReferenceIdeal.τ).loc Cert.ConvLayerReferenceIdeal.main_arg3) = m ((c.tc : Thread Cert.ConvLayerReferenceIdeal.nD Cert.ConvLayerReferenceIdeal.τ).loc Cert.ConvLayerReferenceIdeal.main_arg3)
      ∧ r.2.mem ((c.tc : Thread Cert.ConvLayerReferenceIdeal.nD Cert.ConvLayerReferenceIdeal.τ).loc Cert.ConvLayerReferenceIdeal.main_arg4) = m ((c.tc : Thread Cert.ConvLayerReferenceIdeal.nD Cert.ConvLayerReferenceIdeal.τ).loc Cert.ConvLayerReferenceIdeal.main_arg4)
      ∧ r.2.mem ((c.tc : Thread Cert.ConvLayerReferenceIdeal.nD Cert.ConvLayerReferenceIdeal.τ).loc Cert.ConvLayerReferenceIdeal.main_arg5) = m ((c.tc : Thread Cert.ConvLayerReferenceIdeal.nD Cert.ConvLayerReferenceIdeal.τ).loc Cert.ConvLayerReferenceIdeal.main_arg5))
      ∧ r.2.sem = fun _ => 0)

def quiescent_OutLayer [hOutLayer : Cert.OutLayer.Facts] : Prop :=
  ∀ (m : (ℓ : Loc Cert.OutLayer.nD Cert.OutLayer.τ Cert.OutLayer.sig) → Buf (Elt Bits) ℓ) (g : Dev Cert.OutLayer.nD → PrngReg), Pre_OutLayer m →
    θ_run (Cert.OutLayer.defs (F := Bits)) (onTc (τ := Cert.OutLayer.τ) (Cert.OutLayer.main (F := Bits))) ⟨m, fun _ => 0, g⟩ (fun r => (∀ c : Dev Cert.OutLayer.nD,
      r.2.mem ((c.tc : Thread Cert.OutLayer.nD Cert.OutLayer.τ).loc Cert.OutLayer.main_arg0) = m ((c.tc : Thread Cert.OutLayer.nD Cert.OutLayer.τ).loc Cert.OutLayer.main_arg0)
      ∧ r.2.mem ((c.tc : Thread Cert.OutLayer.nD Cert.OutLayer.τ).loc Cert.OutLayer.main_arg1) = m ((c.tc : Thread Cert.OutLayer.nD Cert.OutLayer.τ).loc Cert.OutLayer.main_arg1)
      ∧ r.2.mem ((c.tc : Thread Cert.OutLayer.nD Cert.OutLayer.τ).loc Cert.OutLayer.main_arg2) = m ((c.tc : Thread Cert.OutLayer.nD Cert.OutLayer.τ).loc Cert.OutLayer.main_arg2)
      ∧ r.2.mem ((c.tc : Thread Cert.OutLayer.nD Cert.OutLayer.τ).loc Cert.OutLayer.main_arg3) = m ((c.tc : Thread Cert.OutLayer.nD Cert.OutLayer.τ).loc Cert.OutLayer.main_arg3)
      ∧ r.2.mem ((c.tc : Thread Cert.OutLayer.nD Cert.OutLayer.τ).loc Cert.OutLayer.main_arg4) = m ((c.tc : Thread Cert.OutLayer.nD Cert.OutLayer.τ).loc Cert.OutLayer.main_arg4))
      ∧ r.2.sem = fun _ => 0)

def quiescent_OutLayerIdeal [hOutLayerIdeal : Cert.OutLayerIdeal.Facts] : Prop :=
  ∀ (m : (ℓ : Loc Cert.OutLayerIdeal.nD Cert.OutLayerIdeal.τ Cert.OutLayerIdeal.sig) → Buf (Elt Ideal) ℓ) (g : Dev Cert.OutLayerIdeal.nD → PrngReg), Pre_OutLayerIdeal m →
    θ_run (Cert.OutLayerIdeal.defs (F := Ideal)) (onTc (τ := Cert.OutLayerIdeal.τ) (Cert.OutLayerIdeal.main (F := Ideal))) ⟨m, fun _ => 0, g⟩ (fun r => (∀ c : Dev Cert.OutLayerIdeal.nD,
      r.2.mem ((c.tc : Thread Cert.OutLayerIdeal.nD Cert.OutLayerIdeal.τ).loc Cert.OutLayerIdeal.main_arg0) = m ((c.tc : Thread Cert.OutLayerIdeal.nD Cert.OutLayerIdeal.τ).loc Cert.OutLayerIdeal.main_arg0)
      ∧ r.2.mem ((c.tc : Thread Cert.OutLayerIdeal.nD Cert.OutLayerIdeal.τ).loc Cert.OutLayerIdeal.main_arg1) = m ((c.tc : Thread Cert.OutLayerIdeal.nD Cert.OutLayerIdeal.τ).loc Cert.OutLayerIdeal.main_arg1)
      ∧ r.2.mem ((c.tc : Thread Cert.OutLayerIdeal.nD Cert.OutLayerIdeal.τ).loc Cert.OutLayerIdeal.main_arg2) = m ((c.tc : Thread Cert.OutLayerIdeal.nD Cert.OutLayerIdeal.τ).loc Cert.OutLayerIdeal.main_arg2)
      ∧ r.2.mem ((c.tc : Thread Cert.OutLayerIdeal.nD Cert.OutLayerIdeal.τ).loc Cert.OutLayerIdeal.main_arg3) = m ((c.tc : Thread Cert.OutLayerIdeal.nD Cert.OutLayerIdeal.τ).loc Cert.OutLayerIdeal.main_arg3)
      ∧ r.2.mem ((c.tc : Thread Cert.OutLayerIdeal.nD Cert.OutLayerIdeal.τ).loc Cert.OutLayerIdeal.main_arg4) = m ((c.tc : Thread Cert.OutLayerIdeal.nD Cert.OutLayerIdeal.τ).loc Cert.OutLayerIdeal.main_arg4))
      ∧ r.2.sem = fun _ => 0)

def quiescent_OutLayerReferenceIdeal [hOutLayerReferenceIdeal : Cert.OutLayerReferenceIdeal.Facts] : Prop :=
  ∀ (m : (ℓ : Loc Cert.OutLayerReferenceIdeal.nD Cert.OutLayerReferenceIdeal.τ Cert.OutLayerReferenceIdeal.sig) → Buf (Elt Ideal) ℓ) (g : Dev Cert.OutLayerReferenceIdeal.nD → PrngReg), Pre_OutLayerReferenceIdeal m →
    θ_run (Cert.OutLayerReferenceIdeal.defs (F := Ideal)) (onTc (τ := Cert.OutLayerReferenceIdeal.τ) (Cert.OutLayerReferenceIdeal.main (F := Ideal))) ⟨m, fun _ => 0, g⟩ (fun r => (∀ c : Dev Cert.OutLayerReferenceIdeal.nD,
      r.2.mem ((c.tc : Thread Cert.OutLayerReferenceIdeal.nD Cert.OutLayerReferenceIdeal.τ).loc Cert.OutLayerReferenceIdeal.main_arg0) = m ((c.tc : Thread Cert.OutLayerReferenceIdeal.nD Cert.OutLayerReferenceIdeal.τ).loc Cert.OutLayerReferenceIdeal.main_arg0)
      ∧ r.2.mem ((c.tc : Thread Cert.OutLayerReferenceIdeal.nD Cert.OutLayerReferenceIdeal.τ).loc Cert.OutLayerReferenceIdeal.main_arg1) = m ((c.tc : Thread Cert.OutLayerReferenceIdeal.nD Cert.OutLayerReferenceIdeal.τ).loc Cert.OutLayerReferenceIdeal.main_arg1)
      ∧ r.2.mem ((c.tc : Thread Cert.OutLayerReferenceIdeal.nD Cert.OutLayerReferenceIdeal.τ).loc Cert.OutLayerReferenceIdeal.main_arg2) = m ((c.tc : Thread Cert.OutLayerReferenceIdeal.nD Cert.OutLayerReferenceIdeal.τ).loc Cert.OutLayerReferenceIdeal.main_arg2)
      ∧ r.2.mem ((c.tc : Thread Cert.OutLayerReferenceIdeal.nD Cert.OutLayerReferenceIdeal.τ).loc Cert.OutLayerReferenceIdeal.main_arg3) = m ((c.tc : Thread Cert.OutLayerReferenceIdeal.nD Cert.OutLayerReferenceIdeal.τ).loc Cert.OutLayerReferenceIdeal.main_arg3)
      ∧ r.2.mem ((c.tc : Thread Cert.OutLayerReferenceIdeal.nD Cert.OutLayerReferenceIdeal.τ).loc Cert.OutLayerReferenceIdeal.main_arg4) = m ((c.tc : Thread Cert.OutLayerReferenceIdeal.nD Cert.OutLayerReferenceIdeal.τ).loc Cert.OutLayerReferenceIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3)
      ∧ r.2.mem ((c.tc : Thread Cert.Modulation.nD Cert.Modulation.τ).loc Cert.Modulation.main_arg4) = m ((c.tc : Thread Cert.Modulation.nD Cert.Modulation.τ).loc Cert.Modulation.main_arg4)
      ∧ r.2.mem ((c.tc : Thread Cert.Modulation.nD Cert.Modulation.τ).loc Cert.Modulation.main_arg5) = m ((c.tc : Thread Cert.Modulation.nD Cert.Modulation.τ).loc Cert.Modulation.main_arg5)
      ∧ r.2.mem ((c.tc : Thread Cert.Modulation.nD Cert.Modulation.τ).loc Cert.Modulation.main_arg6) = m ((c.tc : Thread Cert.Modulation.nD Cert.Modulation.τ).loc Cert.Modulation.main_arg6))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3)
      ∧ r.2.mem ((c.tc : Thread Cert.ModulationIdeal.nD Cert.ModulationIdeal.τ).loc Cert.ModulationIdeal.main_arg4) = m ((c.tc : Thread Cert.ModulationIdeal.nD Cert.ModulationIdeal.τ).loc Cert.ModulationIdeal.main_arg4)
      ∧ r.2.mem ((c.tc : Thread Cert.ModulationIdeal.nD Cert.ModulationIdeal.τ).loc Cert.ModulationIdeal.main_arg5) = m ((c.tc : Thread Cert.ModulationIdeal.nD Cert.ModulationIdeal.τ).loc Cert.ModulationIdeal.main_arg5)
      ∧ r.2.mem ((c.tc : Thread Cert.ModulationIdeal.nD Cert.ModulationIdeal.τ).loc Cert.ModulationIdeal.main_arg6) = m ((c.tc : Thread Cert.ModulationIdeal.nD Cert.ModulationIdeal.τ).loc Cert.ModulationIdeal.main_arg6))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3)
      ∧ r.2.mem ((c.tc : Thread Cert.ModulationReferenceIdeal.nD Cert.ModulationReferenceIdeal.τ).loc Cert.ModulationReferenceIdeal.main_arg4) = m ((c.tc : Thread Cert.ModulationReferenceIdeal.nD Cert.ModulationReferenceIdeal.τ).loc Cert.ModulationReferenceIdeal.main_arg4)
      ∧ r.2.mem ((c.tc : Thread Cert.ModulationReferenceIdeal.nD Cert.ModulationReferenceIdeal.τ).loc Cert.ModulationReferenceIdeal.main_arg5) = m ((c.tc : Thread Cert.ModulationReferenceIdeal.nD Cert.ModulationReferenceIdeal.τ).loc Cert.ModulationReferenceIdeal.main_arg5)
      ∧ r.2.mem ((c.tc : Thread Cert.ModulationReferenceIdeal.nD Cert.ModulationReferenceIdeal.τ).loc Cert.ModulationReferenceIdeal.main_arg6) = m ((c.tc : Thread Cert.ModulationReferenceIdeal.nD Cert.ModulationReferenceIdeal.τ).loc Cert.ModulationReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "negligible" .f32 0xC3070000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Projections_ProjectionsIdeal : Prop :=
  IdealRules.named_const.Statement Cert.ProjectionsIdeal.κ "qscale" .f32 0x3E38AA3B#32 ((8⁻¹ * (Real.log 2)⁻¹ : ℝ) : EReal)

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)
      ∧ m' ((c.tc : Thread Cert.ProjectionsReferenceIdeal.nD Cert.ProjectionsReferenceIdeal.τ).loc Cert.ProjectionsReferenceIdeal.main_arg4) = m ((c.tc : Thread Cert.ProjectionsIdeal.nD Cert.ProjectionsIdeal.τ).loc Cert.ProjectionsIdeal.main_arg4)
      ∧ m' ((c.tc : Thread Cert.ProjectionsReferenceIdeal.nD Cert.ProjectionsReferenceIdeal.τ).loc Cert.ProjectionsReferenceIdeal.main_arg5) = m ((c.tc : Thread Cert.ProjectionsIdeal.nD Cert.ProjectionsIdeal.τ).loc Cert.ProjectionsIdeal.main_arg5)
      ∧ m' ((c.tc : Thread Cert.ProjectionsReferenceIdeal.nD Cert.ProjectionsReferenceIdeal.τ).loc Cert.ProjectionsReferenceIdeal.main_arg6) = m ((c.tc : Thread Cert.ProjectionsIdeal.nD Cert.ProjectionsIdeal.τ).loc Cert.ProjectionsIdeal.main_arg6)) →
    ∃ (v0 : (c : Dev Cert.ProjectionsIdeal.nD) → Buf (Elt Ideal) ((c.tc : Thread Cert.ProjectionsIdeal.nD Cert.ProjectionsIdeal.τ).loc Cert.ProjectionsIdeal.main_v0_0)) (v1 : (c : Dev Cert.ProjectionsIdeal.nD) → Buf (Elt Ideal) ((c.tc : Thread Cert.ProjectionsIdeal.nD Cert.ProjectionsIdeal.τ).loc Cert.ProjectionsIdeal.main_v0_1)) (v2 : (c : Dev Cert.ProjectionsIdeal.nD) → Buf (Elt Ideal) ((c.tc : Thread Cert.ProjectionsIdeal.nD Cert.ProjectionsIdeal.τ).loc Cert.ProjectionsIdeal.main_v0_2)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v0_0) = v0 c
          ∧ r.2.mem ((c.tc : Thread Cert.ProjectionsIdeal.nD Cert.ProjectionsIdeal.τ).loc Cert.ProjectionsIdeal.main_v0_1) = v1 c
          ∧ r.2.mem ((c.tc : Thread Cert.ProjectionsIdeal.nD Cert.ProjectionsIdeal.τ).loc Cert.ProjectionsIdeal.main_v0_2) = v2 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v59) = v0 c
          ∧ r.2.mem ((c.tc : Thread Cert.ProjectionsReferenceIdeal.nD Cert.ProjectionsReferenceIdeal.τ).loc Cert.ProjectionsReferenceIdeal.main_v60) = v1 c
          ∧ r.2.mem ((c.tc : Thread Cert.ProjectionsReferenceIdeal.nD Cert.ProjectionsReferenceIdeal.τ).loc Cert.ProjectionsReferenceIdeal.main_v53) = v2 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3)
          ∧ r.2.mem ((c.tc : Thread Cert.ProjectionsReferenceIdeal.nD Cert.ProjectionsReferenceIdeal.τ).loc Cert.ProjectionsReferenceIdeal.main_arg4) = m' ((c.tc : Thread Cert.ProjectionsReferenceIdeal.nD Cert.ProjectionsReferenceIdeal.τ).loc Cert.ProjectionsReferenceIdeal.main_arg4)
          ∧ r.2.mem ((c.tc : Thread Cert.ProjectionsReferenceIdeal.nD Cert.ProjectionsReferenceIdeal.τ).loc Cert.ProjectionsReferenceIdeal.main_arg5) = m' ((c.tc : Thread Cert.ProjectionsReferenceIdeal.nD Cert.ProjectionsReferenceIdeal.τ).loc Cert.ProjectionsReferenceIdeal.main_arg5)
          ∧ r.2.mem ((c.tc : Thread Cert.ProjectionsReferenceIdeal.nD Cert.ProjectionsReferenceIdeal.τ).loc Cert.ProjectionsReferenceIdeal.main_arg6) = m' ((c.tc : Thread Cert.ProjectionsReferenceIdeal.nD Cert.ProjectionsReferenceIdeal.τ).loc Cert.ProjectionsReferenceIdeal.main_arg6))

def preserves_ConvLayer_ConvLayerIdeal : Prop :=
  True

def algebraic_ConvLayerIdeal_ConvLayerReferenceIdeal [hConvLayerIdeal : Cert.ConvLayerIdeal.Facts] [hConvLayerReferenceIdeal : Cert.ConvLayerReferenceIdeal.Facts] : Prop :=
  ∀ (m : (ℓ : Loc Cert.ConvLayerIdeal.nD Cert.ConvLayerIdeal.τ Cert.ConvLayerIdeal.sig) → Buf (Elt Ideal) ℓ) (g : Dev Cert.ConvLayerIdeal.nD → PrngReg)
    (m' : (ℓ : Loc Cert.ConvLayerReferenceIdeal.nD Cert.ConvLayerReferenceIdeal.τ Cert.ConvLayerReferenceIdeal.sig) → Buf (Elt Ideal) ℓ) (g' : Dev Cert.ConvLayerReferenceIdeal.nD → PrngReg), Pre_ConvLayerIdeal m →
    (∀ c : Dev Cert.ConvLayerIdeal.nD,
      m' ((c.tc : Thread Cert.ConvLayerReferenceIdeal.nD Cert.ConvLayerReferenceIdeal.τ).loc Cert.ConvLayerReferenceIdeal.main_arg0) = m ((c.tc : Thread Cert.ConvLayerIdeal.nD Cert.ConvLayerIdeal.τ).loc Cert.ConvLayerIdeal.main_arg0)
      ∧ m' ((c.tc : Thread Cert.ConvLayerReferenceIdeal.nD Cert.ConvLayerReferenceIdeal.τ).loc Cert.ConvLayerReferenceIdeal.main_arg1) = m ((c.tc : Thread Cert.ConvLayerIdeal.nD Cert.ConvLayerIdeal.τ).loc Cert.ConvLayerIdeal.main_arg1)
      ∧ m' ((c.tc : Thread Cert.ConvLayerReferenceIdeal.nD Cert.ConvLayerReferenceIdeal.τ).loc Cert.ConvLayerReferenceIdeal.main_arg2) = m ((c.tc : Thread Cert.ConvLayerIdeal.nD Cert.ConvLayerIdeal.τ).loc Cert.ConvLayerIdeal.main_arg2)
      ∧ m' ((c.tc : Thread Cert.ConvLayerReferenceIdeal.nD Cert.ConvLayerReferenceIdeal.τ).loc Cert.ConvLayerReferenceIdeal.main_arg3) = m ((c.tc : Thread Cert.ConvLayerIdeal.nD Cert.ConvLayerIdeal.τ).loc Cert.ConvLayerIdeal.main_arg3)
      ∧ m' ((c.tc : Thread Cert.ConvLayerReferenceIdeal.nD Cert.ConvLayerReferenceIdeal.τ).loc Cert.ConvLayerReferenceIdeal.main_arg4) = m ((c.tc : Thread Cert.ConvLayerIdeal.nD Cert.ConvLayerIdeal.τ).loc Cert.ConvLayerIdeal.main_arg4)
      ∧ m' ((c.tc : Thread Cert.ConvLayerReferenceIdeal.nD Cert.ConvLayerReferenceIdeal.τ).loc Cert.ConvLayerReferenceIdeal.main_arg5) = m ((c.tc : Thread Cert.ConvLayerIdeal.nD Cert.ConvLayerIdeal.τ).loc Cert.ConvLayerIdeal.main_arg5)) →
    ∃ (v0 : (c : Dev Cert.ConvLayerIdeal.nD) → Buf (Elt Ideal) ((c.tc : Thread Cert.ConvLayerIdeal.nD Cert.ConvLayerIdeal.τ).loc Cert.ConvLayerIdeal.main_v0)),
      θ_run (Cert.ConvLayerIdeal.defs (F := Ideal)) (onTc (τ := Cert.ConvLayerIdeal.τ) (Cert.ConvLayerIdeal.main (F := Ideal))) ⟨m, fun _ => 0, g⟩ (fun r => ∀ c : Dev Cert.ConvLayerIdeal.nD,
          r.2.mem ((c.tc : Thread Cert.ConvLayerIdeal.nD Cert.ConvLayerIdeal.τ).loc Cert.ConvLayerIdeal.main_v0) = v0 c
          ∧ r.2.mem ((c.tc : Thread Cert.ConvLayerIdeal.nD Cert.ConvLayerIdeal.τ).loc Cert.ConvLayerIdeal.main_arg0) = m ((c.tc : Thread Cert.ConvLayerIdeal.nD Cert.ConvLayerIdeal.τ).loc Cert.ConvLayerIdeal.main_arg0)
          ∧ r.2.mem ((c.tc : Thread Cert.ConvLayerIdeal.nD Cert.ConvLayerIdeal.τ).loc Cert.ConvLayerIdeal.main_arg1) = m ((c.tc : Thread Cert.ConvLayerIdeal.nD Cert.ConvLayerIdeal.τ).loc Cert.ConvLayerIdeal.main_arg1)
          ∧ r.2.mem ((c.tc : Thread Cert.ConvLayerIdeal.nD Cert.ConvLayerIdeal.τ).loc Cert.ConvLayerIdeal.main_arg2) = m ((c.tc : Thread Cert.ConvLayerIdeal.nD Cert.ConvLayerIdeal.τ).loc Cert.ConvLayerIdeal.main_arg2)
          ∧ r.2.mem ((c.tc : Thread Cert.ConvLayerIdeal.nD Cert.ConvLayerIdeal.τ).loc Cert.ConvLayerIdeal.main_arg3) = m ((c.tc : Thread Cert.ConvLayerIdeal.nD Cert.ConvLayerIdeal.τ).loc Cert.ConvLayerIdeal.main_arg3)
          ∧ r.2.mem ((c.tc : Thread Cert.ConvLayerIdeal.nD Cert.ConvLayerIdeal.τ).loc Cert.ConvLayerIdeal.main_arg4) = m ((c.tc : Thread Cert.ConvLayerIdeal.nD Cert.ConvLayerIdeal.τ).loc Cert.ConvLayerIdeal.main_arg4)
          ∧ r.2.mem ((c.tc : Thread Cert.ConvLayerIdeal.nD Cert.ConvLayerIdeal.τ).loc Cert.ConvLayerIdeal.main_arg5) = m ((c.tc : Thread Cert.ConvLayerIdeal.nD Cert.ConvLayerIdeal.τ).loc Cert.ConvLayerIdeal.main_arg5))
      ∧ θ_run (Cert.ConvLayerReferenceIdeal.defs (F := Ideal)) (onTc (τ := Cert.ConvLayerReferenceIdeal.τ) (Cert.ConvLayerReferenceIdeal.main (F := Ideal))) ⟨m', fun _ => 0, g'⟩ (fun r => ∀ c : Dev Cert.ConvLayerReferenceIdeal.nD,
          r.2.mem ((c.tc : Thread Cert.ConvLayerReferenceIdeal.nD Cert.ConvLayerReferenceIdeal.τ).loc Cert.ConvLayerReferenceIdeal.main_v61) = v0 c
          ∧ r.2.mem ((c.tc : Thread Cert.ConvLayerReferenceIdeal.nD Cert.ConvLayerReferenceIdeal.τ).loc Cert.ConvLayerReferenceIdeal.main_arg0) = m' ((c.tc : Thread Cert.ConvLayerReferenceIdeal.nD Cert.ConvLayerReferenceIdeal.τ).loc Cert.ConvLayerReferenceIdeal.main_arg0)
          ∧ r.2.mem ((c.tc : Thread Cert.ConvLayerReferenceIdeal.nD Cert.ConvLayerReferenceIdeal.τ).loc Cert.ConvLayerReferenceIdeal.main_arg1) = m' ((c.tc : Thread Cert.ConvLayerReferenceIdeal.nD Cert.ConvLayerReferenceIdeal.τ).loc Cert.ConvLayerReferenceIdeal.main_arg1)
          ∧ r.2.mem ((c.tc : Thread Cert.ConvLayerReferenceIdeal.nD Cert.ConvLayerReferenceIdeal.τ).loc Cert.ConvLayerReferenceIdeal.main_arg2) = m' ((c.tc : Thread Cert.ConvLayerReferenceIdeal.nD Cert.ConvLayerReferenceIdeal.τ).loc Cert.ConvLayerReferenceIdeal.main_arg2)
          ∧ r.2.mem ((c.tc : Thread Cert.ConvLayerReferenceIdeal.nD Cert.ConvLayerReferenceIdeal.τ).loc Cert.ConvLayerReferenceIdeal.main_arg3) = m' ((c.tc : Thread Cert.ConvLayerReferenceIdeal.nD Cert.ConvLayerReferenceIdeal.τ).loc Cert.ConvLayerReferenceIdeal.main_arg3)
          ∧ r.2.mem ((c.tc : Thread Cert.ConvLayerReferenceIdeal.nD Cert.ConvLayerReferenceIdeal.τ).loc Cert.ConvLayerReferenceIdeal.main_arg4) = m' ((c.tc : Thread Cert.ConvLayerReferenceIdeal.nD Cert.ConvLayerReferenceIdeal.τ).loc Cert.ConvLayerReferenceIdeal.main_arg4)
          ∧ r.2.mem ((c.tc : Thread Cert.ConvLayerReferenceIdeal.nD Cert.ConvLayerReferenceIdeal.τ).loc Cert.ConvLayerReferenceIdeal.main_arg5) = m' ((c.tc : Thread Cert.ConvLayerReferenceIdeal.nD Cert.ConvLayerReferenceIdeal.τ).loc Cert.ConvLayerReferenceIdeal.main_arg5))

def preserves_OutLayer_OutLayerIdeal : Prop :=
  True

def algebraic_OutLayerIdeal_OutLayerReferenceIdeal [hOutLayerIdeal : Cert.OutLayerIdeal.Facts] [hOutLayerReferenceIdeal : Cert.OutLayerReferenceIdeal.Facts] : Prop :=
  ∀ (m : (ℓ : Loc Cert.OutLayerIdeal.nD Cert.OutLayerIdeal.τ Cert.OutLayerIdeal.sig) → Buf (Elt Ideal) ℓ) (g : Dev Cert.OutLayerIdeal.nD → PrngReg)
    (m' : (ℓ : Loc Cert.OutLayerReferenceIdeal.nD Cert.OutLayerReferenceIdeal.τ Cert.OutLayerReferenceIdeal.sig) → Buf (Elt Ideal) ℓ) (g' : Dev Cert.OutLayerReferenceIdeal.nD → PrngReg), Pre_OutLayerIdeal m →
    (∀ c : Dev Cert.OutLayerIdeal.nD,
      m' ((c.tc : Thread Cert.OutLayerReferenceIdeal.nD Cert.OutLayerReferenceIdeal.τ).loc Cert.OutLayerReferenceIdeal.main_arg0) = m ((c.tc : Thread Cert.OutLayerIdeal.nD Cert.OutLayerIdeal.τ).loc Cert.OutLayerIdeal.main_arg0)
      ∧ m' ((c.tc : Thread Cert.OutLayerReferenceIdeal.nD Cert.OutLayerReferenceIdeal.τ).loc Cert.OutLayerReferenceIdeal.main_arg1) = m ((c.tc : Thread Cert.OutLayerIdeal.nD Cert.OutLayerIdeal.τ).loc Cert.OutLayerIdeal.main_arg1)
      ∧ m' ((c.tc : Thread Cert.OutLayerReferenceIdeal.nD Cert.OutLayerReferenceIdeal.τ).loc Cert.OutLayerReferenceIdeal.main_arg2) = m ((c.tc : Thread Cert.OutLayerIdeal.nD Cert.OutLayerIdeal.τ).loc Cert.OutLayerIdeal.main_arg2)
      ∧ m' ((c.tc : Thread Cert.OutLayerReferenceIdeal.nD Cert.OutLayerReferenceIdeal.τ).loc Cert.OutLayerReferenceIdeal.main_arg3) = m ((c.tc : Thread Cert.OutLayerIdeal.nD Cert.OutLayerIdeal.τ).loc Cert.OutLayerIdeal.main_arg3)
      ∧ m' ((c.tc : Thread Cert.OutLayerReferenceIdeal.nD Cert.OutLayerReferenceIdeal.τ).loc Cert.OutLayerReferenceIdeal.main_arg4) = m ((c.tc : Thread Cert.OutLayerIdeal.nD Cert.OutLayerIdeal.τ).loc Cert.OutLayerIdeal.main_arg4)) →
    ∃ (v0 : (c : Dev Cert.OutLayerIdeal.nD) → Buf (Elt Ideal) ((c.tc : Thread Cert.OutLayerIdeal.nD Cert.OutLayerIdeal.τ).loc Cert.OutLayerIdeal.main_v0)),
      θ_run (Cert.OutLayerIdeal.defs (F := Ideal)) (onTc (τ := Cert.OutLayerIdeal.τ) (Cert.OutLayerIdeal.main (F := Ideal))) ⟨m, fun _ => 0, g⟩ (fun r => ∀ c : Dev Cert.OutLayerIdeal.nD,
          r.2.mem ((c.tc : Thread Cert.OutLayerIdeal.nD Cert.OutLayerIdeal.τ).loc Cert.OutLayerIdeal.main_v0) = v0 c
          ∧ r.2.mem ((c.tc : Thread Cert.OutLayerIdeal.nD Cert.OutLayerIdeal.τ).loc Cert.OutLayerIdeal.main_arg0) = m ((c.tc : Thread Cert.OutLayerIdeal.nD Cert.OutLayerIdeal.τ).loc Cert.OutLayerIdeal.main_arg0)
          ∧ r.2.mem ((c.tc : Thread Cert.OutLayerIdeal.nD Cert.OutLayerIdeal.τ).loc Cert.OutLayerIdeal.main_arg1) = m ((c.tc : Thread Cert.OutLayerIdeal.nD Cert.OutLayerIdeal.τ).loc Cert.OutLayerIdeal.main_arg1)
          ∧ r.2.mem ((c.tc : Thread Cert.OutLayerIdeal.nD Cert.OutLayerIdeal.τ).loc Cert.OutLayerIdeal.main_arg2) = m ((c.tc : Thread Cert.OutLayerIdeal.nD Cert.OutLayerIdeal.τ).loc Cert.OutLayerIdeal.main_arg2)
          ∧ r.2.mem ((c.tc : Thread Cert.OutLayerIdeal.nD Cert.OutLayerIdeal.τ).loc Cert.OutLayerIdeal.main_arg3) = m ((c.tc : Thread Cert.OutLayerIdeal.nD Cert.OutLayerIdeal.τ).loc Cert.OutLayerIdeal.main_arg3)
          ∧ r.2.mem ((c.tc : Thread Cert.OutLayerIdeal.nD Cert.OutLayerIdeal.τ).loc Cert.OutLayerIdeal.main_arg4) = m ((c.tc : Thread Cert.OutLayerIdeal.nD Cert.OutLayerIdeal.τ).loc Cert.OutLayerIdeal.main_arg4))
      ∧ θ_run (Cert.OutLayerReferenceIdeal.defs (F := Ideal)) (onTc (τ := Cert.OutLayerReferenceIdeal.τ) (Cert.OutLayerReferenceIdeal.main (F := Ideal))) ⟨m', fun _ => 0, g'⟩ (fun r => ∀ c : Dev Cert.OutLayerReferenceIdeal.nD,
          r.2.mem ((c.tc : Thread Cert.OutLayerReferenceIdeal.nD Cert.OutLayerReferenceIdeal.τ).loc Cert.OutLayerReferenceIdeal.main_v20) = v0 c
          ∧ r.2.mem ((c.tc : Thread Cert.OutLayerReferenceIdeal.nD Cert.OutLayerReferenceIdeal.τ).loc Cert.OutLayerReferenceIdeal.main_arg0) = m' ((c.tc : Thread Cert.OutLayerReferenceIdeal.nD Cert.OutLayerReferenceIdeal.τ).loc Cert.OutLayerReferenceIdeal.main_arg0)
          ∧ r.2.mem ((c.tc : Thread Cert.OutLayerReferenceIdeal.nD Cert.OutLayerReferenceIdeal.τ).loc Cert.OutLayerReferenceIdeal.main_arg1) = m' ((c.tc : Thread Cert.OutLayerReferenceIdeal.nD Cert.OutLayerReferenceIdeal.τ).loc Cert.OutLayerReferenceIdeal.main_arg1)
          ∧ r.2.mem ((c.tc : Thread Cert.OutLayerReferenceIdeal.nD Cert.OutLayerReferenceIdeal.τ).loc Cert.OutLayerReferenceIdeal.main_arg2) = m' ((c.tc : Thread Cert.OutLayerReferenceIdeal.nD Cert.OutLayerReferenceIdeal.τ).loc Cert.OutLayerReferenceIdeal.main_arg2)
          ∧ r.2.mem ((c.tc : Thread Cert.OutLayerReferenceIdeal.nD Cert.OutLayerReferenceIdeal.τ).loc Cert.OutLayerReferenceIdeal.main_arg3) = m' ((c.tc : Thread Cert.OutLayerReferenceIdeal.nD Cert.OutLayerReferenceIdeal.τ).loc Cert.OutLayerReferenceIdeal.main_arg3)
          ∧ r.2.mem ((c.tc : Thread Cert.OutLayerReferenceIdeal.nD Cert.OutLayerReferenceIdeal.τ).loc Cert.OutLayerReferenceIdeal.main_arg4) = m' ((c.tc : Thread Cert.OutLayerReferenceIdeal.nD Cert.OutLayerReferenceIdeal.τ).loc Cert.OutLayerReferenceIdeal.main_arg4))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)
      ∧ m' ((c.tc : Thread Cert.ModulationReferenceIdeal.nD Cert.ModulationReferenceIdeal.τ).loc Cert.ModulationReferenceIdeal.main_arg4) = m ((c.tc : Thread Cert.ModulationIdeal.nD Cert.ModulationIdeal.τ).loc Cert.ModulationIdeal.main_arg4)
      ∧ m' ((c.tc : Thread Cert.ModulationReferenceIdeal.nD Cert.ModulationReferenceIdeal.τ).loc Cert.ModulationReferenceIdeal.main_arg5) = m ((c.tc : Thread Cert.ModulationIdeal.nD Cert.ModulationIdeal.τ).loc Cert.ModulationIdeal.main_arg5)
      ∧ m' ((c.tc : Thread Cert.ModulationReferenceIdeal.nD Cert.ModulationReferenceIdeal.τ).loc Cert.ModulationReferenceIdeal.main_arg6) = m ((c.tc : Thread Cert.ModulationIdeal.nD Cert.ModulationIdeal.τ).loc Cert.ModulationIdeal.main_arg6)) →
    ∃ (v0 : (c : Dev Cert.ModulationIdeal.nD) → Buf (Elt Ideal) ((c.tc : Thread Cert.ModulationIdeal.nD Cert.ModulationIdeal.τ).loc Cert.ModulationIdeal.main_v0)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v0) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3)
          ∧ r.2.mem ((c.tc : Thread Cert.ModulationIdeal.nD Cert.ModulationIdeal.τ).loc Cert.ModulationIdeal.main_arg4) = m ((c.tc : Thread Cert.ModulationIdeal.nD Cert.ModulationIdeal.τ).loc Cert.ModulationIdeal.main_arg4)
          ∧ r.2.mem ((c.tc : Thread Cert.ModulationIdeal.nD Cert.ModulationIdeal.τ).loc Cert.ModulationIdeal.main_arg5) = m ((c.tc : Thread Cert.ModulationIdeal.nD Cert.ModulationIdeal.τ).loc Cert.ModulationIdeal.main_arg5)
          ∧ r.2.mem ((c.tc : Thread Cert.ModulationIdeal.nD Cert.ModulationIdeal.τ).loc Cert.ModulationIdeal.main_arg6) = m ((c.tc : Thread Cert.ModulationIdeal.nD Cert.ModulationIdeal.τ).loc Cert.ModulationIdeal.main_arg6))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v12) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3)
          ∧ r.2.mem ((c.tc : Thread Cert.ModulationReferenceIdeal.nD Cert.ModulationReferenceIdeal.τ).loc Cert.ModulationReferenceIdeal.main_arg4) = m' ((c.tc : Thread Cert.ModulationReferenceIdeal.nD Cert.ModulationReferenceIdeal.τ).loc Cert.ModulationReferenceIdeal.main_arg4)
          ∧ r.2.mem ((c.tc : Thread Cert.ModulationReferenceIdeal.nD Cert.ModulationReferenceIdeal.τ).loc Cert.ModulationReferenceIdeal.main_arg5) = m' ((c.tc : Thread Cert.ModulationReferenceIdeal.nD Cert.ModulationReferenceIdeal.τ).loc Cert.ModulationReferenceIdeal.main_arg5)
          ∧ r.2.mem ((c.tc : Thread Cert.ModulationReferenceIdeal.nD Cert.ModulationReferenceIdeal.τ).loc Cert.ModulationReferenceIdeal.main_arg6) = m' ((c.tc : Thread Cert.ModulationReferenceIdeal.nD Cert.ModulationReferenceIdeal.τ).loc Cert.ModulationReferenceIdeal.main_arg6))

def Claim : Prop :=
  ∃ (hKernel : Cert.Kernel.Facts) (hKernelIdeal : Cert.KernelIdeal.Facts) (hReferenceIdeal : Cert.ReferenceIdeal.Facts) (hProjections : Cert.Projections.Facts) (hProjectionsIdeal : Cert.ProjectionsIdeal.Facts) (hProjectionsReferenceIdeal : Cert.ProjectionsReferenceIdeal.Facts) (hConvLayer : Cert.ConvLayer.Facts) (hConvLayerIdeal : Cert.ConvLayerIdeal.Facts) (hConvLayerReferenceIdeal : Cert.ConvLayerReferenceIdeal.Facts) (hOutLayer : Cert.OutLayer.Facts) (hOutLayerIdeal : Cert.OutLayerIdeal.Facts) (hOutLayerReferenceIdeal : Cert.OutLayerReferenceIdeal.Facts) (hModulation : Cert.Modulation.Facts) (hModulationIdeal : Cert.ModulationIdeal.Facts) (hModulationReferenceIdeal : Cert.ModulationReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ quiescent_ConvLayer (hConvLayer := hConvLayer)
    ∧ quiescent_ConvLayerIdeal (hConvLayerIdeal := hConvLayerIdeal)
    ∧ quiescent_ConvLayerReferenceIdeal (hConvLayerReferenceIdeal := hConvLayerReferenceIdeal)
    ∧ quiescent_OutLayer (hOutLayer := hOutLayer)
    ∧ quiescent_OutLayerIdeal (hOutLayerIdeal := hOutLayerIdeal)
    ∧ quiescent_OutLayerReferenceIdeal (hOutLayerReferenceIdeal := hOutLayerReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Projections_ProjectionsIdeal
    ∧ algebraic_ProjectionsIdeal_ProjectionsReferenceIdeal (hProjectionsIdeal := hProjectionsIdeal) (hProjectionsReferenceIdeal := hProjectionsReferenceIdeal)
    ∧ preserves_ConvLayer_ConvLayerIdeal
    ∧ algebraic_ConvLayerIdeal_ConvLayerReferenceIdeal (hConvLayerIdeal := hConvLayerIdeal) (hConvLayerReferenceIdeal := hConvLayerReferenceIdeal)
    ∧ preserves_OutLayer_OutLayerIdeal
    ∧ algebraic_OutLayerIdeal_OutLayerReferenceIdeal (hOutLayerIdeal := hOutLayerIdeal) (hOutLayerReferenceIdeal := hOutLayerReferenceIdeal)
    ∧ preserves_Modulation_ModulationIdeal
    ∧ algebraic_ModulationIdeal_ModulationReferenceIdeal (hModulationIdeal := hModulationIdeal) (hModulationReferenceIdeal := hModulationReferenceIdeal)
-- ==== Pre_finite.lean ====
abbrev S8x2048x1024 : Shape := ⟨3, ![8, 2048, 1024]⟩
abbrev S8x2048x2048 : Shape := ⟨3, ![8, 2048, 2048]⟩
abbrev S_ : Shape := ⟨0, ![]⟩

class Facts : Prop where
  slices_S8x2048x2048_S8x2048x1024_0_0_0 : S8x2048x2048.Slices ![0, 0, 0] S8x2048x1024
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .bf16) (main_arg1 : FVec F S8x2048x2048 .bf16) (main_arg2 : FVec F S8x2048x1024 .f32) : IVec S_ 1 :=
  let main_v0 : FVec F S8x2048x1024 .bf16 := (extractStridedSlice S8x2048x1024 ![0, 0, 0] · slices_S8x2048x2048_S8x2048x1024_0_0_0) main_arg1
  let main_v1 : FVec F S8x2048x1024 .bf16 := Host.absf main_arg0
  let main_cst : FVec F S_ .bf16 := constant S_ .bf16 0x7F80#16
  let main_v2 : FVec F S8x2048x1024 .bf16 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x2048x1024 .bf16 := Host.absf main_v0
  let main_cst_0 : FVec F S_ .bf16 := constant S_ .bf16 0x7F80#16
  let main_v6 : FVec F S8x2048x1024 .bf16 := broadcastInDim S8x2048x1024 ![] bcast_S_S8x2048x1024 main_cst_0
  let main_v7 : IVec S8x2048x1024 1 := cmpf .olt main_v5 main_v6
  let main_c_1 : IVec S_ 1 := constantI S_ 1 1#1
  let main_v8 : IVec S_ 1 := (fun x v => Host.reduce IntOp.andi x v reducesTo_S8x2048x1024_S_d0_1_2 h_S_) main_v7 main_c_1
  let main_v9 : IVec S_ 1 := andi main_v4 main_v8
  main_v9
-- ==== Kernel.lean ====
abbrev S8x2048x1024 : Shape := ⟨3, ![8, 2048, 1024]⟩
abbrev S8x2048x2048 : Shape := ⟨3, ![8, 2048, 2048]⟩
abbrev S256x256 : Shape := ⟨2, ![256, 256]⟩
abbrev S_ : Shape := ⟨0, ![]⟩
abbrev S1x2048x512 : Shape := ⟨3, ![1, 2048, 512]⟩
abbrev S8x256x128 : Shape := ⟨3, ![8, 256, 128]⟩
abbrev S8x256x256 : Shape := ⟨3, ![8, 256, 256]⟩
abbrev S1x128 : Shape := ⟨2, ![1, 128]⟩
abbrev S128x128 : Shape := ⟨2, ![128, 128]⟩
abbrev S1x256x128 : Shape := ⟨3, ![1, 256, 128]⟩
abbrev S256x128 : Shape := ⟨2, ![256, 128]⟩
abbrev S1x256x256 : Shape := ⟨3, ![1, 256, 256]⟩
abbrev S1x128x128 : Shape := ⟨3, ![1, 128, 128]⟩
abbrev S1x128x256 : Shape := ⟨3, ![1, 128, 256]⟩
abbrev S128x256 : Shape := ⟨2, ![128, 256]⟩
abbrev S256x1 : Shape := ⟨2, ![256, 1]⟩
abbrev S1 : Shape := ⟨1, ![1]⟩
abbrev S1x1x1 : Shape := ⟨3, ![1, 1, 1]⟩

abbrev nBuf : Space → Nat
  | .hbm => 17
  | .vmem => 18
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x2048, .bf16⟩
  | .hbm, ⟨2, _⟩ => ⟨S8x2048x1024, .f32⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S_, .i32⟩
  | .hbm, ⟨7, _⟩ => ⟨S256x256, .i32⟩
  | .hbm, ⟨8, _⟩ => ⟨S256x256, .i1⟩
  | .hbm, ⟨9, _⟩ => ⟨S256x256, .i1⟩
  | .hbm, ⟨10, _⟩ => ⟨S_, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .bf16⟩
  | .hbm, ⟨16, _⟩ => ⟨S8x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .f32⟩
  | .local _ .vmem, ⟨7, _⟩ => ⟨S1x2048x512, .f32⟩
  | .local _ .vmem, ⟨8, _⟩ => ⟨S256x256, .bf16⟩
  | .local _ .vmem, ⟨9, _⟩ => ⟨S1x2048x512, .bf16⟩
  | .local _ .vmem, ⟨10, _⟩ => ⟨S1x2048x512, .bf16⟩
  | .local _ .vmem, ⟨11, _⟩ => ⟨S8x256x128, .bf16⟩
  | .local _ .vmem, ⟨12, _⟩ => ⟨S8x256x128, .f32⟩
  | .local _ .vmem, ⟨13, _⟩ => ⟨S8x256x128, .f32⟩
  | .local _ .vmem, ⟨14, _⟩ => ⟨S8x256x256, .f32⟩
  | .local _ .vmem, ⟨15, _⟩ => ⟨S8x256x256, .f32⟩
  | .local _ .vmem, ⟨16, _⟩ => ⟨S8x256x256, .bf16⟩
  | .local _ .vmem, ⟨17, _⟩ => ⟨S8x256x256, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def k0_mult1 : BitVec 32 :=
  let c0_i32 : BitVec 32 := 0#32
  let c256_i32 : BitVec 32 := 256#32
  let v71 : BitVec 32 := Scalar.muli c0_i32 c256_i32
  v71
def k0_off1 : Fin 3 → Nat :=
  let c0_30 : Index := 0#32
  let c0_i32 : BitVec 32 := 0#32
  let c256_i32 : BitVec 32 := 256#32
  let v71 : BitVec 32 := Scalar.muli c0_i32 c256_i32
  let v72 : BitVec 32 := v71
  let v73 : Index := Scalar.indexCast v72
  let c0_31 : Index := 0#32
  ![0, v73.toNat, 0]
def k0_mult2 : BitVec 32 :=
  let c0_i32_39 : BitVec 32 := 0#32
  let c256_i32_40 : BitVec 32 := 256#32
  let v82 : BitVec 32 := Scalar.muli c0_i32_39 c256_i32_40
  v82
def k0_mult3 : BitVec 32 :=
  let c0_i32_50 : BitVec 32 := 0#32
  let c256_i32_51 : BitVec 32 := 256#32
  let v93 : BitVec 32 := Scalar.muli c0_i32_50 c256_i32_51
  v93
def k0_off2 : Fin 3 → Nat :=
  let c0_52 : Index := 0#32
  let c0_i32_50 : BitVec 32 := 0#32
  let c256_i32_51 : BitVec 32 := 256#32
  let v93 : BitVec 32 := Scalar.muli c0_i32_50 c256_i32_51
  let v94 : BitVec 32 := v93
  let v95 : Index := Scalar.indexCast v94
  let c128_53 : Index := 128#32
  ![0, v95.toNat, 128]
def k0_mult4 : BitVec 32 :=
  let c0_i32_61 : BitVec 32 := 0#32
  let c256_i32_62 : BitVec 32 := 256#32
  let v104 : BitVec 32 := Scalar.muli c0_i32_61 c256_i32_62
  v104
def k0_mult5 : BitVec 32 :=
  let c0_i32_72 : BitVec 32 := 0#32
  let c256_i32_73 : BitVec 32 := 256#32
  let v115 : BitVec 32 := Scalar.muli c0_i32_72 c256_i32_73
  v115
def k0_off3 : Fin 3 → Nat :=
  let c0_74 : Index := 0#32
  let c0_i32_72 : BitVec 32 := 0#32
  let c256_i32_73 : BitVec 32 := 256#32
  let v115 : BitVec 32 := Scalar.muli c0_i32_72 c256_i32_73
  let v116 : BitVec 32 := v115
  let v117 : Index := Scalar.indexCast v116
  let c256_75 : Index := 256#32
  ![0, v117.toNat, 256]
def k0_mult6 : BitVec 32 :=
  let c0_i32_83 : BitVec 32 := 0#32
  let c256_i32_84 : BitVec 32 := 256#32
  let v126 : BitVec 32 := Scalar.muli c0_i32_83 c256_i32_84
  v126
def k0_mult7 : BitVec 32 :=
  let c0_i32_94 : BitVec 32 := 0#32
  let c256_i32_95 : BitVec 32 := 256#32
  let v137 : BitVec 32 := Scalar.muli c0_i32_94 c256_i32_95
  v137
def k0_off4 : Fin 3 → Nat :=
  let c0_96 : Index := 0#32
  let c0_i32_94 : BitVec 32 := 0#32
  let c256_i32_95 : BitVec 32 := 256#32
  let v137 : BitVec 32 := Scalar.muli c0_i32_94 c256_i32_95
  let v138 : BitVec 32 := v137
  let v139 : Index := Scalar.indexCast v138
  let c384_97 : Index := 384#32
  ![0, v139.toNat, 384]
def k0_mult8 : BitVec 32 :=
  let c0_i32_105 : BitVec 32 := 0#32
  let c256_i32_106 : BitVec 32 := 256#32
  let v148 : BitVec 32 := Scalar.muli c0_i32_105 c256_i32_106
  v148
@[reducible] def k0_t1_loop : Scf.Loop 32 :=
  let c1_i32_457 : BitVec 32 := 1#32
  let c7_i32 : BitVec 32 := 7#32
  let v811 : BitVec 32 := Scalar.addi c1_i32_457 c7_i32
  let c1_i32_458 : BitVec 32 := 1#32
  ⟨c1_i32_457, v811, c1_i32_458⟩
def k0_mult9 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_518 : BitVec 32 := 256#32
  let v890 : BitVec 32 := Scalar.muli arg15 c256_i32_518
  v890
def k0_off5 (k0_t1 : Fin k0_t1_loop.trips) : Fin 3 → Nat :=
  let c0_519 : Index := 0#32
  let c1_i32_457 : BitVec 32 := 1#32
  let c1_i32_458 : BitVec 32 := 1#32
  let arg15 : BitVec 32 := Scf.iv c1_i32_457 c1_i32_458 k0_t1
  let c256_i32_518 : BitVec 32 := 256#32
  let v890 : BitVec 32 := Scalar.muli arg15 c256_i32_518
  let v891 : BitVec 32 := v890
  let v892 : Index := Scalar.indexCast v891
  let c0_520 : Index := 0#32
  ![0, v892.toNat, 0]
def k0_off6 (k0_t1 : Fin k0_t1_loop.trips) : Fin 3 → Nat :=
  let c0_528 : Index := 0#32
  let c1_i32_457 : BitVec 32 := 1#32
  let c1_i32_458 : BitVec 32 := 1#32
  let arg15 : BitVec 32 := Scf.iv c1_i32_457 c1_i32_458 k0_t1
  let c256_i32_518 : BitVec 32 := 256#32
  let v890 : BitVec 32 := Scalar.muli arg15 c256_i32_518
  let v891 : BitVec 32 := v890
  let v908 : Index := Scalar.indexCast v891
  let c128_529 : Index := 128#32
  ![0, v908.toNat, 128]
def k0_off7 (k0_t1 : Fin k0_t1_loop.trips) : Fin 3 → Nat :=
  let c0_537 : Index := 0#32
  let c1_i32_457 : BitVec 32 := 1#32
  let c1_i32_458 : BitVec 32 := 1#32
  let arg15 : BitVec 32 := Scf.iv c1_i32_457 c1_i32_458 k0_t1
  let c256_i32_518 : BitVec 32 := 256#32
  let v890 : BitVec 32 := Scalar.muli arg15 c256_i32_518
  let v891 : BitVec 32 := v890
  let v924 : Index := Scalar.indexCast v891
  let c256_538 : Index := 256#32
  ![0, v924.toNat, 256]
def k0_off8 (k0_t1 : Fin k0_t1_loop.trips) : Fin 3 → Nat :=
  let c0_546 : Index := 0#32
  let c1_i32_457 : BitVec 32 := 1#32
  let c1_i32_458 : BitVec 32 := 1#32
  let arg15 : BitVec 32 := Scf.iv c1_i32_457 c1_i32_458 k0_t1
  let c256_i32_518 : BitVec 32 := 256#32
  let v890 : BitVec 32 := Scalar.muli arg15 c256_i32_518
  let v891 : BitVec 32 := v890
  let v940 : Index := Scalar.indexCast v891
  let c384_547 : Index := 384#32
  ![0, v940.toNat, 384]
def k0_mult10 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_555 : BitVec 32 := 256#32
  let v956 : BitVec 32 := Scalar.muli arg15 c256_i32_555
  v956
def k0_mult11 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_565 : BitVec 32 := 256#32
  let v967 : BitVec 32 := Scalar.muli arg15 c256_i32_565
  v967
def k0_mult12 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_575 : BitVec 32 := 256#32
  let v978 : BitVec 32 := Scalar.muli arg15 c256_i32_575
  v978
def k0_mult13 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_609 : BitVec 32 := 1#32
  let v1037 : BitVec 32 := Scalar.subi arg15 c1_i32_609
  let c0_i32_610 : BitVec 32 := 0#32
  let v1038 : BitVec 32 := Scalar.maxsi v1037 c0_i32_610
  let c256_i32_611 : BitVec 32 := 256#32
  let v1039 : BitVec 32 := Scalar.muli v1038 c256_i32_611
  v1039
def k0_off9 (k0_t1 : Fin k0_t1_loop.trips) : Fin 3 → Nat :=
  let c0_612 : Index := 0#32
  let c1_i32_457 : BitVec 32 := 1#32
  let c1_i32_458 : BitVec 32 := 1#32
  let arg15 : BitVec 32 := Scf.iv c1_i32_457 c1_i32_458 k0_t1
  let c1_i32_609 : BitVec 32 := 1#32
  let v1037 : BitVec 32 := Scalar.subi arg15 c1_i32_609
  let c0_i32_610 : BitVec 32 := 0#32
  let v1038 : BitVec 32 := Scalar.maxsi v1037 c0_i32_610
  let c256_i32_611 : BitVec 32 := 256#32
  let v1039 : BitVec 32 := Scalar.muli v1038 c256_i32_611
  let v1040 : BitVec 32 := v1039
  let v1041 : Index := Scalar.indexCast v1040
  let c0_613 : Index := 0#32
  ![0, v1041.toNat, 0]
def k0_mult14 (arg17 : BitVec 32) : BitVec 32 :=
  let c256_i32_621 : BitVec 32 := 256#32
  let v1050 : BitVec 32 := Scalar.muli arg17 c256_i32_621
  v1050
def k0_cond1 (arg16 : BitVec 32) : BitVec 1 :=
  let c0_i32_513 : BitVec 32 := 0#32
  let v884 : BitVec 1 := Scalar.cmpi .eq arg16 c0_i32_513
  let v885 : BitVec 32 := Scalar.extui v884
  let c0_i32_514 : BitVec 32 := 0#32
  let v886 : BitVec 1 := Scalar.cmpi .ne v885 c0_i32_514
  v886

def k0_off10 (arg17 : BitVec 32) : Fin 3 → Nat :=
  let c0_622 : Index := 0#32
  let c256_i32_621 : BitVec 32 := 256#32
  let v1050 : BitVec 32 := Scalar.muli arg17 c256_i32_621
  let v1051 : BitVec 32 := v1050
  let v1052 : Index := Scalar.indexCast v1051
  let c0_623 : Index := 0#32
  ![0, v1052.toNat, 0]
def k0_mult15 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_652 : BitVec 32 := 256#32
  let v1097 : BitVec 32 := Scalar.muli arg15 c256_i32_652
  v1097
def k0_off11 (k0_t1 : Fin k0_t1_loop.trips) : Fin 3 → Nat :=
  let c0_653 : Index := 0#32
  let c1_i32_457 : BitVec 32 := 1#32
  let c1_i32_458 : BitVec 32 := 1#32
  let arg15 : BitVec 32 := Scf.iv c1_i32_457 c1_i32_458 k0_t1
  let c256_i32_652 : BitVec 32 := 256#32
  let v1097 : BitVec 32 := Scalar.muli arg15 c256_i32_652
  let v1098 : BitVec 32 := v1097
  let v1099 : Index := Scalar.indexCast v1098
  let c128_654 : Index := 128#32
  ![0, v1099.toNat, 128]
def k0_mult16 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_686 : BitVec 32 := 1#32
  let v1156 : BitVec 32 := Scalar.subi arg15 c1_i32_686
  let c0_i32_687 : BitVec 32 := 0#32
  let v1157 : BitVec 32 := Scalar.maxsi v1156 c0_i32_687
  let c256_i32_688 : BitVec 32 := 256#32
  let v1158 : BitVec 32 := Scalar.muli v1157 c256_i32_688
  v1158
def k0_off12 (k0_t1 : Fin k0_t1_loop.trips) : Fin 3 → Nat :=
  let c0_689 : Index := 0#32
  let c1_i32_457 : BitVec 32 := 1#32
  let c1_i32_458 : BitVec 32 := 1#32
  let arg15 : BitVec 32 := Scf.iv c1_i32_457 c1_i32_458 k0_t1
  let c1_i32_686 : BitVec 32 := 1#32
  let v1156 : BitVec 32 := Scalar.subi arg15 c1_i32_686
  let c0_i32_687 : BitVec 32 := 0#32
  let v1157 : BitVec 32 := Scalar.maxsi v1156 c0_i32_687
  let c256_i32_688 : BitVec 32 := 256#32
  let v1158 : BitVec 32 := Scalar.muli v1157 c256_i32_688
  let v1159 : BitVec 32 := v1158
  let v1160 : Index := Scalar.indexCast v1159
  let c0_690 : Index := 0#32
  ![0, v1160.toNat, 0]
def k0_mult17 (arg17 : BitVec 32) : BitVec 32 :=
  let c256_i32_698 : BitVec 32 := 256#32
  let v1169 : BitVec 32 := Scalar.muli arg17 c256_i32_698
  v1169
def k0_mult18 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_729 : BitVec 32 := 256#32
  let v1216 : BitVec 32 := Scalar.muli arg15 c256_i32_729
  v1216
def k0_off13 (k0_t1 : Fin k0_t1_loop.trips) : Fin 3 → Nat :=
  let c0_730 : Index := 0#32
  let c1_i32_457 : BitVec 32 := 1#32
  let c1_i32_458 : BitVec 32 := 1#32
  let arg15 : BitVec 32 := Scf.iv c1_i32_457 c1_i32_458 k0_t1
  let c256_i32_729 : BitVec 32 := 256#32
  let v1216 : BitVec 32 := Scalar.muli arg15 c256_i32_729
  let v1217 : BitVec 32 := v1216
  let v1218 : Index := Scalar.indexCast v1217
  let c256_731 : Index := 256#32
  ![0, v1218.toNat, 256]
def k0_mult19 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_763 : BitVec 32 := 1#32
  let v1275 : BitVec 32 := Scalar.subi arg15 c1_i32_763
  let c0_i32_764 : BitVec 32 := 0#32
  let v1276 : BitVec 32 := Scalar.maxsi v1275 c0_i32_764
  let c256_i32_765 : BitVec 32 := 256#32
  let v1277 : BitVec 32 := Scalar.muli v1276 c256_i32_765
  v1277
def k0_off14 (k0_t1 : Fin k0_t1_loop.trips) : Fin 3 → Nat :=
  let c0_766 : Index := 0#32
  let c1_i32_457 : BitVec 32 := 1#32
  let c1_i32_458 : BitVec 32 := 1#32
  let arg15 : BitVec 32 := Scf.iv c1_i32_457 c1_i32_458 k0_t1
  let c1_i32_763 : BitVec 32 := 1#32
  let v1275 : BitVec 32 := Scalar.subi arg15 c1_i32_763
  let c0_i32_764 : BitVec 32 := 0#32
  let v1276 : BitVec 32 := Scalar.maxsi v1275 c0_i32_764
  let c256_i32_765 : BitVec 32 := 256#32
  let v1277 : BitVec 32 := Scalar.muli v1276 c256_i32_765
  let v1278 : BitVec 32 := v1277
  let v1279 : Index := Scalar.indexCast v1278
  let c128_767 : Index := 128#32
  ![0, v1279.toNat, 128]
def k0_mult20 (arg17 : BitVec 32) : BitVec 32 :=
  let c256_i32_775 : BitVec 32 := 256#32
  let v1288 : BitVec 32 := Scalar.muli arg17 c256_i32_775
  v1288
def k0_off15 (arg17 : BitVec 32) : Fin 3 → Nat :=
  let c0_776 : Index := 0#32
  let c256_i32_775 : BitVec 32 := 256#32
  let v1288 : BitVec 32 := Scalar.muli arg17 c256_i32_775
  let v1289 : BitVec 32 := v1288
  let v1290 : Index := Scalar.indexCast v1289
  let c128_777 : Index := 128#32
  ![0, v1290.toNat, 128]
def k0_mult21 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_806 : BitVec 32 := 256#32
  let v1335 : BitVec 32 := Scalar.muli arg15 c256_i32_806
  v1335
def k0_mult22 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_840 : BitVec 32 := 1#32
  let v1394 : BitVec 32 := Scalar.subi arg15 c1_i32_840
  let c0_i32_841 : BitVec 32 := 0#32
  let v1395 : BitVec 32 := Scalar.maxsi v1394 c0_i32_841
  let c256_i32_842 : BitVec 32 := 256#32
  let v1396 : BitVec 32 := Scalar.muli v1395 c256_i32_842
  v1396
def k0_mult23 (arg17 : BitVec 32) : BitVec 32 :=
  let c256_i32_852 : BitVec 32 := 256#32
  let v1407 : BitVec 32 := Scalar.muli arg17 c256_i32_852
  v1407
def k0_mult24 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_883 : BitVec 32 := 256#32
  let v1454 : BitVec 32 := Scalar.muli arg15 c256_i32_883
  v1454
def k0_off16 (k0_t1 : Fin k0_t1_loop.trips) : Fin 3 → Nat :=
  let c0_884 : Index := 0#32
  let c1_i32_457 : BitVec 32 := 1#32
  let c1_i32_458 : BitVec 32 := 1#32
  let arg15 : BitVec 32 := Scf.iv c1_i32_457 c1_i32_458 k0_t1
  let c256_i32_883 : BitVec 32 := 256#32
  let v1454 : BitVec 32 := Scalar.muli arg15 c256_i32_883
  let v1455 : BitVec 32 := v1454
  let v1456 : Index := Scalar.indexCast v1455
  let c384_885 : Index := 384#32
  ![0, v1456.toNat, 384]
def k0_mult25 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_917 : BitVec 32 := 1#32
  let v1513 : BitVec 32 := Scalar.subi arg15 c1_i32_917
  let c0_i32_918 : BitVec 32 := 0#32
  let v1514 : BitVec 32 := Scalar.maxsi v1513 c0_i32_918
  let c256_i32_919 : BitVec 32 := 256#32
  let v1515 : BitVec 32 := Scalar.muli v1514 c256_i32_919
  v1515
def k0_off17 (k0_t1 : Fin k0_t1_loop.trips) : Fin 3 → Nat :=
  let c0_920 : Index := 0#32
  let c1_i32_457 : BitVec 32 := 1#32
  let c1_i32_458 : BitVec 32 := 1#32
  let arg15 : BitVec 32 := Scf.iv c1_i32_457 c1_i32_458 k0_t1
  let c1_i32_917 : BitVec 32 := 1#32
  let v1513 : BitVec 32 := Scalar.subi arg15 c1_i32_917
  let c0_i32_918 : BitVec 32 := 0#32
  let v1514 : BitVec 32 := Scalar.maxsi v1513 c0_i32_918
  let c256_i32_919 : BitVec 32 := 256#32
  let v1515 : BitVec 32 := Scalar.muli v1514 c256_i32_919
  let v1516 : BitVec 32 := v1515
  let v1517 : Index := Scalar.indexCast v1516
  let c256_921 : Index := 256#32
  ![0, v1517.toNat, 256]
def k0_mult26 (arg17 : BitVec 32) : BitVec 32 :=
  let c256_i32_929 : BitVec 32 := 256#32
  let v1526 : BitVec 32 := Scalar.muli arg17 c256_i32_929
  v1526
def k0_off18 (arg17 : BitVec 32) : Fin 3 → Nat :=
  let c0_930 : Index := 0#32
  let c256_i32_929 : BitVec 32 := 256#32
  let v1526 : BitVec 32 := Scalar.muli arg17 c256_i32_929
  let v1527 : BitVec 32 := v1526
  let v1528 : Index := Scalar.indexCast v1527
  let c256_931 : Index := 256#32
  ![0, v1528.toNat, 256]
def k0_mult27 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_960 : BitVec 32 := 256#32
  let v1573 : BitVec 32 := Scalar.muli arg15 c256_i32_960
  v1573
def k0_mult28 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_994 : BitVec 32 := 1#32
  let v1632 : BitVec 32 := Scalar.subi arg15 c1_i32_994
  let c0_i32_995 : BitVec 32 := 0#32
  let v1633 : BitVec 32 := Scalar.maxsi v1632 c0_i32_995
  let c256_i32_996 : BitVec 32 := 256#32
  let v1634 : BitVec 32 := Scalar.muli v1633 c256_i32_996
  v1634
def k0_mult29 (arg17 : BitVec 32) : BitVec 32 :=
  let c256_i32_1006 : BitVec 32 := 256#32
  let v1645 : BitVec 32 := Scalar.muli arg17 c256_i32_1006
  v1645
def k0_mult30 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_1061 : BitVec 32 := 1#32
  let v1740 : BitVec 32 := Scalar.subi arg15 c1_i32_1061
  let c0_i32_1062 : BitVec 32 := 0#32
  let v1741 : BitVec 32 := Scalar.maxsi v1740 c0_i32_1062
  let c256_i32_1063 : BitVec 32 := 256#32
  let v1742 : BitVec 32 := Scalar.muli v1741 c256_i32_1063
  v1742
def k0_off19 (k0_t1 : Fin k0_t1_loop.trips) : Fin 3 → Nat :=
  let c0_1064 : Index := 0#32
  let c1_i32_457 : BitVec 32 := 1#32
  let c1_i32_458 : BitVec 32 := 1#32
  let arg15 : BitVec 32 := Scf.iv c1_i32_457 c1_i32_458 k0_t1
  let c1_i32_1061 : BitVec 32 := 1#32
  let v1740 : BitVec 32 := Scalar.subi arg15 c1_i32_1061
  let c0_i32_1062 : BitVec 32 := 0#32
  let v1741 : BitVec 32 := Scalar.maxsi v1740 c0_i32_1062
  let c256_i32_1063 : BitVec 32 := 256#32
  let v1742 : BitVec 32 := Scalar.muli v1741 c256_i32_1063
  let v1743 : BitVec 32 := v1742
  let v1744 : Index := Scalar.indexCast v1743
  let c384_1065 : Index := 384#32
  ![0, v1744.toNat, 384]
def k0_mult31 (arg17 : BitVec 32) : BitVec 32 :=
  let c256_i32_1073 : BitVec 32 := 256#32
  let v1753 : BitVec 32 := Scalar.muli arg17 c256_i32_1073
  v1753
def k0_off20 (arg17 : BitVec 32) : Fin 3 → Nat :=
  let c0_1074 : Index := 0#32
  let c256_i32_1073 : BitVec 32 := 256#32
  let v1753 : BitVec 32 := Scalar.muli arg17 c256_i32_1073
  let v1754 : BitVec 32 := v1753
  let v1755 : Index := Scalar.indexCast v1754
  let c384_1075 : Index := 384#32
  ![0, v1755.toNat, 384]
def k0_mult32 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_1128 : BitVec 32 := 1#32
  let v1848 : BitVec 32 := Scalar.subi arg15 c1_i32_1128
  let c0_i32_1129 : BitVec 32 := 0#32
  let v1849 : BitVec 32 := Scalar.maxsi v1848 c0_i32_1129
  let c256_i32_1130 : BitVec 32 := 256#32
  let v1850 : BitVec 32 := Scalar.muli v1849 c256_i32_1130
  v1850
def k0_mult33 (arg17 : BitVec 32) : BitVec 32 :=
  let c256_i32_1140 : BitVec 32 := 256#32
  let v1861 : BitVec 32 := Scalar.muli arg17 c256_i32_1140
  v1861
def k0_mult34 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_1171 : BitVec 32 := 1#32
  let v1908 : BitVec 32 := Scalar.subi arg15 c1_i32_1171
  let c256_i32_1172 : BitVec 32 := 256#32
  let v1909 : BitVec 32 := Scalar.muli v1908 c256_i32_1172
  v1909
def k0_off21 (k0_t1 : Fin k0_t1_loop.trips) : Fin 3 → Nat :=
  let c0_1173 : Index := 0#32
  let c1_i32_457 : BitVec 32 := 1#32
  let c1_i32_458 : BitVec 32 := 1#32
  let arg15 : BitVec 32 := Scf.iv c1_i32_457 c1_i32_458 k0_t1
  let c1_i32_1171 : BitVec 32 := 1#32
  let v1908 : BitVec 32 := Scalar.subi arg15 c1_i32_1171
  let c256_i32_1172 : BitVec 32 := 256#32
  let v1909 : BitVec 32 := Scalar.muli v1908 c256_i32_1172
  let v1910 : BitVec 32 := v1909
  let v1911 : Index := Scalar.indexCast v1910
  let c0_1174 : Index := 0#32
  ![0, v1911.toNat, 0]
def k0_off22 (k0_t1 : Fin k0_t1_loop.trips) : Fin 3 → Nat :=
  let c0_1183 : Index := 0#32
  let c1_i32_457 : BitVec 32 := 1#32
  let c1_i32_458 : BitVec 32 := 1#32
  let arg15 : BitVec 32 := Scf.iv c1_i32_457 c1_i32_458 k0_t1
  let c1_i32_1171 : BitVec 32 := 1#32
  let v1908 : BitVec 32 := Scalar.subi arg15 c1_i32_1171
  let c256_i32_1172 : BitVec 32 := 256#32
  let v1909 : BitVec 32 := Scalar.muli v1908 c256_i32_1172
  let v1910 : BitVec 32 := v1909
  let v1929 : Index := Scalar.indexCast v1910
  let c128_1184 : Index := 128#32
  ![0, v1929.toNat, 128]
def k0_off23 (k0_t1 : Fin k0_t1_loop.trips) : Fin 3 → Nat :=
  let c0_1193 : Index := 0#32
  let c1_i32_457 : BitVec 32 := 1#32
  let c1_i32_458 : BitVec 32 := 1#32
  let arg15 : BitVec 32 := Scf.iv c1_i32_457 c1_i32_458 k0_t1
  let c1_i32_1171 : BitVec 32 := 1#32
  let v1908 : BitVec 32 := Scalar.subi arg15 c1_i32_1171
  let c256_i32_1172 : BitVec 32 := 256#32
  let v1909 : BitVec 32 := Scalar.muli v1908 c256_i32_1172
  let v1910 : BitVec 32 := v1909
  let v1947 : Index := Scalar.indexCast v1910
  let c256_1194 : Index := 256#32
  ![0, v1947.toNat, 256]
def k0_off24 (k0_t1 : Fin k0_t1_loop.trips) : Fin 3 → Nat :=
  let c0_1203 : Index := 0#32
  let c1_i32_457 : BitVec 32 := 1#32
  let c1_i32_458 : BitVec 32 := 1#32
  let arg15 : BitVec 32 := Scf.iv c1_i32_457 c1_i32_458 k0_t1
  let c1_i32_1171 : BitVec 32 := 1#32
  let v1908 : BitVec 32 := Scalar.subi arg15 c1_i32_1171
  let c256_i32_1172 : BitVec 32 := 256#32
  let v1909 : BitVec 32 := Scalar.muli v1908 c256_i32_1172
  let v1910 : BitVec 32 := v1909
  let v1965 : Index := Scalar.indexCast v1910
  let c384_1204 : Index := 384#32
  ![0, v1965.toNat, 384]
def k0_mult35 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_518 : BitVec 32 := 256#32
  let v890 : BitVec 32 := Scalar.muli arg15 c256_i32_518
  v890
def k0_off25 (k0_t1 : Fin k0_t1_loop.trips) : Fin 3 → Nat :=
  let c0_519 : Index := 0#32
  let c1_i32_457 : BitVec 32 := 1#32
  let c1_i32_458 : BitVec 32 := 1#32
  let arg15 : BitVec 32 := Scf.iv c1_i32_457 c1_i32_458 k0_t1
  let c256_i32_518 : BitVec 32 := 256#32
  let v890 : BitVec 32 := Scalar.muli arg15 c256_i32_518
  let v891 : BitVec 32 := v890
  let v892 : Index := Scalar.indexCast v891
  let c0_520 : Index := 0#32
  ![0, v892.toNat, 0]
def k0_off26 (k0_t1 : Fin k0_t1_loop.trips) : Fin 3 → Nat :=
  let c0_528 : Index := 0#32
  let c1_i32_457 : BitVec 32 := 1#32
  let c1_i32_458 : BitVec 32 := 1#32
  let arg15 : BitVec 32 := Scf.iv c1_i32_457 c1_i32_458 k0_t1
  let c256_i32_518 : BitVec 32 := 256#32
  let v890 : BitVec 32 := Scalar.muli arg15 c256_i32_518
  let v891 : BitVec 32 := v890
  let v908 : Index := Scalar.indexCast v891
  let c128_529 : Index := 128#32
  ![0, v908.toNat, 128]
def k0_off27 (k0_t1 : Fin k0_t1_loop.trips) : Fin 3 → Nat :=
  let c0_537 : Index := 0#32
  let c1_i32_457 : BitVec 32 := 1#32
  let c1_i32_458 : BitVec 32 := 1#32
  let arg15 : BitVec 32 := Scf.iv c1_i32_457 c1_i32_458 k0_t1
  let c256_i32_518 : BitVec 32 := 256#32
  let v890 : BitVec 32 := Scalar.muli arg15 c256_i32_518
  let v891 : BitVec 32 := v890
  let v924 : Index := Scalar.indexCast v891
  let c256_538 : Index := 256#32
  ![0, v924.toNat, 256]
def k0_off28 (k0_t1 : Fin k0_t1_loop.trips) : Fin 3 → Nat :=
  let c0_546 : Index := 0#32
  let c1_i32_457 : BitVec 32 := 1#32
  let c1_i32_458 : BitVec 32 := 1#32
  let arg15 : BitVec 32 := Scf.iv c1_i32_457 c1_i32_458 k0_t1
  let c256_i32_518 : BitVec 32 := 256#32
  let v890 : BitVec 32 := Scalar.muli arg15 c256_i32_518
  let v891 : BitVec 32 := v890
  let v940 : Index := Scalar.indexCast v891
  let c384_547 : Index := 384#32
  ![0, v940.toNat, 384]
def k0_mult36 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_555 : BitVec 32 := 256#32
  let v956 : BitVec 32 := Scalar.muli arg15 c256_i32_555
  v956
def k0_mult37 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_565 : BitVec 32 := 256#32
  let v967 : BitVec 32 := Scalar.muli arg15 c256_i32_565
  v967
def k0_mult38 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_575 : BitVec 32 := 256#32
  let v978 : BitVec 32 := Scalar.muli arg15 c256_i32_575
  v978
def k0_mult39 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_609 : BitVec 32 := 1#32
  let v1037 : BitVec 32 := Scalar.subi arg15 c1_i32_609
  let c0_i32_610 : BitVec 32 := 0#32
  let v1038 : BitVec 32 := Scalar.maxsi v1037 c0_i32_610
  let c256_i32_611 : BitVec 32 := 256#32
  let v1039 : BitVec 32 := Scalar.muli v1038 c256_i32_611
  v1039
def k0_off29 (k0_t1 : Fin k0_t1_loop.trips) : Fin 3 → Nat :=
  let c0_612 : Index := 0#32
  let c1_i32_457 : BitVec 32 := 1#32
  let c1_i32_458 : BitVec 32 := 1#32
  let arg15 : BitVec 32 := Scf.iv c1_i32_457 c1_i32_458 k0_t1
  let c1_i32_609 : BitVec 32 := 1#32
  let v1037 : BitVec 32 := Scalar.subi arg15 c1_i32_609
  let c0_i32_610 : BitVec 32 := 0#32
  let v1038 : BitVec 32 := Scalar.maxsi v1037 c0_i32_610
  let c256_i32_611 : BitVec 32 := 256#32
  let v1039 : BitVec 32 := Scalar.muli v1038 c256_i32_611
  let v1040 : BitVec 32 := v1039
  let v1041 : Index := Scalar.indexCast v1040
  let c0_613 : Index := 0#32
  ![0, v1041.toNat, 0]
def k0_mult40 (arg17 : BitVec 32) : BitVec 32 :=
  let c256_i32_621 : BitVec 32 := 256#32
  let v1050 : BitVec 32 := Scalar.muli arg17 c256_i32_621
  v1050
def k0_off30 (arg17 : BitVec 32) : Fin 3 → Nat :=
  let c0_622 : Index := 0#32
  let c256_i32_621 : BitVec 32 := 256#32
  let v1050 : BitVec 32 := Scalar.muli arg17 c256_i32_621
  let v1051 : BitVec 32 := v1050
  let v1052 : Index := Scalar.indexCast v1051
  let c0_623 : Index := 0#32
  ![0, v1052.toNat, 0]
def k0_mult41 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_652 : BitVec 32 := 256#32
  let v1097 : BitVec 32 := Scalar.muli arg15 c256_i32_652
  v1097
def k0_mult42 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_686 : BitVec 32 := 1#32
  let v1156 : BitVec 32 := Scalar.subi arg15 c1_i32_686
  let c0_i32_687 : BitVec 32 := 0#32
  let v1157 : BitVec 32 := Scalar.maxsi v1156 c0_i32_687
  let c256_i32_688 : BitVec 32 := 256#32
  let v1158 : BitVec 32 := Scalar.muli v1157 c256_i32_688
  v1158
def k0_mult43 (arg17 : BitVec 32) : BitVec 32 :=
  let c256_i32_698 : BitVec 32 := 256#32
  let v1169 : BitVec 32 := Scalar.muli arg17 c256_i32_698
  v1169
def k0_mult44 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_729 : BitVec 32 := 256#32
  let v1216 : BitVec 32 := Scalar.muli arg15 c256_i32_729
  v1216
def k0_mult45 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_763 : BitVec 32 := 1#32
  let v1275 : BitVec 32 := Scalar.subi arg15 c1_i32_763
  let c0_i32_764 : BitVec 32 := 0#32
  let v1276 : BitVec 32 := Scalar.maxsi v1275 c0_i32_764
  let c256_i32_765 : BitVec 32 := 256#32
  let v1277 : BitVec 32 := Scalar.muli v1276 c256_i32_765
  v1277
def k0_off31 (k0_t1 : Fin k0_t1_loop.trips) : Fin 3 → Nat :=
  let c0_766 : Index := 0#32
  let c1_i32_457 : BitVec 32 := 1#32
  let c1_i32_458 : BitVec 32 := 1#32
  let arg15 : BitVec 32 := Scf.iv c1_i32_457 c1_i32_458 k0_t1
  let c1_i32_763 : BitVec 32 := 1#32
  let v1275 : BitVec 32 := Scalar.subi arg15 c1_i32_763
  let c0_i32_764 : BitVec 32 := 0#32
  let v1276 : BitVec 32 := Scalar.maxsi v1275 c0_i32_764
  let c256_i32_765 : BitVec 32 := 256#32
  let v1277 : BitVec 32 := Scalar.muli v1276 c256_i32_765
  let v1278 : BitVec 32 := v1277
  let v1279 : Index := Scalar.indexCast v1278
  let c128_767 : Index := 128#32
  ![0, v1279.toNat, 128]
def k0_mult46 (arg17 : BitVec 32) : BitVec 32 :=
  let c256_i32_775 : BitVec 32 := 256#32
  let v1288 : BitVec 32 := Scalar.muli arg17 c256_i32_775
  v1288
def k0_off32 (arg17 : BitVec 32) : Fin 3 → Nat :=
  let c0_776 : Index := 0#32
  let c256_i32_775 : BitVec 32 := 256#32
  let v1288 : BitVec 32 := Scalar.muli arg17 c256_i32_775
  let v1289 : BitVec 32 := v1288
  let v1290 : Index := Scalar.indexCast v1289
  let c128_777 : Index := 128#32
  ![0, v1290.toNat, 128]
def k0_mult47 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_806 : BitVec 32 := 256#32
  let v1335 : BitVec 32 := Scalar.muli arg15 c256_i32_806
  v1335
def k0_mult48 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_840 : BitVec 32 := 1#32
  let v1394 : BitVec 32 := Scalar.subi arg15 c1_i32_840
  let c0_i32_841 : BitVec 32 := 0#32
  let v1395 : BitVec 32 := Scalar.maxsi v1394 c0_i32_841
  let c256_i32_842 : BitVec 32 := 256#32
  let v1396 : BitVec 32 := Scalar.muli v1395 c256_i32_842
  v1396
def k0_mult49 (arg17 : BitVec 32) : BitVec 32 :=
  let c256_i32_852 : BitVec 32 := 256#32
  let v1407 : BitVec 32 := Scalar.muli arg17 c256_i32_852
  v1407
def k0_mult50 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_883 : BitVec 32 := 256#32
  let v1454 : BitVec 32 := Scalar.muli arg15 c256_i32_883
  v1454
def k0_mult51 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_917 : BitVec 32 := 1#32
  let v1513 : BitVec 32 := Scalar.subi arg15 c1_i32_917
  let c0_i32_918 : BitVec 32 := 0#32
  let v1514 : BitVec 32 := Scalar.maxsi v1513 c0_i32_918
  let c256_i32_919 : BitVec 32 := 256#32
  let v1515 : BitVec 32 := Scalar.muli v1514 c256_i32_919
  v1515
def k0_off33 (k0_t1 : Fin k0_t1_loop.trips) : Fin 3 → Nat :=
  let c0_920 : Index := 0#32
  let c1_i32_457 : BitVec 32 := 1#32
  let c1_i32_458 : BitVec 32 := 1#32
  let arg15 : BitVec 32 := Scf.iv c1_i32_457 c1_i32_458 k0_t1
  let c1_i32_917 : BitVec 32 := 1#32
  let v1513 : BitVec 32 := Scalar.subi arg15 c1_i32_917
  let c0_i32_918 : BitVec 32 := 0#32
  let v1514 : BitVec 32 := Scalar.maxsi v1513 c0_i32_918
  let c256_i32_919 : BitVec 32 := 256#32
  let v1515 : BitVec 32 := Scalar.muli v1514 c256_i32_919
  let v1516 : BitVec 32 := v1515
  let v1517 : Index := Scalar.indexCast v1516
  let c256_921 : Index := 256#32
  ![0, v1517.toNat, 256]
def k0_mult52 (arg17 : BitVec 32) : BitVec 32 :=
  let c256_i32_929 : BitVec 32 := 256#32
  let v1526 : BitVec 32 := Scalar.muli arg17 c256_i32_929
  v1526
def k0_off34 (arg17 : BitVec 32) : Fin 3 → Nat :=
  let c0_930 : Index := 0#32
  let c256_i32_929 : BitVec 32 := 256#32
  let v1526 : BitVec 32 := Scalar.muli arg17 c256_i32_929
  let v1527 : BitVec 32 := v1526
  let v1528 : Index := Scalar.indexCast v1527
  let c256_931 : Index := 256#32
  ![0, v1528.toNat, 256]
def k0_mult53 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c256_i32_960 : BitVec 32 := 256#32
  let v1573 : BitVec 32 := Scalar.muli arg15 c256_i32_960
  v1573
def k0_mult54 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_994 : BitVec 32 := 1#32
  let v1632 : BitVec 32 := Scalar.subi arg15 c1_i32_994
  let c0_i32_995 : BitVec 32 := 0#32
  let v1633 : BitVec 32 := Scalar.maxsi v1632 c0_i32_995
  let c256_i32_996 : BitVec 32 := 256#32
  let v1634 : BitVec 32 := Scalar.muli v1633 c256_i32_996
  v1634
def k0_mult55 (arg17 : BitVec 32) : BitVec 32 :=
  let c256_i32_1006 : BitVec 32 := 256#32
  let v1645 : BitVec 32 := Scalar.muli arg17 c256_i32_1006
  v1645
def k0_mult56 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_1061 : BitVec 32 := 1#32
  let v1740 : BitVec 32 := Scalar.subi arg15 c1_i32_1061
  let c0_i32_1062 : BitVec 32 := 0#32
  let v1741 : BitVec 32 := Scalar.maxsi v1740 c0_i32_1062
  let c256_i32_1063 : BitVec 32 := 256#32
  let v1742 : BitVec 32 := Scalar.muli v1741 c256_i32_1063
  v1742
def k0_off35 (k0_t1 : Fin k0_t1_loop.trips) : Fin 3 → Nat :=
  let c0_1064 : Index := 0#32
  let c1_i32_457 : BitVec 32 := 1#32
  let c1_i32_458 : BitVec 32 := 1#32
  let arg15 : BitVec 32 := Scf.iv c1_i32_457 c1_i32_458 k0_t1
  let c1_i32_1061 : BitVec 32 := 1#32
  let v1740 : BitVec 32 := Scalar.subi arg15 c1_i32_1061
  let c0_i32_1062 : BitVec 32 := 0#32
  let v1741 : BitVec 32 := Scalar.maxsi v1740 c0_i32_1062
  let c256_i32_1063 : BitVec 32 := 256#32
  let v1742 : BitVec 32 := Scalar.muli v1741 c256_i32_1063
  let v1743 : BitVec 32 := v1742
  let v1744 : Index := Scalar.indexCast v1743
  let c384_1065 : Index := 384#32
  ![0, v1744.toNat, 384]
def k0_mult57 (arg17 : BitVec 32) : BitVec 32 :=
  let c256_i32_1073 : BitVec 32 := 256#32
  let v1753 : BitVec 32 := Scalar.muli arg17 c256_i32_1073
  v1753
def k0_off36 (arg17 : BitVec 32) : Fin 3 → Nat :=
  let c0_1074 : Index := 0#32
  let c256_i32_1073 : BitVec 32 := 256#32
  let v1753 : BitVec 32 := Scalar.muli arg17 c256_i32_1073
  let v1754 : BitVec 32 := v1753
  let v1755 : Index := Scalar.indexCast v1754
  let c384_1075 : Index := 384#32
  ![0, v1755.toNat, 384]
def k0_mult58 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_1128 : BitVec 32 := 1#32
  let v1848 : BitVec 32 := Scalar.subi arg15 c1_i32_1128
  let c0_i32_1129 : BitVec 32 := 0#32
  let v1849 : BitVec 32 := Scalar.maxsi v1848 c0_i32_1129
  let c256_i32_1130 : BitVec 32 := 256#32
  let v1850 : BitVec 32 := Scalar.muli v1849 c256_i32_1130
  v1850
def k0_mult59 (arg17 : BitVec 32) : BitVec 32 :=
  let c256_i32_1140 : BitVec 32 := 256#32
  let v1861 : BitVec 32 := Scalar.muli arg17 c256_i32_1140
  v1861

def k0_chk1 (arg16 : BitVec 32) (arg17 : BitVec 32) : Prop :=
  (∀ (k0_h1 : k0_cond1 arg16 = 1#1), 256 ∣ (k0_mult14 arg17).toNat) ∧
  (∀ (k0_h1 : k0_cond1 arg16 = 1#1), ∀ a, (k0_off10 arg17) a + S1x256x128.size a ≤ S1x2048x512.size a) ∧
  (∀ (k0_h1 : k0_cond1 arg16 = 1#1), 256 ∣ (k0_mult17 arg17).toNat) ∧
  (∀ (k0_h1 : k0_cond1 arg16 = 1#1), 256 ∣ (k0_mult20 arg17).toNat) ∧
  (∀ (k0_h1 : k0_cond1 arg16 = 1#1), ∀ a, (k0_off15 arg17) a + S1x256x128.size a ≤ S1x2048x512.size a) ∧
  (∀ (k0_h1 : k0_cond1 arg16 = 1#1), 256 ∣ (k0_mult23 arg17).toNat) ∧
  (∀ (k0_h1 : k0_cond1 arg16 = 1#1), 256 ∣ (k0_mult26 arg17).toNat) ∧
  (∀ (k0_h1 : k0_cond1 arg16 = 1#1), ∀ a, (k0_off18 arg17) a + S1x256x128.size a ≤ S1x2048x512.size a) ∧
  (∀ (k0_h1 : k0_cond1 arg16 = 1#1), 256 ∣ (k0_mult29 arg17).toNat) ∧
  (∀ (k0_h1 : k0_cond1 arg16 = 1#1), 256 ∣ (k0_mult31 arg17).toNat) ∧
  (∀ (k0_h1 : k0_cond1 arg16 = 1#1), ∀ a, (k0_off20 arg17) a + S1x256x128.size a ≤ S1x2048x512.size a) ∧
  (∀ (k0_h1 : k0_cond1 arg16 = 1#1), 256 ∣ (k0_mult33 arg17).toNat) ∧
  (∀ (k0_h1 : ¬(k0_cond1 arg16 = 1#1)), 256 ∣ (k0_mult40 arg17).toNat) ∧
  (∀ (k0_h1 : ¬(k0_cond1 arg16 = 1#1)), ∀ a, (k0_off30 arg17) a + S1x256x128.size a ≤ S1x2048x512.size a) ∧
  (∀ (k0_h1 : ¬(k0_cond1 arg16 = 1#1)), 256 ∣ (k0_mult43 arg17).toNat) ∧
  (∀ (k0_h1 : ¬(k0_cond1 arg16 = 1#1)), 256 ∣ (k0_mult46 arg17).toNat) ∧
  (∀ (k0_h1 : ¬(k0_cond1 arg16 = 1#1)), ∀ a, (k0_off32 arg17) a + S1x256x128.size a ≤ S1x2048x512.size a) ∧
  (∀ (k0_h1 : ¬(k0_cond1 arg16 = 1#1)), 256 ∣ (k0_mult49 arg17).toNat) ∧
  (∀ (k0_h1 : ¬(k0_cond1 arg16 = 1#1)), 256 ∣ (k0_mult52 arg17).toNat) ∧
  (∀ (k0_h1 : ¬(k0_cond1 arg16 = 1#1)), ∀ a, (k0_off34 arg17) a + S1x256x128.size a ≤ S1x2048x512.size a) ∧
  (∀ (k0_h1 : ¬(k0_cond1 arg16 = 1#1)), 256 ∣ (k0_mult55 arg17).toNat) ∧
  (∀ (k0_h1 : ¬(k0_cond1 arg16 = 1#1)), 256 ∣ (k0_mult57 arg17).toNat) ∧
  (∀ (k0_h1 : ¬(k0_cond1 arg16 = 1#1)), ∀ a, (k0_off36 arg17) a + S1x256x128.size a ≤ S1x2048x512.size a) ∧
  (∀ (k0_h1 : ¬(k0_cond1 arg16 = 1#1)), 256 ∣ (k0_mult59 arg17).toNat)
theorem k0_mult14_dvd : ∀ (arg16 : BitVec 32) (arg17 : BitVec 32) (k0_hw1 : k0_chk1 arg16 arg17), ∀ (k0_h1 : k0_cond1 arg16 = 1#1), 256 ∣ (k0_mult14 arg17).toNat := fun arg16 arg17 k0_hw1 k0_h1 => k0_hw1.1 k0_h1
theorem k0_off10_inb : ∀ (arg16 : BitVec 32) (arg17 : BitVec 32) (k0_hw1 : k0_chk1 arg16 arg17), ∀ (k0_h1 : k0_cond1 arg16 = 1#1), ∀ a, (k0_off10 arg17) a + S1x256x128.size a ≤ S1x2048x512.size a := fun arg16 arg17 k0_hw1 k0_h1 => k0_hw1.2.1 k0_h1
theorem k0_mult17_dvd : ∀ (arg16 : BitVec 32) (arg17 : BitVec 32) (k0_hw1 : k0_chk1 arg16 arg17), ∀ (k0_h1 : k0_cond1 arg16 = 1#1), 256 ∣ (k0_mult17 arg17).toNat := fun arg16 arg17 k0_hw1 k0_h1 => k0_hw1.2.2.1 k0_h1
theorem k0_mult20_dvd : ∀ (arg16 : BitVec 32) (arg17 : BitVec 32) (k0_hw1 : k0_chk1 arg16 arg17), ∀ (k0_h1 : k0_cond1 arg16 = 1#1), 256 ∣ (k0_mult20 arg17).toNat := fun arg16 arg17 k0_hw1 k0_h1 => k0_hw1.2.2.2.1 k0_h1
theorem k0_off15_inb : ∀ (arg16 : BitVec 32) (arg17 : BitVec 32) (k0_hw1 : k0_chk1 arg16 arg17), ∀ (k0_h1 : k0_cond1 arg16 = 1#1), ∀ a, (k0_off15 arg17) a + S1x256x128.size a ≤ S1x2048x512.size a := fun arg16 arg17 k0_hw1 k0_h1 => k0_hw1.2.2.2.2.1 k0_h1
theorem k0_mult23_dvd : ∀ (arg16 : BitVec 32) (arg17 : BitVec 32) (k0_hw1 : k0_chk1 arg16 arg17), ∀ (k0_h1 : k0_cond1 arg16 = 1#1), 256 ∣ (k0_mult23 arg17).toNat := fun arg16 arg17 k0_hw1 k0_h1 => k0_hw1.2.2.2.2.2.1 k0_h1
theorem k0_mult26_dvd : ∀ (arg16 : BitVec 32) (arg17 : BitVec 32) (k0_hw1 : k0_chk1 arg16 arg17), ∀ (k0_h1 : k0_cond1 arg16 = 1#1), 256 ∣ (k0_mult26 arg17).toNat := fun arg16 arg17 k0_hw1 k0_h1 => k0_hw1.2.2.2.2.2.2.1 k0_h1
theorem k0_off18_inb : ∀ (arg16 : BitVec 32) (arg17 : BitVec 32) (k0_hw1 : k0_chk1 arg16 arg17), ∀ (k0_h1 : k0_cond1 arg16 = 1#1), ∀ a, (k0_off18 arg17) a + S1x256x128.size a ≤ S1x2048x512.size a := fun arg16 arg17 k0_hw1 k0_h1 => k0_hw1.2.2.2.2.2.2.2.1 k0_h1
theorem k0_mult29_dvd : ∀ (arg16 : BitVec 32) (arg17 : BitVec 32) (k0_hw1 : k0_chk1 arg16 arg17), ∀ (k0_h1 : k0_cond1 arg16 = 1#1), 256 ∣ (k0_mult29 arg17).toNat := fun arg16 arg17 k0_hw1 k0_h1 => k0_hw1.2.2.2.2.2.2.2.2.1 k0_h1
theorem k0_mult31_dvd : ∀ (arg16 : BitVec 32) (arg17 : BitVec 32) (k0_hw1 : k0_chk1 arg16 arg17), ∀ (k0_h1 : k0_cond1 arg16 = 1#1), 256 ∣ (k0_mult31 arg17).toNat := fun arg16 arg17 k0_hw1 k0_h1 => k0_hw1.2.2.2.2.2.2.2.2.2.1 k0_h1
theorem k0_off20_inb : ∀ (arg16 : BitVec 32) (arg17 : BitVec 32) (k0_hw1 : k0_chk1 arg16 arg17), ∀ (k0_h1 : k0_cond1 arg16 = 1#1), ∀ a, (k0_off20 arg17) a + S1x256x128.size a ≤ S1x2048x512.size a := fun arg16 arg17 k0_hw1 k0_h1 => k0_hw1.2.2.2.2.2.2.2.2.2.2.1 k0_h1
theorem k0_mult33_dvd : ∀ (arg16 : BitVec 32) (arg17 : BitVec 32) (k0_hw1 : k0_chk1 arg16 arg17), ∀ (k0_h1 : k0_cond1 arg16 = 1#1), 256 ∣ (k0_mult33 arg17).toNat := fun arg16 arg17 k0_hw1 k0_h1 => k0_hw1.2.2.2.2.2.2.2.2.2.2.2.1 k0_h1
theorem k0_mult40_dvd : ∀ (arg16 : BitVec 32) (arg17 : BitVec 32) (k0_hw1 : k0_chk1 arg16 arg17), ∀ (k0_h1 : ¬(k0_cond1 arg16 = 1#1)), 256 ∣ (k0_mult40 arg17).toNat := fun arg16 arg17 k0_hw1 k0_h1 => k0_hw1.2.2.2.2.2.2.2.2.2.2.2.2.1 k0_h1
theorem k0_off30_inb : ∀ (arg16 : BitVec 32) (arg17 : BitVec 32) (k0_hw1 : k0_chk1 arg16 arg17), ∀ (k0_h1 : ¬(k0_cond1 arg16 = 1#1)), ∀ a, (k0_off30 arg17) a + S1x256x128.size a ≤ S1x2048x512.size a := fun arg16 arg17 k0_hw1 k0_h1 => k0_hw1.2.2.2.2.2.2.2.2.2.2.2.2.2.1 k0_h1
theorem k0_mult43_dvd : ∀ (arg16 : BitVec 32) (arg17 : BitVec 32) (k0_hw1 : k0_chk1 arg16 arg17), ∀ (k0_h1 : ¬(k0_cond1 arg16 = 1#1)), 256 ∣ (k0_mult43 arg17).toNat := fun arg16 arg17 k0_hw1 k0_h1 => k0_hw1.2.2.2.2.2.2.2.2.2.2.2.2.2.2.1 k0_h1
theorem k0_mult46_dvd : ∀ (arg16 : BitVec 32) (arg17 : BitVec 32) (k0_hw1 : k0_chk1 arg16 arg17), ∀ (k0_h1 : ¬(k0_cond1 arg16 = 1#1)), 256 ∣ (k0_mult46 arg17).toNat := fun arg16 arg17 k0_hw1 k0_h1 => k0_hw1.2.2.2.2.2.2.2.2.2.2.2.2.2.2.2.1 k0_h1
theorem k0_off32_inb : ∀ (arg16 : BitVec 32) (arg17 : BitVec 32) (k0_hw1 : k0_chk1 arg16 arg17), ∀ (k0_h1 : ¬(k0_cond1 arg16 = 1#1)), ∀ a, (k0_off32 arg17) a + S1x256x128.size a ≤ S1x2048x512.size a := fun arg16 arg17 k0_hw1 k0_h1 => k0_hw1.2.2.2.2.2.2.2.2.2.2.2.2.2.2.2.2.1 k0_h1
theorem k0_mult49_dvd : ∀ (arg16 : BitVec 32) (arg17 : BitVec 32) (k0_hw1 : k0_chk1 arg16 arg17), ∀ (k0_h1 : ¬(k0_cond1 arg16 = 1#1)), 256 ∣ (k0_mult49 arg17).toNat := fun arg16 arg17 k0_hw1 k0_h1 => k0_hw1.2.2.2.2.2.2.2.2.2.2.2.2.2.2.2.2.2.1 k0_h1
theorem k0_mult52_dvd : ∀ (arg16 : BitVec 32) (arg17 : BitVec 32) (k0_hw1 : k0_chk1 arg16 arg17), ∀ (k0_h1 : ¬(k0_cond1 arg16 = 1#1)), 256 ∣ (k0_mult52 arg17).toNat := fun arg16 arg17 k0_hw1 k0_h1 => k0_hw1.2.2.2.2.2.2.2.2.2.2.2.2.2.2.2.2.2.2.1 k0_h1
theorem k0_off34_inb : ∀ (arg16 : BitVec 32) (arg17 : BitVec 32) (k0_hw1 : k0_chk1 arg16 arg17), ∀ (k0_h1 : ¬(k0_cond1 arg16 = 1#1)), ∀ a, (k0_off34 arg17) a + S1x256x128.size a ≤ S1x2048x512.size a := fun arg16 arg17 k0_hw1 k0_h1 => k0_hw1.2.2.2.2.2.2.2.2.2.2.2.2.2.2.2.2.2.2.2.1 k0_h1
theorem k0_mult55_dvd : ∀ (arg16 : BitVec 32) (arg17 : BitVec 32) (k0_hw1 : k0_chk1 arg16 arg17), ∀ (k0_h1 : ¬(k0_cond1 arg16 = 1#1)), 256 ∣ (k0_mult55 arg17).toNat := fun arg16 arg17 k0_hw1 k0_h1 => k0_hw1.2.2.2.2.2.2.2.2.2.2.2.2.2.2.2.2.2.2.2.2.1 k0_h1
theorem k0_mult57_dvd : ∀ (arg16 : BitVec 32) (arg17 : BitVec 32) (k0_hw1 : k0_chk1 arg16 arg17), ∀ (k0_h1 : ¬(k0_cond1 arg16 = 1#1)), 256 ∣ (k0_mult57 arg17).toNat := fun arg16 arg17 k0_hw1 k0_h1 => k0_hw1.2.2.2.2.2.2.2.2.2.2.2.2.2.2.2.2.2.2.2.2.2.1 k0_h1
theorem k0_off36_inb : ∀ (arg16 : BitVec 32) (arg17 : BitVec 32) (k0_hw1 : k0_chk1 arg16 arg17), ∀ (k0_h1 : ¬(k0_cond1 arg16 = 1#1)), ∀ a, (k0_off36 arg17) a + S1x256x128.size a ≤ S1x2048x512.size a := fun arg16 arg17 k0_hw1 k0_h1 => k0_hw1.2.2.2.2.2.2.2.2.2.2.2.2.2.2.2.2.2.2.2.2.2.2.1 k0_h1
theorem k0_mult59_dvd : ∀ (arg16 : BitVec 32) (arg17 : BitVec 32) (k0_hw1 : k0_chk1 arg16 arg17), ∀ (k0_h1 : ¬(k0_cond1 arg16 = 1#1)), 256 ∣ (k0_mult59 arg17).toNat := fun arg16 arg17 k0_hw1 k0_h1 => k0_hw1.2.2.2.2.2.2.2.2.2.2.2.2.2.2.2.2.2.2.2.2.2.2.2 k0_h1

def k0_mult60 (k0_t1 : Fin k0_t1_loop.trips) : BitVec 32 :=
  let c1_i32_457 : BitVec 32 := 1#32
  let c1_i32_458 : BitVec 32 := 1#32
  let arg15 : BitVec 32 := Scf.iv c1_i32_457 c1_i32_458 k0_t1
  let c1_i32_1171 : BitVec 32 := 1#32
  let v1908 : BitVec 32 := Scalar.subi arg15 c1_i32_1171
  let c256_i32_1172 : BitVec 32 := 256#32
  let v1909 : BitVec 32 := Scalar.muli v1908 c256_i32_1172
  v1909
def k0_off37 (k0_t1 : Fin k0_t1_loop.trips) : Fin 3 → Nat :=
  let c0_1173 : Index := 0#32
  let c1_i32_457 : BitVec 32 := 1#32
  let c1_i32_458 : BitVec 32 := 1#32
  let arg15 : BitVec 32 := Scf.iv c1_i32_457 c1_i32_458 k0_t1
  let c1_i32_1171 : BitVec 32 := 1#32
  let v1908 : BitVec 32 := Scalar.subi arg15 c1_i32_1171
  let c256_i32_1172 : BitVec 32 := 256#32
  let v1909 : BitVec 32 := Scalar.muli v1908 c256_i32_1172
  let v1910 : BitVec 32 := v1909
  let v1911 : Index := Scalar.indexCast v1910
  let c0_1174 : Index := 0#32
  ![0, v1911.toNat, 0]
def k0_off38 (k0_t1 : Fin k0_t1_loop.trips) : Fin 3 → Nat :=
  let c0_1183 : Index := 0#32
  let c1_i32_457 : BitVec 32 := 1#32
  let c1_i32_458 : BitVec 32 := 1#32
  let arg15 : BitVec 32 := Scf.iv c1_i32_457 c1_i32_458 k0_t1
  let c1_i32_1171 : BitVec 32 := 1#32
  let v1908 : BitVec 32 := Scalar.subi arg15 c1_i32_1171
  let c256_i32_1172 : BitVec 32 := 256#32
  let v1909 : BitVec 32 := Scalar.muli v1908 c256_i32_1172
  let v1910 : BitVec 32 := v1909
  let v1929 : Index := Scalar.indexCast v1910
  let c128_1184 : Index := 128#32
  ![0, v1929.toNat, 128]
def k0_off39 (k0_t1 : Fin k0_t1_loop.trips) : Fin 3 → Nat :=
  let c0_1193 : Index := 0#32
  let c1_i32_457 : BitVec 32 := 1#32
  let c1_i32_458 : BitVec 32 := 1#32
  let arg15 : BitVec 32 := Scf.iv c1_i32_457 c1_i32_458 k0_t1
  let c1_i32_1171 : BitVec 32 := 1#32
  let v1908 : BitVec 32 := Scalar.subi arg15 c1_i32_1171
  let c256_i32_1172 : BitVec 32 := 256#32
  let v1909 : BitVec 32 := Scalar.muli v1908 c256_i32_1172
  let v1910 : BitVec 32 := v1909
  let v1947 : Index := Scalar.indexCast v1910
  let c256_1194 : Index := 256#32
  ![0, v1947.toNat, 256]
def k0_off40 (k0_t1 : Fin k0_t1_loop.trips) : Fin 3 → Nat :=
  let c0_1203 : Index := 0#32
  let c1_i32_457 : BitVec 32 := 1#32
  let c1_i32_458 : BitVec 32 := 1#32
  let arg15 : BitVec 32 := Scf.iv c1_i32_457 c1_i32_458 k0_t1
  let c1_i32_1171 : BitVec 32 := 1#32
  let v1908 : BitVec 32 := Scalar.subi arg15 c1_i32_1171
  let c256_i32_1172 : BitVec 32 := 256#32
  let v1909 : BitVec 32 := Scalar.muli v1908 c256_i32_1172
  let v1910 : BitVec 32 := v1909
  let v1965 : Index := Scalar.indexCast v1910
  let c384_1204 : Index := 384#32
  ![0, v1965.toNat, 384]
def k0_mult61 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_535 : BitVec 32 := 1#32
  let v919 : BitVec 32 := Scalar.subi v891 c1_i32_535
  let c0_i32_536 : BitVec 32 := 0#32
  let v920 : BitVec 32 := Scalar.maxsi v919 c0_i32_536
  let c256_i32_537 : BitVec 32 := 256#32
  let v921 : BitVec 32 := Scalar.muli v920 c256_i32_537
  v921
def k0_cond2 (arg20 : BitVec 32) : BitVec 1 :=
  let c0_i32_519 : BitVec 32 := 0#32
  let v892 : BitVec 1 := Scalar.cmpi .eq arg20 c0_i32_519
  let v893 : BitVec 32 := Scalar.extui v892
  let c0_i32_520 : BitVec 32 := 0#32
  let v894 : BitVec 1 := Scalar.cmpi .ne v893 c0_i32_520
  v894

def k0_off41 (k0_t1 : Fin k0_t1_loop.trips) (arg18 : BitVec 32) : Fin 3 → Nat :=
  let c0_538 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_535 : BitVec 32 := 1#32
  let v919 : BitVec 32 := Scalar.subi v891 c1_i32_535
  let c0_i32_536 : BitVec 32 := 0#32
  let v920 : BitVec 32 := Scalar.maxsi v919 c0_i32_536
  let c256_i32_537 : BitVec 32 := 256#32
  let v921 : BitVec 32 := Scalar.muli v920 c256_i32_537
  let v922 : BitVec 32 := v921
  let v923 : Index := Scalar.indexCast v922
  let c0_539 : Index := 0#32
  ![0, v923.toNat, 0]
def k0_mult62 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_547 : BitVec 32 := 256#32
  let v932 : BitVec 32 := Scalar.muli v898 c256_i32_547
  v932
def k0_off42 (k0_t1 : Fin k0_t1_loop.trips) (arg18 : BitVec 32) : Fin 3 → Nat :=
  let c0_548 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_547 : BitVec 32 := 256#32
  let v932 : BitVec 32 := Scalar.muli v898 c256_i32_547
  let v933 : BitVec 32 := v932
  let v934 : Index := Scalar.indexCast v933
  let c0_549 : Index := 0#32
  ![0, v934.toNat, 0]
def k0_mult63 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_584 : BitVec 32 := 1#32
  let v987 : BitVec 32 := Scalar.subi v891 c1_i32_584
  let c0_i32_585 : BitVec 32 := 0#32
  let v988 : BitVec 32 := Scalar.maxsi v987 c0_i32_585
  let c256_i32_586 : BitVec 32 := 256#32
  let v989 : BitVec 32 := Scalar.muli v988 c256_i32_586
  v989
def k0_mult64 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_596 : BitVec 32 := 256#32
  let v1000 : BitVec 32 := Scalar.muli v898 c256_i32_596
  v1000
def k0_mult65 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_633 : BitVec 32 := 1#32
  let v1056 : BitVec 32 := Scalar.subi v891 c1_i32_633
  let c0_i32_634 : BitVec 32 := 0#32
  let v1057 : BitVec 32 := Scalar.maxsi v1056 c0_i32_634
  let c256_i32_635 : BitVec 32 := 256#32
  let v1058 : BitVec 32 := Scalar.muli v1057 c256_i32_635
  v1058
def k0_off43 (k0_t1 : Fin k0_t1_loop.trips) (arg18 : BitVec 32) : Fin 3 → Nat :=
  let c0_636 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_633 : BitVec 32 := 1#32
  let v1056 : BitVec 32 := Scalar.subi v891 c1_i32_633
  let c0_i32_634 : BitVec 32 := 0#32
  let v1057 : BitVec 32 := Scalar.maxsi v1056 c0_i32_634
  let c256_i32_635 : BitVec 32 := 256#32
  let v1058 : BitVec 32 := Scalar.muli v1057 c256_i32_635
  let v1059 : BitVec 32 := v1058
  let v1060 : Index := Scalar.indexCast v1059
  let c128_637 : Index := 128#32
  ![0, v1060.toNat, 128]
def k0_mult66 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_645 : BitVec 32 := 256#32
  let v1069 : BitVec 32 := Scalar.muli v898 c256_i32_645
  v1069
def k0_off44 (k0_t1 : Fin k0_t1_loop.trips) (arg18 : BitVec 32) : Fin 3 → Nat :=
  let c0_646 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_645 : BitVec 32 := 256#32
  let v1069 : BitVec 32 := Scalar.muli v898 c256_i32_645
  let v1070 : BitVec 32 := v1069
  let v1071 : Index := Scalar.indexCast v1070
  let c128_647 : Index := 128#32
  ![0, v1071.toNat, 128]
def k0_mult67 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_682 : BitVec 32 := 1#32
  let v1125 : BitVec 32 := Scalar.subi v891 c1_i32_682
  let c0_i32_683 : BitVec 32 := 0#32
  let v1126 : BitVec 32 := Scalar.maxsi v1125 c0_i32_683
  let c256_i32_684 : BitVec 32 := 256#32
  let v1127 : BitVec 32 := Scalar.muli v1126 c256_i32_684
  v1127
def k0_mult68 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_694 : BitVec 32 := 256#32
  let v1138 : BitVec 32 := Scalar.muli v898 c256_i32_694
  v1138
def k0_mult69 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_731 : BitVec 32 := 1#32
  let v1194 : BitVec 32 := Scalar.subi v891 c1_i32_731
  let c0_i32_732 : BitVec 32 := 0#32
  let v1195 : BitVec 32 := Scalar.maxsi v1194 c0_i32_732
  let c256_i32_733 : BitVec 32 := 256#32
  let v1196 : BitVec 32 := Scalar.muli v1195 c256_i32_733
  v1196
def k0_off45 (k0_t1 : Fin k0_t1_loop.trips) (arg18 : BitVec 32) : Fin 3 → Nat :=
  let c0_734 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_731 : BitVec 32 := 1#32
  let v1194 : BitVec 32 := Scalar.subi v891 c1_i32_731
  let c0_i32_732 : BitVec 32 := 0#32
  let v1195 : BitVec 32 := Scalar.maxsi v1194 c0_i32_732
  let c256_i32_733 : BitVec 32 := 256#32
  let v1196 : BitVec 32 := Scalar.muli v1195 c256_i32_733
  let v1197 : BitVec 32 := v1196
  let v1198 : Index := Scalar.indexCast v1197
  let c256_735 : Index := 256#32
  ![0, v1198.toNat, 256]
def k0_mult70 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_743 : BitVec 32 := 256#32
  let v1207 : BitVec 32 := Scalar.muli v898 c256_i32_743
  v1207
def k0_off46 (k0_t1 : Fin k0_t1_loop.trips) (arg18 : BitVec 32) : Fin 3 → Nat :=
  let c0_744 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_743 : BitVec 32 := 256#32
  let v1207 : BitVec 32 := Scalar.muli v898 c256_i32_743
  let v1208 : BitVec 32 := v1207
  let v1209 : Index := Scalar.indexCast v1208
  let c256_745 : Index := 256#32
  ![0, v1209.toNat, 256]
def k0_mult71 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_780 : BitVec 32 := 1#32
  let v1263 : BitVec 32 := Scalar.subi v891 c1_i32_780
  let c0_i32_781 : BitVec 32 := 0#32
  let v1264 : BitVec 32 := Scalar.maxsi v1263 c0_i32_781
  let c256_i32_782 : BitVec 32 := 256#32
  let v1265 : BitVec 32 := Scalar.muli v1264 c256_i32_782
  v1265
def k0_mult72 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_792 : BitVec 32 := 256#32
  let v1276 : BitVec 32 := Scalar.muli v898 c256_i32_792
  v1276
def k0_mult73 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_829 : BitVec 32 := 1#32
  let v1332 : BitVec 32 := Scalar.subi v891 c1_i32_829
  let c0_i32_830 : BitVec 32 := 0#32
  let v1333 : BitVec 32 := Scalar.maxsi v1332 c0_i32_830
  let c256_i32_831 : BitVec 32 := 256#32
  let v1334 : BitVec 32 := Scalar.muli v1333 c256_i32_831
  v1334
def k0_off47 (k0_t1 : Fin k0_t1_loop.trips) (arg18 : BitVec 32) : Fin 3 → Nat :=
  let c0_832 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_829 : BitVec 32 := 1#32
  let v1332 : BitVec 32 := Scalar.subi v891 c1_i32_829
  let c0_i32_830 : BitVec 32 := 0#32
  let v1333 : BitVec 32 := Scalar.maxsi v1332 c0_i32_830
  let c256_i32_831 : BitVec 32 := 256#32
  let v1334 : BitVec 32 := Scalar.muli v1333 c256_i32_831
  let v1335 : BitVec 32 := v1334
  let v1336 : Index := Scalar.indexCast v1335
  let c384_833 : Index := 384#32
  ![0, v1336.toNat, 384]
def k0_mult74 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_841 : BitVec 32 := 256#32
  let v1345 : BitVec 32 := Scalar.muli v898 c256_i32_841
  v1345
def k0_off48 (k0_t1 : Fin k0_t1_loop.trips) (arg18 : BitVec 32) : Fin 3 → Nat :=
  let c0_842 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_841 : BitVec 32 := 256#32
  let v1345 : BitVec 32 := Scalar.muli v898 c256_i32_841
  let v1346 : BitVec 32 := v1345
  let v1347 : Index := Scalar.indexCast v1346
  let c384_843 : Index := 384#32
  ![0, v1347.toNat, 384]
def k0_mult75 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_878 : BitVec 32 := 1#32
  let v1401 : BitVec 32 := Scalar.subi v891 c1_i32_878
  let c0_i32_879 : BitVec 32 := 0#32
  let v1402 : BitVec 32 := Scalar.maxsi v1401 c0_i32_879
  let c256_i32_880 : BitVec 32 := 256#32
  let v1403 : BitVec 32 := Scalar.muli v1402 c256_i32_880
  v1403
def k0_mult76 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_890 : BitVec 32 := 256#32
  let v1414 : BitVec 32 := Scalar.muli v898 c256_i32_890
  v1414
def k0_mult77 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_535 : BitVec 32 := 1#32
  let v919 : BitVec 32 := Scalar.subi v891 c1_i32_535
  let c0_i32_536 : BitVec 32 := 0#32
  let v920 : BitVec 32 := Scalar.maxsi v919 c0_i32_536
  let c256_i32_537 : BitVec 32 := 256#32
  let v921 : BitVec 32 := Scalar.muli v920 c256_i32_537
  v921
def k0_off49 (k0_t1 : Fin k0_t1_loop.trips) (arg18 : BitVec 32) : Fin 3 → Nat :=
  let c0_538 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_535 : BitVec 32 := 1#32
  let v919 : BitVec 32 := Scalar.subi v891 c1_i32_535
  let c0_i32_536 : BitVec 32 := 0#32
  let v920 : BitVec 32 := Scalar.maxsi v919 c0_i32_536
  let c256_i32_537 : BitVec 32 := 256#32
  let v921 : BitVec 32 := Scalar.muli v920 c256_i32_537
  let v922 : BitVec 32 := v921
  let v923 : Index := Scalar.indexCast v922
  let c0_539 : Index := 0#32
  ![0, v923.toNat, 0]
def k0_mult78 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_547 : BitVec 32 := 256#32
  let v932 : BitVec 32 := Scalar.muli v898 c256_i32_547
  v932
def k0_off50 (k0_t1 : Fin k0_t1_loop.trips) (arg18 : BitVec 32) : Fin 3 → Nat :=
  let c0_548 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_547 : BitVec 32 := 256#32
  let v932 : BitVec 32 := Scalar.muli v898 c256_i32_547
  let v933 : BitVec 32 := v932
  let v934 : Index := Scalar.indexCast v933
  let c0_549 : Index := 0#32
  ![0, v934.toNat, 0]
def k0_mult79 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_584 : BitVec 32 := 1#32
  let v987 : BitVec 32 := Scalar.subi v891 c1_i32_584
  let c0_i32_585 : BitVec 32 := 0#32
  let v988 : BitVec 32 := Scalar.maxsi v987 c0_i32_585
  let c256_i32_586 : BitVec 32 := 256#32
  let v989 : BitVec 32 := Scalar.muli v988 c256_i32_586
  v989
def k0_mult80 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_596 : BitVec 32 := 256#32
  let v1000 : BitVec 32 := Scalar.muli v898 c256_i32_596
  v1000
def k0_mult81 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_633 : BitVec 32 := 1#32
  let v1056 : BitVec 32 := Scalar.subi v891 c1_i32_633
  let c0_i32_634 : BitVec 32 := 0#32
  let v1057 : BitVec 32 := Scalar.maxsi v1056 c0_i32_634
  let c256_i32_635 : BitVec 32 := 256#32
  let v1058 : BitVec 32 := Scalar.muli v1057 c256_i32_635
  v1058
def k0_off51 (k0_t1 : Fin k0_t1_loop.trips) (arg18 : BitVec 32) : Fin 3 → Nat :=
  let c0_636 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_633 : BitVec 32 := 1#32
  let v1056 : BitVec 32 := Scalar.subi v891 c1_i32_633
  let c0_i32_634 : BitVec 32 := 0#32
  let v1057 : BitVec 32 := Scalar.maxsi v1056 c0_i32_634
  let c256_i32_635 : BitVec 32 := 256#32
  let v1058 : BitVec 32 := Scalar.muli v1057 c256_i32_635
  let v1059 : BitVec 32 := v1058
  let v1060 : Index := Scalar.indexCast v1059
  let c128_637 : Index := 128#32
  ![0, v1060.toNat, 128]
def k0_mult82 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_645 : BitVec 32 := 256#32
  let v1069 : BitVec 32 := Scalar.muli v898 c256_i32_645
  v1069
def k0_off52 (k0_t1 : Fin k0_t1_loop.trips) (arg18 : BitVec 32) : Fin 3 → Nat :=
  let c0_646 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_645 : BitVec 32 := 256#32
  let v1069 : BitVec 32 := Scalar.muli v898 c256_i32_645
  let v1070 : BitVec 32 := v1069
  let v1071 : Index := Scalar.indexCast v1070
  let c128_647 : Index := 128#32
  ![0, v1071.toNat, 128]
def k0_mult83 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_682 : BitVec 32 := 1#32
  let v1125 : BitVec 32 := Scalar.subi v891 c1_i32_682
  let c0_i32_683 : BitVec 32 := 0#32
  let v1126 : BitVec 32 := Scalar.maxsi v1125 c0_i32_683
  let c256_i32_684 : BitVec 32 := 256#32
  let v1127 : BitVec 32 := Scalar.muli v1126 c256_i32_684
  v1127
def k0_mult84 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_694 : BitVec 32 := 256#32
  let v1138 : BitVec 32 := Scalar.muli v898 c256_i32_694
  v1138
def k0_mult85 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_731 : BitVec 32 := 1#32
  let v1194 : BitVec 32 := Scalar.subi v891 c1_i32_731
  let c0_i32_732 : BitVec 32 := 0#32
  let v1195 : BitVec 32 := Scalar.maxsi v1194 c0_i32_732
  let c256_i32_733 : BitVec 32 := 256#32
  let v1196 : BitVec 32 := Scalar.muli v1195 c256_i32_733
  v1196
def k0_off53 (k0_t1 : Fin k0_t1_loop.trips) (arg18 : BitVec 32) : Fin 3 → Nat :=
  let c0_734 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_731 : BitVec 32 := 1#32
  let v1194 : BitVec 32 := Scalar.subi v891 c1_i32_731
  let c0_i32_732 : BitVec 32 := 0#32
  let v1195 : BitVec 32 := Scalar.maxsi v1194 c0_i32_732
  let c256_i32_733 : BitVec 32 := 256#32
  let v1196 : BitVec 32 := Scalar.muli v1195 c256_i32_733
  let v1197 : BitVec 32 := v1196
  let v1198 : Index := Scalar.indexCast v1197
  let c256_735 : Index := 256#32
  ![0, v1198.toNat, 256]
def k0_mult86 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_743 : BitVec 32 := 256#32
  let v1207 : BitVec 32 := Scalar.muli v898 c256_i32_743
  v1207
def k0_off54 (k0_t1 : Fin k0_t1_loop.trips) (arg18 : BitVec 32) : Fin 3 → Nat :=
  let c0_744 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_743 : BitVec 32 := 256#32
  let v1207 : BitVec 32 := Scalar.muli v898 c256_i32_743
  let v1208 : BitVec 32 := v1207
  let v1209 : Index := Scalar.indexCast v1208
  let c256_745 : Index := 256#32
  ![0, v1209.toNat, 256]
def k0_mult87 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_780 : BitVec 32 := 1#32
  let v1263 : BitVec 32 := Scalar.subi v891 c1_i32_780
  let c0_i32_781 : BitVec 32 := 0#32
  let v1264 : BitVec 32 := Scalar.maxsi v1263 c0_i32_781
  let c256_i32_782 : BitVec 32 := 256#32
  let v1265 : BitVec 32 := Scalar.muli v1264 c256_i32_782
  v1265
def k0_mult88 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_792 : BitVec 32 := 256#32
  let v1276 : BitVec 32 := Scalar.muli v898 c256_i32_792
  v1276
def k0_mult89 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_829 : BitVec 32 := 1#32
  let v1332 : BitVec 32 := Scalar.subi v891 c1_i32_829
  let c0_i32_830 : BitVec 32 := 0#32
  let v1333 : BitVec 32 := Scalar.maxsi v1332 c0_i32_830
  let c256_i32_831 : BitVec 32 := 256#32
  let v1334 : BitVec 32 := Scalar.muli v1333 c256_i32_831
  v1334
def k0_off55 (k0_t1 : Fin k0_t1_loop.trips) (arg18 : BitVec 32) : Fin 3 → Nat :=
  let c0_832 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_829 : BitVec 32 := 1#32
  let v1332 : BitVec 32 := Scalar.subi v891 c1_i32_829
  let c0_i32_830 : BitVec 32 := 0#32
  let v1333 : BitVec 32 := Scalar.maxsi v1332 c0_i32_830
  let c256_i32_831 : BitVec 32 := 256#32
  let v1334 : BitVec 32 := Scalar.muli v1333 c256_i32_831
  let v1335 : BitVec 32 := v1334
  let v1336 : Index := Scalar.indexCast v1335
  let c384_833 : Index := 384#32
  ![0, v1336.toNat, 384]
def k0_mult90 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_841 : BitVec 32 := 256#32
  let v1345 : BitVec 32 := Scalar.muli v898 c256_i32_841
  v1345
def k0_off56 (k0_t1 : Fin k0_t1_loop.trips) (arg18 : BitVec 32) : Fin 3 → Nat :=
  let c0_842 : Index := 0#32
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_841 : BitVec 32 := 256#32
  let v1345 : BitVec 32 := Scalar.muli v898 c256_i32_841
  let v1346 : BitVec 32 := v1345
  let v1347 : Index := Scalar.indexCast v1346
  let c384_843 : Index := 384#32
  ![0, v1347.toNat, 384]
def k0_mult91 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_878 : BitVec 32 := 1#32
  let v1401 : BitVec 32 := Scalar.subi v891 c1_i32_878
  let c0_i32_879 : BitVec 32 := 0#32
  let v1402 : BitVec 32 := Scalar.maxsi v1401 c0_i32_879
  let c256_i32_880 : BitVec 32 := 256#32
  let v1403 : BitVec 32 := Scalar.muli v1402 c256_i32_880
  v1403
def k0_mult92 (k0_t1 : Fin k0_t1_loop.trips) (arg18 : BitVec 32) : BitVec 32 :=
  let c1_i32_457 : BitVec 32 := 1#32
  let c1_i32_458 : BitVec 32 := 1#32
  let arg15 : BitVec 32 := Scf.iv c1_i32_457 c1_i32_458 k0_t1
  let c1_i32_518 : BitVec 32 := 1#32
  let v890 : BitVec 32 := Scalar.subi arg15 c1_i32_518
  let v891 : BitVec 32 := Scalar.subi v890 arg18
  let c1_i32_523 : BitVec 32 := 1#32
  let v898 : BitVec 32 := Scalar.addi v891 c1_i32_523
  let c256_i32_890 : BitVec 32 := 256#32
  let v1414 : BitVec 32 := Scalar.muli v898 c256_i32_890
  v1414

def k0_chk2_0 (k0_t1 : Fin k0_t1_loop.trips) (arg18 : BitVec 32) (arg20 : BitVec 32) : Prop :=
  (∀ (k0_h2 : k0_cond2 arg20 = 1#1), 256 ∣ (k0_mult61 k0_t1 arg18).toNat) ∧
  (∀ (k0_h2 : k0_cond2 arg20 = 1#1), ∀ a, (k0_off41 k0_t1 arg18) a + S1x256x128.size a ≤ S1x2048x512.size a) ∧
  (∀ (k0_h2 : k0_cond2 arg20 = 1#1), 256 ∣ (k0_mult62 k0_t1 arg18).toNat) ∧
  (∀ (k0_h2 : k0_cond2 arg20 = 1#1), ∀ a, (k0_off42 k0_t1 arg18) a + S1x256x128.size a ≤ S1x2048x512.size a) ∧
  (∀ (k0_h2 : k0_cond2 arg20 = 1#1), 256 ∣ (k0_mult63 k0_t1 arg18).toNat) ∧
  (∀ (k0_h2 : k0_cond2 arg20 = 1#1), 256 ∣ (k0_mult64 k0_t1 arg18).toNat) ∧
  (∀ (k0_h2 : k0_cond2 arg20 = 1#1), 256 ∣ (k0_mult65 k0_t1 arg18).toNat) ∧
  (∀ (k0_h2 : k0_cond2 arg20 = 1#1), ∀ a, (k0_off43 k0_t1 arg18) a + S1x256x128.size a ≤ S1x2048x512.size a) ∧
  (∀ (k0_h2 : k0_cond2 arg20 = 1#1), 256 ∣ (k0_mult66 k0_t1 arg18).toNat) ∧
  (∀ (k0_h2 : k0_cond2 arg20 = 1#1), ∀ a, (k0_off44 k0_t1 arg18) a + S1x256x128.size a ≤ S1x2048x512.size a) ∧
  (∀ (k0_h2 : k0_cond2 arg20 = 1#1), 256 ∣ (k0_mult67 k0_t1 arg18).toNat) ∧
  (∀ (k0_h2 : k0_cond2 arg20 = 1#1), 256 ∣ (k0_mult68 k0_t1 arg18).toNat) ∧
  (∀ (k0_h2 : k0_cond2 arg20 = 1#1), 256 ∣ (k0_mult69 k0_t1 arg18).toNat) ∧
  (∀ (k0_h2 : k0_cond2 arg20 = 1#1), ∀ a, (k0_off45 k0_t1 arg18) a + S1x256x128.size a ≤ S1x2048x512.size a) ∧
  (∀ (k0_h2 : k0_cond2 arg20 = 1#1), 256 ∣ (k0_mult70 k0_t1 arg18).toNat) ∧
  (∀ (k0_h2 : k0_cond2 arg20 = 1#1), ∀ a, (k0_off46 k0_t1 arg18) a + S1x256x128.size a ≤ S1x2048x512.size a) ∧
  (∀ (k0_h2 : k0_cond2 arg20 = 1#1), 256 ∣ (k0_mult71 k0_t1 arg18).toNat) ∧
  (∀ (k0_h2 : k0_cond2 arg20 = 1#1), 256 ∣ (k0_mult72 k0_t1 arg18).toNat) ∧
  (∀ (k0_h2 : k0_cond2 arg20 = 1#1), 256 ∣ (k0_mult73 k0_t1 arg18).toNat) ∧
  (∀ (k0_h2 : k0_cond2 arg20 = 1#1), ∀ a, (k0_off47 k0_t1 arg18) a + S1x256x128.size a ≤ S1x2048x512.size a) ∧
  (∀ (k0_h2 : k0_cond2 arg20 = 1#1), 256 ∣ (k0_mult74 k0_t1 arg18).toNat) ∧
  (∀ (k0_h2 : k0_cond2 arg20 = 1#1), ∀ a, (k0_off48 k0_t1 arg18) a + S1x256x128.size a ≤ S1x2048x512.size a) ∧
  (∀ (k0_h2 : k0_cond2 arg20 = 1#1), 256 ∣ (k0_mult75 k0_t1 arg18).toNat) ∧
  (∀ (k0_h2 : k0_cond2 arg20 = 1#1), 256 ∣ (k0_mult76 k0_t1 arg18).toNat) ∧
  (∀ (k0_h2 : ¬(k0_cond2 arg20 = 1#1)), 256 ∣ (k0_mult77 k0_t1 arg18).toNat) ∧
  (∀ (k0_h2 : ¬(k0_cond2 arg20 = 1#1)), ∀ a, (k0_off49 k0_t1 arg18) a + S1x256x128.size a ≤ S1x2048x512.size a) ∧
  (∀ (k0_h2 : ¬(k0_cond2 arg20 = 1#1)), 256 ∣ (k0_mult78 k0_t1 arg18).toNat) ∧
  (∀ (k0_h2 : ¬(k0_cond2 arg20 = 1#1)), ∀ a, (k0_off50 k0_t1 arg18) a + S1x256x128.size a ≤ S1x2048x512.size a) ∧
  (∀ (k0_h2 : ¬(k0_cond2 arg20 = 1#1)), 256 ∣ (k0_mult79 k0_t1 arg18).toNat) ∧
  (∀ (k0_h2 : ¬(k0_cond2 arg20 = 1#1)), 256 ∣ (k0_mult80 k0_t1 arg18).toNat) ∧
  (∀ (k0_h2 : ¬(k0_cond2 arg20 = 1#1)), 256 ∣ (k0_mult81 k0_t1 arg18).toNat) ∧
  (∀ (k0_h2 : ¬(k0_cond2 arg20 = 1#1)), ∀ a, (k0_off51 k0_t1 arg18) a + S1x256x128.size a ≤ S1x2048x512.size a)
def k0_chk2_1 (k0_t1 : Fin k0_t1_loop.trips) (arg18 : BitVec 32) (arg20 : BitVec 32) : Prop :=
  (∀ (k0_h2 : ¬(k0_cond2 arg20 = 1#1)), 256 ∣ (k0_mult82 k0_t1 arg18).toNat) ∧
  (∀ (k0_h2 : ¬(k0_cond2 arg20 = 1#1)), ∀ a, (k0_off52 k0_t1 arg18) a + S1x256x128.size a ≤ S1x2048x512.size a) ∧
  (∀ (k0_h2 : ¬(k0_cond2 arg20 = 1#1)), 256 ∣ (k0_mult83 k0_t1 arg18).toNat) ∧
  (∀ (k0_h2 : ¬(k0_cond2 arg20 = 1#1)), 256 ∣ (k0_mult84 k0_t1 arg18).toNat) ∧
  (∀ (k0_h2 : ¬(k0_cond2 arg20 = 1#1)), 256 ∣ (k0_mult85 k0_t1 arg18).toNat) ∧
  (∀ (k0_h2 : ¬(k0_cond2 arg20 = 1#1)), ∀ a, (k0_off53 k0_t1 arg18) a + S1x256x128.size a ≤ S1x2048x512.size a) ∧
  (∀ (k0_h2 : ¬(k0_cond2 arg20 = 1#1)), 256 ∣ (k0_mult86 k0_t1 arg18).toNat) ∧
  (∀ (k0_h2 : ¬(k0_cond2 arg20 = 1#1)), ∀ a, (k0_off54 k0_t1 arg18) a + S1x256x128.size a ≤ S1x2048x512.size a) ∧
  (∀ (k0_h2 : ¬(k0_cond2 arg20 = 1#1)), 256 ∣ (k0_mult87 k0_t1 arg18).toNat) ∧
  (∀ (k0_h2 : ¬(k0_cond2 arg20 = 1#1)), 256 ∣ (k0_mult88 k0_t1 arg18).toNat) ∧
  (∀ (k0_h2 : ¬(k0_cond2 arg20 = 1#1)), 256 ∣ (k0_mult89 k0_t1 arg18).toNat) ∧
  (∀ (k0_h2 : ¬(k0_cond2 arg20 = 1#1)), ∀ a, (k0_off55 k0_t1 arg18) a + S1x256x128.size a ≤ S1x2048x512.size a) ∧
  (∀ (k0_h2 : ¬(k0_cond2 arg20 = 1#1)), 256 ∣ (k0_mult90 k0_t1 arg18).toNat) ∧
  (∀ (k0_h2 : ¬(k0_cond2 arg20 = 1#1)), ∀ a, (k0_off56 k0_t1 arg18) a + S1x256x128.size a ≤ S1x2048x512.size a) ∧
  (∀ (k0_h2 : ¬(k0_cond2 arg20 = 1#1)), 256 ∣ (k0_mult91 k0_t1 arg18).toNat) ∧
  (∀ (k0_h2 : ¬(k0_cond2 arg20 = 1#1)), 256 ∣ (k0_mult92 k0_t1 arg18).toNat)
def k0_chk2 (k0_t1 : Fin k0_t1_loop.trips) (arg18 : BitVec 32) (arg20 : BitVec 32) : Prop :=
  k0_chk2_0 k0_t1 arg18 arg20 ∧
  k0_chk2_1 k0_t1 arg18 arg20
theorem k0_mult61_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult61 k0_t1 arg18).toNat := fun k0_t1 arg18 arg20 k0_hw2 k0_h2 => k0_hw2.1.1 k0_h2
theorem k0_off41_inb : ∀ (k0_t1 : Fin k0_t1_loop.trips) (arg18 : BitVec 32) (arg20 : BitVec 32) (k0_hw2 : k0_chk2 k0_t1 arg18 arg20), ∀ (k0_h2 : k0_cond2 arg20 = 1#1), ∀ a, (k0_off41 k0_t1 arg18) a + S1x256x128.size a ≤ S1x2048x512.size a := fun k0_t1 arg18 arg20 k0_hw2 k0_h2 => k0_hw2.1.2.1 k0_h2
theorem k0_mult62_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult62 k0_t1 arg18).toNat := fun k0_t1 arg18 arg20 k0_hw2 k0_h2 => k0_hw2.1.2.2.1 k0_h2
theorem k0_off42_inb : ∀ (k0_t1 : Fin k0_t1_loop.trips) (arg18 : BitVec 32) (arg20 : BitVec 32) (k0_hw2 : k0_chk2 k0_t1 arg18 arg20), ∀ (k0_h2 : k0_cond2 arg20 = 1#1), ∀ a, (k0_off42 k0_t1 arg18) a + S1x256x128.size a ≤ S1x2048x512.size a := fun k0_t1 arg18 arg20 k0_hw2 k0_h2 => k0_hw2.1.2.2.2.1 k0_h2
theorem k0_mult63_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult63 k0_t1 arg18).toNat := fun k0_t1 arg18 arg20 k0_hw2 k0_h2 => k0_hw2.1.2.2.2.2.1 k0_h2
theorem k0_mult64_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult64 k0_t1 arg18).toNat := fun k0_t1 arg18 arg20 k0_hw2 k0_h2 => k0_hw2.1.2.2.2.2.2.1 k0_h2
theorem k0_mult65_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult65 k0_t1 arg18).toNat := fun k0_t1 arg18 arg20 k0_hw2 k0_h2 => k0_hw2.1.2.2.2.2.2.2.1 k0_h2
theorem k0_off43_inb : ∀ (k0_t1 : Fin k0_t1_loop.trips) (arg18 : BitVec 32) (arg20 : BitVec 32) (k0_hw2 : k0_chk2 k0_t1 arg18 arg20), ∀ (k0_h2 : k0_cond2 arg20 = 1#1), ∀ a, (k0_off43 k0_t1 arg18) a + S1x256x128.size a ≤ S1x2048x512.size a := fun k0_t1 arg18 arg20 k0_hw2 k0_h2 => k0_hw2.1.2.2.2.2.2.2.2.1 k0_h2
theorem k0_mult66_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult66 k0_t1 arg18).toNat := fun k0_t1 arg18 arg20 k0_hw2 k0_h2 => k0_hw2.1.2.2.2.2.2.2.2.2.1 k0_h2
theorem k0_off44_inb : ∀ (k0_t1 : Fin k0_t1_loop.trips) (arg18 : BitVec 32) (arg20 : BitVec 32) (k0_hw2 : k0_chk2 k0_t1 arg18 arg20), ∀ (k0_h2 : k0_cond2 arg20 = 1#1), ∀ a, (k0_off44 k0_t1 arg18) a + S1x256x128.size a ≤ S1x2048x512.size a := fun k0_t1 arg18 arg20 k0_hw2 k0_h2 => k0_hw2.1.2.2.2.2.2.2.2.2.2.1 k0_h2
theorem k0_mult67_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult67 k0_t1 arg18).toNat := fun k0_t1 arg18 arg20 k0_hw2 k0_h2 => k0_hw2.1.2.2.2.2.2.2.2.2.2.2.1 k0_h2
theorem k0_mult68_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult68 k0_t1 arg18).toNat := fun k0_t1 arg18 arg20 k0_hw2 k0_h2 => k0_hw2.1.2.2.2.2.2.2.2.2.2.2.2.1 k0_h2
theorem k0_mult69_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult69 k0_t1 arg18).toNat := fun k0_t1 arg18 arg20 k0_hw2 k0_h2 => k0_hw2.1.2.2.2.2.2.2.2.2.2.2.2.2.1 k0_h2
theorem k0_off45_inb : ∀ (k0_t1 : Fin k0_t1_loop.trips) (arg18 : BitVec 32) (arg20 : BitVec 32) (k0_hw2 : k0_chk2 k0_t1 arg18 arg20), ∀ (k0_h2 : k0_cond2 arg20 = 1#1), ∀ a, (k0_off45 k0_t1 arg18) a + S1x256x128.size a ≤ S1x2048x512.size a := fun k0_t1 arg18 arg20 k0_hw2 k0_h2 => k0_hw2.1.2.2.2.2.2.2.2.2.2.2.2.2.2.1 k0_h2
theorem k0_mult70_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult70 k0_t1 arg18).toNat := fun k0_t1 arg18 arg20 k0_hw2 k0_h2 => k0_hw2.1.2.2.2.2.2.2.2.2.2.2.2.2.2.2.1 k0_h2
theorem k0_off46_inb : ∀ (k0_t1 : Fin k0_t1_loop.trips) (arg18 : BitVec 32) (arg20 : BitVec 32) (k0_hw2 : k0_chk2 k0_t1 arg18 arg20), ∀ (k0_h2 : k0_cond2 arg20 = 1#1), ∀ a, (k0_off46 k0_t1 arg18) a + S1x256x128.size a ≤ S1x2048x512.size a := fun k0_t1 arg18 arg20 k0_hw2 k0_h2 => k0_hw2.1.2.2.2.2.2.2.2.2.2.2.2.2.2.2.2.1 k0_h2
theorem k0_mult71_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult71 k0_t1 arg18).toNat := fun k0_t1 arg18 arg20 k0_hw2 k0_h2 => k0_hw2.1.2.2.2.2.2.2.2.2.2.2.2.2.2.2.2.2.1 k0_h2
theorem k0_mult72_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult72 k0_t1 arg18).toNat := fun k0_t1 arg18 arg20 k0_hw2 k0_h2 => k0_hw2.1.2.2.2.2.2.2.2.2.2.2.2.2.2.2.2.2.2.1 k0_h2
theorem k0_mult73_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult73 k0_t1 arg18).toNat := fun k0_t1 arg18 arg20 k0_hw2 k0_h2 => k0_hw2.1.2.2.2.2.2.2.2.2.2.2.2.2.2.2.2.2.2.2.1 k0_h2
theorem k0_off47_inb : ∀ (k0_t1 : Fin k0_t1_loop.trips) (arg18 : BitVec 32) (arg20 : BitVec 32) (k0_hw2 : k0_chk2 k0_t1 arg18 arg20), ∀ (k0_h2 : k0_cond2 arg20 = 1#1), ∀ a, (k0_off47 k0_t1 arg18) a + S1x256x128.size a ≤ S1x2048x512.size a := fun k0_t1 arg18 arg20 k0_hw2 k0_h2 => k0_hw2.1.2.2.2.2.2.2.2.2.2.2.2.2.2.2.2.2.2.2.2.1 k0_h2
theorem k0_mult74_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult74 k0_t1 arg18).toNat := fun k0_t1 arg18 arg20 k0_hw2 k0_h2 => k0_hw2.1.2.2.2.2.2.2.2.2.2.2.2.2.2.2.2.2.2.2.2.2.1 k0_h2
theorem k0_off48_inb : ∀ (k0_t1 : Fin k0_t1_loop.trips) (arg18 : BitVec 32) (arg20 : BitVec 32) (k0_hw2 : k0_chk2 k0_t1 arg18 arg20), ∀ (k0_h2 : k0_cond2 arg20 = 1#1), ∀ a, (k0_off48 k0_t1 arg18) a + S1x256x128.size a ≤ S1x2048x512.size a := fun k0_t1 arg18 arg20 k0_hw2 k0_h2 => k0_hw2.1.2.2.2.2.2.2.2.2.2.2.2.2.2.2.2.2.2.2.2.2.2.1 k0_h2
theorem k0_mult75_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult75 k0_t1 arg18).toNat := fun k0_t1 arg18 arg20 k0_hw2 k0_h2 => k0_hw2.1.2.2.2.2.2.2.2.2.2.2.2.2.2.2.2.2.2.2.2.2.2.2.1 k0_h2
theorem k0_mult76_dvd : ∀ (k0_t1 : Fin k0_t1_loop.trips) (arg18 : BitVec 32) (arg20 : BitVec 32) (k0_hw2 : k0_chk2 k0_t1 arg18 arg20), ∀ (k0_h2 : k0_cond2 arg20 = 1#1), 256 ∣ (k0_mult76 k0_t1 arg18).toNat := fun k0_t1 arg18 arg20 k0_hw2 k0_h2 => k0_hw2.1.2.2.2.2.2.2.2.2.2.2.2.2.2.2.2.2.2.2.2.2.2.2.2.1 k0_h2
theorem k0_mult77_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult77 k0_t1 arg18).toNat := fun k0_t1 arg18 arg20 k0_hw2 k0_h2 => k0_hw2.1.2.2.2.2.2.2.2.2.2.2.2.2.2.2.2.2.2.2.2.2.2.2.2.2.1 k0_h2
theorem k0_off49_inb : ∀ (k0_t1 : Fin k0_t1_loop.trips) (arg18 : BitVec 32) (arg20 : BitVec 32) (k0_hw2 : k0_chk2 k0_t1 arg18 arg20), ∀ (k0_h2 : ¬(k0_cond2 arg20 = 1#1)), ∀ a, (k0_off49 k0_t1 arg18) a + S1x256x128.size a ≤ S1x2048x512.size a := fun k0_t1 arg18 arg20 k0_hw2 k0_h2 => k0_hw2.1.2.2.2.2.2.2.2.2.2.2.2.2.2.2.2.2.2.2.2.2.2.2.2.2.2.1 k0_h2
theorem k0_mult78_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult78 k0_t1 arg18).toNat := fun k0_t1 arg18 arg20 k0_hw2 k0_h2 => k0_hw2.1.2.2.2.2.2.2.2.2.2.2.2.2.2.2.2.2.2.2.2.2.2.2.2.2.2.2.1 k0_h2
theorem k0_off50_inb : ∀ (k0_t1 : Fin k0_t1_loop.trips) (arg18 : BitVec 32) (arg20 : BitVec 32) (k0_hw2 : k0_chk2 k0_t1 arg18 arg20), ∀ (k0_h2 : ¬(k0_cond2 arg20 = 1#1)), ∀ a, (k0_off50 k0_t1 arg18) a + S1x256x128.size a ≤ S1x2048x512.size a := fun k0_t1 arg18 arg20 k0_hw2 k0_h2 => k0_hw2.1.2.2.2.2.2.2.2.2.2.2.2.2.2.2.2.2.2.2.2.2.2.2.2.2.2.2.2.1 k0_h2
theorem k0_mult79_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult79 k0_t1 arg18).toNat := fun k0_t1 arg18 arg20 k0_hw2 k0_h2 => k0_hw2.1.2.2.2.2.2.2.2.2.2.2.2.2.2.2.2.2.2.2.2.2.2.2.2.2.2.2.2.2.1 k0_h2
theorem k0_mult80_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult80 k0_t1 arg18).toNat := fun k0_t1 arg18 arg20 k0_hw2 k0_h2 => k0_hw2.1.2.2.2.2.2.2.2.2.2.2.2.2.2.2.2.2.2.2.2.2.2.2.2.2.2.2.2.2.2.1 k0_h2
theorem k0_mult81_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult81 k0_t1 arg18).toNat := fun k0_t1 arg18 arg20 k0_hw2 k0_h2 => k0_hw2.1.2.2.2.2.2.2.2.2.2.2.2.2.2.2.2.2.2.2.2.2.2.2.2.2.2.2.2.2.2.2.1 k0_h2
theorem k0_off51_inb : ∀ (k0_t1 : Fin k0_t1_loop.trips) (arg18 : BitVec 32) (arg20 : BitVec 32) (k0_hw2 : k0_chk2 k0_t1 arg18 arg20), ∀ (k0_h2 : ¬(k0_cond2 arg20 = 1#1)), ∀ a, (k0_off51 k0_t1 arg18) a + S1x256x128.size a ≤ S1x2048x512.size a := fun k0_t1 arg18 arg20 k0_hw2 k0_h2 => k0_hw2.1.2.2.2.2.2.2.2.2.2.2.2.2.2.2.2.2.2.2.2.2.2.2.2.2.2.2.2.2.2.2.2 k0_h2
theorem k0_mult82_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult82 k0_t1 arg18).toNat := fun k0_t1 arg18 arg20 k0_hw2 k0_h2 => k0_hw2.2.1 k0_h2
theorem k0_off52_inb : ∀ (k0_t1 : Fin k0_t1_loop.trips) (arg18 : BitVec 32) (arg20 : BitVec 32) (k0_hw2 : k0_chk2 k0_t1 arg18 arg20), ∀ (k0_h2 : ¬(k0_cond2 arg20 = 1#1)), ∀ a, (k0_off52 k0_t1 arg18) a + S1x256x128.size a ≤ S1x2048x512.size a := fun k0_t1 arg18 arg20 k0_hw2 k0_h2 => k0_hw2.2.2.1 k0_h2
theorem k0_mult83_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult83 k0_t1 arg18).toNat := fun k0_t1 arg18 arg20 k0_hw2 k0_h2 => k0_hw2.2.2.2.1 k0_h2
theorem k0_mult84_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult84 k0_t1 arg18).toNat := fun k0_t1 arg18 arg20 k0_hw2 k0_h2 => k0_hw2.2.2.2.2.1 k0_h2
theorem k0_mult85_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult85 k0_t1 arg18).toNat := fun k0_t1 arg18 arg20 k0_hw2 k0_h2 => k0_hw2.2.2.2.2.2.1 k0_h2
theorem k0_off53_inb : ∀ (k0_t1 : Fin k0_t1_loop.trips) (arg18 : BitVec 32) (arg20 : BitVec 32) (k0_hw2 : k0_chk2 k0_t1 arg18 arg20), ∀ (k0_h2 : ¬(k0_cond2 arg20 = 1#1)), ∀ a, (k0_off53 k0_t1 arg18) a + S1x256x128.size a ≤ S1x2048x512.size a := fun k0_t1 arg18 arg20 k0_hw2 k0_h2 => k0_hw2.2.2.2.2.2.2.1 k0_h2
theorem k0_mult86_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult86 k0_t1 arg18).toNat := fun k0_t1 arg18 arg20 k0_hw2 k0_h2 => k0_hw2.2.2.2.2.2.2.2.1 k0_h2
theorem k0_off54_inb : ∀ (k0_t1 : Fin k0_t1_loop.trips) (arg18 : BitVec 32) (arg20 : BitVec 32) (k0_hw2 : k0_chk2 k0_t1 arg18 arg20), ∀ (k0_h2 : ¬(k0_cond2 arg20 = 1#1)), ∀ a, (k0_off54 k0_t1 arg18) a + S1x256x128.size a ≤ S1x2048x512.size a := fun k0_t1 arg18 arg20 k0_hw2 k0_h2 => k0_hw2.2.2.2.2.2.2.2.2.1 k0_h2
theorem k0_mult87_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult87 k0_t1 arg18).toNat := fun k0_t1 arg18 arg20 k0_hw2 k0_h2 => k0_hw2.2.2.2.2.2.2.2.2.2.1 k0_h2
theorem k0_mult88_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult88 k0_t1 arg18).toNat := fun k0_t1 arg18 arg20 k0_hw2 k0_h2 => k0_hw2.2.2.2.2.2.2.2.2.2.2.1 k0_h2
theorem k0_mult89_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult89 k0_t1 arg18).toNat := fun k0_t1 arg18 arg20 k0_hw2 k0_h2 => k0_hw2.2.2.2.2.2.2.2.2.2.2.2.1 k0_h2
theorem k0_off55_inb : ∀ (k0_t1 : Fin k0_t1_loop.trips) (arg18 : BitVec 32) (arg20 : BitVec 32) (k0_hw2 : k0_chk2 k0_t1 arg18 arg20), ∀ (k0_h2 : ¬(k0_cond2 arg20 = 1#1)), ∀ a, (k0_off55 k0_t1 arg18) a + S1x256x128.size a ≤ S1x2048x512.size a := fun k0_t1 arg18 arg20 k0_hw2 k0_h2 => k0_hw2.2.2.2.2.2.2.2.2.2.2.2.2.1 k0_h2
theorem k0_mult90_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult90 k0_t1 arg18).toNat := fun k0_t1 arg18 arg20 k0_hw2 k0_h2 => k0_hw2.2.2.2.2.2.2.2.2.2.2.2.2.2.1 k0_h2
theorem k0_off56_inb : ∀ (k0_t1 : Fin k0_t1_loop.trips) (arg18 : BitVec 32) (arg20 : BitVec 32) (k0_hw2 : k0_chk2 k0_t1 arg18 arg20), ∀ (k0_h2 : ¬(k0_cond2 arg20 = 1#1)), ∀ a, (k0_off56 k0_t1 arg18) a + S1x256x128.size a ≤ S1x2048x512.size a := fun k0_t1 arg18 arg20 k0_hw2 k0_h2 => k0_hw2.2.2.2.2.2.2.2.2.2.2.2.2.2.2.1 k0_h2
theorem k0_mult91_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult91 k0_t1 arg18).toNat := fun k0_t1 arg18 arg20 k0_hw2 k0_h2 => k0_hw2.2.2.2.2.2.2.2.2.2.2.2.2.2.2.2.1 k0_h2
theorem k0_mult92_dvd : ∀ (k0_t1 : Fin k0_t1_loop.trips) (arg18 : BitVec 32) (arg20 : BitVec 32) (k0_hw2 : k0_chk2 k0_t1 arg18 arg20), ∀ (k0_h2 : ¬(k0_cond2 arg20 = 1#1)), 256 ∣ (k0_mult92 k0_t1 arg18).toNat := fun k0_t1 arg18 arg20 k0_hw2 k0_h2 => k0_hw2.2.2.2.2.2.2.2.2.2.2.2.2.2.2.2.2 k0_h2

def k0_mult93 (v812_1 : BitVec 32) : BitVec 32 :=
  let c256_i32_513 : BitVec 32 := 256#32
  let v884 : BitVec 32 := Scalar.muli v812_1 c256_i32_513
  v884
def k0_cond3 (v812_0 : BitVec 32) : BitVec 1 :=
  let c0_i32_460 : BitVec 32 := 0#32
  let v813 : BitVec 1 := Scalar.cmpi .eq v812_0 c0_i32_460
  let v814 : BitVec 32 := Scalar.extui v813
  let c0_i32_461 : BitVec 32 := 0#32
  let v815 : BitVec 1 := Scalar.cmpi .ne v814 c0_i32_461
  v815

def k0_off57 (v812_1 : BitVec 32) : Fin 3 → Nat :=
  let c0_514 : Index := 0#32
  let c256_i32_513 : BitVec 32 := 256#32
  let v884 : BitVec 32 := Scalar.muli v812_1 c256_i32_513
  let v885 : BitVec 32 := v884
  let v886 : Index := Scalar.indexCast v885
  let c0_515 : Index := 0#32
  ![0, v886.toNat, 0]
def k0_mult94 (v812_1 : BitVec 32) : BitVec 32 :=
  let c256_i32_526 : BitVec 32 := 256#32
  let v898 : BitVec 32 := Scalar.muli v812_1 c256_i32_526
  v898
def k0_mult95 (v812_1 : BitVec 32) : BitVec 32 :=
  let c256_i32_539 : BitVec 32 := 256#32
  let v912 : BitVec 32 := Scalar.muli v812_1 c256_i32_539
  v912
def k0_off58 (v812_1 : BitVec 32) : Fin 3 → Nat :=
  let c0_540 : Index := 0#32
  let c256_i32_539 : BitVec 32 := 256#32
  let v912 : BitVec 32 := Scalar.muli v812_1 c256_i32_539
  let v913 : BitVec 32 := v912
  let v914 : Index := Scalar.indexCast v913
  let c128_541 : Index := 128#32
  ![0, v914.toNat, 128]
def k0_mult96 (v812_1 : BitVec 32) : BitVec 32 :=
  let c256_i32_552 : BitVec 32 := 256#32
  let v926 : BitVec 32 := Scalar.muli v812_1 c256_i32_552
  v926
def k0_mult97 (v812_1 : BitVec 32) : BitVec 32 :=
  let c256_i32_565 : BitVec 32 := 256#32
  let v940 : BitVec 32 := Scalar.muli v812_1 c256_i32_565
  v940
def k0_off59 (v812_1 : BitVec 32) : Fin 3 → Nat :=
  let c0_566 : Index := 0#32
  let c256_i32_565 : BitVec 32 := 256#32
  let v940 : BitVec 32 := Scalar.muli v812_1 c256_i32_565
  let v941 : BitVec 32 := v940
  let v942 : Index := Scalar.indexCast v941
  let c256_567 : Index := 256#32
  ![0, v942.toNat, 256]
def k0_mult98 (v812_1 : BitVec 32) : BitVec 32 :=
  let c256_i32_578 : BitVec 32 := 256#32
  let v954 : BitVec 32 := Scalar.muli v812_1 c256_i32_578
  v954
def k0_mult99 (v812_1 : BitVec 32) : BitVec 32 :=
  let c256_i32_591 : BitVec 32 := 256#32
  let v968 : BitVec 32 := Scalar.muli v812_1 c256_i32_591
  v968
def k0_off60 (v812_1 : BitVec 32) : Fin 3 → Nat :=
  let c0_592 : Index := 0#32
  let c256_i32_591 : BitVec 32 := 256#32
  let v968 : BitVec 32 := Scalar.muli v812_1 c256_i32_591
  let v969 : BitVec 32 := v968
  let v970 : Index := Scalar.indexCast v969
  let c384_593 : Index := 384#32
  ![0, v970.toNat, 384]
def k0_mult100 (v812_1 : BitVec 32) : BitVec 32 :=
  let c256_i32_604 : BitVec 32 := 256#32
  let v982 : BitVec 32 := Scalar.muli v812_1 c256_i32_604
  v982
def k0_mult101 (v812_1 : BitVec 32) : BitVec 32 :=
  let c256_i32_513 : BitVec 32 := 256#32
  let v884 : BitVec 32 := Scalar.muli v812_1 c256_i32_513
  v884
def k0_off61 (v812_1 : BitVec 32) : Fin 3 → Nat :=
  let c0_514 : Index := 0#32
  let c256_i32_513 : BitVec 32 := 256#32
  let v884 : BitVec 32 := Scalar.muli v812_1 c256_i32_513
  let v885 : BitVec 32 := v884
  let v886 : Index := Scalar.indexCast v885
  let c0_515 : Index := 0#32
  ![0, v886.toNat, 0]
def k0_mult102 (v812_1 : BitVec 32) : BitVec 32 :=
  let c256_i32_526 : BitVec 32 := 256#32
  let v898 : BitVec 32 := Scalar.muli v812_1 c256_i32_526
  v898
def k0_mult103 (v812_1 : BitVec 32) : BitVec 32 :=
  let c256_i32_539 : BitVec 32 := 256#32
  let v912 : BitVec 32 := Scalar.muli v812_1 c256_i32_539
  v912
def k0_off62 (v812_1 : BitVec 32) : Fin 3 → Nat :=
  let c0_540 : Index := 0#32
  let c256_i32_539 : BitVec 32 := 256#32
  let v912 : BitVec 32 := Scalar.muli v812_1 c256_i32_539
  let v913 : BitVec 32 := v912
  let v914 : Index := Scalar.indexCast v913
  let c128_541 : Index := 128#32
  ![0, v914.toNat, 128]
def k0_mult104 (v812_1 : BitVec 32) : BitVec 32 :=
  let c256_i32_552 : BitVec 32 := 256#32
  let v926 : BitVec 32 := Scalar.muli v812_1 c256_i32_552
  v926
def k0_mult105 (v812_1 : BitVec 32) : BitVec 32 :=
  let c256_i32_565 : BitVec 32 := 256#32
  let v940 : BitVec 32 := Scalar.muli v812_1 c256_i32_565
  v940
def k0_off63 (v812_1 : BitVec 32) : Fin 3 → Nat :=
  let c0_566 : Index := 0#32
  let c256_i32_565 : BitVec 32 := 256#32
  let v940 : BitVec 32 := Scalar.muli v812_1 c256_i32_565
  let v941 : BitVec 32 := v940
  let v942 : Index := Scalar.indexCast v941
  let c256_567 : Index := 256#32
  ![0, v942.toNat, 256]
def k0_mult106 (v812_1 : BitVec 32) : BitVec 32 :=
  let c256_i32_578 : BitVec 32 := 256#32
  let v954 : BitVec 32 := Scalar.muli v812_1 c256_i32_578
  v954
def k0_mult107 (v812_1 : BitVec 32) : BitVec 32 :=
  let c256_i32_591 : BitVec 32 := 256#32
  let v968 : BitVec 32 := Scalar.muli v812_1 c256_i32_591
  v968
def k0_off64 (v812_1 : BitVec 32) : Fin 3 → Nat :=
  let c0_592 : Index := 0#32
  let c256_i32_591 : BitVec 32 := 256#32
  let v968 : BitVec 32 := Scalar.muli v812_1 c256_i32_591
  let v969 : BitVec 32 := v968
  let v970 : Index := Scalar.indexCast v969
  let c384_593 : Index := 384#32
  ![0, v970.toNat, 384]
def k0_mult108 (v812_1 : BitVec 32) : BitVec 32 :=
  let c256_i32_604 : BitVec 32 := 256#32
  let v982 : BitVec 32 := Scalar.muli v812_1 c256_i32_604
  v982

def k0_chk3 (v812_0 : BitVec 32) (v812_1 : BitVec 32) : Prop :=
  (∀ (k0_h3 : k0_cond3 v812_0 = 1#1), 256 ∣ (k0_mult93 v812_1).toNat) ∧
  (∀ (k0_h3 : k0_cond3 v812_0 = 1#1), ∀ a, (k0_off57 v812_1) a + S1x256x128.size a ≤ S1x2048x512.size a) ∧
  (∀ (k0_h3 : k0_cond3 v812_0 = 1#1), 256 ∣ (k0_mult94 v812_1).toNat) ∧
  (∀ (k0_h3 : k0_cond3 v812_0 = 1#1), 256 ∣ (k0_mult95 v812_1).toNat) ∧
  (∀ (k0_h3 : k0_cond3 v812_0 = 1#1), ∀ a, (k0_off58 v812_1) a + S1x256x128.size a ≤ S1x2048x512.size a) ∧
  (∀ (k0_h3 : k0_cond3 v812_0 = 1#1), 256 ∣ (k0_mult96 v812_1).toNat) ∧
  (∀ (k0_h3 : k0_cond3 v812_0 = 1#1), 256 ∣ (k0_mult97 v812_1).toNat) ∧
  (∀ (k0_h3 : k0_cond3 v812_0 = 1#1), ∀ a, (k0_off59 v812_1) a + S1x256x128.size a ≤ S1x2048x512.size a) ∧
  (∀ (k0_h3 : k0_cond3 v812_0 = 1#1), 256 ∣ (k0_mult98 v812_1).toNat) ∧
  (∀ (k0_h3 : k0_cond3 v812_0 = 1#1), 256 ∣ (k0_mult99 v812_1).toNat) ∧
  (∀ (k0_h3 : k0_cond3 v812_0 = 1#1), ∀ a, (k0_off60 v812_1) a + S1x256x128.size a ≤ S1x2048x512.size a) ∧
  (∀ (k0_h3 : k0_cond3 v812_0 = 1#1), 256 ∣ (k0_mult100 v812_1).toNat) ∧
  (∀ (k0_h3 : ¬(k0_cond3 v812_0 = 1#1)), 256 ∣ (k0_mult101 v812_1).toNat) ∧
  (∀ (k0_h3 : ¬(k0_cond3 v812_0 = 1#1)), ∀ a, (k0_off61 v812_1) a + S1x256x128.size a ≤ S1x2048x512.size a) ∧
  (∀ (k0_h3 : ¬(k0_cond3 v812_0 = 1#1)), 256 ∣ (k0_mult102 v812_1).toNat) ∧
  (∀ (k0_h3 : ¬(k0_cond3 v812_0 = 1#1)), 256 ∣ (k0_mult103 v812_1).toNat) ∧
  (∀ (k0_h3 : ¬(k0_cond3 v812_0 = 1#1)), ∀ a, (k0_off62 v812_1) a + S1x256x128.size a ≤ S1x2048x512.size a) ∧
  (∀ (k0_h3 : ¬(k0_cond3 v812_0 = 1#1)), 256 ∣ (k0_mult104 v812_1).toNat) ∧
  (∀ (k0_h3 : ¬(k0_cond3 v812_0 = 1#1)), 256 ∣ (k0_mult105 v812_1).toNat) ∧
  (∀ (k0_h3 : ¬(k0_cond3 v812_0 = 1#1)), ∀ a, (k0_off63 v812_1) a + S1x256x128.size a ≤ S1x2048x512.size a) ∧
  (∀ (k0_h3 : ¬(k0_cond3 v812_0 = 1#1)), 256 ∣ (k0_mult106 v812_1).toNat) ∧
  (∀ (k0_h3 : ¬(k0_cond3 v812_0 = 1#1)), 256 ∣ (k0_mult107 v812_1).toNat) ∧
  (∀ (k0_h3 : ¬(k0_cond3 v812_0 = 1#1)), ∀ a, (k0_off64 v812_1) a + S1x256x128.size a ≤ S1x2048x512.size a) ∧
  (∀ (k0_h3 : ¬(k0_cond3 v812_0 = 1#1)), 256 ∣ (k0_mult108 v812_1).toNat)
theorem k0_mult93_dvd : ∀ (v812_0 : BitVec 32) (v812_1 : BitVec 32) (k0_hw3 : k0_chk3 v812_0 v812_1), ∀ (k0_h3 : k0_cond3 v812_0 = 1#1), 256 ∣ (k0_mult93 v812_1).toNat := fun v812_0 v812_1 k0_hw3 k0_h3 => k0_hw3.1 k0_h3
theorem k0_off57_inb : ∀ (v812_0 : BitVec 32) (v812_1 : BitVec 32) (k0_hw3 : k0_chk3 v812_0 v812_1), ∀ (k0_h3 : k0_cond3 v812_0 = 1#1), ∀ a, (k0_off57 v812_1) a + S1x256x128.size a ≤ S1x2048x512.size a := fun v812_0 v812_1 k0_hw3 k0_h3 => k0_hw3.2.1 k0_h3
theorem k0_mult94_dvd : ∀ (v812_0 : BitVec 32) (v812_1 : BitVec 32) (k0_hw3 : k0_chk3 v812_0 v812_1), ∀ (k0_h3 : k0_cond3 v812_0 = 1#1), 256 ∣ (k0_mult94 v812_1).toNat := fun v812_0 v812_1 k0_hw3 k0_h3 => k0_hw3.2.2.1 k0_h3
theorem k0_mult95_dvd : ∀ (v812_0 : BitVec 32) (v812_1 : BitVec 32) (k0_hw3 : k0_chk3 v812_0 v812_1), ∀ (k0_h3 : k0_cond3 v812_0 = 1#1), 256 ∣ (k0_mult95 v812_1).toNat := fun v812_0 v812_1 k0_hw3 k0_h3 => k0_hw3.2.2.2.1 k0_h3
theorem k0_off58_inb : ∀ (v812_0 : BitVec 32) (v812_1 : BitVec 32) (k0_hw3 : k0_chk3 v812_0 v812_1), ∀ (k0_h3 : k0_cond3 v812_0 = 1#1), ∀ a, (k0_off58 v812_1) a + S1x256x128.size a ≤ S1x2048x512.size a := fun v812_0 v812_1 k0_hw3 k0_h3 => k0_hw3.2.2.2.2.1 k0_h3
theorem k0_mult96_dvd : ∀ (v812_0 : BitVec 32) (v812_1 : BitVec 32) (k0_hw3 : k0_chk3 v812_0 v812_1), ∀ (k0_h3 : k0_cond3 v812_0 = 1#1), 256 ∣ (k0_mult96 v812_1).toNat := fun v812_0 v812_1 k0_hw3 k0_h3 => k0_hw3.2.2.2.2.2.1 k0_h3
theorem k0_mult97_dvd : ∀ (v812_0 : BitVec 32) (v812_1 : BitVec 32) (k0_hw3 : k0_chk3 v812_0 v812_1), ∀ (k0_h3 : k0_cond3 v812_0 = 1#1), 256 ∣ (k0_mult97 v812_1).toNat := fun v812_0 v812_1 k0_hw3 k0_h3 => k0_hw3.2.2.2.2.2.2.1 k0_h3
theorem k0_off59_inb : ∀ (v812_0 : BitVec 32) (v812_1 : BitVec 32) (k0_hw3 : k0_chk3 v812_0 v812_1), ∀ (k0_h3 : k0_cond3 v812_0 = 1#1), ∀ a, (k0_off59 v812_1) a + S1x256x128.size a ≤ S1x2048x512.size a := fun v812_0 v812_1 k0_hw3 k0_h3 => k0_hw3.2.2.2.2.2.2.2.1 k0_h3
theorem k0_mult98_dvd : ∀ (v812_0 : BitVec 32) (v812_1 : BitVec 32) (k0_hw3 : k0_chk3 v812_0 v812_1), ∀ (k0_h3 : k0_cond3 v812_0 = 1#1), 256 ∣ (k0_mult98 v812_1).toNat := fun v812_0 v812_1 k0_hw3 k0_h3 => k0_hw3.2.2.2.2.2.2.2.2.1 k0_h3
theorem k0_mult99_dvd : ∀ (v812_0 : BitVec 32) (v812_1 : BitVec 32) (k0_hw3 : k0_chk3 v812_0 v812_1), ∀ (k0_h3 : k0_cond3 v812_0 = 1#1), 256 ∣ (k0_mult99 v812_1).toNat := fun v812_0 v812_1 k0_hw3 k0_h3 => k0_hw3.2.2.2.2.2.2.2.2.2.1 k0_h3
theorem k0_off60_inb : ∀ (v812_0 : BitVec 32) (v812_1 : BitVec 32) (k0_hw3 : k0_chk3 v812_0 v812_1), ∀ (k0_h3 : k0_cond3 v812_0 = 1#1), ∀ a, (k0_off60 v812_1) a + S1x256x128.size a ≤ S1x2048x512.size a := fun v812_0 v812_1 k0_hw3 k0_h3 => k0_hw3.2.2.2.2.2.2.2.2.2.2.1 k0_h3
theorem k0_mult100_dvd : ∀ (v812_0 : BitVec 32) (v812_1 : BitVec 32) (k0_hw3 : k0_chk3 v812_0 v812_1), ∀ (k0_h3 : k0_cond3 v812_0 = 1#1), 256 ∣ (k0_mult100 v812_1).toNat := fun v812_0 v812_1 k0_hw3 k0_h3 => k0_hw3.2.2.2.2.2.2.2.2.2.2.2.1 k0_h3
theorem k0_mult101_dvd : ∀ (v812_0 : BitVec 32) (v812_1 : BitVec 32) (k0_hw3 : k0_chk3 v812_0 v812_1), ∀ (k0_h3 : ¬(k0_cond3 v812_0 = 1#1)), 256 ∣ (k0_mult101 v812_1).toNat := fun v812_0 v812_1 k0_hw3 k0_h3 => k0_hw3.2.2.2.2.2.2.2.2.2.2.2.2.1 k0_h3
theorem k0_off61_inb : ∀ (v812_0 : BitVec 32) (v812_1 : BitVec 32) (k0_hw3 : k0_chk3 v812_0 v812_1), ∀ (k0_h3 : ¬(k0_cond3 v812_0 = 1#1)), ∀ a, (k0_off61 v812_1) a + S1x256x128.size a ≤ S1x2048x512.size a := fun v812_0 v812_1 k0_hw3 k0_h3 => k0_hw3.2.2.2.2.2.2.2.2.2.2.2.2.2.1 k0_h3
theorem k0_mult102_dvd : ∀ (v812_0 : BitVec 32) (v812_1 : BitVec 32) (k0_hw3 : k0_chk3 v812_0 v812_1), ∀ (k0_h3 : ¬(k0_cond3 v812_0 = 1#1)), 256 ∣ (k0_mult102 v812_1).toNat := fun v812_0 v812_1 k0_hw3 k0_h3 => k0_hw3.2.2.2.2.2.2.2.2.2.2.2.2.2.2.1 k0_h3
theorem k0_mult103_dvd : ∀ (v812_0 : BitVec 32) (v812_1 : BitVec 32) (k0_hw3 : k0_chk3 v812_0 v812_1), ∀ (k0_h3 : ¬(k0_cond3 v812_0 = 1#1)), 256 ∣ (k0_mult103 v812_1).toNat := fun v812_0 v812_1 k0_hw3 k0_h3 => k0_hw3.2.2.2.2.2.2.2.2.2.2.2.2.2.2.2.1 k0_h3
theorem k0_off62_inb : ∀ (v812_0 : BitVec 32) (v812_1 : BitVec 32) (k0_hw3 : k0_chk3 v812_0 v812_1), ∀ (k0_h3 : ¬(k0_cond3 v812_0 = 1#1)), ∀ a, (k0_off62 v812_1) a + S1x256x128.size a ≤ S1x2048x512.size a := fun v812_0 v812_1 k0_hw3 k0_h3 => k0_hw3.2.2.2.2.2.2.2.2.2.2.2.2.2.2.2.2.1 k0_h3
theorem k0_mult104_dvd : ∀ (v812_0 : BitVec 32) (v812_1 : BitVec 32) (k0_hw3 : k0_chk3 v812_0 v812_1), ∀ (k0_h3 : ¬(k0_cond3 v812_0 = 1#1)), 256 ∣ (k0_mult104 v812_1).toNat := fun v812_0 v812_1 k0_hw3 k0_h3 => k0_hw3.2.2.2.2.2.2.2.2.2.2.2.2.2.2.2.2.2.1 k0_h3
theorem k0_mult105_dvd : ∀ (v812_0 : BitVec 32) (v812_1 : BitVec 32) (k0_hw3 : k0_chk3 v812_0 v812_1), ∀ (k0_h3 : ¬(k0_cond3 v812_0 = 1#1)), 256 ∣ (k0_mult105 v812_1).toNat := fun v812_0 v812_1 k0_hw3 k0_h3 => k0_hw3.2.2.2.2.2.2.2.2.2.2.2.2.2.2.2.2.2.2.1 k0_h3
theorem k0_off63_inb : ∀ (v812_0 : BitVec 32) (v812_1 : BitVec 32) (k0_hw3 : k0_chk3 v812_0 v812_1), ∀ (k0_h3 : ¬(k0_cond3 v812_0 = 1#1)), ∀ a, (k0_off63 v812_1) a + S1x256x128.size a ≤ S1x2048x512.size a := fun v812_0 v812_1 k0_hw3 k0_h3 => k0_hw3.2.2.2.2.2.2.2.2.2.2.2.2.2.2.2.2.2.2.2.1 k0_h3
theorem k0_mult106_dvd : ∀ (v812_0 : BitVec 32) (v812_1 : BitVec 32) (k0_hw3 : k0_chk3 v812_0 v812_1), ∀ (k0_h3 : ¬(k0_cond3 v812_0 = 1#1)), 256 ∣ (k0_mult106 v812_1).toNat := fun v812_0 v812_1 k0_hw3 k0_h3 => k0_hw3.2.2.2.2.2.2.2.2.2.2.2.2.2.2.2.2.2.2.2.2.1 k0_h3
theorem k0_mult107_dvd : ∀ (v812_0 : BitVec 32) (v812_1 : BitVec 32) (k0_hw3 : k0_chk3 v812_0 v812_1), ∀ (k0_h3 : ¬(k0_cond3 v812_0 = 1#1)), 256 ∣ (k0_mult107 v812_1).toNat := fun v812_0 v812_1 k0_hw3 k0_h3 => k0_hw3.2.2.2.2.2.2.2.2.2.2.2.2.2.2.2.2.2.2.2.2.2.1 k0_h3
theorem k0_off64_inb : ∀ (v812_0 : BitVec 32) (v812_1 : BitVec 32) (k0_hw3 : k0_chk3 v812_0 v812_1), ∀ (k0_h3 : ¬(k0_cond3 v812_0 = 1#1)), ∀ a, (k0_off64 v812_1) a + S1x256x128.size a ≤ S1x2048x512.size a := fun v812_0 v812_1 k0_hw3 k0_h3 => k0_hw3.2.2.2.2.2.2.2.2.2.2.2.2.2.2.2.2.2.2.2.2.2.2.1 k0_h3
theorem k0_mult108_dvd : ∀ (v812_0 : BitVec 32) (v812_1 : BitVec 32) (k0_hw3 : k0_chk3 v812_0 v812_1), ∀ (k0_h3 : ¬(k0_cond3 v812_0 = 1#1)), 256 ∣ (k0_mult108 v812_1).toNat := fun v812_0 v812_1 k0_hw3 k0_h3 => k0_hw3.2.2.2.2.2.2.2.2.2.2.2.2.2.2.2.2.2.2.2.2.2.2.2 k0_h3

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "negligible" => some ⊥
  | _ => none
-- ==== ReferenceIdeal.lean ====
abbrev S8x2048x1024 : Shape := ⟨3, ![8, 2048, 1024]⟩
abbrev S8x2048x2048 : Shape := ⟨3, ![8, 2048, 2048]⟩
abbrev S8x2048x16x64 : Shape := ⟨4, ![8, 2048, 16, 64]⟩
abbrev S8x16x2048x64 : Shape := ⟨4, ![8, 16, 2048, 64]⟩
abbrev S8x16x2048x2048 : Shape := ⟨4, ![8, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x2048, .bf16⟩
  | .hbm, ⟨2, _⟩ => ⟨S8x2048x1024, .f32⟩
  | .hbm, ⟨3, _⟩ => ⟨S8x2048x1024, .f32⟩
  | .hbm, ⟨4, _⟩ => ⟨S8x2048x16x64, .f32⟩
  | .hbm, ⟨5, _⟩ => ⟨S8x16x2048x64, .f32⟩
  | .hbm, ⟨6, _⟩ => ⟨S8x2048x1024, .bf16⟩
  | .hbm, ⟨7, _⟩ => ⟨S8x2048x1024, .f32⟩
  | .hbm, ⟨8, _⟩ => ⟨S8x2048x16x64, .f32⟩
  | .hbm, ⟨9, _⟩ => ⟨S8x16x2048x64, .f32⟩
  | .hbm, ⟨10, _⟩ => ⟨S8x2048x1024, .bf16⟩
  | .hbm, ⟨11, _⟩ => ⟨S8x2048x1024, .f32⟩
  | .hbm, ⟨12, _⟩ => ⟨S8x2048x16x64, .f32⟩
  | .hbm, ⟨13, _⟩ => ⟨S8x16x2048x64, .f32⟩
  | .hbm, ⟨14, _⟩ => ⟨S8x16x2048x2048, .f32⟩
  | .hbm, ⟨15, _⟩ => ⟨S_, .f32⟩
  | .hbm, ⟨16, _⟩ => ⟨S_, .f32⟩
  | .hbm, ⟨17, _⟩ => ⟨S8x16x2048x2048, .f32⟩
  | .hbm, ⟨18, _⟩ => ⟨S8x16x2048x2048, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S8x16x2048x2048, .f32⟩
  | .hbm, ⟨27, _⟩ => ⟨S_, .f32⟩
  | .hbm, ⟨28, _⟩ => ⟨S8x16x2048x2048, .f32⟩
  | .hbm, ⟨29, _⟩ => ⟨S8x16x2048x2048, .f32⟩
  | .hbm, ⟨30, _⟩ => ⟨S8x16x2048x2048, .f32⟩
  | .hbm, ⟨31, _⟩ => ⟨S8x16x2048x2048, .f32⟩
  | .hbm, ⟨32, _⟩ => ⟨S8x16x2048x2048, .i1⟩
  | .hbm, ⟨33, _⟩ => ⟨S8x16x2048x2048, .f32⟩
  | .hbm, ⟨34, _⟩ => ⟨S8x16x2048x2048, .f32⟩
  | .hbm, ⟨35, _⟩ => ⟨S8x16x2048x2048, .f32⟩
  | .hbm, ⟨36, _⟩ => ⟨S8x16x2048x2048, .f32⟩
  | .hbm, ⟨37, _⟩ => ⟨S8x16x2048x2048, .f32⟩
  | .hbm, ⟨38, _⟩ => ⟨S8x16x2048x2048, .f32⟩
  | .hbm, ⟨39, _⟩ => ⟨S8x16x2048x2048, .f32⟩
  | .hbm, ⟨40, _⟩ => ⟨S8x16x2048x2048, .f32⟩
  | .hbm, ⟨41, _⟩ => ⟨S8x16x2048x2048, .f32⟩
  | .hbm, ⟨42, _⟩ => ⟨S8x16x2048x2048, .f32⟩
  | .hbm, ⟨43, _⟩ => ⟨S_, .f32⟩
  | .hbm, ⟨44, _⟩ => ⟨S_, .f32⟩
  | .hbm, ⟨45, _⟩ => ⟨S8x16x2048x2048, .i1⟩
  | .hbm, ⟨46, _⟩ => ⟨S8x16x2048x2048, .f32⟩
  | .hbm, ⟨47, _⟩ => ⟨S8x16x2048x2048, .f32⟩
  | .hbm, ⟨48, _⟩ => ⟨S_, .f32⟩
  | .hbm, ⟨49, _⟩ => ⟨S_, .f32⟩
  | .hbm, ⟨50, _⟩ => ⟨S8x16x2048x2048, .f32⟩
  | .hbm, ⟨51, _⟩ => ⟨S8x16x2048x2048, .f32⟩
  | .hbm, ⟨52, _⟩ => ⟨S8x16x2048x2048, .f32⟩
  | .hbm, ⟨53, _⟩ => ⟨S8x16x2048x2048, .f32⟩
  | .hbm, ⟨54, _⟩ => ⟨S_, .f32⟩
  | .hbm, ⟨55, _⟩ => ⟨S_, .f32⟩
  | .hbm, ⟨56, _⟩ => ⟨S8x16x2048x2048, .i1⟩
  | .hbm, ⟨57, _⟩ => ⟨S8x16x2048x2048, .f32⟩
  | .hbm, ⟨58, _⟩ => ⟨S8x16x2048x2048, .f32⟩
  | .hbm, ⟨59, _⟩ => ⟨S8x16x2048x64, .f32⟩
  | .hbm, ⟨60, _⟩ => ⟨S8x2048x16x64, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x1024, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_call2_cst : Ref sig .tc := ⟨.hbm, 48, rfl⟩
abbrev main_call2_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_1 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call4_v0 : Ref sig .tc := ⟨.hbm, 62, rfl⟩
abbrev main_call4_v1 : Ref sig .tc := ⟨.hbm, 63, rfl⟩
abbrev main_call4_cst : Ref sig .tc := ⟨.hbm, 64, rfl⟩
abbrev main_call4_v2 : Ref sig .tc := ⟨.hbm, 65, rfl⟩
abbrev main_call4_v3 : Ref sig .tc := ⟨.hbm, 66, rfl⟩
abbrev main_call4_cst_0 : Ref sig .tc := ⟨.hbm, 67, rfl⟩
abbrev main_call4_v4 : Ref sig .tc := ⟨.hbm, 68, rfl⟩
abbrev main_call4_v5 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩

abbrev nD : Nat := 1
abbrev τ : Topo := Topo.v7x

variable {F : FTy → Type} [FloatOps F]
-- ==== Projections.lean ====
abbrev S8x2048x1024 : Shape := ⟨3, ![8, 2048, 1024]⟩
abbrev S8x2x1024 : Shape := ⟨3, ![8, 2, 1024]⟩
abbrev S8x3x1024 : Shape := ⟨3, ![8, 3, 1024]⟩
abbrev S1x1024 : Shape := ⟨2, ![1, 1024]⟩
abbrev S1024x2048 : Shape := ⟨2, ![1024, 2048]⟩
abbrev S8x2048x2048 : Shape := ⟨3, ![8, 2048, 2048]⟩
abbrev S1x1024x1024 : Shape := ⟨3, ![1, 1024, 1024]⟩
abbrev S1x2x1024 : Shape := ⟨3, ![1, 2, 1024]⟩
abbrev S1x3x1024 : Shape := ⟨3, ![1, 3, 1024]⟩
abbrev S1x1024x2048 : Shape := ⟨3, ![1, 1024, 2048]⟩
abbrev S1024x1024 : Shape := ⟨2, ![1024, 1024]⟩
abbrev S1024 : Shape := ⟨1, ![1024]⟩
abbrev S1024x1 : Shape := ⟨2, ![1024, 1]⟩
abbrev S2x1024 : Shape := ⟨2, ![2, 1024]⟩
abbrev S3x1024 : Shape := ⟨2, ![3, 1024]⟩

abbrev nBuf : Space → Nat
  | .hbm => 10
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2x1024, .f32⟩
  | .hbm, ⟨2, _⟩ => ⟨S8x3x1024, .f32⟩
  | .hbm, ⟨3, _⟩ => ⟨S1x1024, .f32⟩
  | .hbm, ⟨4, _⟩ => ⟨S1x1024, .f32⟩
  | .hbm, ⟨5, _⟩ => ⟨S1024x2048, .f32⟩
  | .hbm, ⟨6, _⟩ => ⟨S1024x2048, .f32⟩
  | .hbm, ⟨7, _⟩ => ⟨S8x2048x1024, .bf16⟩
  | .hbm, ⟨8, _⟩ => ⟨S8x2048x2048, .bf16⟩
  | .hbm, ⟨9, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S1x1024, .f32⟩
  | .local _ .vmem, ⟨8, _⟩ => ⟨S1024x2048, .f32⟩
  | .local _ .vmem, ⟨9, _⟩ => ⟨S1024x2048, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x2048, .bf16⟩
  | .local _ .vmem, ⟨13, _⟩ => ⟨S1x1024x2048, .bf16⟩
  | .local _ .vmem, ⟨14, _⟩ => ⟨S1x1024x1024, .f32⟩
  | .local _ .vmem, ⟨15, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjectionsIdeal.lean ====
variable {F : FTy → Type} [FloatOps F] [Named F]
def κ : String → Option EReal := fun
  | "qscale" => some ((8⁻¹ * (Real.log 2)⁻¹ : ℝ) : EReal)
  | _ => none
-- ==== ProjectionsReferenceIdeal.lean ====
abbrev S8x2048x1024 : Shape := ⟨3, ![8, 2048, 1024]⟩
abbrev S8x2x1024 : Shape := ⟨3, ![8, 2, 1024]⟩
abbrev S8x3x1024 : Shape := ⟨3, ![8, 3, 1024]⟩
abbrev S1x1024 : Shape := ⟨2, ![1, 1024]⟩
abbrev S1024x2048 : Shape := ⟨2, ![1024, 2048]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2x1024, .f32⟩
  | .hbm, ⟨2, _⟩ => ⟨S8x3x1024, .f32⟩
  | .hbm, ⟨3, _⟩ => ⟨S1x1024, .f32⟩
  | .hbm, ⟨4, _⟩ => ⟨S1x1024, .f32⟩
  | .hbm, ⟨5, _⟩ => ⟨S1024x2048, .f32⟩
  | .hbm, ⟨6, _⟩ => ⟨S1024x2048, .f32⟩
  | .hbm, ⟨7, _⟩ => ⟨S8x1x1024, .f32⟩
  | .hbm, ⟨8, _⟩ => ⟨S8x1024, .f32⟩
  | .hbm, ⟨9, _⟩ => ⟨S8x1x1024, .f32⟩
  | .hbm, ⟨10, _⟩ => ⟨S8x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x1x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x2048, .f32⟩
  | .hbm, ⟨37, _⟩ => ⟨S8x1x1024, .f32⟩
  | .hbm, ⟨38, _⟩ => ⟨S8x1024, .f32⟩
  | .hbm, ⟨39, _⟩ => ⟨S8x1x1024, .f32⟩
  | .hbm, ⟨40, _⟩ => ⟨S8x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S8x1x1024, .f32⟩
  | .hbm, ⟨58, _⟩ => ⟨S_, .f32⟩
  | .hbm, ⟨59, _⟩ => ⟨S8x1x1024, .f32⟩
  | .hbm, ⟨60, _⟩ => ⟨S8x1x1024, .f32⟩
  | .hbm, ⟨61, _⟩ => ⟨S8x2048x1024, .f32⟩
  | .hbm, ⟨62, _⟩ => ⟨S8x2048x1024, .f32⟩
  | .hbm, ⟨63, _⟩ => ⟨S8x1x1024, .f32⟩
  | .hbm, ⟨64, _⟩ => ⟨S8x2048x1024, .f32⟩
  | .hbm, ⟨65, _⟩ => ⟨S8x2048x1024, .f32⟩
  | .hbm, ⟨66, _⟩ => ⟨S8x2048x2048, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x2048x1024, .f32⟩
  | .hbm, ⟨71, _⟩ => ⟨S8x2048x1024, .f32⟩
  | .hbm, ⟨72, _⟩ => ⟨S_, .f32⟩
  | .hbm, ⟨73, _⟩ => ⟨S_, .f32⟩
  | .hbm, ⟨74, _⟩ => ⟨S8x2048x1024, .f32⟩
  | .hbm, ⟨75, _⟩ => ⟨S8x2048x1024, .f32⟩
  | .hbm, ⟨76, _⟩ => ⟨S8x2048x1024, .bf16⟩
  | .hbm, ⟨77, _⟩ => ⟨S8x2048x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== ConvLayer.lean ====
abbrev S8x2048x1024 : Shape := ⟨3, ![8, 2048, 1024]⟩
abbrev S8x3x1024 : Shape := ⟨3, ![8, 3, 1024]⟩
abbrev S1x1024 : Shape := ⟨2, ![1, 1024]⟩
abbrev S1024x4096 : Shape := ⟨2, ![1024, 4096]⟩
abbrev S3x1024 : Shape := ⟨2, ![3, 1024]⟩
abbrev S1024x1024 : Shape := ⟨2, ![1024, 1024]⟩
abbrev S1x1024x1024 : Shape := ⟨3, ![1, 1024, 1024]⟩
abbrev S1x3x1024 : Shape := ⟨3, ![1, 3, 1024]⟩
abbrev S8x1024 : Shape := ⟨2, ![8, 1024]⟩
abbrev S5 : Shape := ⟨1, ![5]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S264x1024 : Shape := ⟨2, ![264, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S1x1024, .f32⟩
  | .hbm, ⟨3, _⟩ => ⟨S1024x4096, .f32⟩
  | .hbm, ⟨4, _⟩ => ⟨S3x1024, .f32⟩
  | .hbm, ⟨5, _⟩ => ⟨S1024x1024, .f32⟩
  | .hbm, ⟨6, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S3x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S8x1024, .f32⟩
  | .local _ .vmem, ⟨9, _⟩ => ⟨S1024x4096, .f32⟩
  | .local _ .vmem, ⟨10, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvLayerReferenceIdeal.lean ====
abbrev S8x2048x1024 : Shape := ⟨3, ![8, 2048, 1024]⟩
abbrev S8x3x1024 : Shape := ⟨3, ![8, 3, 1024]⟩
abbrev S1x1024 : Shape := ⟨2, ![1, 1024]⟩
abbrev S1024x4096 : Shape := ⟨2, ![1024, 4096]⟩
abbrev S3x1024 : Shape := ⟨2, ![3, 1024]⟩
abbrev S1024x1024 : Shape := ⟨2, ![1024, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S8x2050x1024 : Shape := ⟨3, ![8, 2050, 1024]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S1x1024, .f32⟩
  | .hbm, ⟨3, _⟩ => ⟨S1024x4096, .f32⟩
  | .hbm, ⟨4, _⟩ => ⟨S3x1024, .f32⟩
  | .hbm, ⟨5, _⟩ => ⟨S1024x1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x4096, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .i32⟩
  | .hbm, ⟨44, _⟩ => ⟨S_, .f32⟩
  | .hbm, ⟨45, _⟩ => ⟨S8x2050x1024, .f32⟩
  | .hbm, ⟨46, _⟩ => ⟨S1x1024, .f32⟩
  | .hbm, ⟨47, _⟩ => ⟨S1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S1x1024, .f32⟩
  | .hbm, ⟨53, _⟩ => ⟨S1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S1x1024, .f32⟩
  | .hbm, ⟨60, _⟩ => ⟨S1024, .f32⟩
  | .hbm, ⟨61, _⟩ => ⟨S8x2048x1024, .f32⟩
  | .hbm, ⟨62, _⟩ => ⟨S1x1x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x2048x1024, .f32⟩
  | .hbm, ⟨71, _⟩ => ⟨S8x2048x1024, .f32⟩
  | .hbm, ⟨72, _⟩ => ⟨S_, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | .hbm, ⟨77, _⟩ => ⟨S8x1x1024, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== OutLayer.lean ====
abbrev S8x2048x1024 : Shape := ⟨3, ![8, 2048, 1024]⟩
abbrev S8x3x1024 : Shape := ⟨3, ![8, 3, 1024]⟩
abbrev S1024x1024 : Shape := ⟨2, ![1024, 1024]⟩
abbrev S1x1024 : Shape := ⟨2, ![1, 1024]⟩
abbrev S1x3x1024 : Shape := ⟨3, ![1, 3, 1024]⟩
abbrev S1x1024x1024 : Shape := ⟨3, ![1, 1024, 1024]⟩
abbrev S3x1024x1024 : Shape := ⟨3, ![3, 1024, 1024]⟩
abbrev S2x3 : Shape := ⟨2, ![2, 3]⟩
abbrev S1x1 : Shape := ⟨2, ![1, 1]⟩
abbrev S_ : Shape := ⟨0, ![]⟩
abbrev S3x1024 : Shape := ⟨2, ![3, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S8x3x1024, .f32⟩
  | .hbm, ⟨3, _⟩ => ⟨S1024x1024, .f32⟩
  | .hbm, ⟨4, _⟩ => ⟨S1x1024, .f32⟩
  | .hbm, ⟨5, _⟩ => ⟨S8x2048x1024, .f32⟩
  | .local _ .vmem, ⟨0, _⟩ => ⟨S1x3x1024, .f32⟩
  | .local _ .vmem, ⟨1, _⟩ => ⟨S1x3x1024, .f32⟩
  | .local _ .vmem, ⟨2, _⟩ => ⟨S1024x1024, .f32⟩
  | .local _ .vmem, ⟨3, _⟩ => ⟨S1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S3x1024x1024, .bf16⟩
  | .local _ .vmem, ⟨7, _⟩ => ⟨S3x1024x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_86 : BitVec 32 := 0#32
  c0_i32_86
def k0_mult2 : BitVec 32 :=
  let c1024_i32_101 : BitVec 32 := 1024#32
  c1024_i32_101
def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_1 : BitVec 32 := 2#32
  let v5 : BitVec 32 := Scalar.addi v1 c2_i32_1
  let c16_i32 : BitVec 32 := 16#32
  let v6 : BitVec 1 := Scalar.cmpi .slt v5 c16_i32
  let v7 : BitVec 32 := Scalar.extui v6
  let c0_i32_2 : BitVec 32 := 0#32
  let v8 : BitVec 1 := Scalar.cmpi .ne v7 c0_i32_2
  v8

def k0_mult3 (i : grid0.Coords) : BitVec 32 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_86 : BitVec 32 := 2#32
  let v179 : BitVec 32 := Scalar.addi v1 c2_i32_86
  let c2_i32_94 : BitVec 32 := 2#32
  let c0_i32_95 : BitVec 32 := 0#32
  let v197 : BitVec 1 := Scalar.cmpi .eq c2_i32_94 c0_i32_95
  let c1_i32_96 : BitVec 32 := 1#32
  let v198 : BitVec 32 := Scalar.select v197 c1_i32_96 c2_i32_94
  let v199 : BitVec 32 := Scalar.remsi v179 v198
  let c0_i32_98 : BitVec 32 := 0#32
  let v201 : BitVec 1 := Scalar.cmpi .slt v199 c0_i32_98
  let c0_i32_99 : BitVec 32 := 0#32
  let v202 : BitVec 1 := Scalar.cmpi .slt v198 c0_i32_99
  let v203 : BitVec 1 := Scalar.xori v201 v202
  let c0_i32_97 : BitVec 32 := 0#32
  let v200 : BitVec 1 := Scalar.cmpi .ne v199 c0_i32_97
  let v204 : BitVec 1 := Scalar.andi v203 v200
  let v205 : BitVec 32 := Scalar.addi v199 v198
  let v206 : BitVec 32 := Scalar.select v204 v205 v199
  let c1024_i32_100 : BitVec 32 := 1024#32
  let v207 : BitVec 32 := Scalar.muli v206 c1024_i32_100
  v207
def k0_off1 (i : grid0.Coords) : Fin 2 → Nat :=
  let c0_i32_107 : BitVec 32 := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_86 : BitVec 32 := 2#32
  let v179 : BitVec 32 := Scalar.addi v1 c2_i32_86
  let c3_i32_101 : BitVec 32 := 3#32
  let c0_i32_102 : BitVec 32 := 0#32
  let v209 : BitVec 1 := Scalar.cmpi .eq c3_i32_101 c0_i32_102
  let c1_i32_103 : BitVec 32 := 1#32
  let v210 : BitVec 32 := Scalar.select v209 c1_i32_103 c3_i32_101
  let v211 : BitVec 32 := Scalar.remsi v179 v210
  let c0_i32_105 : BitVec 32 := 0#32
  let v213 : BitVec 1 := Scalar.cmpi .slt v211 c0_i32_105
  let c0_i32_106 : BitVec 32 := 0#32
  let v214 : BitVec 1 := Scalar.cmpi .slt v210 c0_i32_106
  let v215 : BitVec 1 := Scalar.xori v213 v214
  let c0_i32_104 : BitVec 32 := 0#32
  let v212 : BitVec 1 := Scalar.cmpi .ne v211 c0_i32_104
  let v216 : BitVec 1 := Scalar.andi v215 v212
  let v217 : BitVec 32 := Scalar.addi v211 v210
  let v218 : BitVec 32 := Scalar.select v216 v217 v211
  ![0, v218.toNat]
def k0_off2 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_86 : BitVec 32 := 2#32
  let v179 : BitVec 32 := Scalar.addi v1 c2_i32_86
  let c3_i32_101 : BitVec 32 := 3#32
  let c0_i32_102 : BitVec 32 := 0#32
  let v209 : BitVec 1 := Scalar.cmpi .eq c3_i32_101 c0_i32_102
  let c1_i32_103 : BitVec 32 := 1#32
  let v210 : BitVec 32 := Scalar.select v209 c1_i32_103 c3_i32_101
  let v211 : BitVec 32 := Scalar.remsi v179 v210
  let c0_i32_105 : BitVec 32 := 0#32
  let v213 : BitVec 1 := Scalar.cmpi .slt v211 c0_i32_105
  let c0_i32_106 : BitVec 32 := 0#32
  let v214 : BitVec 1 := Scalar.cmpi .slt v210 c0_i32_106
  let v215 : BitVec 1 := Scalar.xori v213 v214
  let c0_i32_104 : BitVec 32 := 0#32
  let v212 : BitVec 1 := Scalar.cmpi .ne v211 c0_i32_104
  let v216 : BitVec 1 := Scalar.andi v215 v212
  let v217 : BitVec 32 := Scalar.addi v211 v210
  let v218 : BitVec 32 := Scalar.select v216 v217 v211
  let c0_i32_108 : BitVec 32 := 0#32
  let c0_i32_109 : BitVec 32 := 0#32
  ![v218.toNat, 0, 0]
def k0_off3 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_86 : BitVec 32 := 2#32
  let v179 : BitVec 32 := Scalar.addi v1 c2_i32_86
  let c0_i32_88 : BitVec 32 := 0#32
  let v181 : BitVec 1 := Scalar.cmpi .sgt v179 c0_i32_88
  let v182 : BitVec 32 := Scalar.extui v181
  let c0_i32_89 : BitVec 32 := 0#32
  let v183 : BitVec 1 := Scalar.cmpi .slt v179 c0_i32_89
  let v184 : BitVec 32 := Scalar.extui v183
  let v185 : BitVec 32 := Scalar.subi v182 v184
  let c2_i32_87 : BitVec 32 := 2#32
  let c0_i32_90 : BitVec 32 := 0#32
  let v186 : BitVec 1 := Scalar.cmpi .sgt c2_i32_87 c0_i32_90
  let v187 : BitVec 32 := Scalar.extui v186
  let c0_i32_91 : BitVec 32 := 0#32
  let v188 : BitVec 1 := Scalar.cmpi .slt c2_i32_87 c0_i32_91
  let v189 : BitVec 32 := Scalar.extui v188
  let v190 : BitVec 32 := Scalar.subi v187 v189
  let v191 : BitVec 1 := Scalar.cmpi .ne v185 v190
  let v192 : BitVec 32 := Scalar.remsi v179 c2_i32_87
  let c0_i32_92 : BitVec 32 := 0#32
  let v193 : BitVec 1 := Scalar.cmpi .ne v192 c0_i32_92
  let v194 : BitVec 1 := Scalar.andi v191 v193
  let v180 : BitVec 32 := Scalar.divsi v179 c2_i32_87
  let c1_i32_93 : BitVec 32 := 1#32
  let v195 : BitVec 32 := Scalar.subi v180 c1_i32_93
  let v196 : BitVec 32 := Scalar.select v194 v195 v180
  let c2_i32_94 : BitVec 32 := 2#32
  let c0_i32_95 : BitVec 32 := 0#32
  let v197 : BitVec 1 := Scalar.cmpi .eq c2_i32_94 c0_i32_95
  let c1_i32_96 : BitVec 32 := 1#32
  let v198 : BitVec 32 := Scalar.select v197 c1_i32_96 c2_i32_94
  let v199 : BitVec 32 := Scalar.remsi v179 v198
  let c0_i32_98 : BitVec 32 := 0#32
  let v201 : BitVec 1 := Scalar.cmpi .slt v199 c0_i32_98
  let c0_i32_99 : BitVec 32 := 0#32
  let v202 : BitVec 1 := Scalar.cmpi .slt v198 c0_i32_99
  let v203 : BitVec 1 := Scalar.xori v201 v202
  let c0_i32_97 : BitVec 32 := 0#32
  let v200 : BitVec 1 := Scalar.cmpi .ne v199 c0_i32_97
  let v204 : BitVec 1 := Scalar.andi v203 v200
  let v205 : BitVec 32 := Scalar.addi v199 v198
  let v206 : BitVec 32 := Scalar.select v204 v205 v199
  let c1024_i32_100 : BitVec 32 := 1024#32
  let v207 : BitVec 32 := Scalar.muli v206 c1024_i32_100
  let v208 : BitVec 32 := v207
  let c0_i32_110 : BitVec 32 := 0#32
  ![v196.toNat, v208.toNat, 0]
def k0_off4 (i : grid0.Coords) : Fin 2 → Nat :=
  let c1_i32_111 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_86 : BitVec 32 := 2#32
  let v179 : BitVec 32 := Scalar.addi v1 c2_i32_86
  let c3_i32_101 : BitVec 32 := 3#32
  let c0_i32_102 : BitVec 32 := 0#32
  let v209 : BitVec 1 := Scalar.cmpi .eq c3_i32_101 c0_i32_102
  let c1_i32_103 : BitVec 32 := 1#32
  let v210 : BitVec 32 := Scalar.select v209 c1_i32_103 c3_i32_101
  let v211 : BitVec 32 := Scalar.remsi v179 v210
  let c0_i32_105 : BitVec 32 := 0#32
  let v213 : BitVec 1 := Scalar.cmpi .slt v211 c0_i32_105
  let c0_i32_106 : BitVec 32 := 0#32
  let v214 : BitVec 1 := Scalar.cmpi .slt v210 c0_i32_106
  let v215 : BitVec 1 := Scalar.xori v213 v214
  let c0_i32_104 : BitVec 32 := 0#32
  let v212 : BitVec 1 := Scalar.cmpi .ne v211 c0_i32_104
  let v216 : BitVec 1 := Scalar.andi v215 v212
  let v217 : BitVec 32 := Scalar.addi v211 v210
  let v218 : BitVec 32 := Scalar.select v216 v217 v211
  ![1, v218.toNat]
def k0_mult4 (i : grid0.Coords) : BitVec 32 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_9 : BitVec 32 := 2#32
  let c0_i32_10 : BitVec 32 := 0#32
  let v26 : BitVec 1 := Scalar.cmpi .eq c2_i32_9 c0_i32_10
  let c1_i32_11 : BitVec 32 := 1#32
  let v27 : BitVec 32 := Scalar.select v26 c1_i32_11 c2_i32_9
  let v28 : BitVec 32 := Scalar.remsi v1 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c1024_i32 : BitVec 32 := 1024#32
  let v36 : BitVec 32 := Scalar.muli v35 c1024_i32
  v36
def k0_off5 (i : grid0.Coords) : Fin 2 → Nat :=
  let c0_i32_20 : BitVec 32 := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c3_i32 : BitVec 32 := 3#32
  let c0_i32_15 : BitVec 32 := 0#32
  let v38 : BitVec 1 := Scalar.cmpi .eq c3_i32 c0_i32_15
  let c1_i32_16 : BitVec 32 := 1#32
  let v39 : BitVec 32 := Scalar.select v38 c1_i32_16 c3_i32
  let v40 : BitVec 32 := Scalar.remsi v1 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  ![0, v47.toNat]
def k0_off6 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c3_i32 : BitVec 32 := 3#32
  let c0_i32_15 : BitVec 32 := 0#32
  let v38 : BitVec 1 := Scalar.cmpi .eq c3_i32 c0_i32_15
  let c1_i32_16 : BitVec 32 := 1#32
  let v39 : BitVec 32 := Scalar.select v38 c1_i32_16 c3_i32
  let v40 : BitVec 32 := Scalar.remsi v1 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  let c0_i32_21 : BitVec 32 := 0#32
  let c0_i32_22 : BitVec 32 := 0#32
  ![v47.toNat, 0, 0]
def k0_off7 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_4 : BitVec 32 := 0#32
  let v10 : BitVec 1 := Scalar.cmpi .sgt v1 c0_i32_4
  let v11 : BitVec 32 := Scalar.extui v10
  let c0_i32_5 : BitVec 32 := 0#32
  let v12 : BitVec 1 := Scalar.cmpi .slt v1 c0_i32_5
  let v13 : BitVec 32 := Scalar.extui v12
  let v14 : BitVec 32 := Scalar.subi v11 v13
  let c2_i32_3 : BitVec 32 := 2#32
  let c0_i32_6 : BitVec 32 := 0#32
  let v15 : BitVec 1 := Scalar.cmpi .sgt c2_i32_3 c0_i32_6
  let v16 : BitVec 32 := Scalar.extui v15
  let c0_i32_7 : BitVec 32 := 0#32
  let v17 : BitVec 1 := Scalar.cmpi .slt c2_i32_3 c0_i32_7
  let v18 : BitVec 32 := Scalar.extui v17
  let v19 : BitVec 32 := Scalar.subi v16 v18
  let v20 : BitVec 1 := Scalar.cmpi .ne v14 v19
  let v21 : BitVec 32 := Scalar.remsi v1 c2_i32_3
  let c0_i32_8 : BitVec 32 := 0#32
  let v22 : BitVec 1 := Scalar.cmpi .ne v21 c0_i32_8
  let v23 : BitVec 1 := Scalar.andi v20 v22
  let v9 : BitVec 32 := Scalar.divsi v1 c2_i32_3
  let c1_i32 : BitVec 32 := 1#32
  let v24 : BitVec 32 := Scalar.subi v9 c1_i32
  let v25 : BitVec 32 := Scalar.select v23 v24 v9
  let c2_i32_9 : BitVec 32 := 2#32
  let c0_i32_10 : BitVec 32 := 0#32
  let v26 : BitVec 1 := Scalar.cmpi .eq c2_i32_9 c0_i32_10
  let c1_i32_11 : BitVec 32 := 1#32
  let v27 : BitVec 32 := Scalar.select v26 c1_i32_11 c2_i32_9
  let v28 : BitVec 32 := Scalar.remsi v1 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c1024_i32 : BitVec 32 := 1024#32
  let v36 : BitVec 32 := Scalar.muli v35 c1024_i32
  let v37 : BitVec 32 := v36
  let c0_i32_23 : BitVec 32 := 0#32
  ![v25.toNat, v37.toNat, 0]
def k0_off8 (i : grid0.Coords) : Fin 2 → Nat :=
  let c1_i32_24 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c3_i32 : BitVec 32 := 3#32
  let c0_i32_15 : BitVec 32 := 0#32
  let v38 : BitVec 1 := Scalar.cmpi .eq c3_i32 c0_i32_15
  let c1_i32_16 : BitVec 32 := 1#32
  let v39 : BitVec 32 := Scalar.select v38 c1_i32_16 c3_i32
  let v40 : BitVec 32 := Scalar.remsi v1 v39
  let c0_i32_18 : BitVec 32 := 0#32
  let v42 : BitVec 1 := Scalar.cmpi .slt v40 c0_i32_18
  let c0_i32_19 : BitVec 32 := 0#32
  let v43 : BitVec 1 := Scalar.cmpi .slt v39 c0_i32_19
  let v44 : BitVec 1 := Scalar.xori v42 v43
  let c0_i32_17 : BitVec 32 := 0#32
  let v41 : BitVec 1 := Scalar.cmpi .ne v40 c0_i32_17
  let v45 : BitVec 1 := Scalar.andi v44 v41
  let v46 : BitVec 32 := Scalar.addi v40 v39
  let v47 : BitVec 32 := Scalar.select v45 v46 v40
  ![1, v47.toNat]
def k0_off9 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c3_i32_28 : BitVec 32 := 3#32
  let c0_i32_29 : BitVec 32 := 0#32
  let v60 : BitVec 1 := Scalar.cmpi .eq c3_i32_28 c0_i32_29
  let c1_i32_30 : BitVec 32 := 1#32
  let v61 : BitVec 32 := Scalar.select v60 c1_i32_30 c3_i32_28
  let v62 : BitVec 32 := Scalar.remsi v1 v61
  let c0_i32_32 : BitVec 32 := 0#32
  let v64 : BitVec 1 := Scalar.cmpi .slt v62 c0_i32_32
  let c0_i32_33 : BitVec 32 := 0#32
  let v65 : BitVec 1 := Scalar.cmpi .slt v61 c0_i32_33
  let v66 : BitVec 1 := Scalar.xori v64 v65
  let c0_i32_31 : BitVec 32 := 0#32
  let v63 : BitVec 1 := Scalar.cmpi .ne v62 c0_i32_31
  let v67 : BitVec 1 := Scalar.andi v66 v63
  let v68 : BitVec 32 := Scalar.addi v62 v61
  let v69 : BitVec 32 := Scalar.select v67 v68 v62
  let v75 : Index := Scalar.indexCast v69
  let c0_38 : Index := 0#32
  let c0_39 : Index := 0#32
  ![v75.toNat, 0, 0]
def k0_off10 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c3_i32_28 : BitVec 32 := 3#32
  let c0_i32_29 : BitVec 32 := 0#32
  let v60 : BitVec 1 := Scalar.cmpi .eq c3_i32_28 c0_i32_29
  let c1_i32_30 : BitVec 32 := 1#32
  let v61 : BitVec 32 := Scalar.select v60 c1_i32_30 c3_i32_28
  let v62 : BitVec 32 := Scalar.remsi v1 v61
  let c0_i32_32 : BitVec 32 := 0#32
  let v64 : BitVec 1 := Scalar.cmpi .slt v62 c0_i32_32
  let c0_i32_33 : BitVec 32 := 0#32
  let v65 : BitVec 1 := Scalar.cmpi .slt v61 c0_i32_33
  let v66 : BitVec 1 := Scalar.xori v64 v65
  let c0_i32_31 : BitVec 32 := 0#32
  let v63 : BitVec 1 := Scalar.cmpi .ne v62 c0_i32_31
  let v67 : BitVec 1 := Scalar.andi v66 v63
  let v68 : BitVec 32 := Scalar.addi v62 v61
  let v69 : BitVec 32 := Scalar.select v67 v68 v62
  let v101 : Index := Scalar.indexCast v69
  let c256 : Index := 256#32
  let c0_50 : Index := 0#32
  ![v101.toNat, 256, 0]
def k0_off11 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c3_i32_28 : BitVec 32 := 3#32
  let c0_i32_29 : BitVec 32 := 0#32
  let v60 : BitVec 1 := Scalar.cmpi .eq c3_i32_28 c0_i32_29
  let c1_i32_30 : BitVec 32 := 1#32
  let v61 : BitVec 32 := Scalar.select v60 c1_i32_30 c3_i32_28
  let v62 : BitVec 32 := Scalar.remsi v1 v61
  let c0_i32_32 : BitVec 32 := 0#32
  let v64 : BitVec 1 := Scalar.cmpi .slt v62 c0_i32_32
  let c0_i32_33 : BitVec 32 := 0#32
  let v65 : BitVec 1 := Scalar.cmpi .slt v61 c0_i32_33
  let v66 : BitVec 1 := Scalar.xori v64 v65
  let c0_i32_31 : BitVec 32 := 0#32
  let v63 : BitVec 1 := Scalar.cmpi .ne v62 c0_i32_31
  let v67 : BitVec 1 := Scalar.andi v66 v63
  let v68 : BitVec 32 := Scalar.addi v62 v61
  let v69 : BitVec 32 := Scalar.select v67 v68 v62
  let v127 : Index := Scalar.indexCast v69
  let c512 : Index := 512#32
  let c0_62 : Index := 0#32
  ![v127.toNat, 512, 0]
def k0_off12 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c3_i32_28 : BitVec 32 := 3#32
  let c0_i32_29 : BitVec 32 := 0#32
  let v60 : BitVec 1 := Scalar.cmpi .eq c3_i32_28 c0_i32_29
  let c1_i32_30 : BitVec 32 := 1#32
  let v61 : BitVec 32 := Scalar.select v60 c1_i32_30 c3_i32_28
  let v62 : BitVec 32 := Scalar.remsi v1 v61
  let c0_i32_32 : BitVec 32 := 0#32
  let v64 : BitVec 1 := Scalar.cmpi .slt v62 c0_i32_32
  let c0_i32_33 : BitVec 32 := 0#32
  let v65 : BitVec 1 := Scalar.cmpi .slt v61 c0_i32_33
  let v66 : BitVec 1 := Scalar.xori v64 v65
  let c0_i32_31 : BitVec 32 := 0#32
  let v63 : BitVec 1 := Scalar.cmpi .ne v62 c0_i32_31
  let v67 : BitVec 1 := Scalar.andi v66 v63
  let v68 : BitVec 32 := Scalar.addi v62 v61
  let v69 : BitVec 32 := Scalar.select v67 v68 v62
  let v153 : Index := Scalar.indexCast v69
  let c768 : Index := 768#32
  let c0_74 : Index := 0#32
  ![v153.toNat, 768, 0]
def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutLayerReferenceIdeal.lean ====
abbrev S8x2048x1024 : Shape := ⟨3, ![8, 2048, 1024]⟩
abbrev S8x3x1024 : Shape := ⟨3, ![8, 3, 1024]⟩
abbrev S1024x1024 : Shape := ⟨2, ![1024, 1024]⟩
abbrev S1x1024 : Shape := ⟨2, ![1, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S8x3x1024, .f32⟩
  | .hbm, ⟨3, _⟩ => ⟨S1024x1024, .f32⟩
  | .hbm, ⟨4, _⟩ => ⟨S1x1024, .f32⟩
  | .hbm, ⟨5, _⟩ => ⟨S8x1x1024, .f32⟩
  | .hbm, ⟨6, _⟩ => ⟨S8x1024, .f32⟩
  | .hbm, ⟨7, _⟩ => ⟨S8x1x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Modulation.lean ====
abbrev S8x1024 : Shape := ⟨2, ![8, 1024]⟩
abbrev S1024x3072 : Shape := ⟨2, ![1024, 3072]⟩
abbrev S1024x2048 : Shape := ⟨2, ![1024, 2048]⟩
abbrev S1x3072 : Shape := ⟨2, ![1, 3072]⟩
abbrev S1x2048 : Shape := ⟨2, ![1, 2048]⟩
abbrev S8x8192 : Shape := ⟨2, ![8, 8192]⟩
abbrev S1024x1024 : Shape := ⟨2, ![1024, 1024]⟩
abbrev S1x1024 : Shape := ⟨2, ![1, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S1024x2048, .f32⟩
  | .hbm, ⟨3, _⟩ => ⟨S1024x3072, .f32⟩
  | .hbm, ⟨4, _⟩ => ⟨S1x3072, .f32⟩
  | .hbm, ⟨5, _⟩ => ⟨S1x2048, .f32⟩
  | .hbm, ⟨6, _⟩ => ⟨S1x3072, .f32⟩
  | .hbm, ⟨7, _⟩ => ⟨S8x8192, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S8x1024, .f32⟩
  | .local _ .vmem, ⟨14, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .sge arg0 c0_i32
  let c3_i32 : BitVec 32 := 3#32
  let v5 : BitVec 1 := Scalar.cmpi .slt arg0 c3_i32
  let v6 : BitVec 1 := Scalar.andi v4 v5
  let v7 : BitVec 32 := Scalar.extui v6
  let c0_i32_1 : BitVec 32 := 0#32
  let v8 : BitVec 1 := Scalar.cmpi .ne v7 c0_i32_1
  v8

def k0_cond2 (i : grid0.Coords) : BitVec 1 :=
  let arg0 : BitVec 32 := BitVec.ofNat 32 (i 0).val
  let c3_i32_2 : BitVec 32 := 3#32
  let v9 : BitVec 1 := Scalar.cmpi .sge arg0 c3_i32_2
  let c5_i32 : BitVec 32 := 5#32
  let v10 : BitVec 1 := Scalar.cmpi .slt arg0 c5_i32
  let v11 : BitVec 1 := Scalar.andi v9 v10
  let v12 : BitVec 32 := Scalar.extui v11
  let c0_i32_3 : BitVec 32 := 0#32
  let v13 : BitVec 1 := Scalar.cmpi .ne v12 c0_i32_3
  v13

def k0_cond3 (i : grid0.Coords) : BitVec 1 :=
  let arg0 : BitVec 32 := BitVec.ofNat 32 (i 0).val
  let c5_i32_4 : BitVec 32 := 5#32
  let v14 : BitVec 1 := Scalar.cmpi .sge arg0 c5_i32_4
  let c8_i32 : BitVec 32 := 8#32
  let v15 : BitVec 1 := Scalar.cmpi .slt arg0 c8_i32
  let v16 : BitVec 1 := Scalar.andi v14 v15
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_5 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ModulationReferenceIdeal.lean ====
abbrev S8x1024 : Shape := ⟨2, ![8, 1024]⟩
abbrev S1024x3072 : Shape := ⟨2, ![1024, 3072]⟩
abbrev S1024x2048 : Shape := ⟨2, ![1024, 2048]⟩
abbrev S1x3072 : Shape := ⟨2, ![1, 3072]⟩
abbrev S1x2048 : Shape := ⟨2, ![1, 2048]⟩
abbrev S_ : Shape := ⟨0, ![]⟩
abbrev S8x3072 : Shape := ⟨2, ![8, 3072]⟩
abbrev S8x2048 : Shape := ⟨2, ![8, 2048]⟩
abbrev S8x8192 : Shape := ⟨2, ![8, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S1024x2048, .f32⟩
  | .hbm, ⟨3, _⟩ => ⟨S1024x3072, .f32⟩
  | .hbm, ⟨4, _⟩ => ⟨S1x3072, .f32⟩
  | .hbm, ⟨5, _⟩ => ⟨S1x2048, .f32⟩
  | .hbm, ⟨6, _⟩ => ⟨S1x3072, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x3072, .f32⟩
  | .hbm, ⟨17, _⟩ => ⟨S8x3072, .f32⟩
  | .hbm, ⟨18, _⟩ => ⟨S8x3072, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S8x2048, .f32⟩
  | .hbm, ⟨29, _⟩ => ⟨S8x2048, .f32⟩
  | .hbm, ⟨30, _⟩ => ⟨S8x2048, .f32⟩
  | .hbm, ⟨31, _⟩ => ⟨S8x1024, .f32⟩
  | .hbm, ⟨32, _⟩ => ⟨S8x1024, .f32⟩
  | .hbm, ⟨33, _⟩ => ⟨S_, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | .hbm, ⟨39, _⟩ => ⟨S8x1024, .f32⟩
  | .hbm, ⟨40, _⟩ => ⟨S8x3072, .f32⟩
  | .hbm, ⟨41, _⟩ => ⟨S8x3072, .f32⟩
  | .hbm, ⟨42, _⟩ => ⟨S8x3072, .f32⟩
  | .hbm, ⟨43, _⟩ => ⟨S8x8192, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩

abbrev nD : Nat := 1
abbrev τ : Topo := Topo.v7x

variable {F : FTy → Type} [FloatOps F]
-- ==== Proof.K.Step.lean ====
/-
  The loop's printed trip is the structured trip.
-/
module

public import proofs.«01_k».proof.Proof.K.Prog
public import proofs.«01_k».proof.Proof.Gen.Kernel.Skeleton

@[expose] public section

set_option maxRecDepth 65536

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The row of the keys one block further down, -/
abbrev rowN (kb : BitVec 32) : ℕ := rowOf (Scalar.maxsi (Scalar.subi kb 1#32) 0#32)
/-- and of the values one block up. -/
abbrev rowP (kb : BitVec 32) : ℕ := rowOf (Scalar.addi kb 1#32)

/-- The block a trip of the inner loop works at. -/
abbrev kbOf (t : Fin k0_t1_loop.trips) (n : BitVec 32) : BitVec 32 := Scalar.subi (Scalar.subi (Scf.iv 1#32 1#32 t) 1#32) n

theorem inb_of {kb : BitVec 32} (h : ∀ a, (![0, rowOf kb, 0] : Fin 3 → ℕ) a + S1x256x128.size a ≤ S1x2048x512.size a) : Inb kb := by
  have := h 1; simpa [Shape.size] using this

/-- The inner loop: while blocks are left and the greatest carry is above the threshold, one step at the buffers
    of the step's parity. -/
def pWhile (i : grid0.Coords) (t : Fin k0_t1_loop.trips) (a16 a17 : BitVec 32) (h1 : k0_chk1 a16 a17) (z0 : Memref sig .tc .vmem S8x256x256 .f32) (hz0 : z0.IsWhole) (w : FVec F S256x256 .bf16) (k : Memref sig .tc .vmem S1x2048x512 .bf16) (hk : k.IsWhole) (qm : Memref sig .tc .vmem S8x256x128 .bf16) (hqm : qm.IsWhole) (z1 : Memref sig .tc .vmem S8x256x256 .f32) (hz1 : z1.IsWhole) (v : Memref sig .tc .vmem S1x2048x512 .bf16) (hv : v.IsWhole) (acc : Memref sig .tc .vmem S8x256x128 .f32) (hacc : acc.IsWhole) (a1 : Memref sig .tc .vmem S8x256x256 .bf16) (ha1 : a1.IsWhole) (carry : Memref sig .tc .vmem S8x256x128 .f32) (hcarry : carry.IsWhole) (lk : IVec S256x256 1) (a0 : Memref sig .tc .vmem S8x256x256 .bf16) (ha0 : a0.IsWhole) (n : BitVec 32) (m : F .f32) (b : BitVec 32) : Pg F (BitVec 32 × F .f32 × BitVec 32) :=
  if Scalar.andi (Scalar.cmpi .slt n (Scf.iv 1#32 1#32 t)) (Scalar.cmpf .ogt m (cT (F := F))) = 1#1 then do
    have h2 : k0_chk2 t n b := (← Prog.lift (TpuEff.assume (k0_chk2 t n b) (k0_chk2.dec t n b))).down
    let x : F .f32 ← if hc : k0_cond2 b = 1#1 then
        pStep lk w (rowN (kbOf t n)) (inb_of (k0_off41_inb t n b h2 hc)) (rowP (kbOf t n)) (inb_of (k0_off42_inb t n b h2 hc)) k v qm acc carry z0 z1 a0 ha0 a1
      else
        pStep lk w (rowN (kbOf t n)) (inb_of (k0_off49_inb t n b h2 hc)) (rowP (kbOf t n)) (inb_of (k0_off50_inb t n b h2 hc)) k v qm acc carry z1 z0 a1 ha1 a0
    Prog.lift (.call (1 : (Λ₀ F).Label) ⟨i, t, a16, a17, h1, z0, hz0, w, k, hk, qm, hqm, z1, hz1, v, hv, acc, hacc, a1, ha1, carry, hcarry, lk, a0, ha0, Scalar.addi n 1#32, x, Scalar.subi 1#32 b⟩)
  else pure (n, m, b)

set_option maxHeartbeats 4000000 in
/-- The printed inner loop is it. -/
theorem while_eq (i : grid0.Coords) (t : Fin k0_t1_loop.trips) (a16 a17 : BitVec 32) (h1 : k0_chk1 a16 a17) (z0 : Memref sig .tc .vmem S8x256x256 .f32) (hz0 : z0.IsWhole) (w : FVec F S256x256 .bf16) (k : Memref sig .tc .vmem S1x2048x512 .bf16) (hk : k.IsWhole) (qm : Memref sig .tc .vmem S8x256x128 .bf16) (hqm : qm.IsWhole) (z1 : Memref sig .tc .vmem S8x256x256 .f32) (hz1 : z1.IsWhole) (v : Memref sig .tc .vmem S1x2048x512 .bf16) (hv : v.IsWhole) (acc : Memref sig .tc .vmem S8x256x128 .f32) (hacc : acc.IsWhole) (a1 : Memref sig .tc .vmem S8x256x256 .bf16) (ha1 : a1.IsWhole) (carry : Memref sig .tc .vmem S8x256x128 .f32) (hcarry : carry.IsWhole) (lk : IVec S256x256 1) (a0 : Memref sig .tc .vmem S8x256x256 .bf16) (ha0 : a0.IsWhole) (n : BitVec 32) (m : F .f32) (b : BitVec 32) : cc0_while1 i t a16 a17 h1 z0 hz0 w k hk qm hqm z1 hz1 v hv acc hacc a1 ha1 carry hcarry lk a0 ha0 n m b = pWhile i t a16 a17 h1 z0 hz0 w k hk qm hqm z1 hz1 v hv acc hacc a1 ha1 carry hcarry lk a0 ha0 n m b := by
  rw [cc0_while1_eq_skeleton]
  unfold cc0_while1_skel pWhile
  refine if_congr Iff.rfl ?_ rfl
  refine bind_congr fun h2 => ?_
  refine dite_congr rfl (fun hc => ?_) (fun hc => ?_)
  · simp only [k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton,
      k0_part93_skel, k0_part94_skel, k0_part95_skel, k0_part96_skel, k0_part97_skel, k0_part98_skel, k0_part99_skel, k0_part100_skel, k0_part101_skel, k0_part102_skel, k0_part103_skel, k0_part104_skel, k0_part105_skel, k0_part106_skel, k0_part107_skel, k0_part108_skel, pStep, pHead, pSuffix, pLogits, pAcc, pWeights, bind_assoc, pure_bind, Prog.bind_lift]
    rfl
  · simp only [k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton,
      k0_part109_skel, k0_part110_skel, k0_part111_skel, k0_part112_skel, k0_part113_skel, k0_part114_skel, k0_part115_skel, k0_part116_skel, k0_part117_skel, k0_part118_skel, k0_part119_skel, k0_part120_skel, k0_part121_skel, k0_part122_skel, k0_part123_skel, k0_part124_skel, pStep, pHead, pSuffix, pLogits, pAcc, pWeights, bind_assoc, pure_bind, Prog.bind_lift]
    rfl

end Cert.Proof.K
end
-- ==== Proof.K.Whole.lean ====
/-
  The kernel's printed function is the structured one.
-/
module

public import proofs.«01_k».proof.Proof.K.Main
public import proofs.«01_k».proof.Proof.Gen.Kernel.Skeleton

@[expose] public section

set_option maxRecDepth 65536

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

theorem dite_bind' {c : Prop} [Decidable c] {α β : Type} (A : c → Pg F α) (B : ¬ c → Pg F α) (f : α → Pg F β) :
    (dite c A B) >>= f = dite c (fun h => A h >>= f) (fun h => B h >>= f) := by
  split <;> rfl

set_option maxHeartbeats 4000000 in
/-- The printed function is the structured one. -/
theorem main_eq (i : grid0.Coords) (q : Memref sig .tc .vmem S1x2048x512 .bf16) (hq : q.IsWhole) (k : Memref sig .tc .vmem S1x2048x512 .bf16) (hk : k.IsWhole) (v : Memref sig .tc .vmem S1x2048x512 .bf16) (hv : v.IsWhole) (z : Memref sig .tc .vmem S1x2048x512 .f32) (hz : z.IsWhole) (wm : Memref sig .tc .vmem S256x256 .bf16) (hwm : wm.IsWhole) (o : Memref sig .tc .vmem S1x2048x512 .bf16) (ho : o.IsWhole) (qm : Memref sig .tc .vmem S8x256x128 .bf16) (hqm : qm.IsWhole) (acc : Memref sig .tc .vmem S8x256x128 .f32) (hacc : acc.IsWhole) (carry : Memref sig .tc .vmem S8x256x128 .f32) (hcarry : carry.IsWhole) (z0 : Memref sig .tc .vmem S8x256x256 .f32) (hz0 : z0.IsWhole) (z1 : Memref sig .tc .vmem S8x256x256 .f32) (hz1 : z1.IsWhole) (a0 : Memref sig .tc .vmem S8x256x256 .bf16) (ha0 : a0.IsWhole) (a1 : Memref sig .tc .vmem S8x256x256 .bf16) (ha1 : a1.IsWhole) : cc0_stickbreak_attention (F := F) i q hq k hk v hv z hz wm hwm o ho qm hqm acc hacc carry hcarry z0 hz0 z1 hz1 a0 ha0 a1 ha1 = pMain i q hq k hk v hv z hz wm hwm o ho qm hqm acc hacc carry hcarry z0 hz0 z1 hz1 a0 ha0 a1 ha1 := by
  rw [cc0_stickbreak_attention_eq_skeleton]
  unfold cc0_stickbreak_attention_skel pMain
  simp only [k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton,
      k0_part63_skel, k0_part64_skel, k0_part65_skel, k0_part66_skel, k0_part67_skel, k0_part68_skel, k0_part69_skel, k0_part70_skel, k0_part71_skel, k0_part72_skel, k0_part73_skel, k0_part74_skel, k0_part75_skel, k0_part76_skel, k0_part77_skel, k0_part78_skel, k0_part79_skel, k0_part80_skel, k0_part81_skel, k0_part82_skel, k0_part83_skel, k0_part84_skel, k0_part85_skel, k0_part86_skel, k0_part87_skel, k0_part88_skel, k0_part89_skel, k0_part90_skel, k0_part91_skel, k0_part92_skel, trip_eq, pFirst, pHead0, pSplit, pSplit1, pDrain, pSuffixM, pLogits, pAcc, pWeightsM, pOut, pOut1, pZero, bind_assoc, pure_bind, Prog.bind_lift, Prog.bind_op, dite_bind']
  rfl

end Cert.Proof.K
end
-- ==== Proof.KI.Prog.lean ====
/-
  The attention kernel's block steps, written once per head at a symbolic head number, and the printed regions
  identified with them by unfolding.
-/
module

public import proofs.«01_k».proof.Proof.Gen.KernelIdeal
public import Idealize.ShloMosaic.Lib.Tactic
public import Idealize.ShloMosaic.Lib.Pipeline.Kit

@[expose] public section

set_option maxRecDepth 65536

noncomputable section

namespace Cert.Proof.KI

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Facts]
open Facts₀ Facts
/-- The kernel's programs. -/
abbrev Pg (F : FTy → Type) (α : Type) := Prog (TpuEff nD τ sig (Elt F) (Λ₀ F) .tc) α

/-- The constant the softplus is scaled by. -/
abbrev cL : F .f32 := Named.named κ "log2e" 0x3FB8AA3B#32
/-- The weight sum below which the remaining blocks are skipped. -/
abbrev cT : F .f32 := Named.named κ "negligible" 0xC3070000#32

/-! ### Rectangles at a symbolic head -/

theorem inbS (h : Fin 8) : ∀ a, (![h.val, 0, 0] : Fin 3 → ℕ) a + S1x256x128.size a ≤ S8x256x128.size a := by
  revert h; decide
theorem inbW (h : Fin 8) : ∀ a, (![h.val, 0, 0] : Fin 3 → ℕ) a + S1x256x256.size a ≤ S8x256x256.size a := by
  revert h; decide
theorem inbTL (h : Fin 8) : ∀ a, (![h.val, 0, 0] : Fin 3 → ℕ) a + S1x128x128.size a ≤ S8x256x256.size a := by
  revert h; decide
theorem inbBL (h : Fin 8) : ∀ a, (![h.val, 128, 0] : Fin 3 → ℕ) a + S1x128x128.size a ≤ S8x256x256.size a := by
  revert h; decide
theorem inbBR (h : Fin 8) : ∀ a, (![h.val, 128, 128] : Fin 3 → ℕ) a + S1x128x128.size a ≤ S8x256x256.size a := by
  revert h; decide
theorem inbB (h : Fin 8) : ∀ a, (![h.val, 128, 0] : Fin 3 → ℕ) a + S1x128x256.size a ≤ S8x256x256.size a := by
  revert h; decide

/-- Head `h`'s slot of a buffer of `256 × 128` slots. -/
abbrev rS (h : Fin 8) : Rect S8x256x128 := Rect.unit (s := S8x256x128) ![h.val, 0, 0] S1x256x128.size (inbS h)
/-- Head `h`'s slot of a buffer of `256 × 256` slots, -/
abbrev rW (h : Fin 8) : Rect S8x256x256 := Rect.unit (s := S8x256x256) ![h.val, 0, 0] S1x256x256.size (inbW h)
/-- its upper left quarter, -/
abbrev rTL (h : Fin 8) : Rect S8x256x256 := Rect.unit (s := S8x256x256) ![h.val, 0, 0] S1x128x128.size (inbTL h)
/-- its lower left quarter, -/
abbrev rBL (h : Fin 8) : Rect S8x256x256 := Rect.unit (s := S8x256x256) ![h.val, 128, 0] S1x128x128.size (inbBL h)
/-- its lower right quarter, -/
abbrev rBR (h : Fin 8) : Rect S8x256x256 := Rect.unit (s := S8x256x256) ![h.val, 128, 128] S1x128x128.size (inbBR h)
/-- its lower half. -/
abbrev rB (h : Fin 8) : Rect S8x256x256 := Rect.unit (s := S8x256x256) ![h.val, 128, 0] S1x128x256.size (inbB h)

/-- The first row of block `kb`. -/
abbrev rowOf (kb : BitVec 32) : ℕ := (Scalar.indexCast (Scalar.muli kb 256#32)).toNat
/-- Block `kb` lies in the array. -/
abbrev Inb (kb : BitVec 32) : Prop := rowOf kb + 256 ≤ 2048
theorem inbK (h : Fin 8) {r : ℕ} (hr : r + 256 ≤ 2048) :
    ∀ a, (![0, r, h.val / 2 * 128] : Fin 3 → ℕ) a + S1x256x128.size a ≤ S1x2048x512.size a := by
  intro a; have := h.isLt; fin_cases a <;> simp [Shape.size] <;> omega
/-- The block of the rows from `r`, at the lanes of head `h`'s group. -/
abbrev rK (h : Fin 8) (r : ℕ) (hr : r + 256 ≤ 2048) : Rect S1x2048x512 :=
  Rect.unit (s := S1x2048x512) ![0, r, h.val / 2 * 128] S1x256x128.size (inbK h hr)

theorem packW (h : Fin 8) : (rW h).PackedRows EltTy.bf16.packing := by
  fin_cases h
  · exact packedbf16_S8x256x256_S1x256x256_0_0_0
  · exact packedbf16_S8x256x256_S1x256x256_1_0_0
  · exact packedbf16_S8x256x256_S1x256x256_2_0_0
  · exact packedbf16_S8x256x256_S1x256x256_3_0_0
  · exact packedbf16_S8x256x256_S1x256x256_4_0_0
  · exact packedbf16_S8x256x256_S1x256x256_5_0_0
  · exact packedbf16_S8x256x256_S1x256x256_6_0_0
  · exact packedbf16_S8x256x256_S1x256x256_7_0_0

/-! ### What the steps compute -/

/-- The softplus to base two. -/
def spW (z : FVec F S256x256 .f32) : FVec F S256x256 .f32 :=
  addf (maximumf z (broadcast S256x256 (Scalar.ofBits .f32 0x00000000#32)))
    (mulf (log (addf (broadcast S256x256 (Scalar.ofBits .f32 0x3F800000#32))
      (exp2 (subf (broadcast S256x256 (Scalar.ofBits .f32 0x00000000#32)) (absf z)))))
      (broadcast S256x256 (cL (F := F))))
/-- A slot as a matrix, and back. -/
abbrev cW (z : Vec F S1x256x256 .f32) : FVec F S256x256 .f32 := shapeCast S256x256 z shapeCasts_S1x256x256_S256x256
abbrev uW (z : FVec F S256x256 .f32) : FVec F S1x256x256 .f32 := shapeCast S1x256x256 z shapeCasts_S256x256_S1x256x256
abbrev cWb (z : Vec F S1x256x256 .bf16) : FVec F S256x256 .bf16 := shapeCast S256x256 z shapeCasts_S1x256x256_S256x256
abbrev uWb (z : FVec F S256x256 .bf16) : FVec F S1x256x256 .bf16 := shapeCast S1x256x256 z shapeCasts_S256x256_S1x256x256
abbrev cS (z : Vec F S1x256x128 .f32) : FVec F S256x128 .f32 := shapeCast S256x128 z shapeCasts_S1x256x128_S256x128
abbrev uS (z : FVec F S256x128 .f32) : FVec F S1x256x128 .f32 := shapeCast S1x256x128 z shapeCasts_S256x128_S1x256x128
abbrev cSb (z : Vec F S1x256x128 .bf16) : FVec F S256x128 .bf16 := shapeCast S256x128 z shapeCasts_S1x256x128_S256x128
abbrev uSb (z : FVec F S256x128 .bf16) : FVec F S1x256x128 .bf16 := shapeCast S1x256x128 z shapeCasts_S256x128_S1x256x128

/-- The logits a slot of queries makes with a block of keys. -/
def logitsV (q : Vec F S1x256x128 .bf16) (k : Vec F S1x256x128 .bf16) : FVec F S256x256 .f32 :=
  matmul dot_S256x128_S256x128_S256x256_1_1_0_0_n_n none (cSb q) (cSb k) (constant S256x256 .f32 0x00000000#32)
/-- The suffix sums, negated, of a matrix of softpluses; the last column holds the row's whole sum. -/
def rV (w : FVec F S256x256 .bf16) (s : FVec F S256x256 .f32) : FVec F S256x256 .f32 :=
  matmul dot_S256x256_S256x256_S256x256_1_0_0_1_n_n none (truncf .bf16 s bitsLt_bf16_f32) w (constant S256x256 .f32 0x00000000#32)
/-- One block's weighted values added to the sum so far. -/
def accV (o : Vec F S1x256x128 .f32) (a : Vec F S1x256x256 .bf16) (v : Vec F S1x256x128 .bf16) : FVec F S256x128 .f32 :=
  addf (cS o) (matmul dot_S256x256_S256x128_S256x128_1_0_0_1_n_n none (cWb a) (cSb v) (constant S256x128 .f32 0x00000000#32))
/-- The last column's sum, laid along the lanes. -/
def totV (r : FVec F S256x256 .f32) : FVec F S256x128 .f32 :=
  broadcastTo S256x128 (shapeCast S256x1 (extractStridedSlice S256x1 ![0, 255] r slices_S256x256_o0_255_S256x1) shapeCasts_S256x1_S256x1) broadcasts_S256x1_S256x128
/-- The weights of a block below the diagonal, from its logits less their softplus, its suffix sums and the carry. -/
def wtV (lk : IVec S256x256 1) (z : Vec F S1x256x256 .f32) (r : FVec F S256x256 .f32) (c : FVec F S256x128 .f32) : FVec F S256x256 .bf16 :=
  truncf .bf16 (exp2 (addf (cW z) (addf (select lk (broadcast S256x256 (Scalar.ofBits .f32 0x00000000#32)) r)
    (concatenate S256x256 1 [⟨S256x128, c⟩, ⟨S256x128, c⟩] concatenates_S256x128_S256x128_S256x256_d1)))) bitsLt_bf16_f32
/-- The greatest of a slot's entries. -/
def maxV (x : FVec F S256x128 .f32) : F .f32 :=
  extractAt ![0, 0, 0] (shapeCast S1x1x1 (multiReduction .maximumf [1, 2] S1 (shapeCast S1x256x128 x shapeCasts_S256x128_S1x256x128) 0xFF800000#32 reduces_S1x256x128_S1 (.inl rfl) rfl) shapeCasts_S1_S1x1x1) inpos_S1x1x1_p0_0_0

/-! ### The steps -/

/-- Head `h`'s logits with the keys from row `r`, into slot `h` of `z`. -/
def pLogits (h : Fin 8) (r : ℕ) (hr : r + 256 ≤ 2048) (k : Memref sig .tc .vmem S1x2048x512 .bf16)
    (qm : Memref sig .tc .vmem S8x256x128 .bf16) (z : Memref sig .tc .vmem S8x256x256 .f32) : Pg F PUnit := do
  let x : Vec F S1x256x128 .bf16 ← Prog.lift (.load k (rK h r hr).toLoadRect (View.loadsAt_vmem h_S1x256x128))
  let y : Vec F S1x256x128 .bf16 ← Prog.lift (.load qm (rS h).toLoadRect (View.loadsAt_vmem h_S1x256x128))
  let _ : Vec F S1x256x256 .f32 ← Prog.lift (.load z (rW h).toLoadRect (View.loadsAt_vmem h_S1x256x256))
  Prog.lift (.store z (rW h) (uW (logitsV y x)) Finset.univ (View.stores_vmem_bits_univ h_S1x256x256 rfl) (.inl rfl))

/-- Slot `h` of `z` less its softplus, in place; the suffix sums are returned. -/
def pSuffix (h : Fin 8) (w : FVec F S256x256 .bf16) (z : Memref sig .tc .vmem S8x256x256 .f32) : Pg F (FVec F S256x256 .f32) := do
  let x : Vec F S1x256x256 .f32 ← Prog.lift (.load z (rW h).toLoadRect (View.loadsAt_vmem h_S1x256x256))
  let _ : Vec F S1x256x256 .f32 ← Prog.lift (.load z (rW h).toLoadRect (View.loadsAt_vmem h_S1x256x256))
  Prog.lift (.store z (rW h) (uW (subf (cW x) (spW (cW x)))) Finset.univ (View.stores_vmem_bits_univ h_S1x256x256 rfl) (.inl rfl))
  pure (rV w (spW (cW x)))

/-- Slot `h` of the weights `a` times the values from row `r`, added to slot `h` of `acc`. -/
def pAcc (h : Fin 8) (r : ℕ) (hr : r + 256 ≤ 2048) (v : Memref sig .tc .vmem S1x2048x512 .bf16)
    (a : Memref sig .tc .vmem S8x256x256 .bf16) (acc : Memref sig .tc .vmem S8x256x128 .f32) : Pg F PUnit := do
  let x : Vec F S1x256x128 .bf16 ← Prog.lift (.load v (rK h r hr).toLoadRect (View.loadsAt_vmem h_S1x256x128))
  let o : Vec F S1x256x128 .f32 ← Prog.lift (.load acc (rS h).toLoadRect (View.loadsAt_vmem h_S1x256x128))
  let y : Vec F S1x256x256 .bf16 ← Prog.lift (.load a (rW h).toLoadRect (View.loadsAt_vmem h_S1x256x256))
  let _ : Vec F S1x256x128 .f32 ← Prog.lift (.load acc (rS h).toLoadRect (View.loadsAt_vmem h_S1x256x128))
  Prog.lift (.store acc (rS h) (uS (accV o y x)) Finset.univ (View.stores_vmem_bits_univ h_S1x256x128 rfl) (.inl rfl))

/-- The weights of slot `h` below the diagonal. -/
def pWeights (h : Fin 8) (lk : IVec S256x256 1) (r : FVec F S256x256 .f32) (z : Memref sig .tc .vmem S8x256x256 .f32)
    (a : Memref sig .tc .vmem S8x256x256 .bf16) (ha : a.IsWhole) (carry : Memref sig .tc .vmem S8x256x128 .f32) : Pg F (FVec F S256x128 .f32) := do
  let c : Vec F S1x256x128 .f32 ← Prog.lift (.load carry (rS h).toLoadRect (View.loadsAt_vmem h_S1x256x128))
  let _ : Vec F S1x256x128 .f32 ← Prog.lift (.load carry (rS h).toLoadRect (View.loadsAt_vmem h_S1x256x128))
  Prog.lift (.store carry (rS h) (uS (addf (cS c) (totV r))) Finset.univ (View.stores_vmem_bits_univ h_S1x256x128 rfl) (.inl rfl))
  let x : Vec F S1x256x256 .f32 ← Prog.lift (.load z (rW h).toLoadRect (View.loadsAt_vmem h_S1x256x256))
  let _ : Vec F S1x256x256 .bf16 ← Prog.lift (.load a (rW h).toLoadRect (View.loadsAt_vmem h_S1x256x256))
  Prog.lift (.store a (rW h) (uWb (wtV lk x r (cS c))) Finset.univ (View.stores_vmem h_S1x256x256 (ha.storeExact_slice rfl _ (packW h)) (fun _ => rfl)) (.inl rfl))
  pure (addf (cS c) (totV r))

/-- A step below the diagonal, at one head. -/
def pHead (h : Fin 8) (lk : IVec S256x256 1) (w : FVec F S256x256 .bf16) (rn : ℕ) (hn : rn + 256 ≤ 2048) (rv : ℕ) (hv : rv + 256 ≤ 2048)
    (k v : Memref sig .tc .vmem S1x2048x512 .bf16) (qm : Memref sig .tc .vmem S8x256x128 .bf16)
    (acc carry : Memref sig .tc .vmem S8x256x128 .f32) (zc zn : Memref sig .tc .vmem S8x256x256 .f32)
    (ac : Memref sig .tc .vmem S8x256x256 .bf16) (hac : ac.IsWhole) (ap : Memref sig .tc .vmem S8x256x256 .bf16) : Pg F (FVec F S256x128 .f32) := do
  let r ← pSuffix h w zc
  pLogits h rn hn k qm zn
  pAcc h rv hv v ap acc
  pWeights h lk r zc ac hac carry

/-- A step below the diagonal. -/
def pStep (lk : IVec S256x256 1) (w : FVec F S256x256 .bf16) (rn : ℕ) (hn : rn + 256 ≤ 2048) (rv : ℕ) (hv : rv + 256 ≤ 2048)
    (k v : Memref sig .tc .vmem S1x2048x512 .bf16) (qm : Memref sig .tc .vmem S8x256x128 .bf16)
    (acc carry : Memref sig .tc .vmem S8x256x128 .f32) (zc zn : Memref sig .tc .vmem S8x256x256 .f32)
    (ac : Memref sig .tc .vmem S8x256x256 .bf16) (hac : ac.IsWhole) (ap : Memref sig .tc .vmem S8x256x256 .bf16) : Pg F (F .f32) := do
  let x0 ← pHead 0 lk w rn hn rv hv k v qm acc carry zc zn ac hac ap
  let x1 ← pHead 1 lk w rn hn rv hv k v qm acc carry zc zn ac hac ap
  let x2 ← pHead 2 lk w rn hn rv hv k v qm acc carry zc zn ac hac ap
  let x3 ← pHead 3 lk w rn hn rv hv k v qm acc carry zc zn ac hac ap
  let x4 ← pHead 4 lk w rn hn rv hv k v qm acc carry zc zn ac hac ap
  let x5 ← pHead 5 lk w rn hn rv hv k v qm acc carry zc zn ac hac ap
  let x6 ← pHead 6 lk w rn hn rv hv k v qm acc carry zc zn ac hac ap
  let x7 ← pHead 7 lk w rn hn rv hv k v qm acc carry zc zn ac hac ap
  pure (maxV (maximumf (maximumf (maximumf (maximumf (maximumf (maximumf (maximumf x0 x1) x2) x3) x4) x5) x6) x7))

/-! ### The diagonal's steps -/

theorem packS (h : Fin 8) : (rS h).PackedRows EltTy.bf16.packing := by
  fin_cases h
  · exact packedbf16_S8x256x128_S1x256x128_0_0_0
  · exact packedbf16_S8x256x128_S1x256x128_1_0_0
  · exact packedbf16_S8x256x128_S1x256x128_2_0_0
  · exact packedbf16_S8x256x128_S1x256x128_3_0_0
  · exact packedbf16_S8x256x128_S1x256x128_4_0_0
  · exact packedbf16_S8x256x128_S1x256x128_5_0_0
  · exact packedbf16_S8x256x128_S1x256x128_6_0_0
  · exact packedbf16_S8x256x128_S1x256x128_7_0_0

theorem inbG (g : Fin 4) {r : ℕ} (hr : r + 256 ≤ 2048) :
    ∀ a, (![0, r, g.val * 128] : Fin 3 → ℕ) a + S1x256x128.size a ≤ S1x2048x512.size a := by
  intro a; have := g.isLt; fin_cases a <;> simp [Shape.size] <;> omega
/-- The block of the rows from `r`, at the lanes of group `g`. -/
abbrev rG (g : Fin 4) (r : ℕ) (hr : r + 256 ≤ 2048) : Rect S1x2048x512 :=
  Rect.unit (s := S1x2048x512) ![0, r, g.val * 128] S1x256x128.size (inbG g hr)

/-- The heads of a group. -/
abbrev hA (g : Fin 4) : Fin 8 := ⟨2 * g.val, by omega⟩
abbrev hB (g : Fin 4) : Fin 8 := ⟨2 * g.val + 1, by omega⟩

abbrev cTL (z : Vec F S1x128x128 .f32) : FVec F S128x128 .f32 := shapeCast S128x128 z shapeCasts_S1x128x128_S128x128
abbrev uTL (z : FVec F S128x128 .f32) : FVec F S1x128x128 .f32 := shapeCast S1x128x128 z shapeCasts_S128x128_S1x128x128
abbrev cBt (z : Vec F S1x128x256 .f32) : FVec F S128x256 .f32 := shapeCast S128x256 z shapeCasts_S1x128x256_S128x256
abbrev uBt (z : FVec F S128x256 .f32) : FVec F S1x128x256 .f32 := shapeCast S1x128x256 z shapeCasts_S128x256_S1x128x256

/-- The softplus to base two, of a quarter -/
def spQ (z : FVec F S128x128 .f32) : FVec F S128x128 .f32 :=
  addf (maximumf z (broadcast S128x128 (Scalar.ofBits .f32 0x00000000#32)))
    (mulf (log (addf (broadcast S128x128 (Scalar.ofBits .f32 0x3F800000#32))
      (exp2 (subf (broadcast S128x128 (Scalar.ofBits .f32 0x00000000#32)) (absf z)))))
      (broadcast S128x128 (cL (F := F))))
/-- and of a lower half. -/
def spH (z : FVec F S128x256 .f32) : FVec F S128x256 .f32 :=
  addf (maximumf z (broadcast S128x256 (Scalar.ofBits .f32 0x00000000#32)))
    (mulf (log (addf (broadcast S128x256 (Scalar.ofBits .f32 0x3F800000#32))
      (exp2 (subf (broadcast S128x256 (Scalar.ofBits .f32 0x00000000#32)) (absf z)))))
      (broadcast S128x256 (cL (F := F))))

/-- The softpluses below the diagonal, zero elsewhere. -/
def spM (cq : IVec S128x128 1) (t : FVec F S128x128 .f32) (b : FVec F S128x256 .f32) : FVec F S256x256 .f32 :=
  concatenate S256x256 0 [⟨S128x256, concatenate S128x256 1 [⟨S128x128, select cq t (broadcast S128x128 (Scalar.ofBits .f32 0x00000000#32))⟩, ⟨S128x128, broadcast S128x128 (Scalar.ofBits .f32 0x00000000#32)⟩] concatenates_S128x128_S128x128_S128x256_d1⟩,
    ⟨S128x256, concatenate S128x256 1 [⟨S128x128, extractStridedSlice S128x128 ![0, 0] b slices_S128x256_o0_0_S128x128⟩, ⟨S128x128, select cq (extractStridedSlice S128x128 ![0, 128] b slices_S128x256_o0_128_S128x128) (broadcast S128x128 (Scalar.ofBits .f32 0x00000000#32))⟩] concatenates_S128x128_S128x128_S128x256_d1⟩] concatenates_S128x256_S128x256_S256x256_d0

/-- The weights of the diagonal's block. -/
def wtM (cq : IVec S128x128 1) (r : FVec F S256x256 .f32) (tl bl br : Vec F S1x128x128 .f32) : FVec F S256x256 .bf16 :=
  truncf .bf16 (concatenate S256x256 0 [⟨S128x256, concatenate S128x256 1 [⟨S128x128, select cq (exp2 (addf (cTL tl) (extractStridedSlice S128x128 ![0, 0] r slices_S256x256_o0_0_S128x128))) (broadcast S128x128 (Scalar.ofBits .f32 0x00000000#32))⟩, ⟨S128x128, broadcast S128x128 (Scalar.ofBits .f32 0x00000000#32)⟩] concatenates_S128x128_S128x128_S128x256_d1⟩,
    ⟨S128x256, concatenate S128x256 1 [⟨S128x128, exp2 (addf (cTL bl) (extractStridedSlice S128x128 ![128, 0] r slices_S256x256_o128_0_S128x128))⟩, ⟨S128x128, select cq (exp2 (addf (cTL br) (extractStridedSlice S128x128 ![128, 128] r slices_S256x256_o128_128_S128x128))) (broadcast S128x128 (Scalar.ofBits .f32 0x00000000#32))⟩] concatenates_S128x128_S128x128_S128x256_d1⟩] concatenates_S128x256_S128x256_S256x256_d0) bitsLt_bf16_f32

/-- The lower part of slot `h` of `z` less its softplus, in place; the suffix sums are returned. -/
def pSuffixM (h : Fin 8) (cq : IVec S128x128 1) (w : FVec F S256x256 .bf16) (z : Memref sig .tc .vmem S8x256x256 .f32) : Pg F (FVec F S256x256 .f32) := do
  let x : Vec F S1x128x128 .f32 ← Prog.lift (.load z (rTL h).toLoadRect (View.loadsAt_vmem h_S1x128x128))
  let _ : Vec F S1x128x128 .f32 ← Prog.lift (.load z (rTL h).toLoadRect (View.loadsAt_vmem h_S1x128x128))
  Prog.lift (.store z (rTL h) (uTL (subf (cTL x) (spQ (cTL x)))) Finset.univ (View.stores_vmem_bits_univ h_S1x128x128 rfl) (.inl rfl))
  let y : Vec F S1x128x256 .f32 ← Prog.lift (.load z (rB h).toLoadRect (View.loadsAt_vmem h_S1x128x256))
  let _ : Vec F S1x128x256 .f32 ← Prog.lift (.load z (rB h).toLoadRect (View.loadsAt_vmem h_S1x128x256))
  Prog.lift (.store z (rB h) (uBt (subf (cBt y) (spH (cBt y)))) Finset.univ (View.stores_vmem_bits_univ h_S1x128x256 rfl) (.inl rfl))
  pure (rV w (spM cq (spQ (cTL x)) (spH (cBt y))))

/-- The weights of slot `h` on the diagonal. -/
def pWeightsM (h : Fin 8) (cq : IVec S128x128 1) (r : FVec F S256x256 .f32) (z : Memref sig .tc .vmem S8x256x256 .f32)
    (a : Memref sig .tc .vmem S8x256x256 .bf16) (ha : a.IsWhole) (carry : Memref sig .tc .vmem S8x256x128 .f32) : Pg F PUnit := do
  let _ : Vec F S1x256x128 .f32 ← Prog.lift (.load carry (rS h).toLoadRect (View.loadsAt_vmem h_S1x256x128))
  Prog.lift (.store carry (rS h) (uS (totV r)) Finset.univ (View.stores_vmem_bits_univ h_S1x256x128 rfl) (.inl rfl))
  let x : Vec F S1x128x128 .f32 ← Prog.lift (.load z (rTL h).toLoadRect (View.loadsAt_vmem h_S1x128x128))
  let y : Vec F S1x128x128 .f32 ← Prog.lift (.load z (rBL h).toLoadRect (View.loadsAt_vmem h_S1x128x128))
  let u : Vec F S1x128x128 .f32 ← Prog.lift (.load z (rBR h).toLoadRect (View.loadsAt_vmem h_S1x128x128))
  let _ : Vec F S1x256x256 .bf16 ← Prog.lift (.load a (rW h).toLoadRect (View.loadsAt_vmem h_S1x256x256))
  Prog.lift (.store a (rW h) (uWb (wtM cq r x y u)) Finset.univ (View.stores_vmem h_S1x256x256 (ha.storeExact_slice rfl _ (packW h)) (fun _ => rfl)) (.inl rfl))

/-- The diagonal's step at one head, after the head's logits. -/
def pHeadM (h : Fin 8) (cq : IVec S128x128 1) (w : FVec F S256x256 .bf16) (rn : ℕ) (hn : rn + 256 ≤ 2048) (rv : ℕ) (hv : rv + 256 ≤ 2048)
    (k v : Memref sig .tc .vmem S1x2048x512 .bf16) (qm : Memref sig .tc .vmem S8x256x128 .bf16)
    (acc carry : Memref sig .tc .vmem S8x256x128 .f32) (zc zn : Memref sig .tc .vmem S8x256x256 .f32)
    (ac : Memref sig .tc .vmem S8x256x256 .bf16) (hac : ac.IsWhole) (ap : Memref sig .tc .vmem S8x256x256 .bf16) : Pg F PUnit := do
  let r ← pSuffixM h cq w zc
  pLogits h rn hn k qm zn
  pAcc h rv hv v ap acc
  pWeightsM h cq r zc ac hac carry

/-- The diagonal's step. -/
def pDiag (cq : IVec S128x128 1) (w : FVec F S256x256 .bf16) (rq : ℕ) (hq : rq + 256 ≤ 2048) (rn : ℕ) (hn : rn + 256 ≤ 2048) (rv : ℕ) (hv : rv + 256 ≤ 2048)
    (k v : Memref sig .tc .vmem S1x2048x512 .bf16) (qm : Memref sig .tc .vmem S8x256x128 .bf16)
    (acc carry : Memref sig .tc .vmem S8x256x128 .f32) (zc zn : Memref sig .tc .vmem S8x256x256 .f32)
    (ac : Memref sig .tc .vmem S8x256x256 .bf16) (hac : ac.IsWhole) (ap : Memref sig .tc .vmem S8x256x256 .bf16) : Pg F PUnit := do
  pLogits 0 rq hq k qm zc
  pLogits 1 rq hq k qm zc
  pLogits 2 rq hq k qm zc
  pHeadM 0 cq w rn hn rv hv k v qm acc carry zc zn ac hac ap
  pLogits 3 rq hq k qm zc
  pHeadM 1 cq w rn hn rv hv k v qm acc carry zc zn ac hac ap
  pLogits 4 rq hq k qm zc
  pHeadM 2 cq w rn hn rv hv k v qm acc carry zc zn ac hac ap
  pLogits 5 rq hq k qm zc
  pHeadM 3 cq w rn hn rv hv k v qm acc carry zc zn ac hac ap
  pLogits 6 rq hq k qm zc
  pHeadM 4 cq w rn hn rv hv k v qm acc carry zc zn ac hac ap
  pLogits 7 rq hq k qm zc
  pHeadM 5 cq w rn hn rv hv k v qm acc carry zc zn ac hac ap
  pHeadM 6 cq w rn hn rv hv k v qm acc carry zc zn ac hac ap
  pHeadM 7 cq w rn hn rv hv k v qm acc carry zc zn ac hac ap

/-! ### The query tile's beginning and end -/

/-- The first head's lanes. -/
abbrev msk (h0 : IVec S1x128 1) : IVec S256x128 1 := broadcastTo S256x128 (shapeCast S1x128 h0 shapeCasts_S1x128_S1x128) broadcasts_S1x128_S256x128
/-- A group's queries at its first head's lanes -/
def qA (h0 : IVec S1x128 1) (q : Vec F S1x256x128 .bf16) : FVec F S256x128 .bf16 :=
  select (msk h0) (cSb q) (broadcast S256x128 (Scalar.ofBits .bf16 0x0000#16))
/-- and at its second's. -/
def qB (h0 : IVec S1x128 1) (q : Vec F S1x256x128 .bf16) : FVec F S256x128 .bf16 :=
  select (msk h0) (broadcast S256x128 (Scalar.ofBits .bf16 0x0000#16)) (cSb q)

def pSplit1 (g : Fin 4) (h0 : IVec S1x128 1) (r : ℕ) (hr : r + 256 ≤ 2048) (q : Memref sig .tc .vmem S1x2048x512 .bf16)
    (qm : Memref sig .tc .vmem S8x256x128 .bf16) (hqm : qm.IsWhole) : Pg F PUnit := do
  let x : Vec F S1x256x128 .bf16 ← Prog.lift (.load q (rG g r hr).toLoadRect (View.loadsAt_vmem h_S1x256x128))
  let _ : Vec F S1x256x128 .bf16 ← Prog.lift (.load qm (rS (hA g)).toLoadRect (View.loadsAt_vmem h_S1x256x128))
  Prog.lift (.store qm (rS (hA g)) (uSb (qA h0 x)) Finset.univ (View.stores_vmem h_S1x256x128 (hqm.storeExact_slice rfl _ (packS (hA g))) (fun _ => rfl)) (.inl rfl))
  let _ : Vec F S1x256x128 .bf16 ← Prog.lift (.load qm (rS (hB g)).toLoadRect (View.loadsAt_vmem h_S1x256x128))
  Prog.lift (.store qm (rS (hB g)) (uSb (qB h0 x)) Finset.univ (View.stores_vmem h_S1x256x128 (hqm.storeExact_slice rfl _ (packS (hB g))) (fun _ => rfl)) (.inl rfl))

/-- The queries from row `r`, each head's at its own lanes. -/
def pSplit (h0 : IVec S1x128 1) (r : ℕ) (hr : r + 256 ≤ 2048) (q : Memref sig .tc .vmem S1x2048x512 .bf16)
    (qm : Memref sig .tc .vmem S8x256x128 .bf16) (hqm : qm.IsWhole) : Pg F PUnit := do
  pSplit1 0 h0 r hr q qm hqm
  pSplit1 1 h0 r hr q qm hqm
  pSplit1 2 h0 r hr q qm hqm
  pSplit1 3 h0 r hr q qm hqm

/-- A group's result: the heads' sums side by side, gated. -/
def outV (h0 : IVec S1x128 1) (z a b : Vec F S1x256x128 .f32) : FVec F S256x128 .bf16 :=
  truncf .bf16 (mulf (select (msk h0) (cS a) (cS b)) (mulf (cS z) (logistic (cS z)))) bitsLt_bf16_f32

def pOut1 (g : Fin 4) (h0 : IVec S1x128 1) (r : ℕ) (hr : r + 256 ≤ 2048) (hp : (rG g r hr).PackedRows EltTy.bf16.packing)
    (z : Memref sig .tc .vmem S1x2048x512 .f32) (acc : Memref sig .tc .vmem S8x256x128 .f32)
    (o : Memref sig .tc .vmem S1x2048x512 .bf16) (ho : o.IsWhole) : Pg F PUnit := do
  let x : Vec F S1x256x128 .f32 ← Prog.lift (.load z (rG g r hr).toLoadRect (View.loadsAt_vmem h_S1x256x128))
  let a : Vec F S1x256x128 .f32 ← Prog.lift (.load acc (rS (hA g)).toLoadRect (View.loadsAt_vmem h_S1x256x128))
  let b : Vec F S1x256x128 .f32 ← Prog.lift (.load acc (rS (hB g)).toLoadRect (View.loadsAt_vmem h_S1x256x128))
  let _ : Vec F S1x256x128 .bf16 ← Prog.lift (.load o (rG g r hr).toLoadRect (View.loadsAt_vmem h_S1x256x128))
  Prog.lift (.store o (rG g r hr) (uSb (outV h0 x a b)) Finset.univ (View.stores_vmem h_S1x256x128 (ho.storeExact_slice rfl _ hp) (fun _ => rfl)) (.inl rfl))

/-- The whole of a buffer of `256 × 128` slots. -/
abbrev rA : Rect S8x256x128 := Rect.unit (s := S8x256x128) ![0, 0, 0] S8x256x128.size inb_S8x256x128_S8x256x128_0_0_0

/-- The sums set to zero. -/
def pZero (acc : Memref sig .tc .vmem S8x256x128 .f32) : Pg F PUnit := do
  let _ : Vec F S8x256x128 .f32 ← Prog.lift (.load acc rA.toLoadRect (View.loadsAt_vmem h_S8x256x128))
  Prog.lift (.store acc rA (shapeCast S8x256x128 (broadcast S8x256x128 (Scalar.ofBits .f32 0x00000000#32)) shapeCasts_S8x256x128_S8x256x128 : FVec F S8x256x128 .f32) Finset.univ (View.stores_vmem_bits_univ h_S8x256x128 rfl) (.inl rfl))

/-- The tile's results at the rows from `r`, and the sums set to zero. -/
def pOut (h0 : IVec S1x128 1) (r : ℕ) (hr : r + 256 ≤ 2048) (hp : ∀ g, (rG g r hr).PackedRows EltTy.bf16.packing)
    (z : Memref sig .tc .vmem S1x2048x512 .f32) (acc : Memref sig .tc .vmem S8x256x128 .f32)
    (o : Memref sig .tc .vmem S1x2048x512 .bf16) (ho : o.IsWhole) : Pg F PUnit := do
  pOut1 0 h0 r hr (hp 0) z acc o ho
  pOut1 1 h0 r hr (hp 1) z acc o ho
  pOut1 2 h0 r hr (hp 2) z acc o ho
  pOut1 3 h0 r hr (hp 3) z acc o ho
  pZero acc

/-- The last block of a tile added. -/
def pDrain (r : ℕ) (hr : r + 256 ≤ 2048) (v : Memref sig .tc .vmem S1x2048x512 .bf16)
    (a : Memref sig .tc .vmem S8x256x256 .bf16) (acc : Memref sig .tc .vmem S8x256x128 .f32) : Pg F PUnit := do
  pAcc 0 r hr v a acc
  pAcc 1 r hr v a acc
  pAcc 2 r hr v a acc
  pAcc 3 r hr v a acc
  pAcc 4 r hr v a acc
  pAcc 5 r hr v a acc
  pAcc 6 r hr v a acc
  pAcc 7 r hr v a acc

/-- The first tile's one head, after its logits. -/
def pHead0 (h : Fin 8) (cq : IVec S128x128 1) (w : FVec F S256x256 .bf16) (z : Memref sig .tc .vmem S8x256x256 .f32)
    (a : Memref sig .tc .vmem S8x256x256 .bf16) (ha : a.IsWhole) (carry : Memref sig .tc .vmem S8x256x128 .f32) : Pg F PUnit := do
  let r ← pSuffixM h cq w z
  pWeightsM h cq r z a ha carry

/-- The first tile: its queries, its logits, its weights, and the sums set to zero. -/
def pFirst (h0 : IVec S1x128 1) (cq : IVec S128x128 1) (w : FVec F S256x256 .bf16)
    (q k : Memref sig .tc .vmem S1x2048x512 .bf16) (qm : Memref sig .tc .vmem S8x256x128 .bf16) (hqm : qm.IsWhole)
    (acc carry : Memref sig .tc .vmem S8x256x128 .f32) (z : Memref sig .tc .vmem S8x256x256 .f32)
    (a : Memref sig .tc .vmem S8x256x256 .bf16) (ha : a.IsWhole) : Pg F PUnit := do
  pSplit h0 0 (by decide) q qm hqm
  pLogits 0 0 (by decide) k qm z
  pLogits 1 0 (by decide) k qm z
  pLogits 2 0 (by decide) k qm z
  pLogits 3 0 (by decide) k qm z
  pLogits 4 0 (by decide) k qm z
  pLogits 5 0 (by decide) k qm z
  pLogits 6 0 (by decide) k qm z
  pLogits 7 0 (by decide) k qm z
  pHead0 0 cq w z a ha carry
  pHead0 1 cq w z a ha carry
  pHead0 2 cq w z a ha carry
  pHead0 3 cq w z a ha carry
  pHead0 4 cq w z a ha carry
  pHead0 5 cq w z a ha carry
  pHead0 6 cq w z a ha carry
  pHead0 7 cq w z a ha carry
  pZero acc

end Cert.Proof.KI
end
-- ==== Proof.KI.Sem.lean ====
/-
  What the kernel's programs do to the buffers they run on: the buffers' contents as a record, and the
  statement that a program takes one record to another and returns a value.
-/
module

public import proofs.«01_k».proof.Proof.KI.Prog
public import proofs.«01_k».proof.Proof.Gen.KernelIdeal
public import Idealize.ShloMosaic.Lib.Pipeline.Sound

@[expose] public section

set_option maxRecDepth 16384

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ### Slots -/

/-- The slots of a buffer of eight, told apart. -/
def eS : S8x256x128.Idx ≃ Fin 8 × S1x256x128.Idx where
  toFun i := (i 0, fun | 0 => (0 : Fin 1) | 1 => i 1 | 2 => i 2)
  invFun x := (rS x.1).emb x.2
  left_inv i := by
    funext a; apply Fin.ext; fin_cases a <;> simp [Rect.emb_apply]
  right_inv x := by
    obtain ⟨h, j⟩ := x
    refine Prod.ext (Fin.ext ?_) (funext fun a => Fin.ext ?_)
    · have : (j 0).val = 0 := by have := (j 0).isLt; simpa [Shape.size] using this
      simp [Rect.emb_apply, this]
    · have : (j 0).val = 0 := by have := (j 0).isLt; simpa [Shape.size] using this
      fin_cases a <;> simp [Rect.emb_apply, this]

def eW : S8x256x256.Idx ≃ Fin 8 × S1x256x256.Idx where
  toFun i := (i 0, fun | 0 => (0 : Fin 1) | 1 => i 1 | 2 => i 2)
  invFun x := (rW x.1).emb x.2
  left_inv i := by
    funext a; apply Fin.ext; fin_cases a <;> simp [Rect.emb_apply]
  right_inv x := by
    obtain ⟨h, j⟩ := x
    refine Prod.ext (Fin.ext ?_) (funext fun a => Fin.ext ?_)
    · have : (j 0).val = 0 := by have := (j 0).isLt; simpa [Shape.size] using this
      simp [Rect.emb_apply, this]
    · have : (j 0).val = 0 := by have := (j 0).isLt; simpa [Shape.size] using this
      fin_cases a <;> simp [Rect.emb_apply, this]

/-- A buffer's contents from its slots'. -/
def stk {A : Type} {s t : Shape} (e : s.Idx ≃ Fin 8 × t.Idx) (X : Fin 8 → t.Idx → A) : s.Idx → A :=
  fun i => X (e i).1 (e i).2
/-- Its slots' from a buffer's contents. -/
def unstk {A : Type} {s t : Shape} (e : s.Idx ≃ Fin 8 × t.Idx) (Y : s.Idx → A) : Fin 8 → t.Idx → A :=
  fun h j => Y (e.symm (h, j))
theorem stk_unstk {A : Type} {s t : Shape} (e : s.Idx ≃ Fin 8 × t.Idx) (Y : s.Idx → A) : stk e (unstk e Y) = Y := by
  funext i; simp [stk, unstk]
theorem stk_symm {A : Type} {s t : Shape} (e : s.Idx ≃ Fin 8 × t.Idx) (X : Fin 8 → t.Idx → A) (h : Fin 8) (j : t.Idx) :
    stk e X (e.symm (h, j)) = X h j := by simp [stk]

/-- Contents with a rectangle's replaced. -/
def wr {A : Type} {s : Shape} (r : Rect s) (X : s.Idx → A) (w : r.shape.Idx → A) : s.Idx → A :=
  fun i => by classical exact if h : ∃ x, r.emb x = i then w h.choose else X i
theorem wr_emb {A : Type} {s : Shape} (r : Rect s) (X : s.Idx → A) (w : r.shape.Idx → A) (x : r.shape.Idx) :
    wr r X w (r.emb x) = w x := by
  have h : ∃ y, r.emb y = r.emb x := ⟨x, rfl⟩
  simp only [wr, dif_pos h]; congr 1; exact r.emb.injective h.choose_spec
theorem wr_not {A : Type} {s : Shape} (r : Rect s) (X : s.Idx → A) (w : r.shape.Idx → A) {i : s.Idx} (h : ¬ ∃ x, r.emb x = i) :
    wr r X w i = X i := by simp only [wr, dif_neg h]

/-- A store into a part of a slot. -/
theorem stk_wr {A : Type} {s t : Shape} (e : s.Idx ≃ Fin 8 × t.Idx) (X : Fin 8 → t.Idx → A) (h : Fin 8)
    (r : Rect s) (r' : Rect t) (φ : r.shape = r'.shape) (w : r.shape.Idx → A) (w' : r'.shape.Idx → A)
    (hw : ∀ x x', e.symm (h, r'.emb x') = r.emb x → w x = w' x')
    (h1 : ∀ x, ∃ x', e.symm (h, r'.emb x') = r.emb x) (h2 : ∀ x', ∃ x, e.symm (h, r'.emb x') = r.emb x) :
    wr r (stk e X) w = stk e (Function.update X h (wr r' (X h) w')) := by
  funext i
  obtain ⟨⟨h', j⟩, rfl⟩ := e.symm.surjective i
  rw [stk_symm]
  by_cases hi : ∃ x, r.emb x = e.symm (h', j)
  · obtain ⟨x, hx⟩ := hi
    obtain ⟨x', hx'⟩ := h1 x
    have := e.symm.injective (hx'.trans hx)
    obtain ⟨rfl, rfl⟩ := Prod.mk.inj this
    rw [← hx, wr_emb, Function.update_self, wr_emb]; exact hw _ _ hx'
  · rw [wr_not _ _ _ hi, stk_symm]
    by_cases hh : h' = h
    · subst hh
      rw [Function.update_self, wr_not]
      rintro ⟨x', rfl⟩
      obtain ⟨x, hx⟩ := h2 x'
      exact hi ⟨x, hx.symm⟩
    · rw [Function.update_of_ne hh]

/-! ### The buffers and their contents -/

/-- The kernel's buffers: its operands, its result and its scratch. -/
structure Bufs where
  q : Memref sig .tc .vmem S1x2048x512 .bf16
  k : Memref sig .tc .vmem S1x2048x512 .bf16
  v : Memref sig .tc .vmem S1x2048x512 .bf16
  z : Memref sig .tc .vmem S1x2048x512 .f32
  w : Memref sig .tc .vmem S256x256 .bf16
  o : Memref sig .tc .vmem S1x2048x512 .bf16
  qm : Memref sig .tc .vmem S8x256x128 .bf16
  acc : Memref sig .tc .vmem S8x256x128 .f32
  carry : Memref sig .tc .vmem S8x256x128 .f32
  lg : Bool → Memref sig .tc .vmem S8x256x256 .f32
  wt : Bool → Memref sig .tc .vmem S8x256x256 .bf16

/-- The operands' contents. -/
structure Ops (F : FTy → Type) where
  q : Vec F S1x2048x512 .bf16
  k : Vec F S1x2048x512 .bf16
  v : Vec F S1x2048x512 .bf16
  z : Vec F S1x2048x512 .f32
  w : Vec F S256x256 .bf16

/-- One head's slots. -/
structure Hd (F : FTy → Type) where
  qm : Vec F S1x256x128 .bf16
  acc : Vec F S1x256x128 .f32
  carry : Vec F S1x256x128 .f32
  lg : Bool → Vec F S1x256x256 .f32
  wt : Bool → Vec F S1x256x256 .bf16

/-- What the buffers the kernel writes hold. -/
structure Sta (F : FTy → Type) where
  hd : Fin 8 → Hd F
  o : Vec F S1x2048x512 .bf16

abbrev UR (nD : Nat) (τ : Topo) : Type := URounds (GSem nD τ sig) Unit

local notation "𝕄" => MT nD τ sig Unit (Elt F) ℕ (UR nD τ) ℕ

/-- The buffers at their contents. -/
def held (c : Dev nD) (M : Bufs) (I : Ops F) (s : Sta F) : sProp 𝕄 :=
  iprop(owns (c : Thread nD τ) M.q fullShare I.q ∗ owns (c : Thread nD τ) M.k fullShare I.k ∗ owns (c : Thread nD τ) M.v fullShare I.v
    ∗ owns (c : Thread nD τ) M.z fullShare I.z ∗ owns (c : Thread nD τ) M.w fullShare I.w ∗ owns (c : Thread nD τ) M.o fullShare s.o
    ∗ owns (c : Thread nD τ) M.qm fullShare (stk eS fun h => (s.hd h).qm) ∗ owns (c : Thread nD τ) M.acc fullShare (stk eS fun h => (s.hd h).acc)
    ∗ owns (c : Thread nD τ) M.carry fullShare (stk eS fun h => (s.hd h).carry)
    ∗ owns (c : Thread nD τ) (M.lg false) fullShare (stk eW fun h => (s.hd h).lg false) ∗ owns (c : Thread nD τ) (M.lg true) fullShare (stk eW fun h => (s.hd h).lg true)
    ∗ owns (c : Thread nD τ) (M.wt false) fullShare (stk eW fun h => (s.hd h).wt false) ∗ owns (c : Thread nD τ) (M.wt true) fullShare (stk eW fun h => (s.hd h).wt true))

abbrev 𝒱₀ : Variants := Variants.nat

/-- Program `p` takes contents `s` to `s'` and returns `x`, its calls answered below `b`. -/
def Runs (c : Dev nD) (M : Bufs) (I : Ops F) (b : ℕ) {α : Type} (p : Pg F α) (s : Sta F) (x : α) (s' : Sta F) : Prop :=
  ∀ (bd : Option ℕ) (Γ : PendingWaitsCtx sig Unit) (Q : α → sProp 𝕄), (∀ u ∈ bd, b ≤ u) →
    iprop(held c M I s ∗ (held c M I s' -∗ Q x)) ⊢ wp frame (wpE' (defs₀ (F := F)) 𝒱₀ (c : Thread nD τ) bd Γ) Set.univ p Q

section
variable {c : Dev nD} {M : Bufs} {I : Ops F} {b : ℕ}

theorem Runs.mono {b' : ℕ} (hb : b ≤ b') {α : Type} {p : Pg F α} {s : Sta F} {x : α} {s' : Sta F} (h : Runs c M I b p s x s') :
    Runs c M I b' p s x s' := fun bd Γ Q hu => h bd Γ Q fun u hm => hb.trans (hu u hm)

theorem Runs.pure {α : Type} (x : α) (s : Sta F) : Runs c M I b (Pure.pure x : Pg F α) s x s := by
  intro bd Γ Q _
  rw [Prog.pure_eq_ret, wp_ret]
  iintro ⟨H, HQ⟩; imodintro; iapply HQ; iexact H

theorem Runs.bind {α β : Type} {p : Pg F α} {f : α → Pg F β} {s : Sta F} {x : α} {s' : Sta F} {y : β} {s'' : Sta F}
    (h1 : Runs c M I b p s x s') (h2 : Runs c M I b (f x) s' y s'') : Runs c M I b (p >>= f) s y s'' := by
  intro bd Γ Q hu
  rw [wp_bind]
  iintro ⟨H, HQ⟩
  iapply (h1 bd Γ _ hu)
  isplitl [H]; · iexact H
  iintro H
  iapply (h2 bd Γ _ hu)
  isplitl [H]; · iexact H
  iexact HQ

theorem Runs.assume {P : Prop} {d : Decidable P} (h : P) (s : Sta F) :
    Runs c M I b (Prog.lift (TpuEff.assume P d) : Pg F (PLift P)) s ⟨h⟩ s := by
  intro bd Γ Q _
  iintro ⟨H, HQ⟩
  iapply (wp_assume 𝒱₀ (c : Thread nD τ) bd Set.univ h)
  rw [wp_ret]; imodintro; iapply HQ; iexact H

/-- A buffer among those held: taken out at its contents, put back at the contents after. -/
def Foc (c : Dev nD) (M : Bufs) (I : Ops F) {S : Shape} {e : EltTy} (m : Memref sig .tc .vmem S e) (s : Sta F) (X : Vec F S e) (s' : Sta F) (X' : Vec F S e) : Prop :=
  (held c M I s : sProp 𝕄) ⊢ iprop(owns (c : Thread nD τ) m fullShare X ∗ (owns (c : Thread nD τ) m fullShare X' -∗ held c M I s'))

theorem Runs.load {S : Shape} {e : EltTy} {m : Memref sig .tc .vmem S e} {s : Sta F} {X : Vec F S e} (hf : Foc c M I m s X s X)
    (r : Rect S) (hl : m.view.LoadsAt r.toLoadRect) :
    Runs c M I b (Prog.lift (.load m r.toLoadRect hl) : Pg F (Vec F r.shape e)) s (fun j => X (r.emb j)) s := by
  intro bd Γ Q _
  iintro ⟨H, HQ⟩
  unfold Foc at hf
  ihave H := hf $$ H
  unfold owns
  icases H with ⟨⟨%f, %hX, H⟩, Hb⟩
  iapply (wp_load_rect 𝒱₀ (c : Thread nD τ) bd Set.univ (m := m) (r := r) (m.view.set_slice_subset r)) $$ H
  iintro H
  rw [wp_ret]; imodintro
  have hv : (m.access r).read (Elt F) f = (fun j => X (r.emb j)) := by subst hX; rfl
  rw [hv]
  iapply HQ
  iapply Hb
  iexists f; isplitr; · ipureintro; exact hX
  iexact H

theorem read_wr {S : Shape} {e : EltTy} (m : Memref sig .tc .vmem S e) (r : Rect S) (f : m.view.ty.Contents (Elt F)) (w : Vec F r.shape e) :
    m.view.read (Elt F) ((m.access r).write (Elt F) f w Finset.univ) = wr r (m.view.read (Elt F) f) w := by
  funext i
  by_cases hi : ∃ x, r.emb x = i
  · obtain ⟨x, rfl⟩ := hi
    rw [wr_emb]; exact View.read_slice_write_emb r f w (Finset.mem_univ x)
  · rw [wr_not _ _ _ hi]
    refine View.read_slice_write_of_not_mem r f w _ fun h => hi ?_
    obtain ⟨x, -, hx⟩ := Finset.mem_map.mp h
    exact ⟨x, hx⟩

theorem Runs.store {S : Shape} {e : EltTy} {m : Memref sig .tc .vmem S e} {s s' : Sta F} {X : Vec F S e} {r : Rect S} {w : Vec F r.shape e}
    (hf : Foc c M I m s X s' (wr r X w)) {hx : (m.access r).Stores Finset.univ} {hm : (Finset.univ : Finset r.shape.Idx) = Finset.univ ∨ ∀ a, r.stride a = 1} :
    Runs c M I b (Prog.lift (.store m r w Finset.univ hx hm) : Pg F PUnit) s ⟨⟩ s' := by
  intro bd Γ Q _
  iintro ⟨H, HQ⟩
  unfold Foc at hf
  ihave H := hf $$ H
  unfold owns
  icases H with ⟨⟨%f, %hX, H⟩, Hb⟩
  iapply (wp_store 𝒱₀ (c : Thread nD τ) bd Set.univ (m := m) (r := r) (Mk := Finset.univ) (m.view.set_slice_subset r)) $$ H
  iintro H
  rw [wp_ret]; imodintro
  iapply HQ
  iapply Hb
  iexists _; isplitr
  swap; · iexact H
  ipureintro
  rw [read_wr, hX]

end

end Cert.Proof.KI
end
-- ==== Proof.KI.Prim.lean ====
/-
  Loads and stores of the kernel's buffers, one buffer and slot at a time.
-/
module

public import proofs.«01_k».proof.Proof.KI.Sem

@[expose] public section

set_option maxRecDepth 16384

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- Head `h`'s slots replaced. -/
def Sta.up (s : Sta F) (h : Fin 8) (x : Hd F) : Sta F := { s with hd := Function.update s.hd h x }

section
variable (s : Sta F) (h : Fin 8) (x : Hd F)
@[simp] theorem up_o : (s.up h x).o = s.o := rfl
@[simp] theorem up_self : (s.up h x).hd h = x := Function.update_self ..
theorem up_ne {h' : Fin 8} (hh : h' ≠ h) : (s.up h x).hd h' = s.hd h' := Function.update_of_ne hh ..
@[simp] theorem up_up (y : Hd F) : (s.up h x).up h y = s.up h y := by simp [Sta.up]
theorem up_fun {A : Type} (g : Hd F → A) : (fun h' => g ((s.up h x).hd h')) = Function.update (fun h' => g (s.hd h')) h (g x) := by
  funext h'
  by_cases hh : h' = h
  · subst hh; rw [up_self, Function.update_self]
  · rw [up_ne _ _ _ hh, Function.update_of_ne hh]
theorem up_qm : (fun h' => ((s.up h x).hd h').qm) = Function.update (fun h' => (s.hd h').qm) h x.qm := up_fun s h x (·.qm)
theorem up_acc : (fun h' => ((s.up h x).hd h').acc) = Function.update (fun h' => (s.hd h').acc) h x.acc := up_fun s h x (·.acc)
theorem up_carry : (fun h' => ((s.up h x).hd h').carry) = Function.update (fun h' => (s.hd h').carry) h x.carry := up_fun s h x (·.carry)
theorem up_lg (b : Bool) : (fun h' => ((s.up h x).hd h').lg b) = Function.update (fun h' => (s.hd h').lg b) h (x.lg b) := up_fun s h x (·.lg b)
theorem up_wt (b : Bool) : (fun h' => ((s.up h x).hd h').wt b) = Function.update (fun h' => (s.hd h').wt b) h (x.wt b) := up_fun s h x (·.wt b)
end

/-! ### Taking a buffer out -/

section
variable {c : Dev nD} {M : Bufs} {I : Ops F} {b : ℕ}

theorem foc_q (s : Sta F) : Foc c M I M.q s I.q s I.q := by
  unfold Foc held
  iintro ⟨H0, H1, H2, H3, H4, H5, H6, H7, H8, H9, H10, H11, H12⟩
  isplitl [H0]; · iexact H0
  iintro H0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_k (s : Sta F) : Foc c M I M.k s I.k s I.k := by
  unfold Foc held
  iintro ⟨H0, H1, H2, H3, H4, H5, H6, H7, H8, H9, H10, H11, H12⟩
  isplitl [H1]; · iexact H1
  iintro H1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_v (s : Sta F) : Foc c M I M.v s I.v s I.v := by
  unfold Foc held
  iintro ⟨H0, H1, H2, H3, H4, H5, H6, H7, H8, H9, H10, H11, H12⟩
  isplitl [H2]; · iexact H2
  iintro H2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_z (s : Sta F) : Foc c M I M.z s I.z s I.z := by
  unfold Foc held
  iintro ⟨H0, H1, H2, H3, H4, H5, H6, H7, H8, H9, H10, H11, H12⟩
  isplitl [H3]; · iexact H3
  iintro H3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_w (s : Sta F) : Foc c M I M.w s I.w s I.w := by
  unfold Foc held
  iintro ⟨H0, H1, H2, H3, H4, H5, H6, H7, H8, H9, H10, H11, H12⟩
  isplitl [H4]; · iexact H4
  iintro H4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_o (s : Sta F) (X : Vec F S1x2048x512 .bf16) : Foc c M I M.o s s.o { s with o := X } X := by
  unfold Foc held
  iintro ⟨H0, H1, H2, H3, H4, H5, H6, H7, H8, H9, H10, H11, H12⟩
  isplitl [H5]; · iexact H5
  iintro H5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_qm (s : Sta F) (h : Fin 8) (X : Vec F S1x256x128 .bf16) : Foc c M I M.qm s (stk eS fun h => (s.hd h).qm) (s.up h { s.hd h with qm := X }) (stk eS (Function.update (fun h => (s.hd h).qm) h X)) := by
  unfold Foc held
  simp only [up_qm, up_acc, up_carry, up_lg, up_wt, up_o, Function.update_eq_self]
  iintro ⟨H0, H1, H2, H3, H4, H5, H6, H7, H8, H9, H10, H11, H12⟩
  isplitl [H6]; · iexact H6
  iintro H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_qm' (s : Sta F) : Foc c M I M.qm s (stk eS fun h => (s.hd h).qm) s (stk eS fun h => (s.hd h).qm) := by
  unfold Foc held
  iintro ⟨H0, H1, H2, H3, H4, H5, H6, H7, H8, H9, H10, H11, H12⟩
  isplitl [H6]; · iexact H6
  iintro H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_acc (s : Sta F) (h : Fin 8) (X : Vec F S1x256x128 .f32) : Foc c M I M.acc s (stk eS fun h => (s.hd h).acc) (s.up h { s.hd h with acc := X }) (stk eS (Function.update (fun h => (s.hd h).acc) h X)) := by
  unfold Foc held
  simp only [up_qm, up_acc, up_carry, up_lg, up_wt, up_o, Function.update_eq_self]
  iintro ⟨H0, H1, H2, H3, H4, H5, H6, H7, H8, H9, H10, H11, H12⟩
  isplitl [H7]; · iexact H7
  iintro H7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_acc' (s : Sta F) : Foc c M I M.acc s (stk eS fun h => (s.hd h).acc) s (stk eS fun h => (s.hd h).acc) := by
  unfold Foc held
  iintro ⟨H0, H1, H2, H3, H4, H5, H6, H7, H8, H9, H10, H11, H12⟩
  isplitl [H7]; · iexact H7
  iintro H7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_carry (s : Sta F) (h : Fin 8) (X : Vec F S1x256x128 .f32) : Foc c M I M.carry s (stk eS fun h => (s.hd h).carry) (s.up h { s.hd h with carry := X }) (stk eS (Function.update (fun h => (s.hd h).carry) h X)) := by
  unfold Foc held
  simp only [up_qm, up_acc, up_carry, up_lg, up_wt, up_o, Function.update_eq_self]
  iintro ⟨H0, H1, H2, H3, H4, H5, H6, H7, H8, H9, H10, H11, H12⟩
  isplitl [H8]; · iexact H8
  iintro H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_carry' (s : Sta F) : Foc c M I M.carry s (stk eS fun h => (s.hd h).carry) s (stk eS fun h => (s.hd h).carry) := by
  unfold Foc held
  iintro ⟨H0, H1, H2, H3, H4, H5, H6, H7, H8, H9, H10, H11, H12⟩
  isplitl [H8]; · iexact H8
  iintro H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem foc_lg (s : Sta F) (d : Bool) (h : Fin 8) (X : Vec F S1x256x256 .f32) : Foc c M I (M.lg d) s (stk eW fun h => (s.hd h).lg d) (s.up h { s.hd h with lg := Function.update (s.hd h).lg d X }) (stk eW (Function.update (fun h => (s.hd h).lg d) h X)) := by
  unfold Foc held
  cases d
  · simp only [up_qm, up_acc, up_carry, up_lg, up_wt, up_o, Function.update_eq_self, Function.update_self, ne_eq, Bool.false_eq_true, Bool.true_eq_false, not_false_eq_true, Function.update_of_ne, reduceCtorEq]
    iintro ⟨H0, H1, H2, H3, H4, H5, H6, H7, H8, H9, H10, H11, H12⟩
    isplitl [H9]; · iexact H9
    iintro H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · simp only [up_qm, up_acc, up_carry, up_lg, up_wt, up_o, Function.update_eq_self, Function.update_self, ne_eq, Bool.false_eq_true, Bool.true_eq_false, not_false_eq_true, Function.update_of_ne, reduceCtorEq]
    iintro ⟨H0, H1, H2, H3, H4, H5, H6, H7, H8, H9, H10, H11, H12⟩
    isplitl [H10]; · iexact H10
    iintro H10
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem foc_lg' (s : Sta F) (d : Bool) : Foc c M I (M.lg d) s (stk eW fun h => (s.hd h).lg d) s (stk eW fun h => (s.hd h).lg d) := by
  unfold Foc held
  cases d
  · iintro ⟨H0, H1, H2, H3, H4, H5, H6, H7, H8, H9, H10, H11, H12⟩
    isplitl [H9]; · iexact H9
    iintro H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨H0, H1, H2, H3, H4, H5, H6, H7, H8, H9, H10, H11, H12⟩
    isplitl [H10]; · iexact H10
    iintro H10
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem foc_wt (s : Sta F) (d : Bool) (h : Fin 8) (X : Vec F S1x256x256 .bf16) : Foc c M I (M.wt d) s (stk eW fun h => (s.hd h).wt d) (s.up h { s.hd h with wt := Function.update (s.hd h).wt d X }) (stk eW (Function.update (fun h => (s.hd h).wt d) h X)) := by
  unfold Foc held
  cases d
  · simp only [up_qm, up_acc, up_carry, up_lg, up_wt, up_o, Function.update_eq_self, Function.update_self, ne_eq, Bool.false_eq_true, Bool.true_eq_false, not_false_eq_true, Function.update_of_ne, reduceCtorEq]
    iintro ⟨H0, H1, H2, H3, H4, H5, H6, H7, H8, H9, H10, H11, H12⟩
    isplitl [H11]; · iexact H11
    iintro H11
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · simp only [up_qm, up_acc, up_carry, up_lg, up_wt, up_o, Function.update_eq_self, Function.update_self, ne_eq, Bool.false_eq_true, Bool.true_eq_false, not_false_eq_true, Function.update_of_ne, reduceCtorEq]
    iintro ⟨H0, H1, H2, H3, H4, H5, H6, H7, H8, H9, H10, H11, H12⟩
    isplitl [H12]; · iexact H12
    iintro H12
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem foc_wt' (s : Sta F) (d : Bool) : Foc c M I (M.wt d) s (stk eW fun h => (s.hd h).wt d) s (stk eW fun h => (s.hd h).wt d) := by
  unfold Foc held
  cases d
  · iintro ⟨H0, H1, H2, H3, H4, H5, H6, H7, H8, H9, H10, H11, H12⟩
    isplitl [H11]; · iexact H11
    iintro H11
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨H0, H1, H2, H3, H4, H5, H6, H7, H8, H9, H10, H11, H12⟩
    isplitl [H12]; · iexact H12
    iintro H12
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-! ### Slots' loads and stores -/

theorem wr_slotS {A : Type} (X : Fin 8 → S1x256x128.Idx → A) (h : Fin 8) (w : S1x256x128.Idx → A) :
    wr (rS h) (stk eS X) w = stk eS (Function.update X h w) := by
  funext i
  obtain ⟨⟨h', j⟩, rfl⟩ := eS.symm.surjective i
  rw [stk_symm]
  by_cases hh : h' = h
  · subst hh; rw [Function.update_self]; exact wr_emb (rS h') _ w j
  · rw [Function.update_of_ne hh, wr_not, stk_symm]
    rintro ⟨x, hx⟩
    have hx : eS.symm (h, x) = eS.symm (h', j) := hx
    exact hh (Prod.mk.inj (eS.symm.injective hx)).1.symm

theorem wr_slotW {A : Type} (X : Fin 8 → S1x256x256.Idx → A) (h : Fin 8) (w : S1x256x256.Idx → A) :
    wr (rW h) (stk eW X) w = stk eW (Function.update X h w) := by
  funext i
  obtain ⟨⟨h', j⟩, rfl⟩ := eW.symm.surjective i
  rw [stk_symm]
  by_cases hh : h' = h
  · subst hh; rw [Function.update_self]; exact wr_emb (rW h') _ w j
  · rw [Function.update_of_ne hh, wr_not, stk_symm]
    rintro ⟨x, hx⟩
    have hx : eW.symm (h, x) = eW.symm (h', j) := hx
    exact hh (Prod.mk.inj (eW.symm.injective hx)).1.symm

/-- What a rectangle reads. -/
abbrev rd {A : Type} {S : Shape} (r : Rect S) (X : S.Idx → A) : r.shape.Idx → A := fun j => X (r.emb j)

theorem ld_qm (s : Sta F) (h : Fin 8) (hl : M.qm.view.LoadsAt (rS h).toLoadRect) :
    Runs c M I b (Prog.lift (.load M.qm (rS h).toLoadRect hl) : Pg F (Vec F S1x256x128 .bf16)) s (s.hd h).qm s := by
  have := Runs.load (b := b) (foc_qm' (c := c) (M := M) (I := I) s) (rS h) hl
  rwa [show (fun j => stk eS (fun h => (s.hd h).qm) ((rS h).emb j)) = (s.hd h).qm from funext fun j => stk_symm eS _ h j] at this

theorem st_qm (s : Sta F) (h : Fin 8) (w : Vec F S1x256x128 .bf16) {hx : (M.qm.access (rS h)).Stores Finset.univ}
    {hm : (Finset.univ : Finset (rS h).shape.Idx) = Finset.univ ∨ ∀ a, (rS h).stride a = 1} :
    Runs c M I b (Prog.lift (.store M.qm (rS h) w Finset.univ hx hm) : Pg F PUnit) s ⟨⟩ (s.up h { s.hd h with qm := w }) := by
  have := foc_qm (c := c) (M := M) (I := I) s h w
  rw [← wr_slotS] at this
  exact Runs.store this

theorem ld_acc (s : Sta F) (h : Fin 8) (hl : M.acc.view.LoadsAt (rS h).toLoadRect) :
    Runs c M I b (Prog.lift (.load M.acc (rS h).toLoadRect hl) : Pg F (Vec F S1x256x128 .f32)) s (s.hd h).acc s := by
  have := Runs.load (b := b) (foc_acc' (c := c) (M := M) (I := I) s) (rS h) hl
  rwa [show (fun j => stk eS (fun h => (s.hd h).acc) ((rS h).emb j)) = (s.hd h).acc from funext fun j => stk_symm eS _ h j] at this

theorem st_acc (s : Sta F) (h : Fin 8) (w : Vec F S1x256x128 .f32) {hx : (M.acc.access (rS h)).Stores Finset.univ}
    {hm : (Finset.univ : Finset (rS h).shape.Idx) = Finset.univ ∨ ∀ a, (rS h).stride a = 1} :
    Runs c M I b (Prog.lift (.store M.acc (rS h) w Finset.univ hx hm) : Pg F PUnit) s ⟨⟩ (s.up h { s.hd h with acc := w }) := by
  have := foc_acc (c := c) (M := M) (I := I) s h w
  rw [← wr_slotS] at this
  exact Runs.store this

theorem ld_carry (s : Sta F) (h : Fin 8) (hl : M.carry.view.LoadsAt (rS h).toLoadRect) :
    Runs c M I b (Prog.lift (.load M.carry (rS h).toLoadRect hl) : Pg F (Vec F S1x256x128 .f32)) s (s.hd h).carry s := by
  have := Runs.load (b := b) (foc_carry' (c := c) (M := M) (I := I) s) (rS h) hl
  rwa [show (fun j => stk eS (fun h => (s.hd h).carry) ((rS h).emb j)) = (s.hd h).carry from funext fun j => stk_symm eS _ h j] at this

theorem st_carry (s : Sta F) (h : Fin 8) (w : Vec F S1x256x128 .f32) {hx : (M.carry.access (rS h)).Stores Finset.univ}
    {hm : (Finset.univ : Finset (rS h).shape.Idx) = Finset.univ ∨ ∀ a, (rS h).stride a = 1} :
    Runs c M I b (Prog.lift (.store M.carry (rS h) w Finset.univ hx hm) : Pg F PUnit) s ⟨⟩ (s.up h { s.hd h with carry := w }) := by
  have := foc_carry (c := c) (M := M) (I := I) s h w
  rw [← wr_slotS] at this
  exact Runs.store this

theorem ld_lg (s : Sta F) (d : Bool) (h : Fin 8) (hl : (M.lg d).view.LoadsAt (rW h).toLoadRect) :
    Runs c M I b (Prog.lift (.load (M.lg d) (rW h).toLoadRect hl) : Pg F (Vec F S1x256x256 .f32)) s ((s.hd h).lg d) s := by
  have := Runs.load (b := b) (foc_lg' (c := c) (M := M) (I := I) s d) (rW h) hl
  rwa [show (fun j => stk eW (fun h => (s.hd h).lg d) ((rW h).emb j)) = (s.hd h).lg d from funext fun j => stk_symm eW _ h j] at this

theorem st_lg (s : Sta F) (d : Bool) (h : Fin 8) (w : Vec F S1x256x256 .f32) {hx : ((M.lg d).access (rW h)).Stores Finset.univ}
    {hm : (Finset.univ : Finset (rW h).shape.Idx) = Finset.univ ∨ ∀ a, (rW h).stride a = 1} :
    Runs c M I b (Prog.lift (.store (M.lg d) (rW h) w Finset.univ hx hm) : Pg F PUnit) s ⟨⟩
      (s.up h { s.hd h with lg := Function.update (s.hd h).lg d w }) := by
  have := foc_lg (c := c) (M := M) (I := I) s d h w
  rw [← wr_slotW] at this
  exact Runs.store this

theorem ld_wt (s : Sta F) (d : Bool) (h : Fin 8) (hl : (M.wt d).view.LoadsAt (rW h).toLoadRect) :
    Runs c M I b (Prog.lift (.load (M.wt d) (rW h).toLoadRect hl) : Pg F (Vec F S1x256x256 .bf16)) s ((s.hd h).wt d) s := by
  have := Runs.load (b := b) (foc_wt' (c := c) (M := M) (I := I) s d) (rW h) hl
  rwa [show (fun j => stk eW (fun h => (s.hd h).wt d) ((rW h).emb j)) = (s.hd h).wt d from funext fun j => stk_symm eW _ h j] at this

theorem st_wt (s : Sta F) (d : Bool) (h : Fin 8) (w : Vec F S1x256x256 .bf16) {hx : ((M.wt d).access (rW h)).Stores Finset.univ}
    {hm : (Finset.univ : Finset (rW h).shape.Idx) = Finset.univ ∨ ∀ a, (rW h).stride a = 1} :
    Runs c M I b (Prog.lift (.store (M.wt d) (rW h) w Finset.univ hx hm) : Pg F PUnit) s ⟨⟩
      (s.up h { s.hd h with wt := Function.update (s.hd h).wt d w }) := by
  have := foc_wt (c := c) (M := M) (I := I) s d h w
  rw [← wr_slotW] at this
  exact Runs.store this

theorem ld_q (s : Sta F) (r : Rect S1x2048x512) (hl : M.q.view.LoadsAt r.toLoadRect) :
    Runs c M I b (Prog.lift (.load M.q r.toLoadRect hl) : Pg F (Vec F r.shape .bf16)) s (rd r I.q) s := Runs.load (foc_q s) r hl

theorem ld_k (s : Sta F) (r : Rect S1x2048x512) (hl : M.k.view.LoadsAt r.toLoadRect) :
    Runs c M I b (Prog.lift (.load M.k r.toLoadRect hl) : Pg F (Vec F r.shape .bf16)) s (rd r I.k) s := Runs.load (foc_k s) r hl

theorem ld_v (s : Sta F) (r : Rect S1x2048x512) (hl : M.v.view.LoadsAt r.toLoadRect) :
    Runs c M I b (Prog.lift (.load M.v r.toLoadRect hl) : Pg F (Vec F r.shape .bf16)) s (rd r I.v) s := Runs.load (foc_v s) r hl

theorem ld_z (s : Sta F) (r : Rect S1x2048x512) (hl : M.z.view.LoadsAt r.toLoadRect) :
    Runs c M I b (Prog.lift (.load M.z r.toLoadRect hl) : Pg F (Vec F r.shape .f32)) s (rd r I.z) s := Runs.load (foc_z s) r hl

theorem ld_w (s : Sta F) (r : Rect S256x256) (hl : M.w.view.LoadsAt r.toLoadRect) :
    Runs c M I b (Prog.lift (.load M.w r.toLoadRect hl) : Pg F (Vec F r.shape .bf16)) s (rd r I.w) s := Runs.load (foc_w s) r hl

theorem ld_o (s : Sta F) (r : Rect S1x2048x512) (hl : M.o.view.LoadsAt r.toLoadRect) :
    Runs c M I b (Prog.lift (.load M.o r.toLoadRect hl) : Pg F (Vec F r.shape .bf16)) s (rd r s.o) s := Runs.load (foc_o s s.o) r hl

theorem st_o (s : Sta F) (r : Rect S1x2048x512) (w : Vec F r.shape .bf16) {hx : (M.o.access r).Stores Finset.univ}
    {hm : (Finset.univ : Finset r.shape.Idx) = Finset.univ ∨ ∀ a, r.stride a = 1} :
    Runs c M I b (Prog.lift (.store M.o r w Finset.univ hx hm) : Pg F PUnit) s ⟨⟩ { s with o := wr r s.o w } := Runs.store (foc_o s _)

/-! ### Parts of a slot -/

/-- The quarters and the lower half of a slot. -/
abbrev tTL : Rect S1x256x256 := Rect.unit (s := S1x256x256) ![0, 0, 0] S1x128x128.size (by decide)
abbrev tBL : Rect S1x256x256 := Rect.unit (s := S1x256x256) ![0, 128, 0] S1x128x128.size (by decide)
abbrev tBR : Rect S1x256x256 := Rect.unit (s := S1x256x256) ![0, 128, 128] S1x128x128.size (by decide)
abbrev tB : Rect S1x256x256 := Rect.unit (s := S1x256x256) ![0, 128, 0] S1x128x256.size (by decide)

theorem emb_TL (h : Fin 8) (j : S1x128x128.Idx) : (rTL h).emb j = eW.symm (h, tTL.emb j) := by
  have : (j 0).val = 0 := by have := (j 0).isLt; simpa [Shape.size] using this
  funext a; apply Fin.ext
  show ((rTL h).emb j a : ℕ) = ((rW h).emb (tTL.emb j) a : ℕ)
  fin_cases a <;> simp [Rect.emb_apply, this]

theorem ld_TL (s : Sta F) (d : Bool) (h : Fin 8) (hl : (M.lg d).view.LoadsAt (rTL h).toLoadRect) :
    Runs c M I b (Prog.lift (.load (M.lg d) (rTL h).toLoadRect hl) : Pg F (Vec F S1x128x128 .f32)) s (rd tTL ((s.hd h).lg d)) s := by
  have := Runs.load (b := b) (foc_lg' (c := c) (M := M) (I := I) s d) (rTL h) hl
  rwa [show (fun j => stk eW (fun h => (s.hd h).lg d) ((rTL h).emb j)) = rd tTL ((s.hd h).lg d) from
    funext fun j => by rw [emb_TL, stk_symm]] at this

theorem emb_BL (h : Fin 8) (j : S1x128x128.Idx) : (rBL h).emb j = eW.symm (h, tBL.emb j) := by
  have : (j 0).val = 0 := by have := (j 0).isLt; simpa [Shape.size] using this
  funext a; apply Fin.ext
  show ((rBL h).emb j a : ℕ) = ((rW h).emb (tBL.emb j) a : ℕ)
  fin_cases a <;> simp [Rect.emb_apply, this]

theorem ld_BL (s : Sta F) (d : Bool) (h : Fin 8) (hl : (M.lg d).view.LoadsAt (rBL h).toLoadRect) :
    Runs c M I b (Prog.lift (.load (M.lg d) (rBL h).toLoadRect hl) : Pg F (Vec F S1x128x128 .f32)) s (rd tBL ((s.hd h).lg d)) s := by
  have := Runs.load (b := b) (foc_lg' (c := c) (M := M) (I := I) s d) (rBL h) hl
  rwa [show (fun j => stk eW (fun h => (s.hd h).lg d) ((rBL h).emb j)) = rd tBL ((s.hd h).lg d) from
    funext fun j => by rw [emb_BL, stk_symm]] at this

theorem emb_BR (h : Fin 8) (j : S1x128x128.Idx) : (rBR h).emb j = eW.symm (h, tBR.emb j) := by
  have : (j 0).val = 0 := by have := (j 0).isLt; simpa [Shape.size] using this
  funext a; apply Fin.ext
  show ((rBR h).emb j a : ℕ) = ((rW h).emb (tBR.emb j) a : ℕ)
  fin_cases a <;> simp [Rect.emb_apply, this]

theorem ld_BR (s : Sta F) (d : Bool) (h : Fin 8) (hl : (M.lg d).view.LoadsAt (rBR h).toLoadRect) :
    Runs c M I b (Prog.lift (.load (M.lg d) (rBR h).toLoadRect hl) : Pg F (Vec F S1x128x128 .f32)) s (rd tBR ((s.hd h).lg d)) s := by
  have := Runs.load (b := b) (foc_lg' (c := c) (M := M) (I := I) s d) (rBR h) hl
  rwa [show (fun j => stk eW (fun h => (s.hd h).lg d) ((rBR h).emb j)) = rd tBR ((s.hd h).lg d) from
    funext fun j => by rw [emb_BR, stk_symm]] at this

theorem emb_B (h : Fin 8) (j : S1x128x256.Idx) : (rB h).emb j = eW.symm (h, tB.emb j) := by
  have : (j 0).val = 0 := by have := (j 0).isLt; simpa [Shape.size] using this
  funext a; apply Fin.ext
  show ((rB h).emb j a : ℕ) = ((rW h).emb (tB.emb j) a : ℕ)
  fin_cases a <;> simp [Rect.emb_apply, this]

theorem ld_B (s : Sta F) (d : Bool) (h : Fin 8) (hl : (M.lg d).view.LoadsAt (rB h).toLoadRect) :
    Runs c M I b (Prog.lift (.load (M.lg d) (rB h).toLoadRect hl) : Pg F (Vec F S1x128x256 .f32)) s (rd tB ((s.hd h).lg d)) s := by
  have := Runs.load (b := b) (foc_lg' (c := c) (M := M) (I := I) s d) (rB h) hl
  rwa [show (fun j => stk eW (fun h => (s.hd h).lg d) ((rB h).emb j)) = rd tB ((s.hd h).lg d) from
    funext fun j => by rw [emb_B, stk_symm]] at this

theorem st_TL (s : Sta F) (d : Bool) (h : Fin 8) (w : Vec F S1x128x128 .f32) {hx : ((M.lg d).access (rTL h)).Stores Finset.univ}
    {hm : (Finset.univ : Finset (rTL h).shape.Idx) = Finset.univ ∨ ∀ a, (rTL h).stride a = 1} :
    Runs c M I b (Prog.lift (.store (M.lg d) (rTL h) w Finset.univ hx hm) : Pg F PUnit) s ⟨⟩
      (s.up h { s.hd h with lg := Function.update (s.hd h).lg d (wr tTL ((s.hd h).lg d) w) }) := by
  have := foc_lg (c := c) (M := M) (I := I) s d h (wr tTL ((s.hd h).lg d) w)
  rw [← stk_wr eW (fun h => (s.hd h).lg d) h (rTL h) tTL rfl w w
    (fun x x' hx => by rw [← emb_TL] at hx; rw [(rTL h).emb.injective hx])
    (fun x => ⟨x, (emb_TL h x).symm⟩) (fun x => ⟨x, (emb_TL h x).symm⟩)] at this
  exact Runs.store this

theorem st_B (s : Sta F) (d : Bool) (h : Fin 8) (w : Vec F S1x128x256 .f32) {hx : ((M.lg d).access (rB h)).Stores Finset.univ}
    {hm : (Finset.univ : Finset (rB h).shape.Idx) = Finset.univ ∨ ∀ a, (rB h).stride a = 1} :
    Runs c M I b (Prog.lift (.store (M.lg d) (rB h) w Finset.univ hx hm) : Pg F PUnit) s ⟨⟩
      (s.up h { s.hd h with lg := Function.update (s.hd h).lg d (wr tB ((s.hd h).lg d) w) }) := by
  have := foc_lg (c := c) (M := M) (I := I) s d h (wr tB ((s.hd h).lg d) w)
  rw [← stk_wr eW (fun h => (s.hd h).lg d) h (rB h) tB rfl w w
    (fun x x' hx => by rw [← emb_B] at hx; rw [(rB h).emb.injective hx])
    (fun x => ⟨x, (emb_B h x).symm⟩) (fun x => ⟨x, (emb_B h x).symm⟩)] at this
  exact Runs.store this

end

end Cert.Proof.KI
end
-- ==== Proof.KI.Heads.lean ====
/-
  What the block steps do to the buffers, head by head and over the eight heads.
-/
module

public import proofs.«01_k».proof.Proof.KI.Prim

@[expose] public section

set_option maxRecDepth 16384

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section
variable {c : Dev nD} {M : Bufs} {I : Ops F} {b : ℕ}

/-! ### What the steps do to one head's slots -/

/-- The logits with the keys from row `r`. -/
def logitsH (I : Ops F) (d : Bool) (r : ℕ) (hr : r + 256 ≤ 2048) (h : Fin 8) (x : Hd F) : Hd F :=
  { x with lg := Function.update x.lg d (uW (logitsV x.qm (rd (rK h r hr) I.k))) }
/-- The logits less their softplus. -/
def suffixH (d : Bool) (x : Hd F) : Hd F :=
  { x with lg := Function.update x.lg d (uW (subf (cW (x.lg d)) (spW (cW (x.lg d))))) }
/-- The weighted values from row `r` added. -/
def accH (I : Ops F) (d : Bool) (r : ℕ) (hr : r + 256 ≤ 2048) (h : Fin 8) (x : Hd F) : Hd F :=
  { x with acc := uS (accV x.acc (x.wt d) (rd (rK h r hr) I.v)) }
/-- The weights and the carry. -/
def weightsH (lk : IVec S256x256 1) (d : Bool) (r : FVec F S256x256 .f32) (x : Hd F) : Hd F :=
  { x with carry := uS (addf (cS x.carry) (totV r)), wt := Function.update x.wt d (uWb (wtV lk (x.lg d) r (cS x.carry))) }
/-- A step below the diagonal. -/
def headH (I : Ops F) (lk : IVec S256x256 1) (w : FVec F S256x256 .bf16) (d : Bool) (rn : ℕ) (hn : rn + 256 ≤ 2048) (rv : ℕ) (hv : rv + 256 ≤ 2048)
    (h : Fin 8) (x : Hd F) : Hd F :=
  weightsH lk d (rV w (spW (cW (x.lg d)))) (accH I (!d) rv hv h (logitsH I (!d) rn hn h (suffixH d x)))
/-- The row sums it carries on. -/
def headC (w : FVec F S256x256 .bf16) (d : Bool) (x : Hd F) : FVec F S256x128 .f32 :=
  addf (cS x.carry) (totV (rV w (spW (cW (x.lg d)))))

/-- The diagonal's logits less their softplus. -/
def suffixMH (d : Bool) (x : Hd F) : Hd F :=
  { x with lg := Function.update x.lg d (wr tB (wr tTL (x.lg d) (uTL (subf (cTL (rd tTL (x.lg d))) (spQ (cTL (rd tTL (x.lg d)))))))
      (uBt (subf (cBt (rd tB (x.lg d))) (spH (cBt (rd tB (x.lg d))))))) }
/-- The diagonal's suffix sums. -/
def rM (cq : IVec S128x128 1) (w : FVec F S256x256 .bf16) (z : Vec F S1x256x256 .f32) : FVec F S256x256 .f32 :=
  rV w (spM cq (spQ (cTL (rd tTL z))) (spH (cBt (rd tB z))))
/-- The diagonal's weights and carry. -/
def weightsMH (cq : IVec S128x128 1) (d : Bool) (r : FVec F S256x256 .f32) (x : Hd F) : Hd F :=
  { x with carry := uS (totV r), wt := Function.update x.wt d (uWb (wtM cq r (rd tTL (x.lg d)) (rd tBL (x.lg d)) (rd tBR (x.lg d)))) }
/-- The diagonal's step. -/
def headMH (I : Ops F) (cq : IVec S128x128 1) (w : FVec F S256x256 .bf16) (d : Bool) (rn : ℕ) (hn : rn + 256 ≤ 2048) (rv : ℕ) (hv : rv + 256 ≤ 2048)
    (h : Fin 8) (x : Hd F) : Hd F :=
  weightsMH cq d (rM cq w (x.lg d)) (accH I (!d) rv hv h (logitsH I (!d) rn hn h (suffixMH d x)))
/-- The first tile's step. -/
def head0H (cq : IVec S128x128 1) (w : FVec F S256x256 .bf16) (d : Bool) (h : Fin 8) (x : Hd F) : Hd F :=
  weightsMH cq d (rM cq w (x.lg d)) (suffixMH d x)

/-- The group of a head. -/
abbrev grp (h : Fin 8) : Fin 4 := ⟨h.val / 2, by omega⟩
/-- A head's queries from row `r`. -/
def qmV (I : Ops F) (h0 : IVec S1x128 1) (r : ℕ) (hr : r + 256 ≤ 2048) (h : Fin 8) : Vec F S1x256x128 .bf16 :=
  if h.val % 2 = 0 then uSb (qA h0 (rd (rG (grp h) r hr) I.q)) else uSb (qB h0 (rd (rG (grp h) r hr) I.q))
def splitH (I : Ops F) (h0 : IVec S1x128 1) (r : ℕ) (hr : r + 256 ≤ 2048) (h : Fin 8) (x : Hd F) : Hd F :=
  { x with qm := qmV I h0 r hr h }

/-! ### The programs do so -/

theorem runs_logits (h : Fin 8) (d : Bool) (r : ℕ) (hr : r + 256 ≤ 2048) (s : Sta F) :
    Runs c M I b (pLogits h r hr M.k M.qm (M.lg d)) s ⟨⟩ (s.up h (logitsH I d r hr h (s.hd h))) :=
  (ld_k s _ _).bind <| (ld_qm s h _).bind <| (ld_lg s d h _).bind <| st_lg s d h _

theorem runs_suffix (h : Fin 8) (w : FVec F S256x256 .bf16) (d : Bool) (s : Sta F) :
    Runs c M I b (pSuffix h w (M.lg d)) s (rV w (spW (cW ((s.hd h).lg d)))) (s.up h (suffixH d (s.hd h))) :=
  (ld_lg s d h _).bind <| (ld_lg s d h _).bind <| (st_lg s d h _).bind <| Runs.pure _ _

theorem runs_acc (h : Fin 8) (d : Bool) (r : ℕ) (hr : r + 256 ≤ 2048) (s : Sta F) :
    Runs c M I b (pAcc h r hr M.v (M.wt d) M.acc) s ⟨⟩ (s.up h (accH I d r hr h (s.hd h))) :=
  (ld_v s _ _).bind <| (ld_acc s h _).bind <| (ld_wt s d h _).bind <| (ld_acc s h _).bind <| st_acc s h _

theorem runs_weights (h : Fin 8) (lk : IVec S256x256 1) (r : FVec F S256x256 .f32) (d : Bool) (ha : (M.wt d).IsWhole) (s : Sta F) :
    Runs c M I b (pWeights h lk r (M.lg d) (M.wt d) ha M.carry) s (addf (cS (s.hd h).carry) (totV r)) (s.up h (weightsH lk d r (s.hd h))) := by
  refine (ld_carry s h _).bind <| (ld_carry s h _).bind <| (st_carry s h _).bind <| (ld_lg _ d h _).bind <| (ld_wt _ d h _).bind <| ?_
  have := st_wt (c := c) (M := M) (I := I) (b := b) (s.up h { s.hd h with carry := uS (addf (cS (s.hd h).carry) (totV r)) }) d h
    (uWb (wtV lk ((s.hd h).lg d) r (cS (s.hd h).carry)))
    (hx := View.stores_vmem h_S1x256x256 (ha.storeExact_slice rfl _ (packW h)) (fun _ => rfl)) (hm := .inl rfl)
  rw [up_up, up_self] at this
  rw [up_self]
  exact this.bind (Runs.pure _ _)

theorem runs_suffixM (h : Fin 8) (cq : IVec S128x128 1) (w : FVec F S256x256 .bf16) (d : Bool) (s : Sta F) :
    Runs c M I b (pSuffixM h cq w (M.lg d)) s (rM cq w ((s.hd h).lg d)) (s.up h (suffixMH d (s.hd h))) := by
  have hB : rd tB (wr tTL ((s.hd h).lg d) (uTL (subf (cTL (rd tTL ((s.hd h).lg d))) (spQ (cTL (rd tTL ((s.hd h).lg d))))))) = rd tB ((s.hd h).lg d) := by
    funext j
    refine wr_not _ _ _ ?_
    rintro ⟨x, hx⟩
    have h1 := congrArg (fun i : S1x256x256.Idx => (i 1 : ℕ)) hx
    have h2 : (x 1).val < 128 := (x 1).isLt
    simp [Rect.emb_apply] at h1
    omega
  refine (ld_TL s d h _).bind <| (ld_TL s d h _).bind <| (st_TL s d h _).bind <| (ld_B _ d h _).bind <| (ld_B _ d h _).bind <| ?_
  simp only [up_self, Function.update_self, hB]
  have := st_B (c := c) (M := M) (I := I) (b := b) (s.up h { s.hd h with lg := Function.update (s.hd h).lg d (wr tTL ((s.hd h).lg d)
      (uTL (subf (cTL (rd tTL ((s.hd h).lg d))) (spQ (cTL (rd tTL ((s.hd h).lg d))))))) }) d h (uBt (subf (cBt (rd tB ((s.hd h).lg d))) (spH (cBt (rd tB ((s.hd h).lg d))))))
      (hx := View.stores_vmem_bits_univ h_S1x128x256 rfl) (hm := .inl rfl)
  rw [up_up, up_self] at this
  simp only [Function.update_self, Function.update_idem] at this
  exact this.bind (Runs.pure _ _)

theorem runs_weightsM (h : Fin 8) (cq : IVec S128x128 1) (r : FVec F S256x256 .f32) (d : Bool) (ha : (M.wt d).IsWhole) (s : Sta F) :
    Runs c M I b (pWeightsM h cq r (M.lg d) (M.wt d) ha M.carry) s ⟨⟩ (s.up h (weightsMH cq d r (s.hd h))) := by
  refine (ld_carry s h _).bind <| (st_carry s h _).bind <| (ld_TL _ d h _).bind <| (ld_BL _ d h _).bind <| (ld_BR _ d h _).bind <| (ld_wt _ d h _).bind <| ?_
  have := st_wt (c := c) (M := M) (I := I) (b := b) (s.up h { s.hd h with carry := uS (totV r) }) d h
    (uWb (wtM cq r (rd tTL ((s.hd h).lg d)) (rd tBL ((s.hd h).lg d)) (rd tBR ((s.hd h).lg d))))
    (hx := View.stores_vmem h_S1x256x256 (ha.storeExact_slice rfl _ (packW h)) (fun _ => rfl)) (hm := .inl rfl)
  rw [up_up, up_self] at this
  rw [up_self]
  exact this

theorem runs_head (h : Fin 8) (lk : IVec S256x256 1) (w : FVec F S256x256 .bf16) (d : Bool) (rn : ℕ) (hn : rn + 256 ≤ 2048) (rv : ℕ) (hv : rv + 256 ≤ 2048)
    (ha : (M.wt d).IsWhole) (s : Sta F) :
    Runs c M I b (pHead h lk w rn hn rv hv M.k M.v M.qm M.acc M.carry (M.lg d) (M.lg (!d)) (M.wt d) ha (M.wt (!d))) s
      (headC w d (s.hd h)) (s.up h (headH I lk w d rn hn rv hv h (s.hd h))) := by
  refine (runs_suffix (b := b) (c := c) (M := M) (I := I) h w d s).bind <| (runs_logits h (!d) rn hn _).bind <| (runs_acc h (!d) rv hv _).bind <| ?_
  have := runs_weights (c := c) (M := M) (I := I) (b := b) h lk (rV w (spW (cW ((s.hd h).lg d)))) d ha (s.up h (accH I (!d) rv hv h (logitsH I (!d) rn hn h (suffixH d (s.hd h)))))
  simp only [up_up, up_self] at this ⊢
  exact this

theorem runs_headM (h : Fin 8) (cq : IVec S128x128 1) (w : FVec F S256x256 .bf16) (d : Bool) (rn : ℕ) (hn : rn + 256 ≤ 2048) (rv : ℕ) (hv : rv + 256 ≤ 2048)
    (ha : (M.wt d).IsWhole) (s : Sta F) :
    Runs c M I b (pHeadM h cq w rn hn rv hv M.k M.v M.qm M.acc M.carry (M.lg d) (M.lg (!d)) (M.wt d) ha (M.wt (!d))) s
      ⟨⟩ (s.up h (headMH I cq w d rn hn rv hv h (s.hd h))) := by
  refine (runs_suffixM (b := b) (c := c) (M := M) (I := I) h cq w d s).bind <| (runs_logits h (!d) rn hn _).bind <| (runs_acc h (!d) rv hv _).bind <| ?_
  have := runs_weightsM (c := c) (M := M) (I := I) (b := b) h cq (rM cq w ((s.hd h).lg d)) d ha (s.up h (accH I (!d) rv hv h (logitsH I (!d) rn hn h (suffixMH d (s.hd h)))))
  simp only [up_up, up_self] at this ⊢
  exact this

theorem runs_head0 (h : Fin 8) (cq : IVec S128x128 1) (w : FVec F S256x256 .bf16) (d : Bool) (ha : (M.wt d).IsWhole) (s : Sta F) :
    Runs c M I b (pHead0 h cq w (M.lg d) (M.wt d) ha M.carry) s ⟨⟩ (s.up h (head0H cq w d h (s.hd h))) := by
  refine (runs_suffixM (b := b) (c := c) (M := M) (I := I) h cq w d s).bind ?_
  have := runs_weightsM (c := c) (M := M) (I := I) (b := b) h cq (rM cq w ((s.hd h).lg d)) d ha (s.up h (suffixMH d (s.hd h)))
  simp only [up_up, up_self] at this ⊢
  exact this

/-! ### Over the eight heads -/

/-- The heads below `i` taken through `f` and those below `j` through `g` after. -/
def Sta.pp (s : Sta F) (f g : Fin 8 → Hd F → Hd F) (i j : ℕ) : Sta F :=
  { s with hd := fun h => if h.val < j then g h (f h (s.hd h)) else if h.val < i then f h (s.hd h) else s.hd h }
/-- All heads through `f`. -/
def Sta.all (s : Sta F) (f : Fin 8 → Hd F → Hd F) : Sta F := { s with hd := fun h => f h (s.hd h) }

theorem pp_zero (s : Sta F) (f g : Fin 8 → Hd F → Hd F) : s.pp f g 0 0 = s := by simp [Sta.pp]
theorem pp_all (s : Sta F) (f g : Fin 8 → Hd F → Hd F) : s.pp f g 8 0 = s.all f := by
  simp [Sta.pp, Sta.all]
theorem pp_all2 (s : Sta F) (f g : Fin 8 → Hd F → Hd F) : s.pp f g 8 8 = (s.all f).all g := by
  simp [Sta.pp, Sta.all]
theorem pp_hd1 (s : Sta F) (f g : Fin 8 → Hd F → Hd F) (h : Fin 8) {j : ℕ} (hj : j ≤ h.val) : (s.pp f g h.val j).hd h = s.hd h := by
  simp [Sta.pp, Nat.not_lt.mpr hj]
theorem pp_hd2 (s : Sta F) (f g : Fin 8 → Hd F → Hd F) (h : Fin 8) {i : ℕ} (hi : h.val < i) : (s.pp f g i h.val).hd h = f h (s.hd h) := by
  simp [Sta.pp, hi]
theorem pp_up1 (s : Sta F) (f g : Fin 8 → Hd F → Hd F) (h : Fin 8) {j : ℕ} (hj : j ≤ h.val) :
    (s.pp f g h.val j).up h (f h (s.hd h)) = s.pp f g (h.val + 1) j := by
  simp only [Sta.up, Sta.pp, Sta.mk.injEq, and_true]
  funext h'
  by_cases hh : h' = h
  · subst hh; rw [Function.update_self, if_neg (by omega), if_pos (by omega)]
  · have : h'.val ≠ h.val := fun e => hh (Fin.ext e)
    rw [Function.update_of_ne hh]
    by_cases h1 : h'.val < j
    · rw [if_pos h1, if_pos h1]
    · rw [if_neg h1, if_neg h1]
      by_cases h2 : h'.val < h.val
      · rw [if_pos h2, if_pos (by omega)]
      · rw [if_neg h2, if_neg (by omega)]
theorem pp_up2 (s : Sta F) (f g : Fin 8 → Hd F → Hd F) (h : Fin 8) {i : ℕ} (hi : h.val < i) :
    (s.pp f g i h.val).up h (g h (f h (s.hd h))) = s.pp f g i (h.val + 1) := by
  simp only [Sta.up, Sta.pp, Sta.mk.injEq, and_true]
  funext h'
  by_cases hh : h' = h
  · subst hh; rw [Function.update_self, if_pos (by omega)]
  · have : h'.val ≠ h.val := fun e => hh (Fin.ext e)
    rw [Function.update_of_ne hh]
    by_cases h1 : h'.val < h.val
    · rw [if_pos h1, if_pos (by omega)]
    · rw [if_neg h1, if_neg (by omega : ¬ h'.val < h.val + 1)]

section
variable {f g : Fin 8 → Hd F → Hd F} {p p' : Fin 8 → Pg F PUnit}
theorem runs_pp1 (hp : ∀ h s, Runs c M I b (p h) s ⟨⟩ (s.up h (f h (s.hd h)))) (s : Sta F) (h : Fin 8) {j : ℕ} (hj : j ≤ h.val) :
    Runs c M I b (p h) (s.pp f g h.val j) ⟨⟩ (s.pp f g (h.val + 1) j) := by
  have := hp h (s.pp f g h.val j)
  rwa [pp_hd1 _ _ _ _ hj, pp_up1 _ _ _ _ hj] at this
theorem runs_pp2 (hp : ∀ h s, Runs c M I b (p h) s ⟨⟩ (s.up h (g h (s.hd h)))) (s : Sta F) (h : Fin 8) {i : ℕ} (hi : h.val < i) :
    Runs c M I b (p h) (s.pp f g i h.val) ⟨⟩ (s.pp f g i (h.val + 1)) := by
  have := hp h (s.pp f g i h.val)
  rwa [pp_hd2 _ _ _ _ hi, pp_up2 _ _ _ _ hi] at this
/-- Eight heads' programs one after another. -/
theorem runs_all (hp : ∀ h s, Runs c M I b (p h) s ⟨⟩ (s.up h (f h (s.hd h)))) (s : Sta F) :
    Runs c M I b (do p 0; p 1; p 2; p 3; p 4; p 5; p 6; p 7) s ⟨⟩ (s.all f) := by
  rw [← pp_all s f f]
  nth_rw 1 [← pp_zero s f f]
  exact (runs_pp1 hp s 0 le_rfl).bind <| (runs_pp1 hp s 1 (by decide)).bind <| (runs_pp1 hp s 2 (by decide)).bind <|
    (runs_pp1 hp s 3 (by decide)).bind <| (runs_pp1 hp s 4 (by decide)).bind <| (runs_pp1 hp s 5 (by decide)).bind <|
    (runs_pp1 hp s 6 (by decide)).bind <| runs_pp1 hp s 7 (by decide)
end

/-- The same at the head of a program. -/
theorem runs_all_bind {f : Fin 8 → Hd F → Hd F} {p : Fin 8 → Pg F PUnit} (hp : ∀ h s, Runs c M I b (p h) s ⟨⟩ (s.up h (f h (s.hd h)))) (s : Sta F)
    {α : Type} {k : Pg F α} {y : α} {s' : Sta F} (hk : Runs c M I b k (s.all f) y s') :
    Runs c M I b (do p 0; p 1; p 2; p 3; p 4; p 5; p 6; p 7; k) s y s' := by
  have := (runs_all (c := c) (M := M) (I := I) (b := b) hp s).bind (f := fun _ => k) hk
  simp only [bind_assoc] at this
  exact this

theorem runs_drain (d : Bool) (r : ℕ) (hr : r + 256 ≤ 2048) (s : Sta F) :
    Runs c M I b (pDrain r hr M.v (M.wt d) M.acc) s ⟨⟩ (s.all (accH I d r hr)) :=
  runs_all (fun h s => runs_acc h d r hr s) s

/-- The greatest of the eight heads' row sums. -/
def stepC (w : FVec F S256x256 .bf16) (d : Bool) (s : Sta F) : F .f32 :=
  maxV (maximumf (maximumf (maximumf (maximumf (maximumf (maximumf (maximumf (headC w d (s.hd 0)) (headC w d (s.hd 1))) (headC w d (s.hd 2)))
    (headC w d (s.hd 3))) (headC w d (s.hd 4))) (headC w d (s.hd 5))) (headC w d (s.hd 6))) (headC w d (s.hd 7)))

theorem runs_step (lk : IVec S256x256 1) (w : FVec F S256x256 .bf16) (d : Bool) (rn : ℕ) (hn : rn + 256 ≤ 2048) (rv : ℕ) (hv : rv + 256 ≤ 2048)
    (ha : (M.wt d).IsWhole) (s : Sta F) :
    Runs c M I b (pStep lk w rn hn rv hv M.k M.v M.qm M.acc M.carry (M.lg d) (M.lg (!d)) (M.wt d) ha (M.wt (!d))) s
      (stepC w d s) (s.all (headH I lk w d rn hn rv hv)) := by
  have hp : ∀ h : Fin 8, Runs c M I b (pHead h lk w rn hn rv hv M.k M.v M.qm M.acc M.carry (M.lg d) (M.lg (!d)) (M.wt d) ha (M.wt (!d)))
      (s.pp (headH I lk w d rn hn rv hv) (headH I lk w d rn hn rv hv) h.val 0) (headC w d (s.hd h))
      (s.pp (headH I lk w d rn hn rv hv) (headH I lk w d rn hn rv hv) (h.val + 1) 0) := fun h => by
    have := runs_head (c := c) (M := M) (I := I) (b := b) h lk w d rn hn rv hv ha (s.pp (headH I lk w d rn hn rv hv) (headH I lk w d rn hn rv hv) h.val 0)
    rwa [pp_hd1 _ _ _ _ (Nat.zero_le _), pp_up1 _ _ _ _ (Nat.zero_le _)] at this
  rw [← pp_all s _ (headH I lk w d rn hn rv hv)]
  nth_rw 1 [← pp_zero s (headH I lk w d rn hn rv hv) (headH I lk w d rn hn rv hv)]
  exact (hp 0).bind <| (hp 1).bind <| (hp 2).bind <| (hp 3).bind <| (hp 4).bind <| (hp 5).bind <| (hp 6).bind <| (hp 7).bind <| Runs.pure _ _

theorem runs_diag (cq : IVec S128x128 1) (w : FVec F S256x256 .bf16) (d : Bool) (rq : ℕ) (hq : rq + 256 ≤ 2048) (rn : ℕ) (hn : rn + 256 ≤ 2048) (rv : ℕ) (hv : rv + 256 ≤ 2048)
    (ha : (M.wt d).IsWhole) (s : Sta F) :
    Runs c M I b (pDiag cq w rq hq rn hn rv hv M.k M.v M.qm M.acc M.carry (M.lg d) (M.lg (!d)) (M.wt d) ha (M.wt (!d))) s
      ⟨⟩ ((s.all (logitsH I d rq hq)).all (headMH I cq w d rn hn rv hv)) := by
  have L : ∀ h s, Runs c M I b (pLogits h rq hq M.k M.qm (M.lg d)) s ⟨⟩ (s.up h (logitsH I d rq hq h (s.hd h))) := fun h s => runs_logits h d rq hq s
  have H : ∀ h s, Runs c M I b (pHeadM h cq w rn hn rv hv M.k M.v M.qm M.acc M.carry (M.lg d) (M.lg (!d)) (M.wt d) ha (M.wt (!d))) s ⟨⟩
      (s.up h (headMH I cq w d rn hn rv hv h (s.hd h))) := fun h s => runs_headM h cq w d rn hn rv hv ha s
  rw [← pp_all2 s _ _]
  nth_rw 1 [← pp_zero s (logitsH I d rq hq) (headMH I cq w d rn hn rv hv)]
  exact (runs_pp1 L s 0 (by decide)).bind <| (runs_pp1 L s 1 (by decide)).bind <| (runs_pp1 L s 2 (by decide)).bind <|
    (runs_pp2 H s 0 (by decide)).bind <| (runs_pp1 L s 3 (by decide)).bind <| (runs_pp2 H s 1 (by decide)).bind <|
    (runs_pp1 L s 4 (by decide)).bind <| (runs_pp2 H s 2 (by decide)).bind <| (runs_pp1 L s 5 (by decide)).bind <|
    (runs_pp2 H s 3 (by decide)).bind <| (runs_pp1 L s 6 (by decide)).bind <| (runs_pp2 H s 4 (by decide)).bind <|
    (runs_pp1 L s 7 (by decide)).bind <| (runs_pp2 H s 5 (by decide)).bind <| (runs_pp2 H s 6 (by decide)).bind <| runs_pp2 H s 7 (by decide)

/-! ### The queries, the results, the zeros -/

theorem runs_split1 (g : Fin 4) (h0 : IVec S1x128 1) (r : ℕ) (hr : r + 256 ≤ 2048) (hqm : M.qm.IsWhole) (s : Sta F) :
    Runs c M I b (pSplit1 g h0 r hr M.q M.qm hqm) (s.pp (splitH I h0 r hr) (splitH I h0 r hr) (2 * g.val) 0) ⟨⟩
      (s.pp (splitH I h0 r hr) (splitH I h0 r hr) (2 * g.val + 2) 0) := by
  have e1 := pp_up1 s (splitH I h0 r hr) (splitH I h0 r hr) (hA g) (Nat.zero_le _)
  have e2 := pp_up1 s (splitH I h0 r hr) (splitH I h0 r hr) (hB g) (Nat.zero_le _)
  have d1 := pp_hd1 s (splitH I h0 r hr) (splitH I h0 r hr) (hA g) (Nat.zero_le _)
  have d2 := pp_hd1 s (splitH I h0 r hr) (splitH I h0 r hr) (hB g) (Nat.zero_le _)
  have gA : grp (hA g) = g := Fin.ext (by show 2 * g.val / 2 = g.val; omega)
  have gB : grp (hB g) = g := Fin.ext (by show (2 * g.val + 1) / 2 = g.val; omega)
  have qa : qmV I h0 r hr (hA g) = uSb (qA h0 (rd (rG g r hr) I.q)) := by
    unfold qmV; rw [if_pos (by show 2 * g.val % 2 = 0; omega), gA]
  have qb : qmV I h0 r hr (hB g) = uSb (qB h0 (rd (rG g r hr) I.q)) := by
    unfold qmV; rw [if_neg (by show ¬ (2 * g.val + 1) % 2 = 0; omega), gB]
  refine (ld_q _ _ _).bind <| (ld_qm _ (hA g) _).bind <| Runs.bind (s' := s.pp (splitH I h0 r hr) (splitH I h0 r hr) (2 * g.val + 1) 0) (x := ⟨⟩) ?_ <|
    (ld_qm _ (hB g) _).bind ?_
  · have := st_qm (c := c) (M := M) (I := I) (b := b) (s.pp (splitH I h0 r hr) (splitH I h0 r hr) (2 * g.val) 0) (hA g) (uSb (qA h0 (rd (rG g r hr) I.q)))
      (hx := View.stores_vmem h_S1x256x128 (hqm.storeExact_slice rfl _ (packS (hA g))) (fun _ => rfl)) (hm := .inl rfl)
    rw [d1, ← qa] at this
    rw [← qa]; exact e1 ▸ this
  · have := st_qm (c := c) (M := M) (I := I) (b := b) (s.pp (splitH I h0 r hr) (splitH I h0 r hr) (2 * g.val + 1) 0) (hB g) (uSb (qB h0 (rd (rG g r hr) I.q)))
      (hx := View.stores_vmem h_S1x256x128 (hqm.storeExact_slice rfl _ (packS (hB g))) (fun _ => rfl)) (hm := .inl rfl)
    rw [d2, ← qb] at this
    rw [← qb]; exact e2 ▸ this

theorem runs_split (h0 : IVec S1x128 1) (r : ℕ) (hr : r + 256 ≤ 2048) (hqm : M.qm.IsWhole) (s : Sta F) :
    Runs c M I b (pSplit h0 r hr M.q M.qm hqm) s ⟨⟩ (s.all (splitH I h0 r hr)) := by
  rw [← pp_all s _ (splitH I h0 r hr)]
  nth_rw 1 [← pp_zero s (splitH I h0 r hr) (splitH I h0 r hr)]
  exact (runs_split1 0 h0 r hr hqm s).bind <| (runs_split1 1 h0 r hr hqm s).bind <| (runs_split1 2 h0 r hr hqm s).bind <| runs_split1 3 h0 r hr hqm s

/-- A group's result at the rows from `r`, in the array of results. -/
def outG (I : Ops F) (h0 : IVec S1x128 1) (r : ℕ) (hr : r + 256 ≤ 2048) (hd : Fin 8 → Hd F) (g : Fin 4) (o : Vec F S1x2048x512 .bf16) : Vec F S1x2048x512 .bf16 :=
  wr (rG g r hr) o (uSb (outV h0 (rd (rG g r hr) I.z) (hd (hA g)).acc (hd (hB g)).acc))
/-- The zero sums. -/
def zeroV : Vec F S8x256x128 .f32 := shapeCast S8x256x128 (broadcast S8x256x128 (Scalar.ofBits .f32 0x00000000#32)) shapeCasts_S8x256x128_S8x256x128
def zeroH (h : Fin 8) (x : Hd F) : Hd F := { x with acc := unstk eS zeroV h }
/-- The four groups' results. -/
def outS (I : Ops F) (h0 : IVec S1x128 1) (r : ℕ) (hr : r + 256 ≤ 2048) (s : Sta F) : Sta F :=
  { s with o := outG I h0 r hr s.hd 3 (outG I h0 r hr s.hd 2 (outG I h0 r hr s.hd 1 (outG I h0 r hr s.hd 0 s.o))) }

theorem runs_out1 (g : Fin 4) (h0 : IVec S1x128 1) (r : ℕ) (hr : r + 256 ≤ 2048) (hp : (rG g r hr).PackedRows EltTy.bf16.packing) (ho : M.o.IsWhole) (s : Sta F) :
    Runs c M I b (pOut1 g h0 r hr hp M.z M.acc M.o ho) s ⟨⟩ { s with o := outG I h0 r hr s.hd g s.o } :=
  (ld_z _ _ _).bind <| (ld_acc _ (hA g) _).bind <| (ld_acc _ (hB g) _).bind <| (ld_o _ _ _).bind <| st_o _ _ _

theorem foc_zero (s : Sta F) : Foc c M I M.acc s (stk eS fun h => (s.hd h).acc) (s.all zeroH) (wr rA (stk eS fun h => (s.hd h).acc) (zeroV : Vec F S8x256x128 .f32)) := by
  have e : wr rA (stk eS fun h => (s.hd h).acc) (zeroV : Vec F S8x256x128 .f32) = stk eS (fun h => ((s.all zeroH).hd h).acc) := by
    rw [show (fun h => ((s.all zeroH).hd h).acc) = unstk eS (zeroV : Vec F S8x256x128 .f32) from rfl, stk_unstk]
    funext i
    have hi : rA.emb i = i := by funext a; apply Fin.ext; rw [Rect.emb_apply]; fin_cases a <;> simp
    conv_lhs => rw [← hi]
    exact wr_emb rA _ (zeroV : Vec F S8x256x128 .f32) i
  rw [e]
  unfold Foc held
  iintro ⟨H0, H1, H2, H3, H4, H5, H6, H7, H8, H9, H10, H11, H12⟩
  isplitl [H7]; · iexact H7
  iintro H7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem runs_zero (s : Sta F) : Runs c M I b (pZero M.acc) s ⟨⟩ (s.all zeroH) := by
  unfold pZero
  refine Runs.bind (Runs.load (foc_acc' s) rA _) ?_
  have h := foc_zero (c := c) (M := M) (I := I) s
  unfold zeroV at h
  exact Runs.store h

attribute [local irreducible] Runs outG pOut1 pZero zeroH pSplit pLogits pHead0 splitH logitsH head0H in
theorem runs_out (h0 : IVec S1x128 1) (r : ℕ) (hr : r + 256 ≤ 2048) (hp : ∀ g, (rG g r hr).PackedRows EltTy.bf16.packing) (ho : M.o.IsWhole) (s : Sta F) :
    Runs c M I b (pOut h0 r hr hp M.z M.acc M.o ho) s ⟨⟩ ((outS I h0 r hr s).all zeroH) := by
  unfold pOut
  obtain ⟨hd, o⟩ := s
  refine (runs_out1 0 h0 r hr (hp 0) ho ⟨hd, o⟩).bind ?_
  refine (runs_out1 1 h0 r hr (hp 1) ho ⟨hd, outG I h0 r hr hd 0 o⟩).bind ?_
  refine (runs_out1 2 h0 r hr (hp 2) ho ⟨hd, outG I h0 r hr hd 1 (outG I h0 r hr hd 0 o)⟩).bind ?_
  refine (runs_out1 3 h0 r hr (hp 3) ho ⟨hd, outG I h0 r hr hd 2 (outG I h0 r hr hd 1 (outG I h0 r hr hd 0 o))⟩).bind ?_
  exact runs_zero ⟨hd, outG I h0 r hr hd 3 (outG I h0 r hr hd 2 (outG I h0 r hr hd 1 (outG I h0 r hr hd 0 o)))⟩

/-- What the first tile's beginning leaves. -/
def firstS (I : Ops F) (h0 : IVec S1x128 1) (cq : IVec S128x128 1) (w : FVec F S256x256 .bf16) (d : Bool) (s : Sta F) : Sta F :=
  (((s.all (splitH I h0 0 (by decide))).all (logitsH I d 0 (by decide))).all (head0H cq w d)).all zeroH

attribute [local irreducible] Runs outG pOut1 pZero zeroH pSplit pLogits pHead0 splitH logitsH head0H in
theorem runs_first (h0 : IVec S1x128 1) (cq : IVec S128x128 1) (w : FVec F S256x256 .bf16) (d : Bool) (hqm : M.qm.IsWhole) (ha : (M.wt d).IsWhole) (s : Sta F) :
    Runs c M I b (pFirst h0 cq w M.q M.k M.qm hqm M.acc M.carry (M.lg d) (M.wt d) ha) s ⟨⟩ (firstS I h0 cq w d s) := by
  unfold pFirst firstS
  refine (runs_split h0 0 (by decide) hqm s).bind ?_
  refine runs_all_bind (p := fun h => pLogits h 0 (by decide) M.k M.qm (M.lg d)) (fun h s => runs_logits h d 0 (by decide) s) _ ?_
  exact runs_all_bind (p := fun h => pHead0 h cq w (M.lg d) (M.wt d) ha M.carry) (fun h s => runs_head0 h cq w d ha s) _ (runs_zero _)

end

end Cert.Proof.KI
end
-- ==== Proof.KI.Step.lean ====
/-
  The loop's printed trip is the structured trip.
-/
module

public import proofs.«01_k».proof.Proof.KI.Prog
public import proofs.«01_k».proof.Proof.Gen.KernelIdeal.Skeleton

@[expose] public section

set_option maxRecDepth 65536

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The row of the keys one block further down, -/
abbrev rowN (kb : BitVec 32) : ℕ := rowOf (Scalar.maxsi (Scalar.subi kb 1#32) 0#32)
/-- and of the values one block up. -/
abbrev rowP (kb : BitVec 32) : ℕ := rowOf (Scalar.addi kb 1#32)

/-- The block a trip of the inner loop works at. -/
abbrev kbOf (t : Fin k0_t1_loop.trips) (n : BitVec 32) : BitVec 32 := Scalar.subi (Scalar.subi (Scf.iv 1#32 1#32 t) 1#32) n

theorem inb_of {kb : BitVec 32} (h : ∀ a, (![0, rowOf kb, 0] : Fin 3 → ℕ) a + S1x256x128.size a ≤ S1x2048x512.size a) : Inb kb := by
  have := h 1; simpa [Shape.size] using this

/-- The inner loop: while blocks are left and the greatest carry is above the threshold, one step at the buffers
    of the step's parity. -/
def pWhile (i : grid0.Coords) (t : Fin k0_t1_loop.trips) (a16 a17 : BitVec 32) (h1 : k0_chk1 a16 a17) (z0 : Memref sig .tc .vmem S8x256x256 .f32) (hz0 : z0.IsWhole) (w : FVec F S256x256 .bf16) (k : Memref sig .tc .vmem S1x2048x512 .bf16) (hk : k.IsWhole) (qm : Memref sig .tc .vmem S8x256x128 .bf16) (hqm : qm.IsWhole) (z1 : Memref sig .tc .vmem S8x256x256 .f32) (hz1 : z1.IsWhole) (v : Memref sig .tc .vmem S1x2048x512 .bf16) (hv : v.IsWhole) (acc : Memref sig .tc .vmem S8x256x128 .f32) (hacc : acc.IsWhole) (a1 : Memref sig .tc .vmem S8x256x256 .bf16) (ha1 : a1.IsWhole) (carry : Memref sig .tc .vmem S8x256x128 .f32) (hcarry : carry.IsWhole) (lk : IVec S256x256 1) (a0 : Memref sig .tc .vmem S8x256x256 .bf16) (ha0 : a0.IsWhole) (n : BitVec 32) (m : F .f32) (b : BitVec 32) : Pg F (BitVec 32 × F .f32 × BitVec 32) :=
  if Scalar.andi (Scalar.cmpi .slt n (Scf.iv 1#32 1#32 t)) (Scalar.cmpf .ogt m (cT (F := F))) = 1#1 then do
    have h2 : k0_chk2 t n b := (← Prog.lift (TpuEff.assume (k0_chk2 t n b) (k0_chk2.dec t n b))).down
    let x : F .f32 ← if hc : k0_cond2 b = 1#1 then
        pStep lk w (rowN (kbOf t n)) (inb_of (k0_off41_inb t n b h2 hc)) (rowP (kbOf t n)) (inb_of (k0_off42_inb t n b h2 hc)) k v qm acc carry z0 z1 a0 ha0 a1
      else
        pStep lk w (rowN (kbOf t n)) (inb_of (k0_off49_inb t n b h2 hc)) (rowP (kbOf t n)) (inb_of (k0_off50_inb t n b h2 hc)) k v qm acc carry z1 z0 a1 ha1 a0
    Prog.lift (.call (1 : (Λ₀ F).Label) ⟨i, t, a16, a17, h1, z0, hz0, w, k, hk, qm, hqm, z1, hz1, v, hv, acc, hacc, a1, ha1, carry, hcarry, lk, a0, ha0, Scalar.addi n 1#32, x, Scalar.subi 1#32 b⟩)
  else pure (n, m, b)

set_option maxHeartbeats 4000000 in
/-- The printed inner loop is it. -/
theorem while_eq (i : grid0.Coords) (t : Fin k0_t1_loop.trips) (a16 a17 : BitVec 32) (h1 : k0_chk1 a16 a17) (z0 : Memref sig .tc .vmem S8x256x256 .f32) (hz0 : z0.IsWhole) (w : FVec F S256x256 .bf16) (k : Memref sig .tc .vmem S1x2048x512 .bf16) (hk : k.IsWhole) (qm : Memref sig .tc .vmem S8x256x128 .bf16) (hqm : qm.IsWhole) (z1 : Memref sig .tc .vmem S8x256x256 .f32) (hz1 : z1.IsWhole) (v : Memref sig .tc .vmem S1x2048x512 .bf16) (hv : v.IsWhole) (acc : Memref sig .tc .vmem S8x256x128 .f32) (hacc : acc.IsWhole) (a1 : Memref sig .tc .vmem S8x256x256 .bf16) (ha1 : a1.IsWhole) (carry : Memref sig .tc .vmem S8x256x128 .f32) (hcarry : carry.IsWhole) (lk : IVec S256x256 1) (a0 : Memref sig .tc .vmem S8x256x256 .bf16) (ha0 : a0.IsWhole) (n : BitVec 32) (m : F .f32) (b : BitVec 32) : cc0_while1 i t a16 a17 h1 z0 hz0 w k hk qm hqm z1 hz1 v hv acc hacc a1 ha1 carry hcarry lk a0 ha0 n m b = pWhile i t a16 a17 h1 z0 hz0 w k hk qm hqm z1 hz1 v hv acc hacc a1 ha1 carry hcarry lk a0 ha0 n m b := by
  rw [cc0_while1_eq_skeleton]
  unfold cc0_while1_skel pWhile
  refine if_congr Iff.rfl ?_ rfl
  refine bind_congr fun h2 => ?_
  refine dite_congr rfl (fun hc => ?_) (fun hc => ?_)
  · simp only [k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton,
      k0_part93_skel, k0_part94_skel, k0_part95_skel, k0_part96_skel, k0_part97_skel, k0_part98_skel, k0_part99_skel, k0_part100_skel, k0_part101_skel, k0_part102_skel, k0_part103_skel, k0_part104_skel, k0_part105_skel, k0_part106_skel, k0_part107_skel, k0_part108_skel, pStep, pHead, pSuffix, pLogits, pAcc, pWeights, bind_assoc, pure_bind, Prog.bind_lift]
    rfl
  · simp only [k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton,
      k0_part109_skel, k0_part110_skel, k0_part111_skel, k0_part112_skel, k0_part113_skel, k0_part114_skel, k0_part115_skel, k0_part116_skel, k0_part117_skel, k0_part118_skel, k0_part119_skel, k0_part120_skel, k0_part121_skel, k0_part122_skel, k0_part123_skel, k0_part124_skel, pStep, pHead, pSuffix, pLogits, pAcc, pWeights, bind_assoc, pure_bind, Prog.bind_lift]
    rfl

end Cert.Proof.KI
end
-- ==== Proof.KI.Main.lean ====
/-
  The kernel's printed body is the structured one.
-/
module

public import proofs.«01_k».proof.Proof.KI.Step
public import proofs.«01_k».proof.Proof.Gen.KernelIdeal.Skeleton

@[expose] public section

set_option maxRecDepth 65536

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The tile a trip of the outer loop works at. -/
abbrev qiOf (t : Fin k0_t1_loop.trips) : BitVec 32 := Scf.iv 1#32 1#32 t

theorem packOut (t : Fin k0_t1_loop.trips) (g : Fin 4) :
    (rG g (rowOf (Scalar.subi (qiOf t) 1#32)) (inb_of (k0_off21_inb t))).PackedRows EltTy.bf16.packing := by
  fin_cases g
  · exact k0_off21_packedbf16 t
  · exact k0_off22_packedbf16 t
  · exact k0_off23_packedbf16 t
  · exact k0_off24_packedbf16 t

theorem packLast (g : Fin 4) : (rG g 1792 (by decide)).PackedRows EltTy.bf16.packing := by
  fin_cases g
  · exact packedbf16_S1x2048x512_S1x256x128_0_1792_0
  · exact packedbf16_S1x2048x512_S1x256x128_0_1792_128
  · exact packedbf16_S1x2048x512_S1x256x128_0_1792_256
  · exact packedbf16_S1x2048x512_S1x256x128_0_1792_384

/-- A trip of the outer loop: the tile's diagonal, the tile before's results, and the inner loop. -/
def pTrip (i : grid0.Coords) (q : Memref sig .tc .vmem S1x2048x512 .bf16) (hq : q.IsWhole) (k : Memref sig .tc .vmem S1x2048x512 .bf16) (hk : k.IsWhole) (v : Memref sig .tc .vmem S1x2048x512 .bf16) (hv : v.IsWhole) (z : Memref sig .tc .vmem S1x2048x512 .f32) (hz : z.IsWhole) (wm : Memref sig .tc .vmem S256x256 .bf16) (hwm : wm.IsWhole) (o : Memref sig .tc .vmem S1x2048x512 .bf16) (ho : o.IsWhole) (qm : Memref sig .tc .vmem S8x256x128 .bf16) (hqm : qm.IsWhole) (acc : Memref sig .tc .vmem S8x256x128 .f32) (hacc : acc.IsWhole) (carry : Memref sig .tc .vmem S8x256x128 .f32) (hcarry : carry.IsWhole) (z0 : Memref sig .tc .vmem S8x256x256 .f32) (hz0 : z0.IsWhole) (z1 : Memref sig .tc .vmem S8x256x256 .f32) (hz1 : z1.IsWhole) (a0 : Memref sig .tc .vmem S8x256x256 .bf16) (ha0 : a0.IsWhole) (a1 : Memref sig .tc .vmem S8x256x256 .bf16) (ha1 : a1.IsWhole) (h0 : IVec S1x128 1) (lk : IVec S256x256 1) (cq : IVec S128x128 1) (w : FVec F S256x256 .bf16) :
    Fin k0_t1_loop.trips → BitVec 32 × BitVec 32 → Pg F (BitVec 32 × BitVec 32) :=
  fun t (b, kp) => do
    have h1 : k0_chk1 b kp := (← Prog.lift (TpuEff.assume (k0_chk1 b kp) (k0_chk1.dec b kp))).down
    if hc : k0_cond1 b = 1#1 then do
      pSplit h0 (rowOf (qiOf t)) (inb_of (k0_off5_inb t)) q qm hqm
      pDiag cq w (rowOf (qiOf t)) (inb_of (k0_off5_inb t)) (rowN (qiOf t)) (inb_of (k0_off9_inb t)) (rowOf kp) (inb_of (k0_off10_inb b kp h1 hc)) k v qm acc carry z0 z1 a0 ha0 a1
      pOut h0 (rowOf (Scalar.subi (qiOf t) 1#32)) (inb_of (k0_off21_inb t)) (packOut t) z acc o ho
    else do
      pSplit h0 (rowOf (qiOf t)) (inb_of (k0_off5_inb t)) q qm hqm
      pDiag cq w (rowOf (qiOf t)) (inb_of (k0_off5_inb t)) (rowN (qiOf t)) (inb_of (k0_off9_inb t)) (rowOf kp) (inb_of (k0_off30_inb b kp h1 hc)) k v qm acc carry z1 z0 a1 ha1 a0
      pOut h0 (rowOf (Scalar.subi (qiOf t) 1#32)) (inb_of (k0_off21_inb t)) (packOut t) z acc o ho
    let (n, _, b') : BitVec 32 × F .f32 × BitVec 32 ← Prog.lift (.call (1 : (Λ₀ F).Label) ⟨i, t, b, kp, h1, z0, hz0, w, k, hk, qm, hqm, z1, hz1, v, hv, acc, hacc, a1, ha1, carry, hcarry, lk, a0, ha0, 0#32, Scalar.ofBits .f32 0x00000000#32, Scalar.subi 1#32 b⟩)
    pure (b', Scalar.subi (qiOf t) n)

/-- The whole of the suffix weights. -/
abbrev rWm : Rect S256x256 := Rect.unit (s := S256x256) ![0, 0] S256x256.size inb_S256x256_S256x256_0_0

/-- The kernel's body. -/
def pMain (i : grid0.Coords) (q : Memref sig .tc .vmem S1x2048x512 .bf16) (hq : q.IsWhole) (k : Memref sig .tc .vmem S1x2048x512 .bf16) (hk : k.IsWhole) (v : Memref sig .tc .vmem S1x2048x512 .bf16) (hv : v.IsWhole) (z : Memref sig .tc .vmem S1x2048x512 .f32) (hz : z.IsWhole) (wm : Memref sig .tc .vmem S256x256 .bf16) (hwm : wm.IsWhole) (o : Memref sig .tc .vmem S1x2048x512 .bf16) (ho : o.IsWhole) (qm : Memref sig .tc .vmem S8x256x128 .bf16) (hqm : qm.IsWhole) (acc : Memref sig .tc .vmem S8x256x128 .f32) (hacc : acc.IsWhole) (carry : Memref sig .tc .vmem S8x256x128 .f32) (hcarry : carry.IsWhole) (z0 : Memref sig .tc .vmem S8x256x256 .f32) (hz0 : z0.IsWhole) (z1 : Memref sig .tc .vmem S8x256x256 .f32) (hz1 : z1.IsWhole) (a0 : Memref sig .tc .vmem S8x256x256 .bf16) (ha0 : a0.IsWhole) (a1 : Memref sig .tc .vmem S8x256x256 .bf16) (ha1 : a1.IsWhole) : Pg F PUnit := do
  let x : Vec F S256x256 .bf16 ← Prog.lift (.load wm rWm.toLoadRect (View.loadsAt_vmem h_S256x256))
  pFirst k0_pay329 k0_pay331 (k0_pay332 x) q k qm hqm acc carry z0 a0 ha0
  let (b, kp) ← Scf.Loop.for k0_t1_loop k0_t1_ok (1#32, 0#32) (pTrip i q hq k hk v hv z hz wm hwm o ho qm hqm acc hacc carry hcarry z0 hz0 z1 hz1 a0 ha0 a1 ha1 k0_pay329 k0_pay330 k0_pay331 (k0_pay332 x))
  have h3 : k0_chk3 b kp := (← Prog.lift (TpuEff.assume (k0_chk3 b kp) (k0_chk3.dec b kp))).down
  if hc : k0_cond3 b = 1#1 then pDrain (rowOf kp) (inb_of (k0_off57_inb b kp h3 hc)) v a1 acc
  else pDrain (rowOf kp) (inb_of (k0_off61_inb b kp h3 hc)) v a0 acc
  pOut k0_pay329 1792 (by decide) packLast z acc o ho

set_option maxHeartbeats 4000000 in
/-- The printed trip is it. -/
theorem trip_eq (i : grid0.Coords) (q : Memref sig .tc .vmem S1x2048x512 .bf16) (hq : q.IsWhole) (k : Memref sig .tc .vmem S1x2048x512 .bf16) (hk : k.IsWhole) (v : Memref sig .tc .vmem S1x2048x512 .bf16) (hv : v.IsWhole) (z : Memref sig .tc .vmem S1x2048x512 .f32) (hz : z.IsWhole) (wm : Memref sig .tc .vmem S256x256 .bf16) (hwm : wm.IsWhole) (o : Memref sig .tc .vmem S1x2048x512 .bf16) (ho : o.IsWhole) (qm : Memref sig .tc .vmem S8x256x128 .bf16) (hqm : qm.IsWhole) (acc : Memref sig .tc .vmem S8x256x128 .f32) (hacc : acc.IsWhole) (carry : Memref sig .tc .vmem S8x256x128 .f32) (hcarry : carry.IsWhole) (z0 : Memref sig .tc .vmem S8x256x256 .f32) (hz0 : z0.IsWhole) (z1 : Memref sig .tc .vmem S8x256x256 .f32) (hz1 : z1.IsWhole) (a0 : Memref sig .tc .vmem S8x256x256 .bf16) (ha0 : a0.IsWhole) (a1 : Memref sig .tc .vmem S8x256x256 .bf16) (ha1 : a1.IsWhole) (h0 : IVec S1x128 1) (lk : IVec S256x256 1) (cq : IVec S128x128 1) (w : FVec F S256x256 .bf16) (v803 : FVec F S256x256 .bf16) :
    k0_t1_body i q hq k hk v hv z hz wm hwm o ho qm hqm acc hacc carry hcarry z0 hz0 z1 hz1 a0 ha0 a1 ha1 h0 lk cq w v803 = pTrip i q hq k hk v hv z hz wm hwm o ho qm hqm acc hacc carry hcarry z0 hz0 z1 hz1 a0 ha0 a1 ha1 h0 lk cq w := by
  funext t ⟨b, kp⟩
  unfold k0_t1_body pTrip
  refine bind_congr fun h1 => ?_
  refine dite_congr rfl (fun hc => ?_) (fun hc => ?_)
  · simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton,
      k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, pSplit, pSplit1, pDiag, pHeadM, pSuffixM, pLogits, pAcc, pWeightsM, pOut, pOut1, pZero, bind_assoc, pure_bind, Prog.bind_lift]
    rfl
  · simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton,
      k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel, k0_part58_skel, k0_part59_skel, k0_part60_skel, k0_part61_skel, k0_part62_skel, pSplit, pSplit1, pDiag, pHeadM, pSuffixM, pLogits, pAcc, pWeightsM, pOut, pOut1, pZero, bind_assoc, pure_bind, Prog.bind_lift]
    rfl

end Cert.Proof.KI
end
-- ==== Proof.KI.Model.lean ====
/-
  The attention's blocks as values: for a head and a tile of queries, the logits, suffix sums, carries, weights and sums
  block by block, and that a step of the kernel takes the buffers holding them from one block to the next.
-/
module

public import proofs.«01_k».proof.Proof.KI.Heads
public import proofs.«01_k».proof.Proof.KI.Main

@[expose] public section

set_option maxRecDepth 16384

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ### The values -/

/-- The first row of block `t`. -/
abbrev ro (t : ℕ) : ℕ := 256 * (t % 8)
theorem ro_le (t : ℕ) : ro t + 256 ≤ 2048 := by unfold ro; omega

/-- The masks the kernel makes of its lanes and rows, and the weights its suffix sums are products with. -/
structure Msk (F : FTy → Type) where
  h0 : IVec S1x128 1
  lk : IVec S256x256 1
  cq : IVec S128x128 1
  w : FVec F S256x256 .bf16

section
variable (I : Ops F) (K : Msk F) (h : Fin 8) (t : ℕ)

/-- The head's block of keys, and of values. -/
def mK (u : ℕ) : Vec F S1x256x128 .bf16 := rd (rK h (ro u) (ro_le u)) I.k
def mV (u : ℕ) : Vec F S1x256x128 .bf16 := rd (rK h (ro u) (ro_le u)) I.v
/-- The head's tile of queries. -/
def mQ : Vec F S1x256x128 .bf16 := qmV I K.h0 (ro t) (ro_le t) h
/-- The logits of tile `t` with block `u`. -/
def mL (u : ℕ) : Vec F S1x256x256 .f32 := uW (logitsV (mQ I K h t) (mK I h u))
/-- The suffix sums of a block below the diagonal, and of the diagonal's. -/
def mR (u : ℕ) : FVec F S256x256 .f32 := rV K.w (spW (cW (mL I K h t u)))
def mR0 : FVec F S256x256 .f32 := rM K.cq K.w (mL I K h t t)
/-- The carry after `n` blocks below the diagonal. -/
def mC : ℕ → FVec F S256x128 .f32
  | 0 => totV (mR0 I K h t)
  | n + 1 => addf (mC n) (totV (mR I K h t (t - (n + 1))))
/-- A masked slot of logits less their softplus. -/
def zM (z : Vec F S1x256x256 .f32) : Vec F S1x256x256 .f32 :=
  wr tB (wr tTL z (uTL (subf (cTL (rd tTL z)) (spQ (cTL (rd tTL z)))))) (uBt (subf (cBt (rd tB z)) (spH (cBt (rd tB z)))))
/-- The weights of the `n`th block from the diagonal down. -/
def mA : ℕ → Vec F S1x256x256 .bf16
  | 0 => uWb (wtM K.cq (mR0 I K h t) (rd tTL (zM (mL I K h t t))) (rd tBL (zM (mL I K h t t))) (rd tBR (zM (mL I K h t t))))
  | n + 1 => uWb (wtV K.lk (uW (subf (cW (mL I K h t (t - (n + 1)))) (spW (cW (mL I K h t (t - (n + 1))))))) (mR I K h t (t - (n + 1))) (mC I K h t n))
/-- The sum of the first `n` blocks' weighted values. -/
def mO : ℕ → Vec F S1x256x128 .f32
  | 0 => unstk eS zeroV h
  | n + 1 => uS (accV (mO n) (mA I K h t n) (mV I h (t - n)))
end

section
variable (I : Ops F) (K : Msk F) (t : ℕ)
/-- The greatest carry after `n` blocks. -/
def mW : ℕ → F .f32
  | 0 => Scalar.ofBits .f32 0x00000000#32
  | n + 1 => maxV (maximumf (maximumf (maximumf (maximumf (maximumf (maximumf (maximumf (mC I K 0 t (n + 1)) (mC I K 1 t (n + 1))) (mC I K 2 t (n + 1)))
    (mC I K 3 t (n + 1))) (mC I K 4 t (n + 1))) (mC I K 5 t (n + 1))) (mC I K 6 t (n + 1))) (mC I K 7 t (n + 1)))
/-- Whether a block is left to take. -/
def Live (n : ℕ) : Prop := n < t ∧ Scalar.cmpf .ogt (mW I K t n) (cT (F := F)) = 1#1
instance (n : ℕ) : Decidable (Live I K t n) := by unfold Live; infer_instance
theorem live_end : ∃ n, ¬ Live I K t n := ⟨t, fun h => absurd h.1 (Nat.lt_irrefl t)⟩
/-- The number of blocks below the diagonal a tile takes. -/
def mN : ℕ := Nat.find (live_end I K t)
theorem mN_le : mN I K t ≤ t := Nat.find_min' _ fun h => absurd h.1 (Nat.lt_irrefl t)
theorem mW_zero : mW I K t 0 = Scalar.ofBits .f32 0x00000000#32 := rfl
theorem mN_spec : ¬ Live I K t (mN I K t) := Nat.find_spec (live_end I K t)
theorem mN_min {n : ℕ} (h : ¬ Live I K t n) : mN I K t ≤ n := Nat.find_min' _ h
theorem Live.cmp {I : Ops F} {K : Msk F} {t n : ℕ} (h : Live I K t n) : Scalar.cmpf .ogt (mW I K t n) (cT (F := F)) = 1#1 := h.2
theorem Live.of {I : Ops F} {K : Msk F} {t n : ℕ} (h : n < t) (h' : Scalar.cmpf .ogt (mW I K t n) (cT (F := F)) = 1#1) : Live I K t n := ⟨h, h'⟩
/-- A tile's results, by groups. -/
def mT (g : Fin 4) : Vec F S1x256x128 .bf16 :=
  uSb (outV K.h0 (rd (rG g (ro t) (ro_le t)) I.z) (mO I K (hA g) t (mN I K t + 1)) (mO I K (hB g) t (mN I K t + 1)))
end

theorem cS_uS (x : FVec F S256x128 .f32) : cS (uS x) = x := by
  funext i; unfold cS uS shapeCast; rw [Shape.reshapeEquiv_reshapeEquiv, Shape.reshapeEquiv_self]
theorem cW_uW (x : FVec F S256x256 .f32) : cW (uW x) = x := by
  funext i; unfold cW uW shapeCast; rw [Shape.reshapeEquiv_reshapeEquiv, Shape.reshapeEquiv_self]

/-! ### What the buffers hold between steps -/

section
variable (I : Ops F) (K : Msk F)

/-- The results of the tiles below `t` are in place. -/
def Done (t : ℕ) (o : Vec F S1x2048x512 .bf16) : Prop := ∀ j < t, ∀ g, rd (rG g (ro j) (ro_le j)) o = mT I K j g

/-- After `n` blocks below the diagonal of tile `t`, the next step at the buffers of parity `d`. -/
structure WI (t n : ℕ) (d : Bool) (s : Sta F) : Prop where
  qm : ∀ h, (s.hd h).qm = mQ I K h t
  carry : ∀ h, (s.hd h).carry = uS (mC I K h t n)
  wt : ∀ h, (s.hd h).wt (!d) = mA I K h t n
  acc : ∀ h, (s.hd h).acc = mO I K h t n
  lg : ∀ h, n < t → (s.hd h).lg d = mL I K h t (t - (n + 1))
  o : Done I K t s.o

/-- Tile `t`'s blocks taken but for the last one's weighted values. -/
structure TI (t : ℕ) (d : Bool) (s : Sta F) : Prop where
  wt : ∀ h, (s.hd h).wt (!d) = mA I K h t (mN I K t)
  acc : ∀ h, (s.hd h).acc = mO I K h t (mN I K t)
  o : Done I K t s.o

variable {I K}

theorem WI.tile {t n : ℕ} {d : Bool} {s : Sta F} (H : WI I K t n d s) (hn : n = mN I K t) : TI I K t d s := by
  subst hn; exact ⟨H.wt, H.acc, H.o⟩

theorem WI.step {t n : ℕ} {d : Bool} {s : Sta F} (H : WI I K t n d s) (hn : n < t) (rn : ℕ) (hrn : rn + 256 ≤ 2048) (rv : ℕ) (hrv : rv + 256 ≤ 2048)
    (e1 : rn = ro (t - (n + 2))) (e2 : rv = ro (t - n)) :
    WI I K t (n + 1) (!d) (s.all (headH I K.lk K.w d rn hrn rv hrv)) ∧ stepC K.w d s = mW I K t (n + 1) := by
  subst e1 e2
  have hc : ∀ h, headC K.w d (s.hd h) = mC I K h t (n + 1) := fun h => by
    unfold headC; rw [H.carry, cS_uS, H.lg h hn]; rfl
  refine ⟨⟨fun h => H.qm h, fun h => ?_, fun h => ?_, fun h => ?_, fun h hn' => ?_, H.o⟩, ?_⟩
  · show uS (addf (cS (s.hd h).carry) (totV (rV K.w (spW (cW ((s.hd h).lg d)))))) = _
    rw [H.carry, cS_uS, H.lg h hn]; rfl
  · show Function.update (s.hd h).wt d (uWb (wtV K.lk (Function.update (Function.update (s.hd h).lg d _) (!d) _ d) (rV K.w (spW (cW ((s.hd h).lg d)))) (cS (s.hd h).carry))) (!!d) = _
    rw [Bool.not_not, Function.update_self, Function.update_of_ne (by cases d <;> decide), Function.update_self, H.carry, cS_uS, H.lg h hn]; rfl
  · show uS (accV (s.hd h).acc ((s.hd h).wt (!d)) (rd (rK h (ro (t - n)) hrv) I.v)) = _
    rw [H.acc, H.wt]; rfl
  · show Function.update (Function.update (s.hd h).lg d _) (!d) (uW (logitsV (s.hd h).qm (rd (rK h (ro (t - (n + 2))) hrn) I.k))) (!d) = _
    rw [Function.update_self, H.qm]; rfl
  · unfold stepC; simp only [hc]; rfl

theorem rd_outG (h0 : IVec S1x128 1) (r : ℕ) (hr : r + 256 ≤ 2048) (hd : Fin 8 → Hd F) (g : Fin 4) (o : Vec F S1x2048x512 .bf16) :
    rd (rG g r hr) (outG I h0 r hr hd g o) = uSb (outV h0 (rd (rG g r hr) I.z) (hd (hA g)).acc (hd (hB g)).acc) := by
  funext j; exact wr_emb _ _ _ j
theorem rd_outG_ne (h0 : IVec S1x128 1) (r r' : ℕ) (hr : r + 256 ≤ 2048) (hr' : r' + 256 ≤ 2048) (hd : Fin 8 → Hd F) (g g' : Fin 4) (o : Vec F S1x2048x512 .bf16)
    (hne : g ≠ g' ∨ r + 256 ≤ r' ∨ r' + 256 ≤ r) :
    rd (rG g' r' hr') (outG I h0 r hr hd g o) = rd (rG g' r' hr') o := by
  funext j
  refine wr_not _ _ _ ?_
  rintro ⟨x, hx⟩
  have e1 := congrArg (fun i : S1x2048x512.Idx => (i 1 : ℕ)) hx
  have e2 := congrArg (fun i : S1x2048x512.Idx => (i 2 : ℕ)) hx
  have x1 : (x 1).val < 256 := (x 1).isLt
  have x2 : (x 2).val < 128 := (x 2).isLt
  have j1 : (j 1).val < 256 := (j 1).isLt
  have j2 : (j 2).val < 128 := (j 2).isLt
  simp [Rect.emb_apply] at e1 e2
  rcases hne with h | h | h
  · exact h (Fin.ext (by omega))
  · omega
  · omega

theorem mT_eq (t : ℕ) (g : Fin 4) : mT I K t g =
    uSb (outV K.h0 (rd (rG g (ro t) (ro_le t)) I.z) (mO I K (hA g) t (mN I K t + 1)) (mO I K (hB g) t (mN I K t + 1))) := rfl
theorem mO_succ (h : Fin 8) (t n : ℕ) : mO I K h t (n + 1) = uS (accV (mO I K h t n) (mA I K h t n) (mV I h (t - n))) := rfl
attribute [local irreducible] outG zeroH Sta.all in
theorem outS_o (h0 : IVec S1x128 1) (r : ℕ) (hr : r + 256 ≤ 2048) (s : Sta F) :
    (outS I h0 r hr s).o = outG I h0 r hr s.hd 3 (outG I h0 r hr s.hd 2 (outG I h0 r hr s.hd 1 (outG I h0 r hr s.hd 0 s.o))) := rfl
theorem accH_acc (d : Bool) (r : ℕ) (hr : r + 256 ≤ 2048) (h : Fin 8) (x : Hd F) : (accH I d r hr h x).acc = uS (accV x.acc (x.wt d) (rd (rK h r hr) I.v)) := rfl
theorem headMH_acc (cq : IVec S128x128 1) (w : FVec F S256x256 .bf16) (d : Bool) (rn rv : ℕ) (hrn : rn + 256 ≤ 2048) (hrv : rv + 256 ≤ 2048) (h : Fin 8) (x : Hd F) :
    (headMH I cq w d rn hrn rv hrv h x).acc = uS (accV x.acc (x.wt (!d)) (rd (rK h rv hrv) I.v)) := rfl
attribute [local irreducible] outG zeroH in
theorem zero_outS_o (h0 : IVec S1x128 1) (r : ℕ) (hr : r + 256 ≤ 2048) (s : Sta F) : ((outS I h0 r hr s).all zeroH).o = (outS I h0 r hr s).o := rfl

attribute [local irreducible] outG outS mO mA mC mN mT in
theorem Done.out {t : ℕ} (ht : t < 8) {s : Sta F} (H : Done I K t s.o) (hacc : ∀ h, (s.hd h).acc = mO I K h t (mN I K t + 1)) {r : ℕ} {hr : r + 256 ≤ 2048} (e : r = ro t) :
    Done I K (t + 1) (outS I K.h0 r hr s).o := by
  subst e
  intro j hj g
  rw [outS_o]
  by_cases hjt : j = t
  · subst hjt
    have hx : ∀ o, rd (rG g (ro j) (ro_le j)) (outG I K.h0 (ro j) hr s.hd g o) = mT I K j g := fun o => by
      rw [rd_outG, hacc, hacc, mT_eq]
    fin_cases g
    · rw [rd_outG_ne _ _ _ _ _ _ _ _ _ (.inl (by decide)), rd_outG_ne _ _ _ _ _ _ _ _ _ (.inl (by decide)), rd_outG_ne _ _ _ _ _ _ _ _ _ (.inl (by decide))]; exact hx _
    · rw [rd_outG_ne _ _ _ _ _ _ _ _ _ (.inl (by decide)), rd_outG_ne _ _ _ _ _ _ _ _ _ (.inl (by decide))]; exact hx _
    · rw [rd_outG_ne _ _ _ _ _ _ _ _ _ (.inl (by decide))]; exact hx _
    · exact hx _
  · have hlt : j < t := by omega
    have hne : ro t + 256 ≤ ro j ∨ ro j + 256 ≤ ro t := by unfold ro; omega
    rw [rd_outG_ne _ _ _ _ _ _ _ _ _ (.inr hne), rd_outG_ne _ _ _ _ _ _ _ _ _ (.inr hne), rd_outG_ne _ _ _ _ _ _ _ _ _ (.inr hne), rd_outG_ne _ _ _ _ _ _ _ _ _ (.inr hne)]
    exact H j hlt g

theorem suffixMH_lg (d : Bool) (x : Hd F) : (suffixMH d x).lg d = zM (x.lg d) := by
  show Function.update x.lg d _ d = _
  rw [Function.update_self]; rfl
theorem weightsMH_wt (cq : IVec S128x128 1) (d : Bool) (r : FVec F S256x256 .f32) (x : Hd F) :
    (weightsMH cq d r x).wt d = uWb (wtM cq r (rd tTL (x.lg d)) (rd tBL (x.lg d)) (rd tBR (x.lg d))) := by
  show Function.update x.wt d _ d = _
  rw [Function.update_self]
theorem logitsH_lg (d : Bool) (r : ℕ) (hr : r + 256 ≤ 2048) (h : Fin 8) (x : Hd F) : (logitsH I d r hr h x).lg d = uW (logitsV x.qm (rd (rK h r hr) I.k)) := by
  show Function.update x.lg d _ d = _
  rw [Function.update_self]
theorem logitsH_lg_ne (d : Bool) (r : ℕ) (hr : r + 256 ≤ 2048) (h : Fin 8) (x : Hd F) : (logitsH I (!d) r hr h x).lg d = x.lg d := by
  show Function.update x.lg (!d) _ d = _
  rw [Function.update_of_ne (by cases d <;> decide)]
theorem mA_zero (h : Fin 8) (t : ℕ) : mA I K h t 0 = uWb (wtM K.cq (mR0 I K h t) (rd tTL (zM (mL I K h t t))) (rd tBL (zM (mL I K h t t))) (rd tBR (zM (mL I K h t t)))) := rfl
theorem mL_eq (h : Fin 8) (t u : ℕ) : mL I K h t u = uW (logitsV (mQ I K h t) (mK I h u)) := rfl
theorem mR0_eq (h : Fin 8) (t : ℕ) : mR0 I K h t = rM K.cq K.w (mL I K h t t) := rfl
theorem split_logits (d : Bool) (r : ℕ) (hr : r + 256 ≤ 2048) (h : Fin 8) (t : ℕ) (er : r = ro t) (x : Hd F) :
    (logitsH I d r hr h (splitH I K.h0 r hr h x)).lg d = mL I K h t t := by
  subst er; rw [logitsH_lg]; rfl
theorem head0_wt (d : Bool) (h : Fin 8) (t : ℕ) (x : Hd F) (hx : x.lg d = mL I K h t t) : (head0H K.cq K.w d h x).wt d = mA I K h t 0 := by
  unfold head0H; rw [weightsMH_wt, suffixMH_lg, hx, mA_zero, mR0_eq]
theorem headM_wt (d : Bool) (rn rv : ℕ) (hrn : rn + 256 ≤ 2048) (hrv : rv + 256 ≤ 2048) (h : Fin 8) (t : ℕ) (x : Hd F) (hx : x.lg d = mL I K h t t) :
    (headMH I K.cq K.w d rn hrn rv hrv h x).wt d = mA I K h t 0 := by
  unfold headMH; rw [weightsMH_wt]
  show uWb (wtM _ _ (rd tTL ((logitsH I (!d) rn hrn h (suffixMH d x)).lg d)) (rd tBL ((logitsH I (!d) rn hrn h (suffixMH d x)).lg d)) (rd tBR ((logitsH I (!d) rn hrn h (suffixMH d x)).lg d))) = _
  rw [logitsH_lg_ne, suffixMH_lg, hx, mA_zero, mR0_eq]

theorem headM_lg (cq : IVec S128x128 1) (w : FVec F S256x256 .bf16) (d : Bool) (rn rv : ℕ) (hrn : rn + 256 ≤ 2048) (hrv : rv + 256 ≤ 2048) (h : Fin 8) (x : Hd F) :
    (headMH I cq w d rn hrn rv hrv h x).lg (!d) = uW (logitsV x.qm (rd (rK h rn hrn) I.k)) := by
  show (logitsH I (!d) rn hrn h (suffixMH d x)).lg (!d) = _
  rw [logitsH_lg]; rfl
theorem headM_acc (cq : IVec S128x128 1) (w : FVec F S256x256 .bf16) (d : Bool) (rq rn rv : ℕ) (hrq : rq + 256 ≤ 2048) (hrn : rn + 256 ≤ 2048) (hrv : rv + 256 ≤ 2048) (h : Fin 8) (t : ℕ)
    (ev : rv = ro (t - mN I K t)) (x : Hd F) (ha : x.acc = mO I K h t (mN I K t)) (hw : x.wt (!d) = mA I K h t (mN I K t)) :
    (headMH I cq w d rn hrn rv hrv h (logitsH I d rq hrq h (splitH I K.h0 rq hrq h x))).acc = mO I K h t (mN I K t + 1) := by
  subst ev
  rw [headMH_acc, mO_succ, ← ha, ← hw]; rfl
theorem accH_mO (d : Bool) (rv : ℕ) (hrv : rv + 256 ≤ 2048) (h : Fin 8) (t : ℕ)
    (ev : rv = ro (t - mN I K t)) (x : Hd F) (ha : x.acc = mO I K h t (mN I K t)) (hw : x.wt d = mA I K h t (mN I K t)) :
    (accH I d rv hrv h x).acc = mO I K h t (mN I K t + 1) := by
  subst ev
  rw [accH_acc, mO_succ, ← ha, ← hw]; rfl
theorem all_hd (s : Sta F) (f : Fin 8 → Hd F → Hd F) (h : Fin 8) : (s.all f).hd h = f h (s.hd h) := rfl
theorem all_o (s : Sta F) (f : Fin 8 → Hd F → Hd F) : (s.all f).o = s.o := rfl

attribute [local irreducible] outG outS zeroH mO mA mC mN mT headMH logitsH splitH in
theorem TI.diag_o {t : ℕ} (ht : t + 1 < 8) {d : Bool} {s : Sta F} (H : TI I K t d s) (rq rn rv ri : ℕ) (hrq : rq + 256 ≤ 2048) (hrn : rn + 256 ≤ 2048) (hrv : rv + 256 ≤ 2048) (hri : ri + 256 ≤ 2048)
    (ev : rv = ro (t - mN I K t)) (ei : ri = ro t) :
    Done I K (t + 1) ((outS I K.h0 ri hri (((s.all (splitH I K.h0 rq hrq)).all (logitsH I d rq hrq)).all (headMH I K.cq K.w d rn hrn rv hrv))).all zeroH).o := by
  rw [zero_outS_o]
  refine Done.out (by omega) (by rw [all_o, all_o, all_o]; exact H.o) (fun h => ?_) ei
  rw [all_hd, all_hd, all_hd]
  exact headM_acc _ _ _ _ _ _ _ _ _ _ _ ev _ (H.acc h) (H.wt h)

/-- The first tile's beginning leaves its only block's weights. -/
theorem first_tile (s : Sta F) : TI I K 0 true (firstS I K.h0 K.cq K.w false s) := by
  have hN : mN I K 0 = 0 := Nat.le_zero.mp (mN_le I K 0)
  refine ⟨fun h => ?_, fun h => ?_, fun j hj => absurd hj (Nat.not_lt_zero j)⟩
  · rw [hN]
    exact head0_wt false h 0 _ (split_logits false 0 (by decide) h 0 rfl (s.hd h))
  · rw [hN]; rfl

attribute [local irreducible] outG in
theorem outS_hd (h0 : IVec S1x128 1) (r : ℕ) (hr : r + 256 ≤ 2048) (s : Sta F) : (outS I h0 r hr s).hd = s.hd := rfl
theorem zero_qm (h : Fin 8) (x : Hd F) : (zeroH h x).qm = x.qm := rfl
theorem zero_carry (h : Fin 8) (x : Hd F) : (zeroH h x).carry = x.carry := rfl
theorem zero_lg (h : Fin 8) (x : Hd F) : (zeroH h x).lg = x.lg := rfl
theorem zero_wt (h : Fin 8) (x : Hd F) : (zeroH h x).wt = x.wt := rfl
theorem zero_acc (h : Fin 8) (t : ℕ) (x : Hd F) : (zeroH h x).acc = mO I K h t 0 := rfl
theorem diag_qm (d : Bool) (rq rn rv : ℕ) (hrq : rq + 256 ≤ 2048) (hrn : rn + 256 ≤ 2048) (hrv : rv + 256 ≤ 2048) (h : Fin 8) (t : ℕ) (er : rq = ro t) (x : Hd F) :
    (headMH I K.cq K.w d rn hrn rv hrv h (logitsH I d rq hrq h (splitH I K.h0 rq hrq h x))).qm = mQ I K h t := by subst er; rfl
theorem diag_carry (d : Bool) (rq rn rv : ℕ) (hrq : rq + 256 ≤ 2048) (hrn : rn + 256 ≤ 2048) (hrv : rv + 256 ≤ 2048) (h : Fin 8) (t : ℕ) (er : rq = ro t) (x : Hd F) :
    (headMH I K.cq K.w d rn hrn rv hrv h (logitsH I d rq hrq h (splitH I K.h0 rq hrq h x))).carry = uS (mC I K h t 0) := by
  show uS (totV (rM K.cq K.w ((logitsH I d _ hrq h (splitH I K.h0 _ hrq h x)).lg d))) = _
  rw [split_logits d _ hrq h t er]; rfl
theorem diag_lg (d : Bool) (rq rn rv : ℕ) (hrq : rq + 256 ≤ 2048) (hrn : rn + 256 ≤ 2048) (hrv : rv + 256 ≤ 2048) (h : Fin 8) (t : ℕ) (er : rq = ro (t + 1)) (en : rn = ro t) (x : Hd F) :
    (headMH I K.cq K.w d rn hrn rv hrv h (logitsH I d rq hrq h (splitH I K.h0 rq hrq h x))).lg (!d) = mL I K h (t + 1) t := by
  subst er en; rw [headM_lg]; rfl

attribute [local irreducible] outG outS zeroH mO mA mC mN mT mL mQ headMH logitsH splitH in
/-- A tile's diagonal step, the tile before's results, and the zeros. -/
theorem TI.diag {t : ℕ} (ht : t + 1 < 8) {d : Bool} {s : Sta F} (H : TI I K t d s) (rq rn rv ri : ℕ) (hrq : rq + 256 ≤ 2048) (hrn : rn + 256 ≤ 2048) (hrv : rv + 256 ≤ 2048) (hri : ri + 256 ≤ 2048)
    (eq : rq = ro (t + 1)) (en : rn = ro t) (ev : rv = ro (t - mN I K t)) (ei : ri = ro t) :
    WI I K (t + 1) 0 (!d) ((outS I K.h0 ri hri (((s.all (splitH I K.h0 rq hrq)).all (logitsH I d rq hrq)).all (headMH I K.cq K.w d rn hrn rv hrv))).all zeroH) := by
  have hh : ∀ h, ((outS I K.h0 ri hri (((s.all (splitH I K.h0 rq hrq)).all (logitsH I d rq hrq)).all (headMH I K.cq K.w d rn hrn rv hrv))).all zeroH).hd h
      = zeroH h (headMH I K.cq K.w d rn hrn rv hrv h (logitsH I d rq hrq h (splitH I K.h0 rq hrq h (s.hd h)))) := fun h => by
    rw [all_hd, outS_hd, all_hd, all_hd, all_hd]
  constructor
  · intro h; rw [hh, zero_qm]; exact diag_qm _ _ _ _ _ _ _ _ _ eq _
  · intro h; rw [hh, zero_carry]; exact diag_carry _ _ _ _ _ _ _ _ _ eq _
  · intro h; rw [hh, zero_wt, Bool.not_not]
    exact headM_wt d _ _ hrn hrv h (t + 1) _ (split_logits d _ hrq h (t + 1) eq (s.hd h))
  · intro h; rw [hh]; exact zero_acc _ _ _
  · intro h _; rw [hh, zero_lg]; exact diag_lg _ _ _ _ _ _ _ _ _ eq en _
  · exact TI.diag_o ht H _ _ _ _ hrq hrn hrv hri ev ei

attribute [local irreducible] outG outS zeroH mO mA mC mN mT accH in
/-- The last tile's last block, its results, and the zeros. -/
theorem TI.last {d : Bool} {s : Sta F} (H : TI I K 7 d s) (rv : ℕ) (hrv : rv + 256 ≤ 2048) (hri : 1792 + 256 ≤ 2048)
    (ev : rv = ro (7 - mN I K 7)) : Done I K 8 (((outS I K.h0 1792 hri (s.all (accH I (!d) rv hrv))).all zeroH).o) := by
  rw [zero_outS_o]
  refine Done.out (t := 7) (by omega) (by rw [all_o]; exact H.o) (fun h => ?_) rfl
  rw [all_hd]
  exact accH_mO _ _ _ _ _ ev _ (H.acc h) (H.wt h)

end

end Cert.Proof.KI
end
-- ==== Proof.KI.Loop.lean ====
/-
  The inner loop, the outer loop and the whole body on the buffers.
-/
module

public import proofs.«01_k».proof.Proof.KI.Model
public import proofs.«01_k».proof.Proof.KI.Main

@[expose] public section

set_option maxRecDepth 16384

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The word a parity is carried as. -/
abbrev bv (d : Bool) : BitVec 32 := if d then 1#32 else 0#32

theorem andi_one (x y : BitVec 1) : Scalar.andi x y = 1#1 ↔ x = 1#1 ∧ y = 1#1 := by
  revert x y; decide +kernel
theorem slt_iff : ∀ (t : Fin k0_t1_loop.trips) (n : Fin 8), Scalar.cmpi .slt (BitVec.ofNat 32 n.val) (Scf.iv 1#32 1#32 t) = 1#1 ↔ n.val < t.val + 1 := by decide +kernel
theorem chk1_ok : ∀ (d : Bool) (n : Fin 8), k0_chk1 (bv d) (BitVec.ofNat 32 n.val) := by decide +kernel
theorem chk2_ok : ∀ (t : Fin k0_t1_loop.trips) (n : Fin 8) (d : Bool), n.val < t.val + 1 → k0_chk2 t (BitVec.ofNat 32 n.val) (bv d) := by decide +kernel
theorem chk3_ok : ∀ (d : Bool) (n : Fin 8), k0_chk3 (bv d) (BitVec.ofNat 32 n.val) := by decide +kernel
theorem rowN_eq : ∀ (t : Fin k0_t1_loop.trips) (n : Fin 8), n.val < t.val + 1 → rowN (kbOf t (BitVec.ofNat 32 n.val)) = ro (t.val + 1 - (n.val + 2)) := by decide +kernel
theorem rowP_eq : ∀ (t : Fin k0_t1_loop.trips) (n : Fin 8), n.val < t.val + 1 → rowP (kbOf t (BitVec.ofNat 32 n.val)) = ro (t.val + 1 - n.val) := by decide +kernel
theorem rowQ_eq : ∀ (t : Fin k0_t1_loop.trips), rowOf (qiOf t) = ro (t.val + 1) := by decide +kernel
theorem rowQN_eq : ∀ (t : Fin k0_t1_loop.trips), rowN (qiOf t) = ro t.val := by decide +kernel
theorem rowQI_eq : ∀ (t : Fin k0_t1_loop.trips), rowOf (Scalar.subi (qiOf t) 1#32) = ro t.val := by decide +kernel
theorem rowKp_eq : ∀ (n : Fin 8), rowOf (BitVec.ofNat 32 n.val) = ro n.val := by decide +kernel
theorem kp_eq : ∀ (t : Fin k0_t1_loop.trips) (n : Fin 8), n.val ≤ t.val + 1 → Scalar.subi (qiOf t) (BitVec.ofNat 32 n.val) = BitVec.ofNat 32 (t.val + 1 - n.val) := by decide +kernel
theorem addi_ofNat : ∀ (n : Fin 8), Scalar.addi (BitVec.ofNat 32 n.val) 1#32 = BitVec.ofNat 32 (n.val + 1) := by decide +kernel
theorem subi_bv : ∀ d : Bool, Scalar.subi 1#32 (bv d) = bv (!d) := by decide +kernel
theorem trips_lt (t : Fin k0_t1_loop.trips) : t.val + 1 < 8 := by
  have h : k0_t1_loop.trips = 7 := by decide +kernel
  have := t.isLt; omega
theorem cond1_bv : ∀ d : Bool, k0_cond1 (bv d) = 1#1 ↔ d = false := by decide +kernel
theorem cond2_bv : ∀ d : Bool, k0_cond2 (bv d) = 1#1 ↔ d = false := by decide +kernel
theorem cond3_bv : ∀ d : Bool, k0_cond3 (bv d) = 1#1 ↔ d = false := by decide +kernel

/-- The buffers are whole. -/
structure Whl (M : Bufs) : Prop where
  q : M.q.IsWhole
  k : M.k.IsWhole
  v : M.v.IsWhole
  z : M.z.IsWhole
  w : M.w.IsWhole
  o : M.o.IsWhole
  qm : M.qm.IsWhole
  acc : M.acc.IsWhole
  carry : M.carry.IsWhole
  lg : ∀ d, (M.lg d).IsWhole
  wt : ∀ d, (M.wt d).IsWhole

section
variable {c : Dev nD} {M : Bufs} {I : Ops F} {b : ℕ}

/-- A call runs as what it calls does, at a smaller measure. -/
theorem Runs.call {v : ℕ} (hv : v < b) {ℓ : (Λ₀ F).Label} {a : (Λ₀ F).Args ℓ} {s : Sta F} {x : (Λ₀ F).Result ℓ} {s' : Sta F}
    (h : Runs c M I v (defs₀ (F := F) .tc ℓ a) s x s') : Runs c M I b (Prog.lift (.call ℓ a)) s x s' := by
  intro bd Γ Q hu
  iintro ⟨H, HQ⟩
  iapply (wp_call 𝒱₀ (c : Thread nD τ) bd Set.univ v (fun u hm => lt_of_lt_of_le hv (hu u hm)))
  iapply (h (some v) (Γ.descend none) _ (fun u hm => by cases hm; exact le_rfl))
  isplitl [H]; · iexact H
  iintro H
  rw [wp_ret]; imodintro; iapply HQ; iexact H

theorem Runs.dpos {P : Prop} [Decidable P] {α : Type} {f : P → Pg F α} {g : ¬ P → Pg F α} {s s' : Sta F} {x : α} (h : P) (H : Runs c M I b (f h) s x s') :
    Runs c M I b (if h : P then f h else g h) s x s' := by rw [dif_pos h]; exact H
theorem Runs.dneg {P : Prop} [Decidable P] {α : Type} {f : P → Pg F α} {g : ¬ P → Pg F α} {s s' : Sta F} {x : α} (h : ¬ P) (H : Runs c M I b (g h) s x s') :
    Runs c M I b (if h : P then f h else g h) s x s' := by rw [dif_neg h]; exact H
theorem ne_of_bv {P : Prop} (h : P ↔ true = false) : ¬ P := fun hp => by cases h.1 hp

/-- The inner loop at the buffers. -/
abbrev whileAt (M : Bufs) (hM : Whl M) (K : Msk F) (i : grid0.Coords) (t : Fin k0_t1_loop.trips) (a16 a17 : BitVec 32) (h1 : k0_chk1 a16 a17) (n : BitVec 32) (m : F .f32) (d : BitVec 32) :
    Pg F (BitVec 32 × F .f32 × BitVec 32) :=
  pWhile i t a16 a17 h1 (M.lg false) (hM.lg false) K.w M.k hM.k M.qm hM.qm (M.lg true) (hM.lg true) M.v hM.v M.acc hM.acc (M.wt true) (hM.wt true) M.carry hM.carry K.lk (M.wt false) (hM.wt false) n m d
/-- The call of it. -/
abbrev callAt (M : Bufs) (hM : Whl M) (K : Msk F) (i : grid0.Coords) (t : Fin k0_t1_loop.trips) (a16 a17 : BitVec 32) (h1 : k0_chk1 a16 a17) (n : BitVec 32) (m : F .f32) (d : BitVec 32) :
    Pg F (BitVec 32 × F .f32 × BitVec 32) :=
  Prog.lift (.call (1 : (Λ₀ F).Label) ⟨i, t, a16, a17, h1, M.lg false, hM.lg false, K.w, M.k, hM.k, M.qm, hM.qm, M.lg true, hM.lg true, M.v, hM.v, M.acc, hM.acc, M.wt true, hM.wt true, M.carry, hM.carry, K.lk, M.wt false, hM.wt false, n, m, d⟩)

theorem runs_callAt {hM : Whl M} {K : Msk F} {i : grid0.Coords} {t : Fin k0_t1_loop.trips} {a16 a17 : BitVec 32} {h1 : k0_chk1 a16 a17} {n : BitVec 32} {m : F .f32} {d : BitVec 32}
    {s s' : Sta F} {x : BitVec 32 × F .f32 × BitVec 32} {v : ℕ} (hv : v < b) (h : Runs c M I v (whileAt M hM K i t a16 a17 h1 n m d) s x s') :
    Runs c M I b (callAt M hM K i t a16 a17 h1 n m d) s x s' := by
  refine Runs.call (F := F) (v := v) hv (ℓ := (1 : (Λ₀ F).Label)) (x := x) ?_
  rw [whileAt, ← while_eq] at h
  exact h

attribute [local irreducible] Runs mW mN Live stepC pStep Sta.all in
theorem runs_while (hM : Whl M) (K : Msk F) (i : grid0.Coords) (t : Fin k0_t1_loop.trips) (a16 a17 : BitVec 32) (h1 : k0_chk1 a16 a17) :
    ∀ (j n : ℕ) (d : Bool) (s : Sta F), n + j = t.val + 1 → n ≤ mN I K (t.val + 1) → WI I K (t.val + 1) n d s →
      ∃ (d' : Bool) (s' : Sta F), Runs c M I j (whileAt M hM K i t a16 a17 h1 (BitVec.ofNat 32 n) (mW I K (t.val + 1) n) (bv d)) s
        (BitVec.ofNat 32 (mN I K (t.val + 1)), mW I K (t.val + 1) (mN I K (t.val + 1)), bv d') s' ∧ TI I K (t.val + 1) d' s' := by
  have hT := trips_lt t
  intro j
  induction j with
  | zero =>
    intro n d s hn hle H
    have hN : n = mN I K (t.val + 1) := le_antisymm hle ((mN_le I K _).trans (by omega))
    refine ⟨d, s, ?_, H.tile hN⟩
    unfold whileAt pWhile
    rw [if_neg, ← hN]
    · exact Runs.pure _ _
    · rw [andi_one, slt_iff t ⟨n, by omega⟩]; rintro ⟨h, _⟩; simp only at h; omega
  | succ j ih =>
    intro n d s hn hle H
    have hs := slt_iff t ⟨n, by omega⟩
    by_cases hl : Live I K (t.val + 1) n
    · have hlt : n < t.val + 1 := by omega
      have hle' : n + 1 ≤ mN I K (t.val + 1) := Nat.lt_of_le_of_ne hle fun h => by
        rw [h] at hl; exact mN_spec I K (t.val + 1) hl
      have hc : Scalar.cmpf .ogt (mW I K (t.val + 1) n) (cT (F := F)) = 1#1 := Live.cmp hl
      have hk := chk2_ok t ⟨n, by omega⟩ d hlt
      have eN := rowN_eq t ⟨n, by omega⟩ hlt
      have eP := rowP_eq t ⟨n, by omega⟩ hlt
      have hne : rowN (kbOf t (BitVec.ofNat 32 n)) + 256 ≤ 2048 := by rw [eN]; exact ro_le _
      have hpe : rowP (kbOf t (BitVec.ofNat 32 n)) + 256 ≤ 2048 := by rw [eP]; exact ro_le _
      obtain ⟨H', hm⟩ := H.step hlt _ hne _ hpe eN eP
      obtain ⟨d', s', hr, hT'⟩ := ih (n + 1) (!d) _ (by omega) hle' H'
      refine ⟨d', s', ?_, hT'⟩
      unfold whileAt pWhile
      rw [if_pos ((andi_one _ _).2 ⟨hs.2 hlt, hc⟩)]
      refine (Runs.assume hk s).bind ?_
      have e1 := addi_ofNat ⟨n, by omega⟩
      have e2 := subi_bv d
      simp only at e1
      have hcall := runs_callAt (Nat.lt_succ_self j) hr
      rw [← hm, ← e1, ← e2] at hcall
      cases d with
      | false =>
        refine Runs.dpos ((cond2_bv false).2 rfl) ?_
        exact (runs_step K.lk K.w false _ hne _ hpe (hM.wt false) s).bind hcall
      | true =>
        refine Runs.dneg (ne_of_bv (cond2_bv true)) ?_
        exact (runs_step K.lk K.w true _ hne _ hpe (hM.wt true) s).bind hcall
    · have hN : n = mN I K (t.val + 1) := le_antisymm hle (mN_min I K _ hl)
      refine ⟨d, s, ?_, H.tile hN⟩
      unfold whileAt pWhile
      rw [if_neg, ← hN]
      · exact Runs.pure _ _
      · rw [andi_one, hs]; rintro ⟨h, h'⟩; exact hl (Live.of h h')

/-- The outer loop's invariant: the tile before's blocks are taken but for the last one's weighted values. -/
def LI (I : Ops F) (K : Msk F) (k : ℕ) (a : BitVec 32 × BitVec 32) (s : Sta F) : Prop :=
  ∃ d, TI I K k d s ∧ a = (bv d, BitVec.ofNat 32 (k - mN I K k))

attribute [local irreducible] Runs mW mN Live pSplit pDiag pOut Sta.all outS zeroH headMH logitsH splitH in
theorem runs_trip (hM : Whl M) (K : Msk F) (i : grid0.Coords) (t : Fin k0_t1_loop.trips) (hb : 8 < b) (a : BitVec 32 × BitVec 32) (s : Sta F) (H : LI I K t.val a s) :
    ∃ a' s', Runs c M I b (pTrip i M.q hM.q M.k hM.k M.v hM.v M.z hM.z M.w hM.w M.o hM.o M.qm hM.qm M.acc hM.acc M.carry hM.carry (M.lg false) (hM.lg false) (M.lg true) (hM.lg true)
        (M.wt false) (hM.wt false) (M.wt true) (hM.wt true) K.h0 K.lk K.cq K.w t a) s a' s' ∧ LI I K (t.val + 1) a' s' := by
  have hT := trips_lt t
  obtain ⟨d, H, rfl⟩ := H
  have hk : t.val - mN I K t.val < 8 := by omega
  have h1 := chk1_ok d ⟨_, hk⟩
  have eQ := rowQ_eq t
  have eN := rowQN_eq t
  have eI := rowQI_eq t
  have eP := rowKp_eq ⟨_, hk⟩
  simp only at eP h1
  have hq : rowOf (qiOf t) + 256 ≤ 2048 := by rw [eQ]; exact ro_le _
  have hn : rowN (qiOf t) + 256 ≤ 2048 := by rw [eN]; exact ro_le _
  have hi : rowOf (Scalar.subi (qiOf t) 1#32) + 256 ≤ 2048 := by rw [eI]; exact ro_le _
  have hp : rowOf (BitVec.ofNat 32 (t.val - mN I K t.val)) + 256 ≤ 2048 := by rw [eP]; exact ro_le _
  have HD := H.diag hT _ _ _ _ hq hn hp hi eQ eN eP eI
  obtain ⟨d', s', hr, hT'⟩ := runs_while (c := c) (M := M) (I := I) hM K i t (bv d) (BitVec.ofNat 32 (t.val - mN I K t.val)) h1 (t.val + 1) 0 (!d) _ (by omega) (Nat.zero_le _) HD
  have hcall := runs_callAt (b := b) (show t.val + 1 < b by omega) hr
  rw [← subi_bv d, mW_zero] at hcall
  refine ⟨(bv d', Scalar.subi (qiOf t) (BitVec.ofNat 32 (mN I K (t.val + 1)))), s', ?_, d', hT', ?_⟩
  · unfold pTrip
    refine (Runs.assume h1 s).bind ?_
    cases d with
    | false =>
      refine Runs.dpos ((cond1_bv false).2 rfl) ?_
      refine (runs_split K.h0 _ hq hM.qm s).bind ?_
      refine (runs_diag K.cq K.w false _ hq _ hn _ hp (hM.wt false) _).bind ?_
      refine (runs_out K.h0 _ hi (packOut t) hM.o _).bind ?_
      refine Runs.bind hcall ?_
      exact Runs.pure _ _
    | true =>
      refine Runs.dneg (ne_of_bv (cond1_bv true)) ?_
      refine (runs_split K.h0 _ hq hM.qm s).bind ?_
      refine (runs_diag K.cq K.w true _ hq _ hn _ hp (hM.wt true) _).bind ?_
      refine (runs_out K.h0 _ hi (packOut t) hM.o _).bind ?_
      refine Runs.bind hcall ?_
      exact Runs.pure _ _
  · rw [kp_eq t ⟨mN I K (t.val + 1), by have := mN_le I K (t.val + 1); omega⟩ (mN_le I K _)]

theorem runs_forFrom {σ : Type} {n : ℕ} (body : Fin n → σ → Pg F σ) (Inv : ℕ → σ → Sta F → Prop)
    (hstep : ∀ (k : Fin n) a s, Inv k.val a s → ∃ a' s', Runs c M I b (body k a) s a' s' ∧ Inv (k.val + 1) a' s') :
    ∀ (j k : ℕ), k + j = n → ∀ a s, Inv k a s → ∃ a' s', Runs c M I b (Scf.forFrom body ((List.finRange n).drop k) a) s a' s' ∧ Inv n a' s' := by
  intro j
  induction j with
  | zero =>
    intro k hk a s H
    obtain rfl : k = n := by omega
    refine ⟨a, s, ?_, H⟩
    rw [List.drop_of_length_le (by simp), Scf.forFrom_nil]; exact Runs.pure _ _
  | succ j ih =>
    intro k hk a s H
    have hlt : k < n := by omega
    obtain ⟨a1, s1, h1, H1⟩ := hstep ⟨k, hlt⟩ a s H
    obtain ⟨a2, s2, h2, H2⟩ := ih (k + 1) (by omega) a1 s1 H1
    refine ⟨a2, s2, ?_, H2⟩
    rw [List.drop_eq_getElem_cons (by simpa using hlt), List.getElem_finRange, Fin.cast_mk, Scf.forFrom_cons]
    exact h1.bind h2

/-- The kernel's masks and the weights it loads. -/
def kMsk (I : Ops F) : Msk F := ⟨k0_pay329, k0_pay330, k0_pay331, k0_pay332 (rd rWm I.w)⟩

attribute [local irreducible] Runs mN pFirst pDrain pOut pTrip Sta.all outS zeroH accH firstS in
/-- The body leaves the results of all eight tiles. -/
theorem runs_main (hM : Whl M) (i : grid0.Coords) (hb : 8 < b) (s : Sta F) :
    ∃ s', Runs c M I b (pMain i M.q hM.q M.k hM.k M.v hM.v M.z hM.z M.w hM.w M.o hM.o M.qm hM.qm M.acc hM.acc M.carry hM.carry (M.lg false) (hM.lg false) (M.lg true) (hM.lg true)
        (M.wt false) (hM.wt false) (M.wt true) (hM.wt true)) s ⟨⟩ s' ∧ Done I (kMsk I) 8 s'.o := by
  have ht7 : k0_t1_loop.trips = 7 := by decide +kernel
  have H0 : LI I (kMsk I) 0 (1#32, 0#32) (firstS I (kMsk I).h0 (kMsk I).cq (kMsk I).w false s) :=
    ⟨true, first_tile s, by rw [Nat.zero_sub]; rfl⟩
  obtain ⟨a', s1, hr, H1⟩ := runs_forFrom (c := c) (M := M) (I := I) (b := b) _ (LI I (kMsk I)) (fun k a s h => runs_trip hM (kMsk I) i k hb a s h) k0_t1_loop.trips 0 (by omega) _ _ H0
  rw [List.drop_zero] at hr
  rw [ht7] at H1
  obtain ⟨d, H, rfl⟩ := H1
  have hk : 7 - mN I (kMsk I) 7 < 8 := by omega
  have h3 := chk3_ok d ⟨_, hk⟩
  have eP := rowKp_eq ⟨_, hk⟩
  simp only at eP h3
  have hp : rowOf (BitVec.ofNat 32 (7 - mN I (kMsk I) 7)) + 256 ≤ 2048 := by rw [eP]; exact ro_le _
  refine ⟨_, ?_, H.last _ hp (by decide) eP⟩
  unfold pMain
  refine (ld_w s rWm _).bind ?_
  refine (runs_first (kMsk I).h0 (kMsk I).cq (kMsk I).w false hM.qm (hM.wt false) s).bind ?_
  refine Runs.bind (x := (bv d, BitVec.ofNat 32 (7 - mN I (kMsk I) 7))) (s' := s1) ?_ ?_
  · unfold Scf.Loop.for; rw [Scf.for_eq]; exact hr
  refine (Runs.assume h3 s1).bind ?_
  cases d with
  | false =>
    refine Runs.dpos ((cond3_bv false).2 rfl) ?_
    exact (runs_drain true _ hp s1).bind (runs_out (kMsk I).h0 1792 (by decide) packLast hM.o _)
  | true =>
    refine Runs.dneg (ne_of_bv (cond3_bv true)) ?_
    exact (runs_drain false _ hp s1).bind (runs_out (kMsk I).h0 1792 (by decide) packLast hM.o _)

end

end Cert.Proof.KI
end
-- ==== Proof.KI.Whole.lean ====
/-
  The kernel's printed function is the structured one.
-/
module

public import proofs.«01_k».proof.Proof.KI.Main
public import proofs.«01_k».proof.Proof.Gen.KernelIdeal.Skeleton

@[expose] public section

set_option maxRecDepth 65536

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem dite_bind' {c : Prop} [Decidable c] {α β : Type} (A : c → Pg F α) (B : ¬ c → Pg F α) (f : α → Pg F β) :
    (dite c A B) >>= f = dite c (fun h => A h >>= f) (fun h => B h >>= f) := by
  split <;> rfl

set_option maxHeartbeats 4000000 in
/-- The printed function is the structured one. -/
theorem main_eq (i : grid0.Coords) (q : Memref sig .tc .vmem S1x2048x512 .bf16) (hq : q.IsWhole) (k : Memref sig .tc .vmem S1x2048x512 .bf16) (hk : k.IsWhole) (v : Memref sig .tc .vmem S1x2048x512 .bf16) (hv : v.IsWhole) (z : Memref sig .tc .vmem S1x2048x512 .f32) (hz : z.IsWhole) (wm : Memref sig .tc .vmem S256x256 .bf16) (hwm : wm.IsWhole) (o : Memref sig .tc .vmem S1x2048x512 .bf16) (ho : o.IsWhole) (qm : Memref sig .tc .vmem S8x256x128 .bf16) (hqm : qm.IsWhole) (acc : Memref sig .tc .vmem S8x256x128 .f32) (hacc : acc.IsWhole) (carry : Memref sig .tc .vmem S8x256x128 .f32) (hcarry : carry.IsWhole) (z0 : Memref sig .tc .vmem S8x256x256 .f32) (hz0 : z0.IsWhole) (z1 : Memref sig .tc .vmem S8x256x256 .f32) (hz1 : z1.IsWhole) (a0 : Memref sig .tc .vmem S8x256x256 .bf16) (ha0 : a0.IsWhole) (a1 : Memref sig .tc .vmem S8x256x256 .bf16) (ha1 : a1.IsWhole) : cc0_stickbreak_attention (F := F) i q hq k hk v hv z hz wm hwm o ho qm hqm acc hacc carry hcarry z0 hz0 z1 hz1 a0 ha0 a1 ha1 = pMain i q hq k hk v hv z hz wm hwm o ho qm hqm acc hacc carry hcarry z0 hz0 z1 hz1 a0 ha0 a1 ha1 := by
  rw [cc0_stickbreak_attention_eq_skeleton]
  unfold cc0_stickbreak_attention_skel pMain
  simp only [k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton,
      k0_part63_skel, k0_part64_skel, k0_part65_skel, k0_part66_skel, k0_part67_skel, k0_part68_skel, k0_part69_skel, k0_part70_skel, k0_part71_skel, k0_part72_skel, k0_part73_skel, k0_part74_skel, k0_part75_skel, k0_part76_skel, k0_part77_skel, k0_part78_skel, k0_part79_skel, k0_part80_skel, k0_part81_skel, k0_part82_skel, k0_part83_skel, k0_part84_skel, k0_part85_skel, k0_part86_skel, k0_part87_skel, k0_part88_skel, k0_part89_skel, k0_part90_skel, k0_part91_skel, k0_part92_skel, trip_eq, pFirst, pHead0, pSplit, pSplit1, pDrain, pSuffixM, pLogits, pAcc, pWeightsM, pOut, pOut1, pZero, bind_assoc, pure_bind, Prog.bind_lift, Prog.bind_op, dite_bind']
  rfl

end Cert.Proof.KI
end
-- ==== Proof.KI.Launch.lean ====
/-
  The attention's run: what the kernel leaves in its result's buffer at a grid point, the proof data of the
  pipeline around it, and the run of the whole program.
-/
module

public import proofs.«01_k».proof.Proof.KI.Loop
public import proofs.«01_k».proof.Proof.KI.Whole
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR nD τ) ℕ

/-! ### The result's buffer -/

/-- The row tile, the lane group and the place within them of an element of the result's buffer. -/
def otile (i : S1x2048x512.Idx) : Fin 8 := ⟨(i 1).val / 256, by have : (i 1).val < 2048 := (i 1).isLt; omega⟩
def ogrp (i : S1x2048x512.Idx) : Fin 4 := ⟨(i 2).val / 128, by have : (i 2).val < 512 := (i 2).isLt; omega⟩
def oloc (i : S1x2048x512.Idx) : S1x256x128.Idx := fun
  | 0 => (0 : Fin 1)
  | 1 => ⟨(i 1).val % 256, Nat.mod_lt _ (by decide)⟩
  | 2 => ⟨(i 2).val % 128, Nat.mod_lt _ (by decide)⟩

/-- What the kernel leaves in its result's buffer. -/
def OUT (I : Ops F) : Vec F S1x2048x512 .bf16 := fun i => mT I (kMsk I) (otile i).val (ogrp i) (oloc i)

theorem emb_oloc (i : S1x2048x512.Idx) : (rG (ogrp i) (ro (otile i).val) (ro_le _)).emb (oloc i) = i := by
  have h0 : (i 0).val = 0 := by have : (i 0).val < 1 := (i 0).isLt; omega
  have h1 : (i 1).val < 2048 := (i 1).isLt
  have h2 : (i 2).val < 512 := (i 2).isLt
  funext a; apply Fin.ext
  fin_cases a
  · simp [Rect.emb_apply, oloc, h0]
  · simp [Rect.emb_apply, oloc, otile, ro]; omega
  · simp [Rect.emb_apply, oloc, ogrp]; omega

theorem Done.eq_OUT {I : Ops F} {o : Vec F S1x2048x512 .bf16} (h : Done I (kMsk I) 8 o) : o = OUT I := by
  funext i
  have := congrFun (h (otile i).val (otile i).isLt (ogrp i)) (oloc i)
  simp only [rd] at this
  rw [emb_oloc] at this
  exact this

/-! ### The kernel at a grid point -/

/-- The kernel's buffers at a grid point: the staging buffers in turn there, and the scratch. -/
def bufsAt (t : Fin (cfg0 (F := F)).N) : Bufs where
  q := st0_0 t
  k := st0_1 t
  v := st0_2 t
  z := st0_3 t
  w := st0_4 t
  o := st0_5 t
  qm := Memref.whole cc0_scratch0
  acc := Memref.whole cc0_scratch1
  carry := Memref.whole cc0_scratch2
  lg := fun | false => Memref.whole cc0_scratch3 | true => Memref.whole cc0_scratch4
  wt := fun | false => Memref.whole cc0_scratch5 | true => Memref.whole cc0_scratch6

theorem bufsAt_whole (t : Fin (cfg0 (F := F)).N) : Whl (bufsAt t) where
  q := hstage0_0 (((cfg0 (F := F)).slots t 0).cast nbuf0_0)
  k := hstage0_1 (((cfg0 (F := F)).slots t 1).cast nbuf0_1)
  v := hstage0_2 (((cfg0 (F := F)).slots t 2).cast nbuf0_2)
  z := hstage0_3 (((cfg0 (F := F)).slots t 3).cast nbuf0_3)
  w := hstage0_4 (((cfg0 (F := F)).slots t 4).cast nbuf0_4)
  o := hstage0_5 (((cfg0 (F := F)).slots t 5).cast nbuf0_5)
  qm := Memref.isWhole_whole _
  acc := Memref.isWhole_whole _
  carry := Memref.isWhole_whole _
  lg := fun | false => Memref.isWhole_whole _ | true => Memref.isWhole_whole _
  wt := fun | false => Memref.isWhole_whole _ | true => Memref.isWhole_whole _

attribute [local irreducible] Runs Done pMain in
/-- The kernel at a grid point leaves `OUT` of its operands. -/
theorem runs_at (c : Dev nD) (t : Fin (cfg0 (F := F)).N) (I : Ops F) (s : Sta F) :
    ∃ s', Runs c (bufsAt t) I 9 (bodyAt0 t) s ⟨⟩ s' ∧ s'.o = OUT I := by
  obtain ⟨s', hr, hd⟩ := runs_main (c := c) (I := I) (bufsAt_whole t) (grid0.coords t) (b := 9) (by decide) s
  refine ⟨s', ?_, hd.eq_OUT⟩
  rw [← main_eq] at hr
  exact hr

/-- The buffers' contents, from those of the scratch and of the result's. -/
def staOf (o : Vec F S1x2048x512 .bf16) (x0 : Vec F S8x256x128 .bf16) (x1 x2 : Vec F S8x256x128 .f32)
    (x3 x4 : Vec F S8x256x256 .f32) (x5 x6 : Vec F S8x256x256 .bf16) : Sta F where
  hd h := { qm := unstk eS x0 h, acc := unstk eS x1 h, carry := unstk eS x2 h,
            lg := fun | false => unstk eW x3 h | true => unstk eW x4 h,
            wt := fun | false => unstk eW x5 h | true => unstk eW x6 h }
  o := o

theorem held_staOf (c : Dev nD) (t : Fin (cfg0 (F := F)).N) (I : Ops F) (o : Vec F S1x2048x512 .bf16) (x0 : Vec F S8x256x128 .bf16)
    (x1 x2 : Vec F S8x256x128 .f32) (x3 x4 : Vec F S8x256x256 .f32) (x5 x6 : Vec F S8x256x256 .bf16) :
    (held c (bufsAt t) I (staOf o x0 x1 x2 x3 x4 x5 x6) : sProp 𝕄)
      = iprop(owns (c : Thread nD τ) (st0_0 t) fullShare I.q ∗ owns (c : Thread nD τ) (st0_1 t) fullShare I.k
        ∗ owns (c : Thread nD τ) (st0_2 t) fullShare I.v ∗ owns (c : Thread nD τ) (st0_3 t) fullShare I.z
        ∗ owns (c : Thread nD τ) (st0_4 t) fullShare I.w ∗ owns (c : Thread nD τ) (st0_5 t) fullShare o
        ∗ (((c : Thread nD τ).loc cc0_scratch0) ↦{fullShare} x0) ∗ (((c : Thread nD τ).loc cc0_scratch1) ↦{fullShare} x1)
        ∗ (((c : Thread nD τ).loc cc0_scratch2) ↦{fullShare} x2) ∗ (((c : Thread nD τ).loc cc0_scratch3) ↦{fullShare} x3)
        ∗ (((c : Thread nD τ).loc cc0_scratch4) ↦{fullShare} x4) ∗ (((c : Thread nD τ).loc cc0_scratch5) ↦{fullShare} x5)
        ∗ (((c : Thread nD τ).loc cc0_scratch6) ↦{fullShare} x6)) := by
  rw [← owns_whole, ← owns_whole, ← owns_whole, ← owns_whole, ← owns_whole, ← owns_whole, ← owns_whole]
  unfold held
  dsimp only [bufsAt, staOf]
  rw [show (stk eS fun h => unstk eS x0 h) = x0 from stk_unstk eS x0, show (stk eS fun h => unstk eS x1 h) = x1 from stk_unstk eS x1,
    show (stk eS fun h => unstk eS x2 h) = x2 from stk_unstk eS x2, show (stk eW fun h => unstk eW x3 h) = x3 from stk_unstk eW x3,
    show (stk eW fun h => unstk eW x4 h) = x4 from stk_unstk eW x4, show (stk eW fun h => unstk eW x5 h) = x5 from stk_unstk eW x5,
    show (stk eW fun h => unstk eW x6 h) = x6 from stk_unstk eW x6]
  rfl

/-- Any contents are those of some scratch and some result's buffer. -/
theorem eq_staOf (s : Sta F) : s = staOf s.o (stk eS fun h => (s.hd h).qm) (stk eS fun h => (s.hd h).acc) (stk eS fun h => (s.hd h).carry)
    (stk eW fun h => (s.hd h).lg false) (stk eW fun h => (s.hd h).lg true) (stk eW fun h => (s.hd h).wt false) (stk eW fun h => (s.hd h).wt true) := by
  have e {A : Type} {s t : Shape} (e : s.Idx ≃ Fin 8 × t.Idx) (X : Fin 8 → t.Idx → A) (h : Fin 8) : unstk e (stk e X) h = X h := by
    funext j; exact stk_symm e X h j
  obtain ⟨hd, o⟩ := s
  unfold staOf
  simp only [e]
  congr 1
  funext h
  rcases hd h with ⟨q, a, c, l, w⟩
  congr 1
  · funext d; cases d <;> rfl
  · funext d; cases d <;> rfl

/-- The kernel at a grid point: the operands as they were, the result's buffer at `OUT`, the scratch at anything. -/
theorem sound_at (c : Dev nD) (t : Fin (cfg0 (F := F)).N) (I : Ops F) (o : Vec F S1x2048x512 .bf16) (K : PUnit → sProp 𝕄) :
    iprop(Pipeline.scopedRest spec0 c ∗ owns (c : Thread nD τ) (st0_0 t) fullShare I.q ∗ owns (c : Thread nD τ) (st0_1 t) fullShare I.k
        ∗ owns (c : Thread nD τ) (st0_2 t) fullShare I.v ∗ owns (c : Thread nD τ) (st0_3 t) fullShare I.z
        ∗ owns (c : Thread nD τ) (st0_4 t) fullShare I.w ∗ owns (c : Thread nD τ) (st0_5 t) fullShare o
        ∗ (iprop(Pipeline.scopedRest spec0 c ∗ owns (c : Thread nD τ) (st0_0 t) fullShare I.q ∗ owns (c : Thread nD τ) (st0_1 t) fullShare I.k
            ∗ owns (c : Thread nD τ) (st0_2 t) fullShare I.v ∗ owns (c : Thread nD τ) (st0_3 t) fullShare I.z
            ∗ owns (c : Thread nD τ) (st0_4 t) fullShare I.w ∗ owns (c : Thread nD τ) (st0_5 t) fullShare (OUT I)) -∗ K ⟨⟩))
      ⊢ wp frame (wpE (defs₀ (F := F)) 𝒱₀ c none) Set.univ (bodyAt0 t) K := by
  rw [scopedRest0_eq]
  iintro ⟨⟨⟨%x0, S0⟩, ⟨%x1, S1⟩, ⟨%x2, S2⟩, ⟨%x3, S3⟩, ⟨%x4, S4⟩, ⟨%x5, S5⟩, ⟨%x6, S6⟩⟩, H0, H1, H2, H3, H4, H5, Hk⟩
  obtain ⟨s', hr, ho⟩ := runs_at c t I (staOf o x0 x1 x2 x3 x4 x5 x6)
  have h1 := held_staOf c t I o x0 x1 x2 x3 x4 x5 x6
  have h2 := held_staOf c t I s'.o (stk eS fun h => (s'.hd h).qm) (stk eS fun h => (s'.hd h).acc) (stk eS fun h => (s'.hd h).carry)
    (stk eW fun h => (s'.hd h).lg false) (stk eW fun h => (s'.hd h).lg true) (stk eW fun h => (s'.hd h).wt false) (stk eW fun h => (s'.hd h).wt true)
  rw [← eq_staOf, ho] at h2
  iapply (hr none .empty K (fun u hu => by simp at hu))
  rw [h1, h2]
  isplitr [Hk]
  · isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, S0, S1, S2, S3, S4, S5, S6⟩
  iapply Hk
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  isplitl [H0]; · iexact H0
  isplitl [H1]; · iexact H1
  isplitl [H2]; · iexact H2
  isplitl [H3]; · iexact H3
  isplitl [H4]; · iexact H4
  iexact H5

/-! ### The pipeline's proof data -/

section
variable (m : (ℓ : Loc nD τ sig) → Buf (Elt F) ℓ) (ρ : Dev nD → PrngReg)

/-- The buffers when the kernel is entered: after the host operations before it. -/
abbrev V (c : Dev nD) (b : Ref sig .tc) : Buf (Elt F) ((c.tc : Thread nD τ).loc b) :=
  StableHlo.after (List.flatten [hostOps0, hostOps0_1, hostOps0_2]) (fun b => m (c, b)) b

theorem fresh0 : (hostOps0 : List (HloOp τ sig (Elt F))).Forall fun op => op.fresh = ∅ := ⟨rfl, rfl, rfl, rfl, rfl, rfl, rfl, rfl, rfl⟩
theorem fresh1 : (hostOps0_1 : List (HloOp τ sig (Elt F))).Forall fun op => op.fresh = ∅ := ⟨rfl, rfl, rfl⟩
theorem fresh2 : (hostOps0_2 : List (HloOp τ sig (Elt F))).Forall fun op => op.fresh = ∅ := rfl

set_option maxHeartbeats 4000000 in
theorem hmain : Pipeline.HMain (Ix := Unit) (Name := ℕ) (U := UR nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

theorem V_of_ne (c : Dev nD) (b : Ref sig .tc) (h : b ≠ main_v0 ∧ b ≠ main_v1 ∧ b ≠ main_v2 ∧ b ≠ main_c ∧ b ≠ main_v3 ∧ b ≠ main_v4
    ∧ b ≠ main_v5 ∧ b ≠ main_cst ∧ b ≠ main_cst_0 ∧ b ≠ main_call0_v0 ∧ b ≠ main_call0_v1 ∧ b ≠ main_v6 ∧ b ≠ main_v7) :
    V m c b = m ((c.tc : Thread nD τ).loc b) :=
  StableHlo.after_of_forall_not_mem (b := Proc.devRef .tc b) _ _ (List.forall_iff_forall_mem.mp (by
    obtain ⟨h0, h1, h2, h3, h4, h5, h6, h7, h8, h9, h10, h11, h12⟩ := h
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.TRef.unary, StableHlo.TRef.ternary, Finset.mem_singleton]
    repeat' apply And.intro
    all_goals exact StableHlo.devRef_ne_of_ne (by assumption)))

/-- A window's block at a grid point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The operands at a grid point. -/
def opsAt (c : Dev nD) (t : Fin (cfg0 (F := F)).N) : Ops F where
  q := iblk m c 0 t
  k := iblk m c 1 t
  v := iblk m c 2 t
  z := iblk m c 3 t
  w := iblk m c 4 t

def dats (_ : Fin 1) (c : Dev nD) : Dat τ (Elt F) Unit ℕ (UR nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT (opsAt m c t)
  Φ _ := Pipeline.ΦA spec0 c
  q w := Pipeline.shareOf spec0 w
  owed _ := 0

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = iblk m c 4 t := rfl
theorem after_5 (c : Dev nD) (t : Fin (cfg0 (F := F)).N) : (dats m 0 c).after 5 t = OUT (opsAt m c t) := rfl

theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; rfl) t d).trans rfl
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; rfl) t d).trans rfl
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; rfl) t d).trans rfl
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; rfl) t d).trans rfl
theorem before_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after_4]; rfl) t d).trans rfl

theorem body_obligation (c : Dev nD) : BodyObligation (dats (F := F) m 0 c) (defs₀ (F := F)) 𝒱₀ () Set.univ := fun t => by
  rw [bigSep_W0, bigSep_W0]
  sl_whnfR [defs₀, Defs.onTc]
  rw [show (dats m 0 c).Φ t.succ = (dats m 0 c).Φ t.castSucc from rfl,
    show (dats m 0 c).owesAt () t.succ = (dats m 0 c).owesAt () t.castSucc from rfl, after_0, after_1, after_2, after_3, after_4, after_5]
  rw [show (dats m 0 c).Φ t.castSucc = iprop(Pipeline.scopedRest spec0 c ∗ ∃ r, prngReg c r) from rfl]
  iintro ⟨⟨Hs, Hr⟩, Ho, ⟨%d0, H0⟩, ⟨%d1, H1⟩, ⟨%d2, H2⟩, ⟨%d3, H3⟩, ⟨%d4, H4⟩, ⟨%d5, H5⟩⟩
  iapply (sound_at c t (opsAt m c t) _ _)
  isplitl [Hs]; · iexact Hs
  isplitl [H0]; · rw [show (opsAt m c t).q = (dats m 0 c).before 0 t d0 from (before_0 m c t d0).symm]; iexact H0
  isplitl [H1]; · rw [show (opsAt m c t).k = (dats m 0 c).before 1 t d1 from (before_1 m c t d1).symm]; iexact H1
  isplitl [H2]; · rw [show (opsAt m c t).v = (dats m 0 c).before 2 t d2 from (before_2 m c t d2).symm]; iexact H2
  isplitl [H3]; · rw [show (opsAt m c t).z = (dats m 0 c).before 3 t d3 from (before_3 m c t d3).symm]; iexact H3
  isplitl [H4]; · rw [show (opsAt m c t).w = (dats m 0 c).before 4 t d4 from (before_4 m c t d4).symm]; iexact H4
  isplitl [H5]; · iexact H5
  iintro ⟨Hs, H0, H1, H2, H3, H4, H5⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- From any memory the program runs to an end, its arrays at what the data above say, its counters at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := fun _ _ => rfl) (hΦ := fun _ _ => rfl)

/-- The run's end read at the result and at the arguments. -/
theorem run_read : θ_run defs (onTc (τ := τ) (main (F := F))) (s₀ m ρ) (fun r => (∀ c : Dev nD,
      r.2.mem ((c.tc : Thread nD τ).loc main_v8) = (dats m 0 c).arrAt 5 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => by
    obtain ⟨hw, hr⟩ := h.1 c
    exact ⟨hw 5,
      (hw 0).trans (((dats m 0 c).arrAt_in 0 rfl _).trans (V_of_ne m c main_arg0 (by decide))),
      (hw 1).trans (((dats m 0 c).arrAt_in 1 rfl _).trans (V_of_ne m c main_arg1 (by decide))),
      (hw 3).trans (((dats m 0 c).arrAt_in 3 rfl _).trans (V_of_ne m c main_arg2 (by decide)))⟩, h.2⟩) (run_main m ρ)

end

end Cert.Proof.KI

end
-- ==== Proof.Val.Real.lean ====
/-
  The real functions behind the attention: the softplus to base two, the weight a key gets, and the extended reals'
  functions at real arguments.
-/
module

public import Idealize.ShloMosaic.PureOps.Ideal
public import Idealize.ShloMosaic.PureOps.Ideal.Laws
public import Idealize.ShloMosaic.Lib.ValueIdx

@[expose] public section

noncomputable section

namespace Cert.Proof.Val

open Idealize.ShloMosaic Idealize.ShloMosaic.ValueIdx

/-- The softplus to base two. -/
def s2 (x : ℝ) : ℝ := max x 0 + Real.log (1 + (2 : ℝ) ^ (-|x|)) * (Real.log 2)⁻¹

theorem log2_pos : 0 < Real.log 2 := Real.log_pos (by norm_num)

/-- The softplus of the negative is the softplus less the argument. -/
theorem s2_neg (x : ℝ) : s2 (-x) = s2 x - x := by
  unfold s2
  rw [abs_neg]
  have : max (-x) 0 = max x 0 - x := by
    rcases le_total x 0 with h | h
    · rw [max_eq_left (by linarith), max_eq_right h]; ring
    · rw [max_eq_right (by linarith), max_eq_left h]; ring
  rw [this]; ring

/-- The weight of key `k` in row `r` whose logits to base two are `z`. -/
def wt (z : ℕ → ℝ) (r k : ℕ) : ℝ := if k < r then (2 : ℝ) ^ (z k - s2 (z k) - ∑ j ∈ Finset.Ioo k r, s2 (z j)) else 0

theorem exp_coe (x : ℝ) : Ideal.exp (x : EReal) = (Real.exp x : ℝ) := rfl
theorem exp2_coe (x : ℝ) : Ideal.exp2 (x : EReal) = ((2 : ℝ) ^ x : ℝ) := rfl
theorem log_coe {x : ℝ} (h : 0 < x) : Ideal.log (x : EReal) = (Real.log x : ℝ) := by
  show (if x ≤ 0 then (⊥ : EReal) else (Real.log x : EReal)) = _
  rw [if_neg (not_le.mpr h)]
theorem max_coe (x y : ℝ) : max (x : EReal) (y : EReal) = ((max x y : ℝ) : EReal) :=
  (EReal.coe_strictMono.monotone.map_max).symm
theorem ofBits_one : Ideal.ofBits .f32 0x3F800000#32 = 1 := by simp [Ideal.ofBits, Ideal.ieee, -EReal.coe_mul]; norm_num
theorem ofBits_neg_one : Ideal.ofBits .bf16 0xBF80#16 = ((-1 : ℝ) : EReal) := by
  simp [Ideal.ofBits, Ideal.ieee, -EReal.coe_mul, -EReal.coe_neg]; norm_num
theorem ofBits_two : Ideal.ofBits .f32 0x40000000#32 = ((2 : ℝ) : EReal) := by
  simp [Ideal.ofBits, Ideal.ieee, -EReal.coe_mul]; norm_num
theorem ofBits_zero_bf16 : Ideal.ofBits .bf16 0x0000#16 = 0 := by simp [Ideal.ofBits, Ideal.ieee]
theorem ofBits_inf_bf16 : Ideal.ofBits .bf16 0x7F80#16 = ⊤ := by simp [Ideal.ofBits, Ideal.ieee]

/-- The kernel's softplus of a real. -/
theorem softplus_coe (x : ℝ) :
    max (x : EReal) 0 + Ideal.log (1 + Ideal.exp2 (0 - max (x : EReal) (-(x : EReal)))) * (((Real.log 2)⁻¹ : ℝ) : EReal) = (s2 x : ℝ) := by
  have h1 : (0 : EReal) - max (x : EReal) (-(x : EReal)) = ((-|x| : ℝ) : EReal) := by
    rw [← EReal.coe_neg, max_coe, ← EReal.coe_zero, ← EReal.coe_sub]; congr 1; rw [zero_sub]; rfl
  have h2 : (1 : EReal) + Ideal.exp2 ((-|x| : ℝ) : EReal) = ((1 + (2 : ℝ) ^ (-|x|) : ℝ) : EReal) := by
    rw [exp2_coe, EReal.coe_add, EReal.coe_one]
  have h3 : (0 : ℝ) < 1 + (2 : ℝ) ^ (-|x|) := by positivity
  rw [h1, h2, log_coe h3, ← EReal.coe_zero, max_coe, ← EReal.coe_mul, ← EReal.coe_add]; rfl

/-- The reference's softplus of a real, written as a multiple of the logarithm of two. -/
theorem ref_softplus_coe (x : ℝ) :
    max ((x * Real.log 2 : ℝ) : EReal) 0 + Ideal.log1p (Ideal.exp (-(max ((x * Real.log 2 : ℝ) : EReal) (-((x * Real.log 2 : ℝ) : EReal)))))
      = ((Real.log 2 * s2 x : ℝ) : EReal) := by
  have hl := log2_pos
  have h1 : -(max ((x * Real.log 2 : ℝ) : EReal) (-((x * Real.log 2 : ℝ) : EReal))) = ((Real.log 2 * (-|x|) : ℝ) : EReal) := by
    rw [← EReal.coe_neg, max_coe, ← EReal.coe_neg]; congr 1
    show -|x * Real.log 2| = _
    rw [abs_mul, abs_of_pos hl]; ring
  have h2 : Real.exp (Real.log 2 * (-|x|)) = (2 : ℝ) ^ (-|x|) := (Real.rpow_def_of_pos (by norm_num) _).symm
  have h3 : (0 : ℝ) < 1 + (2 : ℝ) ^ (-|x|) := by positivity
  have h4 : max (x * Real.log 2) 0 = Real.log 2 * max x 0 := by
    rw [mul_comm x, mul_max_of_nonneg _ _ hl.le, mul_zero]
  unfold Ideal.log1p
  rw [h1, exp_coe, h2, ← EReal.coe_one, ← EReal.coe_add, log_coe h3, ← EReal.coe_zero, max_coe, ← EReal.coe_add, h4]
  congr 1; unfold s2; field_simp

/-- A sum of reals, as an extended real. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ### Arrays read at natural numbers -/

/-- A rank-3 array read at natural numbers, zero outside. -/
def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0
theorem at3_eq {n0 n1 n2 : ℕ} (X : (⟨3, ![n0, n1, n2]⟩ : Shape).Idx → EReal) (i : (⟨3, ![n0, n1, n2]⟩ : Shape).Idx) {a b c : ℕ}
    (ha : (i 0).val = a) (hb : (i 1).val = b) (hc : (i 2).val = c) : X i = at3 X a b c := by
  subst ha hb hc
  unfold at3
  rw [dif_pos ⟨(i 0).isLt, (i 1).isLt, (i 2).isLt⟩]
  exact congrArg X (eq_ix3 i)

/-- Its real parts. -/
def re3 {n0 n1 n2 : ℕ} (X : (⟨3, ![n0, n1, n2]⟩ : Shape).Idx → EReal) (a b c : ℕ) : ℝ := (at3 X a b c).toReal
theorem at3_coe {n0 n1 n2 : ℕ} {X : (⟨3, ![n0, n1, n2]⟩ : Shape).Idx → EReal} (hX : ∀ i, X i ≠ ⊤ ∧ X i ≠ ⊥) (a b c : ℕ) :
    at3 X a b c = (re3 X a b c : ℝ) := by
  unfold re3
  refine (EReal.coe_toReal ?_ ?_).symm <;> unfold at3 <;> split_ifs
  · exact (hX _).1
  · exact EReal.zero_ne_top
  · exact (hX _).2
  · exact EReal.zero_ne_bot

/-- The logit to base two of a head's query and key: the sum over the head's 64 lanes. -/
def lgt (q k : ℕ → ℝ) (h : ℕ) : ℝ := ∑ d ∈ Finset.range 64, q (64 * h + d) * k (64 * h + d)

/-- A row's attention at a lane: the values weighted. -/
def att (z : ℕ → ℝ) (r : ℕ) (v : ℕ → EReal) : EReal := ∑ k ∈ Finset.range 2048, ((wt z r k : ℝ) : EReal) * v k
/-- The gate. -/
def gate (g : EReal) : EReal := g * Ideal.div 1 (1 + Ideal.exp (-g))

end Cert.Proof.Val
end
-- ==== Proof.Val.Vec.lean ====
/-
  The kernel's vector steps read at an index, at exact arithmetic.
-/
module

public import proofs.«01_k».proof.Proof.KI.Loop
public import proofs.«01_k».proof.Proof.Val.Real
public import Idealize.ShloMosaic.Lib.MatmulPlain
public import Idealize.ShloMosaic.Lib.Pipeline.Value

@[expose] public section

set_option maxRecDepth 4096

noncomputable section

namespace Cert.Proof.Val

open Idealize.ShloMosaic Idealize.ShloMosaic.ValueIdx
open Cert.KernelIdeal Cert.KernelIdeal.Gen Cert.Proof.KI

/-! ### Slots and matrices -/

theorem drop3 {α : Type} {n m : ℕ} (v : (⟨3, ![1, n, m]⟩ : Shape).Idx → α) (h : (⟨3, ![1, n, m]⟩ : Shape).ShapeCasts ⟨2, ![n, m]⟩) (r : Fin n) (d : Fin m) :
    shapeCast ⟨2, ![n, m]⟩ v h (ix2 r d) = v (ix3 0 r d) := by
  rw [shapeCast_dropUnit_apply]
  refine congrArg v (funext fun a => ?_)
  match a with
  | ⟨0, _⟩ => rfl
  | ⟨1, _⟩ => rfl
  | ⟨2, _⟩ => rfl
theorem add3 {α : Type} {n m : ℕ} (v : (⟨2, ![n, m]⟩ : Shape).Idx → α) (h : (⟨2, ![n, m]⟩ : Shape).ShapeCasts ⟨3, ![1, n, m]⟩) (r : Fin n) (d : Fin m) :
    shapeCast ⟨3, ![1, n, m]⟩ v h (ix3 0 r d) = v (ix2 r d) := by
  rw [shapeCast_addUnit_apply]
  refine congrArg v (funext fun a => ?_)
  match a with
  | ⟨0, _⟩ => rfl
  | ⟨1, _⟩ => rfl

/-! ### The softplus -/

theorem cL_eq : cL (F := Ideal) = (((Real.log 2)⁻¹ : ℝ) : EReal) := rfl
theorem cT_eq : cT (F := Ideal) = (⊥ : EReal) := rfl

theorem sp_scalar {y : EReal} {x : ℝ} (h : y = x) :
    FloatOps.addf (F := Ideal) (φ := .f32) (FloatOps.maximumf y (FloatOps.ofBits .f32 0x00000000#32))
      (FloatOps.mulf (FloatOps.log (FloatOps.addf (FloatOps.ofBits .f32 0x3F800000#32) (FloatOps.exp2 (FloatOps.subf (FloatOps.ofBits .f32 0x00000000#32) (FloatOps.absf y)))))
        (cL (F := Ideal))) = ((s2 x : ℝ) : EReal) := by
  subst h
  rw [← softplus_coe x, ← Ideal.ofBits_zero_f32, ← ofBits_one]; rfl

theorem spW_at {z : FVec Ideal S256x256 .f32} {i : S256x256.Idx} {x : ℝ} (h : z i = (x : EReal)) : spW z i = ((s2 x : ℝ) : EReal) := sp_scalar h
theorem spQ_at {z : FVec Ideal S128x128 .f32} {i : S128x128.Idx} {x : ℝ} (h : z i = (x : EReal)) : spQ z i = ((s2 x : ℝ) : EReal) := sp_scalar h
theorem spH_at {z : FVec Ideal S128x256 .f32} {i : S128x256.Idx} {x : ℝ} (h : z i = (x : EReal)) : spH z i = ((s2 x : ℝ) : EReal) := sp_scalar h

/-! ### Products -/

theorem logitsV_at (q k : Vec Ideal S1x256x128 .bf16) (r j : Fin 256) :
    logitsV q k (ix2 r j) = ∑ d : Fin 128, (q (ix3 0 r d) : EReal) * (k (ix3 0 j d) : EReal) := by
  have e : logitsV q k (ix2 r j) = FloatOps.matmul (DotDims.transposedRhs 256 128 256) none (cSb q) (cSb k) (constant S256x256 .f32 0x00000000#32) (ix2 r j) := rfl
  rw [e, Ideal.matmul_transposedRhs_apply]
  have c0 : (constant (F := Ideal) S256x256 .f32 0x00000000#32) (ix2 r j) = (0 : EReal) := Ideal.ofBits_zero_f32
  rw [c0, zero_add]
  refine Finset.sum_congr rfl fun d _ => ?_
  rw [show cSb q (ix2 r d) = q (ix3 0 r d) from drop3 _ _ _ _, show cSb k (ix2 j d) = k (ix3 0 j d) from drop3 _ _ _ _]

theorem rV_at (w : FVec Ideal S256x256 .bf16) (s : FVec Ideal S256x256 .f32) (r c : Fin 256) :
    rV w s (ix2 r c) = ∑ k : Fin 256, (s (ix2 r k) : EReal) * (w (ix2 k c) : EReal) := by
  have e : rV w s (ix2 r c) = FloatOps.matmul (DotDims.plain 256 256 256) none (truncf .bf16 s bitsLt_bf16_f32) w (constant S256x256 .f32 0x00000000#32) (ix2 r c) := rfl
  rw [e, Ideal.matmul_plain_apply]
  have c0 : (constant (F := Ideal) S256x256 .f32 0x00000000#32) (ix2 r c) = (0 : EReal) := Ideal.ofBits_zero_f32
  rw [c0, zero_add]; rfl

theorem accV_at (o : Vec Ideal S1x256x128 .f32) (a : Vec Ideal S1x256x256 .bf16) (v : Vec Ideal S1x256x128 .bf16) (r : Fin 256) (d : Fin 128) :
    accV o a v (ix2 r d) = (o (ix3 0 r d) : EReal) + ∑ k : Fin 256, (a (ix3 0 r k) : EReal) * (v (ix3 0 k d) : EReal) := by
  have e : accV o a v (ix2 r d) = (cS o (ix2 r d) : EReal) + FloatOps.matmul (DotDims.plain 256 256 128) none (cWb a) (cSb v) (constant S256x128 .f32 0x00000000#32) (ix2 r d) := rfl
  rw [e, Ideal.matmul_plain_apply]
  have c0 : (constant (F := Ideal) S256x128 .f32 0x00000000#32) (ix2 r d) = (0 : EReal) := Ideal.ofBits_zero_f32
  rw [c0, zero_add, show cS o (ix2 r d) = o (ix3 0 r d) from drop3 _ _ _ _]
  refine congrArg _ (Finset.sum_congr rfl fun k _ => ?_)
  rw [show cWb a (ix2 r k) = a (ix3 0 r k) from drop3 _ _ _ _, show cSb v (ix2 k d) = v (ix3 0 k d) from drop3 _ _ _ _]

/-! ### The row sums along the lanes -/

theorem totV_at (r : FVec Ideal S256x256 .f32) (i : Fin 256) (d : Fin 128) : totV r (ix2 i d) = r (ix2 i 255) := by
  unfold totV
  rw [broadcastTo_apply (k := ix2 i 0)]
  · rw [shapeCast_self]
    refine extractStridedSlice_apply _ _ _ _ _ fun a => ?_
    match a with
    | ⟨0, _⟩ => show i.val = 0 + i.val; omega
    | ⟨1, _⟩ => rfl
  · intro a
    match a with
    | ⟨0, _⟩ => rfl
    | ⟨1, _⟩ => rfl

/-! ### Masks -/

theorem sel_lt {α : Type} {a b : ℕ} (ha : a < 2048) (hb : b < 2048) (x y : α) :
    Scalar.select (IntOp.cmpi .slt (BitVec.ofNat 32 a) (BitVec.ofNat 32 b)) x y = if a < b then x else y := by
  have i1 : (BitVec.ofNat 32 a).toInt = a := by
    rw [BitVec.toInt_eq_toNat_of_lt (by rw [BitVec.toNat_ofNat]; omega), BitVec.toNat_ofNat]; congr 1; omega
  have i0 : (BitVec.ofNat 32 b).toInt = b := by
    rw [BitVec.toInt_eq_toNat_of_lt (by rw [BitVec.toNat_ofNat]; omega), BitVec.toNat_ofNat]; congr 1; omega
  show (if BitVec.ofBool (BitVec.slt _ _) = 1#1 then x else y) = _
  rw [BitVec.slt, i1, i0]
  by_cases h : a < b <;> simp [h]
theorem sel_eq {α : Type} {a b : ℕ} (ha : a < 2048) (hb : b < 2048) (x y : α) :
    Scalar.select (IntOp.cmpi .eq (BitVec.ofNat 32 a) (BitVec.ofNat 32 b)) x y = if a = b then x else y := by
  show (if BitVec.ofBool (BitVec.ofNat 32 a == BitVec.ofNat 32 b) = 1#1 then x else y) = _
  have e : BitVec.ofNat 32 a = BitVec.ofNat 32 b ↔ a = b := by
    constructor
    · intro h
      have := congrArg BitVec.toNat h
      rw [BitVec.toNat_ofNat, BitVec.toNat_ofNat] at this; omega
    · rintro rfl; rfl
  by_cases h : a = b
  · subst h; simp
  · rw [if_neg h, if_neg]
    rw [show (BitVec.ofNat 32 a == BitVec.ofNat 32 b) = false from by rw [beq_eq_false_iff_ne]; exact fun h' => h (e.mp h')]; decide

theorem h0_at {α : Type} (i : S1x128.Idx) (x y : α) : Scalar.select (k0_pay329 i) x y = if (i 1).val < 64 then x else y := by
  have e : k0_pay329 i = IntOp.cmpi .slt (BitVec.ofNat 32 (i 1).val) (BitVec.ofNat 32 64) := by
    show IntOp.cmpi .slt (iota .tc S1x128 32 [1] iota_S1x128_d1_w32 i) _ = _
    rw [iota_single_apply]; rfl
  have := (i 1).isLt
  rw [e, sel_lt (by have : (i 1).val < 128 := (i 1).isLt; omega) (by decide)]
theorem lk_at {α : Type} (i : S256x256.Idx) (x y : α) : Scalar.select (k0_pay330 i) x y = if (i 1).val = 255 then x else y := by
  have e : k0_pay330 i = IntOp.cmpi .eq (BitVec.ofNat 32 (i 1).val) (BitVec.ofNat 32 255) := by
    show IntOp.cmpi .eq (iota .tc S256x256 32 [1] iota_S256x256_d1_w32 i) _ = _
    rw [iota_single_apply]; rfl
  rw [e, sel_eq (by have : (i 1).val < 256 := (i 1).isLt; omega) (by decide)]
theorem cq_at {α : Type} (i : S128x128.Idx) (x y : α) : Scalar.select (k0_pay331 i) x y = if (i 1).val < (i 0).val then x else y := by
  have e : k0_pay331 i = IntOp.cmpi .slt (BitVec.ofNat 32 (i 1).val) (BitVec.ofNat 32 (i 0).val) := by
    show IntOp.cmpi .slt (iota .tc S128x128 32 [1] iota_S128x128_d1_w32 i) (iota .tc S128x128 32 [0] iota_S128x128_d0_w32 i) = _
    rw [iota_single_apply, iota_single_apply]
  rw [e, sel_lt (by have : (i 1).val < 128 := (i 1).isLt; omega) (by have : (i 0).val < 128 := (i 0).isLt; omega)]

theorem msk_at {α : Type} (r : Fin 256) (d : Fin 128) (x y : α) : Scalar.select (msk k0_pay329 (ix2 r d)) x y = if d.val < 64 then x else y := by
  have e : msk k0_pay329 (ix2 r d) = k0_pay329 (ix2 0 d) := by
    unfold msk
    rw [broadcastTo_apply (k := ix2 0 d)]
    · rw [shapeCast_self]
    · intro a
      match a with
      | ⟨0, _⟩ => rfl
      | ⟨1, _⟩ => rfl
  rw [e, h0_at]

theorem qA_at (q : Vec Ideal S1x256x128 .bf16) (r : Fin 256) (d : Fin 128) : qA k0_pay329 q (ix2 r d) = if d.val < 64 then (q (ix3 0 r d) : EReal) else 0 := by
  have e : qA k0_pay329 q (ix2 r d) = Scalar.select (msk k0_pay329 (ix2 r d)) (cSb q (ix2 r d) : EReal) (Ideal.ofBits .bf16 0x0000#16) := rfl
  rw [e, msk_at, ofBits_zero_bf16, show cSb q (ix2 r d) = q (ix3 0 r d) from drop3 _ _ _ _]
theorem qB_at (q : Vec Ideal S1x256x128 .bf16) (r : Fin 256) (d : Fin 128) : qB k0_pay329 q (ix2 r d) = if d.val < 64 then 0 else (q (ix3 0 r d) : EReal) := by
  have e : qB k0_pay329 q (ix2 r d) = Scalar.select (msk k0_pay329 (ix2 r d)) (Ideal.ofBits .bf16 0x0000#16) (cSb q (ix2 r d) : EReal) := rfl
  rw [e, msk_at, ofBits_zero_bf16, show cSb q (ix2 r d) = q (ix3 0 r d) from drop3 _ _ _ _]

theorem outV_at (z a b : Vec Ideal S1x256x128 .f32) (r : Fin 256) (d : Fin 128) :
    outV k0_pay329 z a b (ix2 r d) = (if d.val < 64 then (a (ix3 0 r d) : EReal) else b (ix3 0 r d)) * gate (z (ix3 0 r d)) := by
  have e : outV k0_pay329 z a b (ix2 r d) = Scalar.select (msk k0_pay329 (ix2 r d)) (cS a (ix2 r d) : EReal) (cS b (ix2 r d)) * gate (cS z (ix2 r d)) := rfl
  rw [e, msk_at, show cS a (ix2 r d) = a (ix3 0 r d) from drop3 _ _ _ _, show cS b (ix2 r d) = b (ix3 0 r d) from drop3 _ _ _ _, show cS z (ix2 r d) = z (ix3 0 r d) from drop3 _ _ _ _]

/-! ### Quarters side by side -/

theorem cat1 {α : Type} (x y : S128x128.Idx → α) (h : Shape.Concatenates [S128x128, S128x128] S128x256 1) (i : Fin 128) (j : Fin 256) :
    concatenate S128x256 1 [⟨S128x128, x⟩, ⟨S128x128, y⟩] h (ix2 i j)
      = if hj : j.val < 128 then x (ix2 i ⟨j.val, hj⟩) else y (ix2 i ⟨j.val - 128, by omega⟩) := by
  split_ifs with hj
  · refine concatenate_pair_apply_left (t := S128x256) (s₁ := S128x128) (s₂ := S128x128) 1 x y h (ix2 i j) rfl (ix2 i ⟨j.val, hj⟩) fun b => ?_
    match b with
    | ⟨0, _⟩ => rfl
    | ⟨1, _⟩ => rfl
  · refine concatenate_pair_apply_right (t := S128x256) (s₁ := S128x128) (s₂ := S128x128) 1 x y h (ix2 i j) rfl rfl (ix2 i ⟨j.val - 128, by omega⟩) (fun b hb => ?_) ?_
    · match b with
      | ⟨0, _⟩ => rfl
      | ⟨1, _⟩ => exact absurd rfl hb
    · show j.val - 128 + 128 = j.val; omega
theorem cat0 {α : Type} (x y : S128x256.Idx → α) (h : Shape.Concatenates [S128x256, S128x256] S256x256 0) (i j : Fin 256) :
    concatenate S256x256 0 [⟨S128x256, x⟩, ⟨S128x256, y⟩] h (ix2 i j)
      = if hi : i.val < 128 then x (ix2 ⟨i.val, hi⟩ j) else y (ix2 ⟨i.val - 128, by omega⟩ j) := by
  split_ifs with hj
  · refine concatenate_pair_apply_left (t := S256x256) (s₁ := S128x256) (s₂ := S128x256) 0 x y h (ix2 i j) rfl (ix2 ⟨i.val, hj⟩ j) fun b => ?_
    match b with
    | ⟨0, _⟩ => rfl
    | ⟨1, _⟩ => rfl
  · refine concatenate_pair_apply_right (t := S256x256) (s₁ := S128x256) (s₂ := S128x256) 0 x y h (ix2 i j) rfl rfl (ix2 ⟨i.val - 128, by omega⟩ j) (fun b hb => ?_) ?_
    · match b with
      | ⟨0, _⟩ => exact absurd rfl hb
      | ⟨1, _⟩ => rfl
    · show i.val - 128 + 128 = i.val; omega
theorem catL {α : Type} (x y : S256x128.Idx → α) (h : Shape.Concatenates [S256x128, S256x128] S256x256 1) (i j : Fin 256) :
    concatenate S256x256 1 [⟨S256x128, x⟩, ⟨S256x128, y⟩] h (ix2 i j)
      = if hj : j.val < 128 then x (ix2 i ⟨j.val, hj⟩) else y (ix2 i ⟨j.val - 128, by omega⟩) := by
  split_ifs with hj
  · refine concatenate_pair_apply_left (t := S256x256) (s₁ := S256x128) (s₂ := S256x128) 1 x y h (ix2 i j) rfl (ix2 i ⟨j.val, hj⟩) fun b => ?_
    match b with
    | ⟨0, _⟩ => rfl
    | ⟨1, _⟩ => rfl
  · refine concatenate_pair_apply_right (t := S256x256) (s₁ := S256x128) (s₂ := S256x128) 1 x y h (ix2 i j) rfl rfl (ix2 i ⟨j.val - 128, by omega⟩) (fun b hb => ?_) ?_
    · match b with
      | ⟨0, _⟩ => rfl
      | ⟨1, _⟩ => exact absurd rfl hb
    · show j.val - 128 + 128 = j.val; omega

/-- The softpluses of the diagonal's block, from those of its rows. -/
theorem spM_at (t : FVec Ideal S128x128 .f32) (b : FVec Ideal S128x256 .f32) (f : ℕ → ℕ → ℝ)
    (ht : ∀ (i j : Fin 128), t (ix2 i j) = (f i.val j.val : EReal)) (hb : ∀ (i : Fin 128) (j : Fin 256), b (ix2 i j) = (f (128 + i.val) j.val : EReal)) (i j : Fin 256) :
    spM k0_pay331 t b (ix2 i j) = (((if j.val < i.val then f i.val j.val else 0 : ℝ)) : EReal) := by
  unfold spM
  rw [cat0]
  have z0 : (Scalar.ofBits (F := Ideal) .f32 0x00000000#32 : EReal) = 0 := Ideal.ofBits_zero_f32
  split_ifs with hi hji hji
  · rw [cat1, dif_pos (by omega)]
    show Scalar.select (k0_pay331 _) (t _ : EReal) _ = _
    rw [cq_at, ht]; exact if_pos hji
  · rw [cat1]; split_ifs with hj
    · show Scalar.select (k0_pay331 _) (t _ : EReal) (Scalar.ofBits (F := Ideal) .f32 0x00000000#32 : EReal) = _
      rw [cq_at, z0]; exact if_neg hji
    · exact z0
  · rw [cat1]; split_ifs with hj
    · rw [extractStridedSlice_apply (k := ix2 ⟨i.val - 128, by omega⟩ j), hb]
      · show (f (128 + (i.val - 128)) j.val : EReal) = _; rw [show 128 + (i.val - 128) = i.val by omega]
      · intro a
        match a with
        | ⟨0, _⟩ => show i.val - 128 = 0 + (i.val - 128); omega
        | ⟨1, _⟩ => show j.val = 0 + j.val; omega
    · show Scalar.select (k0_pay331 _) (extractStridedSlice S128x128 ![0, 128] b slices_S128x256_o0_128_S128x128 _ : EReal) _ = _
      rw [cq_at, extractStridedSlice_apply (k := ix2 ⟨i.val - 128, by omega⟩ j), hb]
      · show (if j.val - 128 < i.val - 128 then (f (128 + (i.val - 128)) j.val : EReal) else _) = _
        rw [show 128 + (i.val - 128) = i.val by omega, if_pos (by omega)]
      · intro a
        match a with
        | ⟨0, _⟩ => show i.val - 128 = 0 + (i.val - 128); omega
        | ⟨1, _⟩ => show j.val = 128 + (j.val - 128); omega
  · rw [cat1, dif_neg (by omega)]
    show Scalar.select (k0_pay331 _) (extractStridedSlice S128x128 ![0, 128] b slices_S128x256_o0_128_S128x128 _ : EReal) (Scalar.ofBits (F := Ideal) .f32 0x00000000#32 : EReal) = _
    rw [cq_at, z0]; refine if_neg ?_
    show ¬ (j.val - 128 < i.val - 128); omega

/-- The weights of the diagonal's block. -/
theorem wtM_at (r : FVec Ideal S256x256 .f32) (tl bl br : Vec Ideal S1x128x128 .f32) (f : ℕ → ℕ → EReal)
    (htl : ∀ (i j : Fin 128), tl (ix3 0 i j) = f i.val j.val) (hbl : ∀ (i j : Fin 128), bl (ix3 0 i j) = f (128 + i.val) j.val)
    (hbr : ∀ (i j : Fin 128), br (ix3 0 i j) = f (128 + i.val) (128 + j.val)) (i j : Fin 256) :
    wtM k0_pay331 r tl bl br (ix2 i j) = if j.val < i.val then Ideal.exp2 (f i.val j.val + r (ix2 i j)) else 0 := by
  have z0 : (Scalar.ofBits (F := Ideal) .f32 0x00000000#32 : EReal) = 0 := Ideal.ofBits_zero_f32
  have e : ∀ (x : FVec Ideal S256x256 .f32), truncf (F := Ideal) .bf16 x bitsLt_bf16_f32 (ix2 i j) = x (ix2 i j) := fun _ => rfl
  unfold wtM
  rw [e, cat0]
  have ex : ∀ (x : Vec Ideal S1x128x128 .f32) (s : FVec Ideal S128x128 .f32) (a b : Fin 128),
      exp2 (addf (cTL x) s) (ix2 a b) = Ideal.exp2 ((x (ix3 0 a b) : EReal) + s (ix2 a b)) := fun x s a b => by
    show Ideal.exp2 ((cTL x (ix2 a b) : EReal) + s (ix2 a b)) = _
    rw [show cTL x (ix2 a b) = x (ix3 0 a b) from drop3 _ _ _ _]
  have se : ∀ (x y : FVec Ideal S128x128 .f32) (a b : Fin 128), select k0_pay331 x y (ix2 a b) = if b.val < a.val then (x (ix2 a b) : EReal) else y (ix2 a b) :=
    fun x y a b => cq_at (ix2 a b) (x (ix2 a b)) (y (ix2 a b))
  by_cases hi : i.val < 128
  · rw [dif_pos hi, cat1]
    by_cases hj : j.val < 128
    · rw [dif_pos hj, se, ex, htl, extractStridedSlice_apply (k := ix2 i j)]
      · by_cases h : j.val < i.val
        · rw [if_pos h]; exact (if_pos h).symm
        · rw [if_neg h]; exact z0.trans (if_neg h).symm
      · intro a
        match a with
        | ⟨0, _⟩ => show i.val = 0 + i.val; omega
        | ⟨1, _⟩ => show j.val = 0 + j.val; omega
    · rw [dif_neg hj, if_neg (by omega)]; exact z0
  · rw [dif_neg hi, cat1]
    by_cases hj : j.val < 128
    · rw [dif_pos hj, ex, hbl, extractStridedSlice_apply (k := ix2 i j), if_pos (by omega)]
      · show Ideal.exp2 (f (128 + (i.val - 128)) j.val + _) = _
        rw [show 128 + (i.val - 128) = i.val by omega]
      · intro a
        match a with
        | ⟨0, _⟩ => show i.val = 128 + (i.val - 128); omega
        | ⟨1, _⟩ => show j.val = 0 + j.val; omega
    · rw [dif_neg hj, se, ex, hbr, extractStridedSlice_apply (k := ix2 i j)]
      · show (if j.val - 128 < i.val - 128 then Ideal.exp2 (f (128 + (i.val - 128)) (128 + (j.val - 128)) + _) else _) = _
        rw [show 128 + (i.val - 128) = i.val by omega, show 128 + (j.val - 128) = j.val by omega]
        by_cases h : j.val < i.val
        · rw [if_pos h, if_pos (by omega)]
        · rw [if_neg h, if_neg (by omega)]; exact z0
      · intro a
        match a with
        | ⟨0, _⟩ => show i.val = 128 + (i.val - 128); omega
        | ⟨1, _⟩ => show j.val = 128 + (j.val - 128); omega

/-- The weights of a block below the diagonal. -/
theorem wtV_at (z : Vec Ideal S1x256x256 .f32) (r : FVec Ideal S256x256 .f32) (c : FVec Ideal S256x128 .f32) (y : EReal) (i j : Fin 256) (hc : ∀ d, c (ix2 i d) = y) :
    wtV k0_pay330 z r c (ix2 i j) = Ideal.exp2 ((z (ix3 0 i j) : EReal) + ((if j.val = 255 then 0 else r (ix2 i j)) + y)) := by
  have e : wtV k0_pay330 z r c (ix2 i j) = Ideal.exp2 ((cW z (ix2 i j) : EReal) + (Scalar.select (k0_pay330 (ix2 i j)) (Scalar.ofBits (F := Ideal) .f32 0x00000000#32 : EReal) (r (ix2 i j))
      + concatenate S256x256 1 [⟨S256x128, c⟩, ⟨S256x128, c⟩] concatenates_S256x128_S256x128_S256x256_d1 (ix2 i j))) := rfl
  have hcat : concatenate S256x256 1 [⟨S256x128, c⟩, ⟨S256x128, c⟩] concatenates_S256x128_S256x128_S256x256_d1 (ix2 i j) = y := by
    rw [catL]; split_ifs <;> exact hc _
  rw [e, lk_at, hcat, show cW z (ix2 i j) = z (ix3 0 i j) from drop3 _ _ _ _, show (Scalar.ofBits (F := Ideal) .f32 0x00000000#32 : EReal) = 0 from Ideal.ofBits_zero_f32]

/-! ### The greatest entry -/

theorem maxV_ge (x : FVec Ideal S256x128 .f32) (i : S256x128.Idx) : (x i : EReal) ≤ maxV x := by
  unfold maxV extractAt
  rw [shapeCast_apply (h := shapeCasts_S1_S1x1x1) (k := ix1 0)]
  · refine le_trans ?_ (le_of_eq (multiReduction_maximumf_eq_fold (F := Ideal) (φ := .f32) (axes := [1, 2]) (t := S1) (shapeCast S1x256x128 x shapeCasts_S256x128_S1x256x128) 0xFF800000#32 reduces_S1x256x128_S1 (.inl rfl) rfl (ix1 0)).symm)
    refine (Finset.le_fold_max (x i : EReal)).mpr (.inr ⟨ix3 0 (i 0) (i 1), Finset.mem_filter.mpr ⟨Finset.mem_univ _, ?_⟩, ?_⟩)
    · funext a; apply Fin.ext
      match a with
      | ⟨0, _⟩ => exact Nat.lt_one_iff.mp (Shape.Reduces.drop reduces_S1x256x128_S1 (ix3 0 (i 0) (i 1)) 0).isLt
    · refine le_of_eq ?_
      rw [show shapeCast S1x256x128 x shapeCasts_S256x128_S1x256x128 (ix3 0 (i 0) (i 1)) = x (ix2 (i 0) (i 1)) from add3 _ _ _ _]
      exact congrArg x (eq_ix2 i)
  · rfl

end Cert.Proof.Val
end
-- ==== Proof.Val.Kern.lean ====
/-
  What the kernel leaves in its result's buffer, at exact arithmetic, where the queries and keys are finite.
-/
module

public import proofs.«01_k».proof.Proof.KI.Launch
public import proofs.«01_k».proof.Proof.Val.Vec

@[expose] public section

set_option maxRecDepth 4096

noncomputable section

namespace Cert.Proof.Val

open Idealize.ShloMosaic Idealize.ShloMosaic.ValueIdx
open Cert.KernelIdeal Cert.KernelIdeal.Gen Cert.Proof.KI

/-! ### Sums -/

theorem sum_head (f : ℕ → ℝ) (h : ℕ) : ∑ d ∈ Finset.range 128, (if d / 64 = h % 2 then f (h / 2 * 128 + d) else 0) = ∑ d ∈ Finset.range 64, f (64 * h + d) := by
  rw [show 128 = 64 + 64 from rfl, Finset.sum_range_add]
  rcases Nat.mod_two_eq_zero_or_one h with e | e
  · rw [e, Finset.sum_congr rfl (fun d hd => if_pos (show d / 64 = 0 by have := Finset.mem_range.mp hd; omega)),
      Finset.sum_eq_zero (s := Finset.range 64) (f := fun x => if (64 + x) / 64 = 0 then f (h / 2 * 128 + (64 + x)) else 0) (fun d hd => if_neg (by have := Finset.mem_range.mp hd; omega)), add_zero]
    refine Finset.sum_congr rfl fun d _ => ?_; congr 1; omega
  · rw [e, Finset.sum_eq_zero (s := Finset.range 64) (f := fun x => if x / 64 = 1 then f (h / 2 * 128 + x) else 0) (fun d hd => if_neg (by have := Finset.mem_range.mp hd; omega)), zero_add]
    refine Finset.sum_congr rfl fun d hd => ?_
    have := Finset.mem_range.mp hd
    rw [if_pos (by omega)]; congr 1; omega

theorem rV_coe (w : FVec Ideal S256x256 .bf16) (hw : ∀ (j s : Fin 256), w (ix2 j s) = (((if s.val < j.val ∨ s.val = 255 then -1 else 0 : ℝ)) : EReal))
    (s : FVec Ideal S256x256 .f32) (f : ℕ → ℝ) (r : Fin 256) (hs : ∀ j : Fin 256, s (ix2 r j) = (f j.val : EReal)) (c : Fin 256) :
    rV w s (ix2 r c) = ((-∑ j ∈ Finset.range 256, (if c.val < j ∨ c.val = 255 then f j else 0) : ℝ) : EReal) := by
  rw [rV_at, ← Fin.sum_univ_eq_sum_range (fun j => if c.val < j ∨ c.val = 255 then f j else 0) 256, ← Finset.sum_neg_distrib, ← sum_coe]
  refine Finset.sum_congr rfl fun j _ => ?_
  rw [hs, hw, ← EReal.coe_mul]
  refine congrArg _ ?_
  split_ifs <;> ring

/-- The sum over a block's columns after `c`, as a sum over keys. -/
theorem sum_after (f : ℕ → ℝ) (b c : ℕ) (hc : c < 255) :
    ∑ j ∈ Finset.range 256, (if c < j ∨ c = 255 then f (b + j) else 0) = ∑ k ∈ Finset.Ico (b + c + 1) (b + 256), f k := by
  rw [← Finset.sum_filter, Finset.sum_Ico_eq_sum_range, show b + 256 - (b + c + 1) = 255 - c by omega]
  refine Finset.sum_nbij' (fun j => j - (c + 1)) (fun j => j + (c + 1)) ?_ ?_ ?_ ?_ ?_
  · intro j hj; simp only [Finset.mem_filter, Finset.mem_range] at hj ⊢; omega
  · intro j hj; simp only [Finset.mem_filter, Finset.mem_range] at hj ⊢; omega
  · intro j hj; simp only [Finset.mem_filter, Finset.mem_range] at hj; omega
  · intro j _; omega
  · intro j hj; simp only [Finset.mem_filter, Finset.mem_range] at hj; congr 1; omega
theorem sum_block (f : ℕ → ℝ) (b : ℕ) :
    ∑ j ∈ Finset.range 256, (if (255 : ℕ) < j ∨ (255 : ℕ) = 255 then f (b + j) else 0) = ∑ k ∈ Finset.Ico b (b + 256), f k := by
  rw [Finset.sum_Ico_eq_sum_range, show b + 256 - b = 256 by omega]
  exact Finset.sum_congr rfl fun j _ => if_pos (.inr rfl)
theorem sum_diag (f : ℕ → ℝ) (b c r : ℕ) (hc : c < r) (hr : r < 256) :
    ∑ j ∈ Finset.range 256, (if c < j ∨ c = 255 then (if j < r then f (b + j) else 0) else 0) = ∑ k ∈ Finset.Ico (b + c + 1) (b + r), f k := by
  rw [Finset.sum_congr rfl (fun j _ => show (if c < j ∨ c = 255 then (if j < r then f (b + j) else 0) else 0) = if c < j ∧ j < r then f (b + j) else 0 by
    split_ifs <;> first | rfl | omega), ← Finset.sum_filter, Finset.sum_Ico_eq_sum_range]
  refine Finset.sum_nbij' (fun j => j - (c + 1)) (fun j => j + (c + 1)) ?_ ?_ ?_ ?_ ?_
  · intro j hj; simp only [Finset.mem_filter, Finset.mem_range] at hj ⊢; omega
  · intro j hj; simp only [Finset.mem_filter, Finset.mem_range] at hj ⊢; omega
  · intro j hj; simp only [Finset.mem_filter, Finset.mem_range] at hj; omega
  · intro j _; omega
  · intro j hj; simp only [Finset.mem_filter, Finset.mem_range] at hj; congr 1; omega
theorem sum_diag_row (f : ℕ → ℝ) (b r : ℕ) (hr : r < 256) :
    ∑ j ∈ Finset.range 256, (if (255 : ℕ) < j ∨ (255 : ℕ) = 255 then (if j < r then f (b + j) else 0) else 0) = ∑ k ∈ Finset.Ico b (b + r), f k := by
  rw [Finset.sum_congr rfl (fun j _ => if_pos (.inr rfl)), ← Finset.sum_filter, Finset.sum_Ico_eq_sum_range, show b + r - b = r by omega]
  refine Finset.sum_congr (Finset.ext fun j => ?_) fun _ _ => rfl
  simp only [Finset.mem_filter, Finset.mem_range]; omega

theorem Ioo_eq (k r : ℕ) : Finset.Ioo k r = Finset.Ico (k + 1) r := by
  ext j; simp only [Finset.mem_Ioo, Finset.mem_Ico]; omega

/-! ### The operands -/

/-- The operands' queries and keys are finite, and its matrix sums the columns after each, the last column all. -/
structure Fine (I : Ops Ideal) : Prop where
  q : ∀ i, (I.q i : EReal) ≠ ⊤ ∧ (I.q i : EReal) ≠ ⊥
  k : ∀ i, (I.k i : EReal) ≠ ⊤ ∧ (I.k i : EReal) ≠ ⊥
  w : ∀ (j s : Fin 256), (kMsk I).w (ix2 j s) = (((if s.val < j.val ∨ s.val = 255 then -1 else 0 : ℝ)) : EReal)

variable (I : Ops Ideal)

abbrev oq : S1x2048x512.Idx → EReal := I.q
abbrev ok : S1x2048x512.Idx → EReal := I.k
abbrev ov : S1x2048x512.Idx → EReal := I.v
abbrev oz : S1x2048x512.Idx → EReal := I.z

/-- A row's logits with the keys, to base two. -/
def bz (h : ℕ) (row : ℕ) (k : ℕ) : ℝ := lgt (fun c => re3 (oq I) 0 row c) (fun c => re3 (ok I) 0 k c) h

variable {I} (hI : Fine I)

theorem rd_rG (X : S1x2048x512.Idx → EReal) (g : Fin 4) (t : ℕ) (ht : t < 8) (r : Fin 256) (d : Fin 128) :
    rd (rG g (ro t) (ro_le t)) X (ix3 0 r d) = at3 X 0 (256 * t + r.val) (g.val * 128 + d.val) := by
  refine at3_eq X _ ?_ ?_ ?_
  · show 0 + 1 * 0 = 0; rfl
  · show 256 * (t % 8) + 1 * r.val = _; rw [Nat.mod_eq_of_lt ht]; omega
  · show g.val * 128 + 1 * d.val = _; omega
theorem rd_rK (X : S1x2048x512.Idx → EReal) (h : Fin 8) (t : ℕ) (ht : t < 8) (r : Fin 256) (d : Fin 128) :
    rd (rK h (ro t) (ro_le t)) X (ix3 0 r d) = at3 X 0 (256 * t + r.val) (h.val / 2 * 128 + d.val) := by
  refine at3_eq X _ ?_ ?_ ?_
  · show 0 + 1 * 0 = 0; rfl
  · show 256 * (t % 8) + 1 * r.val = _; rw [Nat.mod_eq_of_lt ht]; omega
  · show h.val / 2 * 128 + 1 * d.val = _; omega

include hI

theorem mQ_at (h : Fin 8) (t : ℕ) (ht : t < 8) (r : Fin 256) (d : Fin 128) :
    mQ I (kMsk I) h t (ix3 0 r d) = (((if d.val / 64 = h.val % 2 then re3 (oq I) 0 (256 * t + r.val) (h.val / 2 * 128 + d.val) else 0 : ℝ)) : EReal) := by
  have hd := d.isLt
  have e := rd_rG (oq I) (grp h) t ht r d
  rw [at3_coe hI.q] at e
  unfold mQ qmV
  split_ifs with hh hl hl
  · rw [show uSb (qA (kMsk I).h0 (rd (rG (grp h) (ro t) (ro_le t)) I.q)) (ix3 0 r d) = qA k0_pay329 (rd (rG (grp h) (ro t) (ro_le t)) I.q) (ix2 r d) from add3 _ _ _ _, qA_at, if_pos (by omega)]
    exact e
  · rw [show uSb (qA (kMsk I).h0 (rd (rG (grp h) (ro t) (ro_le t)) I.q)) (ix3 0 r d) = qA k0_pay329 (rd (rG (grp h) (ro t) (ro_le t)) I.q) (ix2 r d) from add3 _ _ _ _, qA_at, if_neg (by omega)]
    exact EReal.coe_zero.symm
  · rw [show uSb (qB (kMsk I).h0 (rd (rG (grp h) (ro t) (ro_le t)) I.q)) (ix3 0 r d) = qB k0_pay329 (rd (rG (grp h) (ro t) (ro_le t)) I.q) (ix2 r d) from add3 _ _ _ _, qB_at, if_neg (by omega)]
    exact e
  · rw [show uSb (qB (kMsk I).h0 (rd (rG (grp h) (ro t) (ro_le t)) I.q)) (ix3 0 r d) = qB k0_pay329 (rd (rG (grp h) (ro t) (ro_le t)) I.q) (ix2 r d) from add3 _ _ _ _, qB_at, if_pos (by omega)]
    exact EReal.coe_zero.symm

/-- The logits. -/
theorem mL_at (h : Fin 8) (t u : ℕ) (ht : t < 8) (hu : u < 8) (r j : Fin 256) :
    mL I (kMsk I) h t u (ix3 0 r j) = (bz I h.val (256 * t + r.val) (256 * u + j.val) : EReal) := by
  rw [show mL I (kMsk I) h t u (ix3 0 r j) = logitsV (mQ I (kMsk I) h t) (mK I h u) (ix2 r j) from add3 _ _ _ _, logitsV_at]
  unfold bz lgt
  rw [← sum_head (fun c => re3 (oq I) 0 (256 * t + r.val) c * re3 (ok I) 0 (256 * u + j.val) c) h.val,
    ← Fin.sum_univ_eq_sum_range (fun d => if d / 64 = h.val % 2 then re3 (oq I) 0 (256 * t + r.val) (h.val / 2 * 128 + d) * re3 (ok I) 0 (256 * u + j.val) (h.val / 2 * 128 + d) else 0) 128, ← sum_coe]
  refine Finset.sum_congr rfl fun d _ => ?_
  have e := rd_rK (ok I) h u hu j d
  rw [at3_coe hI.k] at e
  rw [mQ_at hI h t ht, show mK I h u (ix3 0 j d) = _ from e, ← EReal.coe_mul]
  refine congrArg _ ?_
  split_ifs
  · rfl
  · exact zero_mul _

theorem cmL_at (h : Fin 8) (t u : ℕ) (ht : t < 8) (hu : u < 8) (r j : Fin 256) :
    cW (mL I (kMsk I) h t u) (ix2 r j) = (bz I h.val (256 * t + r.val) (256 * u + j.val) : EReal) := by
  rw [show cW (mL I (kMsk I) h t u) (ix2 r j) = mL I (kMsk I) h t u (ix3 0 r j) from drop3 _ _ _ _, mL_at hI h t u ht hu]

/-- The suffix sums of a block below the diagonal. -/
theorem mR_at (h : Fin 8) (t u : ℕ) (ht : t < 8) (hu : u < 8) (r c : Fin 256) :
    mR I (kMsk I) h t u (ix2 r c) = ((-∑ j ∈ Finset.range 256, (if c.val < j ∨ c.val = 255 then s2 (bz I h.val (256 * t + r.val) (256 * u + j)) else 0) : ℝ) : EReal) :=
  rV_coe _ hI.w _ (fun j => s2 (bz I h.val (256 * t + r.val) (256 * u + j))) r (fun j => spW_at (cmL_at hI h t u ht hu r j)) c

/-- The suffix sums of the diagonal's block. -/
theorem mR0_at (h : Fin 8) (t : ℕ) (ht : t < 8) (r c : Fin 256) :
    mR0 I (kMsk I) h t (ix2 r c) = ((-∑ j ∈ Finset.range 256, (if c.val < j ∨ c.val = 255 then (if j < r.val then s2 (bz I h.val (256 * t + r.val) (256 * t + j)) else 0) else 0) : ℝ) : EReal) := by
  refine rV_coe _ hI.w _ (fun j => if j < r.val then s2 (bz I h.val (256 * t + r.val) (256 * t + j)) else 0) r (fun j => ?_) c
  refine spM_at _ _ (fun i j => s2 (bz I h.val (256 * t + i) (256 * t + j))) (fun i j => spQ_at ?_) (fun i j => spH_at ?_) r j
  · rw [show cTL (rd tTL (mL I (kMsk I) h t t)) (ix2 i j) = rd tTL (mL I (kMsk I) h t t) (ix3 0 i j) from drop3 _ _ _ _]
    have e : tTL.emb (ix3 0 i j) = ix3 0 (⟨i.val, by omega⟩ : Fin 256) (⟨j.val, by omega⟩ : Fin 256) := by
      funext a; apply Fin.ext
      match a with
      | ⟨0, _⟩ => rfl
      | ⟨1, _⟩ => show 0 + 1 * i.val = i.val; omega
      | ⟨2, _⟩ => show 0 + 1 * j.val = j.val; omega
    show mL I (kMsk I) h t t (tTL.emb (ix3 0 i j)) = _
    rw [e, mL_at hI h t t ht ht]
  · rw [show cBt (rd tB (mL I (kMsk I) h t t)) (ix2 i j) = rd tB (mL I (kMsk I) h t t) (ix3 0 i j) from drop3 _ _ _ _]
    have e : tB.emb (ix3 0 i j) = ix3 0 (⟨128 + i.val, by omega⟩ : Fin 256) j := by
      funext a; apply Fin.ext
      match a with
      | ⟨0, _⟩ => rfl
      | ⟨1, _⟩ => show 128 + 1 * i.val = 128 + i.val; omega
      | ⟨2, _⟩ => show 0 + 1 * j.val = j.val; omega
    show mL I (kMsk I) h t t (tB.emb (ix3 0 i j)) = _
    rw [e, mL_at hI h t t ht ht]

/-- The carries. -/
theorem mC_at (h : Fin 8) (t n : ℕ) (ht : t < 8) (hn : n ≤ t) (r : Fin 256) (d : Fin 128) :
    mC I (kMsk I) h t n (ix2 r d) = ((-∑ k ∈ Finset.Ico (256 * (t - n)) (256 * t + r.val), s2 (bz I h.val (256 * t + r.val) k) : ℝ) : EReal) := by
  induction n with
  | zero =>
    show totV (mR0 I (kMsk I) h t) (ix2 r d) = _
    rw [totV_at, mR0_at hI h t ht]
    refine congrArg _ (congrArg _ ?_)
    exact sum_diag_row (fun k => s2 (bz I h.val (256 * t + r.val) k)) (256 * t) r.val r.isLt
  | succ n ih =>
    show (mC I (kMsk I) h t n (ix2 r d) : EReal) + totV (mR I (kMsk I) h t (t - (n + 1))) (ix2 r d) = _
    rw [totV_at, mR_at hI h t _ ht (by omega), ih (by omega), ← EReal.coe_add]
    refine congrArg _ ?_
    have e := sum_block (fun k => s2 (bz I h.val (256 * t + r.val) k)) (256 * (t - (n + 1)))
    rw [show 256 * (t - (n + 1)) + 256 = 256 * (t - n) by omega] at e
    rw [← Finset.sum_Ico_consecutive _ (show 256 * (t - (n + 1)) ≤ 256 * (t - n) by omega) (show 256 * (t - n) ≤ 256 * t + r.val by omega), ← e, neg_add, add_comm]
    rfl

/-- A tile takes every block below the diagonal. -/
theorem mN_eq (t : ℕ) (ht : t < 8) : mN I (kMsk I) t = t := by
  by_contra hne
  have hlt : mN I (kMsk I) t < t := lt_of_le_of_ne (mN_le I (kMsk I) t) hne
  refine mN_spec I (kMsk I) t ⟨hlt, ?_⟩
  have hw : ∀ n ≤ t, (⊥ : EReal) < mW I (kMsk I) t n := fun n hn => by
    cases n with
    | zero =>
      rw [mW_zero, show (Scalar.ofBits (F := Ideal) .f32 0x00000000#32 : EReal) = 0 from Ideal.ofBits_zero_f32]; exact EReal.bot_lt_zero
    | succ n =>
      refine lt_of_lt_of_le ?_ (maxV_ge _ (ix2 0 0))
      have e := mC_at hI 7 t (n + 1) ht hn 0 0
      refine lt_of_lt_of_le ?_ (le_max_right _ (mC I (kMsk I) 7 t (n + 1) (ix2 0 0) : EReal))
      rw [e]; exact EReal.bot_lt_coe _
  have h := hw _ (mN_le I (kMsk I) t)
  show BitVec.ofBool (decide ((⊥ : EReal) < mW I (kMsk I) t (mN I (kMsk I) t))) = 1#1
  rw [decide_eq_true h]; rfl

/-- The diagonal's logits less their softplus, at its lower part. -/
theorem zM_at (h : Fin 8) (t : ℕ) (ht : t < 8) (i j : Fin 256) (hij : 128 ≤ i.val ∨ j.val < 128) :
    zM (mL I (kMsk I) h t t) (ix3 0 i j) = ((bz I h.val (256 * t + i.val) (256 * t + j.val) - s2 (bz I h.val (256 * t + i.val) (256 * t + j.val)) : ℝ) : EReal) := by
  unfold zM
  by_cases hi : 128 ≤ i.val
  · have e : ix3 0 i j = tB.emb (ix3 0 (⟨i.val - 128, by omega⟩ : Fin 128) j) := by
      funext a; apply Fin.ext
      match a with
      | ⟨0, _⟩ => rfl
      | ⟨1, _⟩ => show i.val = 128 + 1 * (i.val - 128); omega
      | ⟨2, _⟩ => show j.val = 0 + 1 * j.val; omega
    rw [e, wr_emb, show ∀ x : FVec Ideal S128x256 .f32, uBt x (ix3 0 (⟨i.val - 128, by omega⟩ : Fin 128) j) = x (ix2 (⟨i.val - 128, by omega⟩ : Fin 128) j) from fun x => add3 _ _ _ _]
    have hz : cBt (rd tB (mL I (kMsk I) h t t)) (ix2 (⟨i.val - 128, by omega⟩ : Fin 128) j) = (bz I h.val (256 * t + i.val) (256 * t + j.val) : EReal) := by
      rw [show cBt (rd tB (mL I (kMsk I) h t t)) (ix2 (⟨i.val - 128, by omega⟩ : Fin 128) j) = rd tB (mL I (kMsk I) h t t) (ix3 0 (⟨i.val - 128, by omega⟩ : Fin 128) j) from drop3 _ _ _ _]
      show mL I (kMsk I) h t t (tB.emb _) = _
      rw [← e, mL_at hI h t t ht ht]
    show (cBt (rd tB (mL I (kMsk I) h t t)) (ix2 (⟨i.val - 128, by omega⟩ : Fin 128) j) : EReal) - spH (cBt (rd tB (mL I (kMsk I) h t t))) (ix2 (⟨i.val - 128, by omega⟩ : Fin 128) j) = _
    rw [spH_at hz, hz, EReal.coe_sub]
  · have hj : j.val < 128 := by omega
    have e : ix3 0 i j = tTL.emb (ix3 0 (⟨i.val, by omega⟩ : Fin 128) (⟨j.val, hj⟩ : Fin 128)) := by
      funext a; apply Fin.ext
      match a with
      | ⟨0, _⟩ => rfl
      | ⟨1, _⟩ => show i.val = 0 + 1 * i.val; omega
      | ⟨2, _⟩ => show j.val = 0 + 1 * j.val; omega
    rw [wr_not _ _ _ (by
      rintro ⟨x, hx⟩
      have h1 : 128 + 1 * (x 1).val = i.val := congrArg (fun y : S1x256x256.Idx => (y 1).val) hx
      omega)]
    rw [e, wr_emb, show ∀ x : FVec Ideal S128x128 .f32, uTL x (ix3 0 (⟨i.val, by omega⟩ : Fin 128) (⟨j.val, hj⟩ : Fin 128)) = x (ix2 (⟨i.val, by omega⟩ : Fin 128) (⟨j.val, hj⟩ : Fin 128)) from fun x => add3 _ _ _ _]
    have hz : cTL (rd tTL (mL I (kMsk I) h t t)) (ix2 (⟨i.val, by omega⟩ : Fin 128) (⟨j.val, hj⟩ : Fin 128)) = (bz I h.val (256 * t + i.val) (256 * t + j.val) : EReal) := by
      rw [show cTL (rd tTL (mL I (kMsk I) h t t)) (ix2 (⟨i.val, by omega⟩ : Fin 128) (⟨j.val, hj⟩ : Fin 128)) = rd tTL (mL I (kMsk I) h t t) (ix3 0 (⟨i.val, by omega⟩ : Fin 128) (⟨j.val, hj⟩ : Fin 128)) from drop3 _ _ _ _]
      show mL I (kMsk I) h t t (tTL.emb _) = _
      rw [← e, mL_at hI h t t ht ht]
    show (cTL (rd tTL (mL I (kMsk I) h t t)) (ix2 (⟨i.val, by omega⟩ : Fin 128) (⟨j.val, hj⟩ : Fin 128)) : EReal) - spQ (cTL (rd tTL (mL I (kMsk I) h t t))) (ix2 (⟨i.val, by omega⟩ : Fin 128) (⟨j.val, hj⟩ : Fin 128)) = _
    rw [spQ_at hz, hz, EReal.coe_sub]

/-- The weights on the diagonal. -/
theorem mA0_at (h : Fin 8) (t : ℕ) (ht : t < 8) (r j : Fin 256) :
    mA I (kMsk I) h t 0 (ix3 0 r j) = (wt (bz I h.val (256 * t + r.val)) (256 * t + r.val) (256 * t + j.val) : EReal) := by
  rw [mA_zero, show ∀ x : FVec Ideal S256x256 .bf16, uWb x (ix3 0 r j) = x (ix2 r j) from fun x => add3 _ _ _ _]
  refine (wtM_at _ _ _ _ (fun i j => ((bz I h.val (256 * t + i) (256 * t + j) - s2 (bz I h.val (256 * t + i) (256 * t + j)) : ℝ) : EReal)) (fun a b => ?_) (fun a b => ?_) (fun a b => ?_) r j).trans ?_
  · have e : tTL.emb (ix3 0 a b) = ix3 0 (⟨a.val, by omega⟩ : Fin 256) (⟨b.val, by omega⟩ : Fin 256) := by
      funext x; apply Fin.ext
      match x with
      | ⟨0, _⟩ => rfl
      | ⟨1, _⟩ => show 0 + 1 * a.val = a.val; omega
      | ⟨2, _⟩ => show 0 + 1 * b.val = b.val; omega
    show zM (mL I (kMsk I) h t t) (tTL.emb (ix3 0 a b)) = _
    rw [e, zM_at hI h t ht _ _ (.inr b.isLt)]
  · have e : tBL.emb (ix3 0 a b) = ix3 0 (⟨128 + a.val, by omega⟩ : Fin 256) (⟨b.val, by omega⟩ : Fin 256) := by
      funext x; apply Fin.ext
      match x with
      | ⟨0, _⟩ => rfl
      | ⟨1, _⟩ => show 128 + 1 * a.val = 128 + a.val; omega
      | ⟨2, _⟩ => show 0 + 1 * b.val = b.val; omega
    show zM (mL I (kMsk I) h t t) (tBL.emb (ix3 0 a b)) = _
    rw [e, zM_at hI h t ht _ _ (.inr b.isLt)]
  · have e : tBR.emb (ix3 0 a b) = ix3 0 (⟨128 + a.val, by omega⟩ : Fin 256) (⟨128 + b.val, by omega⟩ : Fin 256) := by
      funext x; apply Fin.ext
      match x with
      | ⟨0, _⟩ => rfl
      | ⟨1, _⟩ => show 128 + 1 * a.val = 128 + a.val; omega
      | ⟨2, _⟩ => show 128 + 1 * b.val = 128 + b.val; omega
    show zM (mL I (kMsk I) h t t) (tBR.emb (ix3 0 a b)) = _
    rw [e, zM_at hI h t ht _ _ (.inl (Nat.le_add_right _ _))]
  · rw [mR0_at hI h t ht]
    unfold wt
    by_cases hj : j.val < r.val
    · rw [if_pos hj, if_pos (by omega), ← EReal.coe_add, exp2_coe, sum_diag (fun k => s2 (bz I h.val (256 * t + r.val) k)) (256 * t) j.val r.val hj r.isLt, Ioo_eq, ← sub_eq_add_neg]
    · rw [if_neg hj, if_neg (by omega), EReal.coe_zero]

/-- The weights below it. -/
theorem mAs_at (h : Fin 8) (t n : ℕ) (ht : t < 8) (hn : n + 1 ≤ t) (r j : Fin 256) :
    mA I (kMsk I) h t (n + 1) (ix3 0 r j) = (wt (bz I h.val (256 * t + r.val)) (256 * t + r.val) (256 * (t - (n + 1)) + j.val) : EReal) := by
  have hj := j.isLt
  have hz := cmL_at hI h t (t - (n + 1)) ht (by omega) r j
  have hzs : uW (subf (cW (mL I (kMsk I) h t (t - (n + 1)))) (spW (cW (mL I (kMsk I) h t (t - (n + 1)))))) (ix3 0 r j)
      = ((bz I h.val (256 * t + r.val) (256 * (t - (n + 1)) + j.val) - s2 (bz I h.val (256 * t + r.val) (256 * (t - (n + 1)) + j.val)) : ℝ) : EReal) := by
    rw [show ∀ x : FVec Ideal S256x256 .f32, uW x (ix3 0 r j) = x (ix2 r j) from fun x => add3 _ _ _ _]
    show (cW (mL I (kMsk I) h t (t - (n + 1))) (ix2 r j) : EReal) - spW (cW (mL I (kMsk I) h t (t - (n + 1)))) (ix2 r j) = _
    rw [spW_at hz, hz, EReal.coe_sub]
  show uWb (wtV k0_pay330 (uW (subf (cW (mL I (kMsk I) h t (t - (n + 1)))) (spW (cW (mL I (kMsk I) h t (t - (n + 1))))))) (mR I (kMsk I) h t (t - (n + 1))) (mC I (kMsk I) h t n)) (ix3 0 r j) = _
  rw [show ∀ x : FVec Ideal S256x256 .bf16, uWb x (ix3 0 r j) = x (ix2 r j) from fun x => add3 _ _ _ _,
    wtV_at _ _ _ _ r j (fun d => mC_at hI h t n ht (by omega) r d), hzs, mR_at hI h t _ ht (by omega)]
  unfold wt
  rw [Ioo_eq]
  by_cases h255 : j.val = 255
  · rw [if_pos h255, if_pos (by omega), zero_add, ← EReal.coe_add, exp2_coe, ← sub_eq_add_neg, show 256 * (t - (n + 1)) + j.val + 1 = 256 * (t - n) by omega]
  · rw [if_neg h255, if_pos (by omega), sum_after (fun k => s2 (bz I h.val (256 * t + r.val) k)) (256 * (t - (n + 1))) j.val (by omega), ← EReal.coe_add, ← EReal.coe_add, exp2_coe,
      show 256 * (t - (n + 1)) + 256 = 256 * (t - n) by omega,
      ← Finset.sum_Ico_consecutive _ (show 256 * (t - (n + 1)) + j.val + 1 ≤ 256 * (t - n) by omega) (show 256 * (t - n) ≤ 256 * t + r.val by omega)]
    refine congrArg _ (congrArg _ ?_); ring

theorem mA_at (h : Fin 8) (t n : ℕ) (ht : t < 8) (hn : n ≤ t) (r j : Fin 256) :
    mA I (kMsk I) h t n (ix3 0 r j) = (wt (bz I h.val (256 * t + r.val)) (256 * t + r.val) (256 * (t - n) + j.val) : EReal) := by
  cases n with
  | zero => exact mA0_at hI h t ht r j
  | succ n => exact mAs_at hI h t n ht hn r j

/-- The sums of weighted values. -/
theorem mO_at (h : Fin 8) (t n : ℕ) (ht : t < 8) (hn : n ≤ t + 1) (r : Fin 256) (d : Fin 128) :
    mO I (kMsk I) h t n (ix3 0 r d) = ∑ k ∈ Finset.Ico (256 * (t + 1 - n)) (256 * (t + 1)),
      ((wt (bz I h.val (256 * t + r.val)) (256 * t + r.val) k : ℝ) : EReal) * at3 (ov I) 0 k (h.val / 2 * 128 + d.val) := by
  induction n with
  | zero =>
    rw [Nat.sub_zero, Finset.Ico_self, Finset.sum_empty]
    show (zeroV (F := Ideal) (eS.symm (h, ix3 0 r d)) : EReal) = 0
    unfold zeroV
    rw [shapeCast_self]
    exact Ideal.ofBits_zero_f32
  | succ n ih =>
    rw [mO_succ, show ∀ x : FVec Ideal S256x128 .f32, uS x (ix3 0 r d) = x (ix2 r d) from fun x => add3 _ _ _ _, accV_at, ih (by omega),
      ← Finset.sum_Ico_consecutive _ (show 256 * (t + 1 - (n + 1)) ≤ 256 * (t + 1 - n) by omega) (show 256 * (t + 1 - n) ≤ 256 * (t + 1) by omega), add_comm]
    refine congrArg (· + _) ?_
    rw [Finset.sum_Ico_eq_sum_range, show 256 * (t + 1 - n) - 256 * (t + 1 - (n + 1)) = 256 by omega,
      ← Fin.sum_univ_eq_sum_range (fun k => ((wt (bz I h.val (256 * t + r.val)) (256 * t + r.val) (256 * (t + 1 - (n + 1)) + k) : ℝ) : EReal) * at3 (ov I) 0 (256 * (t + 1 - (n + 1)) + k) (h.val / 2 * 128 + d.val)) 256]
    refine Finset.sum_congr rfl fun k _ => ?_
    rw [mA_at hI h t n ht (by omega), show mV I h (t - n) (ix3 0 k d) = _ from rd_rK (ov I) h (t - n) (by omega) k d, show t + 1 - (n + 1) = t - n by omega]

/-- A head's attention at the end of a tile. -/
theorem mO_end (h : Fin 8) (t : ℕ) (ht : t < 8) (r : Fin 256) (d : Fin 128) :
    mO I (kMsk I) h t (t + 1) (ix3 0 r d) = att (bz I h.val (256 * t + r.val)) (256 * t + r.val) (fun k => at3 (ov I) 0 k (h.val / 2 * 128 + d.val)) := by
  rw [mO_at hI h t (t + 1) ht le_rfl, Nat.sub_self, Nat.mul_zero, ← Finset.range_eq_Ico]
  unfold att
  refine Finset.sum_subset (Finset.range_mono (by omega)) fun k _ hk => ?_
  have hk' : ¬ k < 256 * (t + 1) := fun h => hk (Finset.mem_range.mpr h)
  have := r.isLt
  unfold wt
  rw [if_neg (by omega), EReal.coe_zero, zero_mul]

/-- What the kernel leaves, at an index. -/
theorem OUT_at (i : S1x2048x512.Idx) :
    OUT I i = att (bz I ((i 2).val / 64) (i 1).val) (i 1).val (fun k => at3 (ov I) 0 k (i 2).val) * gate (at3 (oz I) 0 (i 1).val (i 2).val) := by
  have b1 : (i 1).val < 2048 := (i 1).isLt
  have b2 : (i 2).val < 512 := (i 2).isLt
  have ht : (otile i).val < 8 := (otile i).isLt
  have e1 : 256 * (otile i).val + (i 1).val % 256 = (i 1).val := Nat.div_add_mod _ _
  have e2 : (ogrp i).val * 128 + (i 2).val % 128 = (i 2).val := Nat.div_add_mod' _ _
  have e2' : (ogrp i).val = (i 2).val / 128 := rfl
  have el : oloc i = ix3 0 (⟨(i 1).val % 256, Nat.mod_lt _ (by decide)⟩ : Fin 256) (⟨(i 2).val % 128, Nat.mod_lt _ (by decide)⟩ : Fin 128) := by
    funext a
    match a with
    | ⟨0, _⟩ => rfl
    | ⟨1, _⟩ => rfl
    | ⟨2, _⟩ => rfl
  unfold OUT
  rw [mT_eq, el, show ∀ x : FVec Ideal S256x128 .bf16, uSb x (ix3 0 (⟨(i 1).val % 256, Nat.mod_lt _ (by decide)⟩ : Fin 256) (⟨(i 2).val % 128, Nat.mod_lt _ (by decide)⟩ : Fin 128)) = x (ix2 _ _) from fun x => add3 _ _ _ _,
    mN_eq hI _ ht]
  refine (outV_at _ _ _ _ _).trans ?_
  rw [mO_end hI _ _ ht, mO_end hI _ _ ht, show rd (rG (ogrp i) (ro (otile i).val) (ro_le (otile i).val)) I.z (ix3 0 (⟨(i 1).val % 256, Nat.mod_lt _ (by decide)⟩ : Fin 256) (⟨(i 2).val % 128, Nat.mod_lt _ (by decide)⟩ : Fin 128)) = _ from rd_rG (oz I) (ogrp i) _ ht _ _]
  show (if (i 2).val % 128 < 64 then att (bz I (2 * (ogrp i).val) (256 * (otile i).val + (i 1).val % 256)) (256 * (otile i).val + (i 1).val % 256) (fun k => at3 (ov I) 0 k (2 * (ogrp i).val / 2 * 128 + (i 2).val % 128))
    else att (bz I (2 * (ogrp i).val + 1) (256 * (otile i).val + (i 1).val % 256)) (256 * (otile i).val + (i 1).val % 256) (fun k => at3 (ov I) 0 k ((2 * (ogrp i).val + 1) / 2 * 128 + (i 2).val % 128)))
    * gate (at3 (oz I) 0 (256 * (otile i).val + (i 1).val % 256) ((ogrp i).val * 128 + (i 2).val % 128)) = _
  rw [e1, e2, show 2 * (ogrp i).val / 2 * 128 + (i 2).val % 128 = (i 2).val by omega, show (2 * (ogrp i).val + 1) / 2 * 128 + (i 2).val % 128 = (i 2).val by omega]
  split_ifs with hl
  · rw [show 2 * (ogrp i).val = (i 2).val / 64 by omega]
  · rw [show 2 * (ogrp i).val + 1 = (i 2).val / 64 by omega]

end Cert.Proof.Val
end
-- ==== Proof.Val.Ref.lean ====
/-
  What the reference computes at an index, where its queries and keys are finite: the row's attention times the gate.
-/
module

public import proofs.«01_k».proof.Proof.Gen.ReferenceIdeal.Read
public import proofs.«01_k».proof.Proof.Val.Real

@[expose] public section

noncomputable section

namespace Cert.Proof.Val

open Idealize.ShloMosaic Idealize.ShloMosaic.ValueIdx
open Cert.ReferenceIdeal Cert.ReferenceIdeal.Gen Cert.ReferenceIdeal.Read

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The window's positions are the numbers below its last extent. -/
def winEquiv : (⟨4, ![1, 1, 1, 2048]⟩ : Shape).Idx ≃ Fin 2048 where
  toFun i := i 3
  invFun k := ix4 0 0 0 k
  left_inv i := by
    funext a
    match a with
    | ⟨0, _⟩ => exact (Fin.fin_one_eq_zero (i 0)).symm
    | ⟨1, _⟩ => exact (Fin.fin_one_eq_zero (i 1)).symm
    | ⟨2, _⟩ => exact (Fin.fin_one_eq_zero (i 2)).symm
    | ⟨3, _⟩ => rfl
  right_inv _ := rfl

abbrev S4 : Shape := ⟨4, ![8, 16, 2048, 2048]⟩

/-- The reversed cumulative sum along the last axis. -/
theorem cumsum_apply (h : S4.ReduceWindows ![1, 1, 1, 2048] ![1, 1, 1, 1] ![0, 0, 0, 0] ![0, 0, 0, 2047] S4) (x : S4.Idx → EReal) (b : Fin 8) (hd : Fin 16) (r k : Fin 2048) :
    Ideal.hostReduceWindowAdd ![1, 1, 1, 2048] ![1, 1, 1, 1] ![0, 0, 0, 0] ![0, 0, 0, 2047] h x 0 (ix4 b hd r k)
      = ∑ n : Fin 2048, if hn : k.val + n.val < 2048 then x (ix4 b hd r ⟨k.val + n.val, hn⟩) else 0 := by
  unfold Ideal.hostReduceWindowAdd Host.reduceWindow
  rw [foldl_add, zero_add, ← List.ofFn_eq_map, List.sum_ofFn, ← Equiv.sum_comp (Shape.rowMajor (⟨4, ![1, 1, 1, 2048]⟩ : Shape)), ← Equiv.sum_comp winEquiv.symm]
  refine Finset.sum_congr rfl fun n _ => ?_
  simp only [Equiv.symm_apply_apply]
  by_cases hn : k.val + n.val < 2048
  · rw [dif_pos hn, dif_pos (fun a => by
      match a with
      | ⟨0, _⟩ => exact ⟨Nat.zero_le _, by show b.val * 1 + 0 - 0 < 8; omega⟩
      | ⟨1, _⟩ => exact ⟨Nat.zero_le _, by show hd.val * 1 + 0 - 0 < 16; omega⟩
      | ⟨2, _⟩ => exact ⟨Nat.zero_le _, by show r.val * 1 + 0 - 0 < 2048; omega⟩
      | ⟨3, _⟩ => exact ⟨Nat.zero_le _, by show k.val * 1 + n.val - 0 < 2048; omega⟩)]
    refine congrArg x (funext fun a => Fin.ext ?_)
    match a with
    | ⟨0, _⟩ => show b.val * 1 + 0 - 0 = b.val; omega
    | ⟨1, _⟩ => show hd.val * 1 + 0 - 0 = hd.val; omega
    | ⟨2, _⟩ => show r.val * 1 + 0 - 0 = r.val; omega
    | ⟨3, _⟩ => show k.val * 1 + n.val - 0 = k.val + n.val; omega
  · rw [dif_neg hn, dif_neg fun hh => hn (by have := (hh 3).2; have h' : k.val * 1 + n.val - 0 < 2048 := this; omega)]

theorem reduceWindowAdd_eq {s t u : Shape} (window strides lo hi : Fin s.rank → Nat) (x : FVec Ideal s .f32) (init : u.Idx → Ideal .f32) (h : s.ReduceWindows window strides lo hi t) (hu : 0 < u.numel) :
    Host.reduceWindowAdd window strides lo hi x init h hu = Ideal.hostReduceWindowAdd window strides lo hi h x (init (Shape.Idx.first hu)) := rfl

/-- The part of a sum from `k` on. -/
theorem sum_from (f : ℕ → ℝ) (k : ℕ) (hk : k < 2048) :
    ∑ n : Fin 2048, (if k + n.val < 2048 then f (k + n.val) else 0) = ∑ j ∈ Finset.Ico k 2048, f j := by
  rw [Fin.sum_univ_eq_sum_range (fun n => if k + n < 2048 then f (k + n) else 0) 2048, ← Finset.sum_filter, Finset.sum_Ico_eq_sum_range]
  refine Finset.sum_congr (Finset.ext fun n => ?_) fun _ _ => rfl
  simp only [Finset.mem_filter, Finset.mem_range]; omega

variable (x0 : S8x2048x1024.Idx → EReal) (x1 : S8x2048x2048.Idx → EReal) (x2 : S8x2048x1024.Idx → EReal)

/-- The logit to base two of the reference's arrays. -/
def rz (b h r : ℕ) (k : ℕ) : ℝ := lgt (fun c => re3 x0 b r c) (fun c => re3 x1 b k c) h

variable {x0 x1 x2}

section
variable (h0 : ∀ i, x0 i ≠ ⊤ ∧ x0 i ≠ ⊥) (h1 : ∀ b k c : ℕ, c < 1024 → at3 x1 b k c = (re3 x1 b k c : ℝ))
include h0 h1

theorem ref_q (i : S8x16x2048x64.Idx) :
    val_main_v2 (F := Ideal) x0 i = (re3 x0 (i 0).val (i 2).val (64 * (i 1).val + (i 3).val) : ℝ) := by
  rw [val_main_v2_apply, val_main_v1_apply, val_main_v0_apply]
  show x0 _ = _
  have b0 : (i 0).val < 8 := (i 0).isLt
  have b1 : (i 1).val < 16 := (i 1).isLt
  have b2 : (i 2).val < 2048 := (i 2).isLt
  have b3 : (i 3).val < 64 := (i 3).isLt
  rw [at3_eq x0 _ (a := (i 0).val) (b := (i 2).val) (c := 64 * (i 1).val + (i 3).val) ?_ ?_ ?_]
  · exact at3_coe h0 _ _ _
  · show ((((i 0).val * 2048 + (i 2).val) * 16 + (i 1).val) * 64 + (i 3).val) / 2097152 = _; omega
  · show ((((i 0).val * 2048 + (i 2).val) * 16 + (i 1).val) * 64 + (i 3).val) / 1024 % 2048 = _; omega
  · show ((((i 0).val * 2048 + (i 2).val) * 16 + (i 1).val) * 64 + (i 3).val) % 1024 = _; omega

theorem ref_k (i : S8x16x2048x64.Idx) :
    val_main_v6 (F := Ideal) x1 i = (re3 x1 (i 0).val (i 2).val (64 * (i 1).val + (i 3).val) : ℝ) := by
  rw [val_main_v6_apply, val_main_v5_apply, val_main_v4_apply, val_main_v3_apply]
  show x1 _ = _
  have b0 : (i 0).val < 8 := (i 0).isLt
  have b1 : (i 1).val < 16 := (i 1).isLt
  have b2 : (i 2).val < 2048 := (i 2).isLt
  have b3 : (i 3).val < 64 := (i 3).isLt
  rw [at3_eq x1 _ (a := (i 0).val) (b := (i 2).val) (c := 64 * (i 1).val + (i 3).val) ?_ ?_ ?_]
  · exact h1 _ _ _ (by omega)
  · show ((((i 0).val * 2048 + (i 2).val) * 16 + (i 1).val) * 64 + (i 3).val) / 2097152 = _; omega
  · show ((((i 0).val * 2048 + (i 2).val) * 16 + (i 1).val) * 64 + (i 3).val) / 1024 % 2048 = _; omega
  · show ((((i 0).val * 2048 + (i 2).val) * 16 + (i 1).val) * 64 + (i 3).val) % 1024 = _; omega

omit h0 h1 in
theorem ref_v (i : S8x16x2048x64.Idx) :
    val_main_v10 (F := Ideal) x1 i = at3 x1 (i 0).val (i 2).val (1024 + (64 * (i 1).val + (i 3).val)) := by
  rw [val_main_v10_apply, val_main_v9_apply, val_main_v8_apply, val_main_v7_apply]
  show x1 _ = _
  have b0 : (i 0).val < 8 := (i 0).isLt
  have b1 : (i 1).val < 16 := (i 1).isLt
  have b2 : (i 2).val < 2048 := (i 2).isLt
  have b3 : (i 3).val < 64 := (i 3).isLt
  refine at3_eq x1 _ ?_ ?_ ?_
  · show ((((i 0).val * 2048 + (i 2).val) * 16 + (i 1).val) * 64 + (i 3).val) / 2097152 = _; omega
  · show ((((i 0).val * 2048 + (i 2).val) * 16 + (i 1).val) * 64 + (i 3).val) / 1024 % 2048 = _; omega
  · show 1024 + ((((i 0).val * 2048 + (i 2).val) * 16 + (i 1).val) * 64 + (i 3).val) % 1024 = _; omega

/-- The reference's logits. -/
theorem ref_z (i : S8x16x2048x2048.Idx) :
    val_main_v14 (F := Ideal) x0 x1 i = ((rz x0 x1 (i 0).val (i 1).val (i 2).val (i 3).val * Real.log 2 : ℝ) : EReal) := by
  rw [val_main_v14_apply, val_main_v13_apply, val_main_v12_apply, val_main_cst_apply, val_main_v11_apply]
  show (∑ k : Fin 64, _) * Ideal.log (Ideal.ofBits .f32 0x40000000#32) = _
  rw [ofBits_two, log_coe (by norm_num), EReal.coe_mul]
  congr 1
  unfold rz lgt
  rw [← Fin.sum_univ_eq_sum_range (fun d => re3 x0 (i 0).val (i 2).val (64 * (i 1).val + d) * re3 x1 (i 0).val (i 3).val (64 * (i 1).val + d)) 64, ← sum_coe]
  refine Finset.sum_congr rfl fun k _ => ?_
  rw [ref_q h0 h1, ref_k h0 h1, EReal.coe_mul]

/-- The logarithm of the sigmoid. -/
theorem ref_lb (i : S8x16x2048x2048.Idx) :
    val_main_v22 (F := Ideal) x0 x1 i
      = ((Real.log 2 * (rz x0 x1 (i 0).val (i 1).val (i 2).val (i 3).val - s2 (rz x0 x1 (i 0).val (i 1).val (i 2).val (i 3).val)) : ℝ) : EReal) := by
  have hz := ref_z h0 h1 i
  generalize rz x0 x1 (i 0).val (i 1).val (i 2).val (i 3).val = z at hz ⊢
  have hn : val_main_call0_v0 (F := Ideal) x0 x1 i = (((-z) * Real.log 2 : ℝ) : EReal) := by
    rw [val_main_call0_v0_apply, hz]
    show -((z * Real.log 2 : ℝ) : EReal) = _
    rw [← EReal.coe_neg]; congr 1; ring
  rw [val_main_v22_apply, val_main_call0_v1_apply, val_main_call0_call0_v4_apply, val_main_call0_call0_v11_apply, val_main_call0_call0_v10_apply,
    val_main_call0_call0_v9_apply, val_main_call0_call0_v8_apply, val_main_call0_call0_v7_apply, val_main_call0_call0_v3_apply,
    val_main_call0_call0_v2_apply, val_main_call0_call0_v1_apply, val_main_call0_call0_v0_apply, val_main_call0_call0_cst_apply, hn]
  have hc : ∀ y : EReal, Ideal.cmp .une y y = 0#1 := fun y => by simp [Ideal.cmp]
  have hs : ∀ (c : BitVec 1) (a b : EReal), c = 0#1 → Scalar.select c a b = b := fun c a b e => by subst e; rfl
  simp only [Ideal.hostNegf_def, Ideal.hostAbsf_def, Ideal.cmpf_def, Ideal.subf_def, Ideal.addf_def, Ideal.maximumf_def, Ideal.ofBits_def, Ideal.hostUnary_exp_def, Ideal.hostUnary_log1p_def]
  rw [hs _ _ _ (hc _), Ideal.ofBits_zero_f32, sub_zero]
  change -(max (((-z) * Real.log 2 : ℝ) : EReal) 0 + Ideal.log1p (Ideal.exp (-(max (((-z) * Real.log 2 : ℝ) : EReal) (-(((-z) * Real.log 2 : ℝ) : EReal)))))) = _
  rw [ref_softplus_coe, s2_neg, ← EReal.coe_neg]
  congr 1; ring

/-- The mask. -/
theorem ref_mask (a : S2048x2048.Idx) (x y : EReal) :
    Scalar.select (val_main_v21 (F := Ideal) a) x y = if (a 1).val < (a 0).val then x else y := by
  rw [val_main_v21_apply, val_main_v19_apply, val_main_v20_apply, val_main_v18_apply, val_main_v16_apply, val_main_v15_apply, val_main_v17_apply]
  have b0 : (a 0).val < 2048 := (a 0).isLt
  have b1 : (a 1).val < 2048 := (a 1).isLt
  show (if (IntOp.cmpi .slt (BitVec.ofNat 32 (a 1).val) (BitVec.ofNat 32 (a 0).val)) = 1#1 then x else y) = _
  have e : (IntOp.cmpi .slt (BitVec.ofNat 32 (a 1).val) (BitVec.ofNat 32 (a 0).val) = 1#1) ↔ (a 1).val < (a 0).val := by
    have i1 : (BitVec.ofNat 32 (a 1).val).toInt = (a 1).val := by
      rw [BitVec.toInt_eq_toNat_of_lt (by rw [BitVec.toNat_ofNat]; omega), BitVec.toNat_ofNat]; congr 1; omega
    have i0 : (BitVec.ofNat 32 (a 0).val).toInt = (a 0).val := by
      rw [BitVec.toInt_eq_toNat_of_lt (by rw [BitVec.toNat_ofNat]; omega), BitVec.toNat_ofNat]; congr 1; omega
    show BitVec.ofBool (BitVec.slt _ _) = 1#1 ↔ _
    rw [BitVec.slt, i1, i0]
    by_cases h : (a 1).val < (a 0).val
    · simp [h]
    · simp [h]
  simp only [e]

/-- The logarithm of one less the sigmoid, masked. -/
theorem ref_lm (i : S8x16x2048x2048.Idx) :
    val_main_v24 (F := Ideal) x0 x1 i
      = ((if (i 3).val < (i 2).val then -(Real.log 2 * s2 (rz x0 x1 (i 0).val (i 1).val (i 2).val (i 3).val)) else 0 : ℝ) : EReal) := by
  rw [val_main_v24_apply, val_main_call1_v1_apply, ref_mask h0 h1, val_main_v23_apply, val_main_call1_v2_apply, val_main_call1_v0_apply, val_main_cst_0_apply, ref_lb h0 h1, ref_z h0 h1]
  show (if (i 3).val < (i 2).val then _ - _ else Ideal.ofBits .f32 0x00000000#32) = _
  split_ifs
  · rw [← EReal.coe_sub]; congr 1; ring
  · rw [Ideal.ofBits_zero_f32, EReal.coe_zero]

/-- The weights. -/
theorem ref_a (b : Fin 8) (hd : Fin 16) (r k : Fin 2048) :
    val_main_v29 (F := Ideal) x0 x1 (ix4 b hd r k) = (wt (rz x0 x1 b.val hd.val r.val) r.val k.val : ℝ) := by
  rw [val_main_v29_apply, val_main_call3_v1_apply, ref_mask h0 h1, val_main_call3_v2_apply, val_main_call3_v0_apply, val_main_cst_1_apply, val_main_v28_apply,
    val_main_v27_apply, val_main_v26_apply, ref_lb h0 h1, ref_lm h0 h1]
  have hc : val_main_v25 (F := Ideal) x0 x1 (ix4 b hd r k)
      = ((∑ j ∈ Finset.Ico k.val 2048, if j < r.val then -(Real.log 2 * s2 (rz x0 x1 b.val hd.val r.val j)) else 0 : ℝ) : EReal) := by
    rw [← sum_from (fun j => if j < r.val then -(Real.log 2 * s2 (rz x0 x1 b.val hd.val r.val j)) else 0) k.val k.isLt, ← sum_coe]
    have hi : (val_main_call2_v0 (F := Ideal)) (Shape.Idx.first h_S_) = 0 := by
      rw [val_main_call2_v0_apply, val_main_call2_cst_apply]; exact Ideal.ofBits_zero_f32
    unfold val_main_v25
    rw [reduceWindowAdd_eq, hi]
    refine (cumsum_apply _ _ b hd r k).trans (Finset.sum_congr rfl fun n _ => ?_)
    · split_ifs with hn
      · rw [ref_lm h0 h1]; show ((if k.val + n.val < r.val then _ else _ : ℝ) : EReal) = _; rw [if_pos ‹_›]
      · rw [ref_lm h0 h1]; show ((if k.val + n.val < r.val then _ else _ : ℝ) : EReal) = _; rw [if_neg ‹_›]
      · exact EReal.coe_zero.symm
  rw [hc]
  simp only [Ideal.addf_def, Ideal.subf_def, Ideal.ofBits_def, Ideal.hostUnary_exp_def, show idx_main_call3_v1 (ix4 b hd r k) 0 = r from rfl, show idx_main_call3_v1 (ix4 b hd r k) 1 = k from rfl,
    show (ix4 b hd r k) 0 = b from rfl, show (ix4 b hd r k) 1 = hd from rfl, show (ix4 b hd r k) 2 = r from rfl, show (ix4 b hd r k) 3 = k from rfl]
  unfold wt
  by_cases hk : k.val < r.val
  · rw [if_pos hk, if_pos hk, if_pos hk, ← EReal.coe_sub, ← EReal.coe_add, exp_coe]
    refine congrArg _ ?_
    rw [Real.rpow_def_of_pos (by norm_num)]
    refine congrArg _ ?_
    have e : ∑ j ∈ Finset.Ico k.val 2048, (if j < r.val then -(Real.log 2 * s2 (rz x0 x1 b.val hd.val r.val j)) else 0)
        = -(Real.log 2 * s2 (rz x0 x1 b.val hd.val r.val k.val)) - Real.log 2 * ∑ j ∈ Finset.Ioo k.val r.val, s2 (rz x0 x1 b.val hd.val r.val j) := by
      rw [← Finset.sum_filter, show (Finset.Ico k.val 2048).filter (fun j => j < r.val) = insert k.val (Finset.Ioo k.val r.val) from
        Finset.ext fun j => by simp only [Finset.mem_filter, Finset.mem_Ico, Finset.mem_insert, Finset.mem_Ioo]; omega,
        Finset.sum_insert (by simp), Finset.mul_sum, sub_eq_add_neg, ← Finset.sum_neg_distrib]
    rw [e]; ring
  · rw [if_neg hk, if_neg hk, Ideal.ofBits_zero_f32, EReal.coe_zero]

/-- The reference's result at an index. -/
theorem ref_out (i : S8x2048x1024.Idx) :
    val_main_v35 (F := Ideal) x0 x1 x2 i
      = att (rz x0 x1 (i 0).val ((i 2).val / 64) (i 1).val) (i 1).val (fun k => at3 x1 (i 0).val k (1024 + (i 2).val)) * gate (x2 i) := by
  have b0 : (i 0).val < 8 := (i 0).isLt
  have b1 : (i 1).val < 2048 := (i 1).isLt
  have b2 : (i 2).val < 1024 := (i 2).isLt
  rw [val_main_v35_apply, val_main_v34_apply, val_main_v33_apply, val_main_call4_v5_apply, val_main_call4_v4_apply, val_main_call4_cst_0_apply,
    val_main_call4_v3_apply, val_main_call4_v2_apply, val_main_call4_cst_apply, val_main_call4_v1_apply, val_main_call4_v0_apply, val_main_v32_apply, val_main_v31_apply, val_main_v30_apply]
  show (∑ k : Fin 2048, _) * (x2 i * Ideal.div (Ideal.ofBits .f32 0x3F800000#32) (Ideal.ofBits .f32 0x3F800000#32 + Ideal.exp (-(x2 i)))) = _
  rw [ofBits_one]
  congr 1
  unfold att
  rw [← Fin.sum_univ_eq_sum_range (fun k => ((wt (rz x0 x1 (i 0).val ((i 2).val / 64) (i 1).val) (i 1).val k : ℝ) : EReal) * at3 x1 (i 0).val k (1024 + (i 2).val)) 2048]
  refine Finset.sum_congr rfl fun k _ => ?_
  rw [ref_v]
  have e0 : (((i 0).val * 2048 + (i 1).val) * 1024 + (i 2).val) / 2097152 = (i 0).val := by omega
  have e1 : (((i 0).val * 2048 + (i 1).val) * 1024 + (i 2).val) / 1024 % 2048 = (i 1).val := by omega
  have e2 : (((i 0).val * 2048 + (i 1).val) * 1024 + (i 2).val) / 64 % 16 = (i 2).val / 64 := by omega
  have e3 : (((i 0).val * 2048 + (i 1).val) * 1024 + (i 2).val) % 64 = (i 2).val % 64 := by omega
  have := ref_a h0 h1 ⟨(i 0).val, b0⟩ ⟨(i 2).val / 64, by omega⟩ ⟨(i 1).val, b1⟩ k
  rw [← this]
  congr 1
  · refine congrArg _ (funext fun a => Fin.ext ?_)
    match a with
    | ⟨0, _⟩ => exact e0
    | ⟨1, _⟩ => exact e2
    | ⟨2, _⟩ => exact e1
    | ⟨3, _⟩ => rfl
  · show at3 x1 ((((i 0).val * 2048 + (i 1).val) * 1024 + (i 2).val) / 2097152) k.val (1024 + (64 * ((((i 0).val * 2048 + (i 1).val) * 1024 + (i 2).val) / 64 % 16) + (((i 0).val * 2048 + (i 1).val) * 1024 + (i 2).val) % 64)) = _
    rw [e0, e2, e3]; congr 1; omega

end
end Cert.Proof.Val
end
-- ==== Proof.Val.Arr.lean ====
/-
  The kernel's result array after the run, from the argument arrays: its blocks at coordinates, the suffix matrix
  the host operations build, and the blocks put together.
-/
module

public import proofs.«01_k».proof.Proof.Val.Kern
public import proofs.«01_k».proof.Proof.Val.Ref
public import Idealize.ShloMosaic.Lib.Pipeline.ValueKit
public import Idealize.ShloMosaic.Lib.StableHlo.Run

@[expose] public section

set_option maxRecDepth 4096

noncomputable section

namespace Cert.Proof.Val

open Idealize.ShloMosaic Idealize.ShloMosaic.TcCoe Idealize.ShloMosaic.ValueIdx
open Cert.KernelIdeal Cert.KernelIdeal.Gen Cert.Proof.KI

variable (m : (ℓ : Loc nD τ sig) → Buf (Elt Ideal) ℓ) (c : Dev nD)

/-- The argument arrays. -/
abbrev a0 : S8x2048x1024.Idx → EReal := m ((c.tc : Thread nD τ).loc main_arg0)
abbrev a1 : S8x2048x2048.Idx → EReal := m ((c.tc : Thread nD τ).loc main_arg1)
abbrev a2 : S8x2048x1024.Idx → EReal := m ((c.tc : Thread nD τ).loc main_arg2)

/-- The windows' block indices: batch, zero, lane group. -/
theorem idx_0 : ∀ t : Fin (cfg0 (F := Ideal)).N, win0_0.index t = ![t.val / 2, 0, t.val % 2] := (by decide +kernel : ∀ t : Fin grid0.N, _)
theorem idx_1 : ∀ t : Fin (cfg0 (F := Ideal)).N, win0_1.index t = ![t.val / 2, 0, t.val % 2] := (by decide +kernel : ∀ t : Fin grid0.N, _)
theorem idx_2 : ∀ t : Fin (cfg0 (F := Ideal)).N, win0_2.index t = ![t.val / 2, 0, 2 + t.val % 2] := (by decide +kernel : ∀ t : Fin grid0.N, _)
theorem idx_3 : ∀ t : Fin (cfg0 (F := Ideal)).N, win0_3.index t = ![t.val / 2, 0, t.val % 2] := (by decide +kernel : ∀ t : Fin grid0.N, _)
theorem idx_4 : ∀ t : Fin (cfg0 (F := Ideal)).N, win0_4.index t = ![0, 0] := (by decide +kernel : ∀ t : Fin grid0.N, _)
theorem idx_5 : ∀ t : Fin (cfg0 (F := Ideal)).N, win0_5.index t = ![t.val / 2, 0, t.val % 2] := (by decide +kernel : ∀ t : Fin grid0.N, _)

theorem q_at (t : Fin (cfg0 (F := Ideal)).N) (i : S1x2048x512.Idx) :
    (opsAt m c t).q i = at3 (a0 m c) (t.val / 2) (i 1).val (512 * (t.val % 2) + (i 2).val) := by
  have h0 : (i 0).val < 1 := (i 0).isLt
  refine (show _ = V m c main_arg0 ((win0_0.blk t).view.emb i) from rfl).trans ?_
  rw [V_of_ne m c main_arg0 (by decide)]
  refine at3_eq (a0 m c) _ ?_ ?_ ?_ <;> blk_simp [idx_0 t] <;> simp <;> omega

theorem k_at (t : Fin (cfg0 (F := Ideal)).N) (i : S1x2048x512.Idx) :
    (opsAt m c t).k i = at3 (a1 m c) (t.val / 2) (i 1).val (512 * (t.val % 2) + (i 2).val) := by
  have h0 : (i 0).val < 1 := (i 0).isLt
  refine (show _ = V m c main_arg1 ((win0_1.blk t).view.emb i) from rfl).trans ?_
  rw [V_of_ne m c main_arg1 (by decide)]
  refine at3_eq (a1 m c) _ ?_ ?_ ?_ <;> blk_simp [idx_1 t] <;> simp <;> omega

theorem v_at (t : Fin (cfg0 (F := Ideal)).N) (i : S1x2048x512.Idx) :
    (opsAt m c t).v i = at3 (a1 m c) (t.val / 2) (i 1).val (1024 + (512 * (t.val % 2) + (i 2).val)) := by
  have h0 : (i 0).val < 1 := (i 0).isLt
  refine (show _ = V m c main_arg1 ((win0_2.blk t).view.emb i) from rfl).trans ?_
  rw [V_of_ne m c main_arg1 (by decide)]
  refine at3_eq (a1 m c) _ ?_ ?_ ?_ <;> blk_simp [idx_2 t] <;> simp <;> omega

theorem z_at (t : Fin (cfg0 (F := Ideal)).N) (i : S1x2048x512.Idx) :
    (opsAt m c t).z i = at3 (a2 m c) (t.val / 2) (i 1).val (512 * (t.val % 2) + (i 2).val) := by
  have h0 : (i 0).val < 1 := (i 0).isLt
  refine (show _ = V m c main_arg2 ((win0_3.blk t).view.emb i) from rfl).trans ?_
  rw [V_of_ne m c main_arg2 (by decide)]
  refine at3_eq (a2 m c) _ ?_ ?_ ?_ <;> blk_simp [idx_3 t] <;> simp <;> omega

/-! ### The suffix matrix -/

theorem ofBits_neg_one_f32 : Ideal.ofBits .f32 0xBF800000#32 = ((-1 : ℝ) : EReal) := by
  simp [Ideal.ofBits, Ideal.ieee, -EReal.coe_mul, -EReal.coe_neg]; norm_num

/-- The matrix the host operations build. -/
def wMat : FVec Ideal S256x256 .bf16 :=
  truncf .bf16 (select (ori (cmpi .sgt (iotaInDim S256x256 32 0) (iotaInDim S256x256 32 1))
      (cmpi .eq (iotaInDim S256x256 32 1) (broadcastInDim S256x256 ![] bcast_S_S256x256 (constantI S_ 32 255#32))))
    (broadcastInDim S256x256 ![] bcast_S_S256x256 (constant (F := Ideal) S_ .f32 0xBF800000#32))
    (broadcastInDim S256x256 ![] bcast_S_S256x256 (constant (F := Ideal) S_ .f32 0x00000000#32))) bitsLt_bf16_f32

theorem V_w : V m c main_v7 = wMat := by
  unfold V wMat
  simp only [hostOps0, hostOps0_1, hostOps0_2, List.flatten_cons, List.flatten_nil, List.append_nil, List.cons_append, List.nil_append]
  after_results_simp
  rfl

theorem sel_or {α : Type} (p q : BitVec 1) (x y : α) : Scalar.select (p ||| q) x y = Scalar.select p x (Scalar.select q x y) := by
  have h (p : BitVec 1) : p = 0#1 ∨ p = 1#1 := by revert p; decide
  rcases h p with rfl | rfl <;> rcases h q with rfl | rfl <;> rfl

theorem wMat_at (j s : Fin 256) : wMat (ValueIdx.ix2 j s) = (((if s.val < j.val ∨ s.val = 255 then -1 else 0 : ℝ)) : EReal) := by
  have e : wMat (ValueIdx.ix2 j s) = Scalar.select (IntOp.cmpi .slt (BitVec.ofNat 32 s.val) (BitVec.ofNat 32 j.val)
      ||| IntOp.cmpi .eq (BitVec.ofNat 32 s.val) (BitVec.ofNat 32 255)) (Ideal.ofBits .f32 0xBF800000#32) (Ideal.ofBits .f32 0x00000000#32) := rfl
  rw [e, sel_or, sel_lt (by omega) (by omega), sel_eq (by omega) (by omega), ofBits_neg_one_f32, Ideal.ofBits_zero_f32]
  by_cases h : s.val < j.val
  · rw [if_pos h, if_pos (Or.inl h)]
  · rw [if_neg h]
    by_cases h' : s.val = 255
    · rw [if_pos h', if_pos (Or.inr h')]
    · rw [if_neg h', if_neg (by omega), EReal.coe_zero]

theorem w_at (t : Fin (cfg0 (F := Ideal)).N) (j s : Fin 256) :
    (kMsk (opsAt m c t)).w (ValueIdx.ix2 j s) = (((if s.val < j.val ∨ s.val = 255 then -1 else 0 : ℝ)) : EReal) := by
  rw [← wMat_at, ← V_w m c]
  show shapeCast S256x256 (rd rWm (opsAt m c t).w) _ (ValueIdx.ix2 j s) = _
  refine (congrFun (shapeCast_self _ _) _).trans ?_
  refine (show _ = V m c main_v7 ((win0_4.blk t).view.emb (rWm.emb (ValueIdx.ix2 j s))) from rfl).trans (congrArg (V m c main_v7) ?_)
  funext a
  refine Fin.ext ?_
  match a with
  | ⟨0, _⟩ => blk_simp [idx_4 t] <;> simp [Rect.emb_apply]
  | ⟨1, _⟩ => blk_simp [idx_4 t] <;> simp [Rect.emb_apply]

/-! ### The result array -/

variable {m c}

theorem fine (h0 : ∀ i, a0 m c i ≠ ⊤ ∧ a0 m c i ≠ ⊥) (h1 : ∀ b k l : ℕ, l < 1024 → at3 (a1 m c) b k l = (re3 (a1 m c) b k l : ℝ))
    (t : Fin (cfg0 (F := Ideal)).N) : Fine (opsAt m c t) where
  q i := by
    rw [q_at, at3_coe h0]
    exact ⟨EReal.coe_ne_top _, EReal.coe_ne_bot _⟩
  k i := by
    have b2 : (i 2).val < 512 := (i 2).isLt
    rw [k_at, h1 _ _ _ (by omega)]
    exact ⟨EReal.coe_ne_top _, EReal.coe_ne_bot _⟩
  w := w_at m c t

theorem at_q (t : Fin (cfg0 (F := Ideal)).N) (row l : ℕ) (hl : l < 512) :
    at3 (oq (opsAt m c t)) 0 row l = at3 (a0 m c) (t.val / 2) row (512 * (t.val % 2) + l) := by
  by_cases hr : row < 2048
  · exact (at3_eq (oq (opsAt m c t)) (ValueIdx.ix3 0 ⟨row, hr⟩ ⟨l, hl⟩) (a := 0) (b := row) (c := l) rfl rfl rfl).symm.trans (q_at m c t _)
  · unfold at3; rw [dif_neg (by omega), dif_neg (by omega)]
theorem at_k (t : Fin (cfg0 (F := Ideal)).N) (row l : ℕ) (hl : l < 512) :
    at3 (ok (opsAt m c t)) 0 row l = at3 (a1 m c) (t.val / 2) row (512 * (t.val % 2) + l) := by
  by_cases hr : row < 2048
  · exact (at3_eq (ok (opsAt m c t)) (ValueIdx.ix3 0 ⟨row, hr⟩ ⟨l, hl⟩) (a := 0) (b := row) (c := l) rfl rfl rfl).symm.trans (k_at m c t _)
  · unfold at3; rw [dif_neg (by omega), dif_neg (by omega)]
theorem at_v (t : Fin (cfg0 (F := Ideal)).N) (row l : ℕ) (hl : l < 512) :
    at3 (ov (opsAt m c t)) 0 row l = at3 (a1 m c) (t.val / 2) row (1024 + (512 * (t.val % 2) + l)) := by
  by_cases hr : row < 2048
  · exact (at3_eq (ov (opsAt m c t)) (ValueIdx.ix3 0 ⟨row, hr⟩ ⟨l, hl⟩) (a := 0) (b := row) (c := l) rfl rfl rfl).symm.trans (v_at m c t _)
  · unfold at3; rw [dif_neg (by omega), dif_neg (by omega)]
theorem at_z (t : Fin (cfg0 (F := Ideal)).N) (row l : ℕ) (hl : l < 512) :
    at3 (oz (opsAt m c t)) 0 row l = at3 (a2 m c) (t.val / 2) row (512 * (t.val % 2) + l) := by
  by_cases hr : row < 2048
  · exact (at3_eq (oz (opsAt m c t)) (ValueIdx.ix3 0 ⟨row, hr⟩ ⟨l, hl⟩) (a := 0) (b := row) (c := l) rfl rfl rfl).symm.trans (z_at m c t _)
  · unfold at3; rw [dif_neg (by omega), dif_neg (by omega)]

theorem bz_eq (t : Fin (cfg0 (F := Ideal)).N) (h row : ℕ) (hh : h < 8) :
    bz (opsAt m c t) h row = rz (a0 m c) (a1 m c) (t.val / 2) (8 * (t.val % 2) + h) row := by
  funext k
  unfold bz rz lgt re3
  refine Finset.sum_congr rfl fun d hd => ?_
  have := Finset.mem_range.mp hd
  beta_reduce
  rw [at_q _ _ _ (by omega), at_k _ _ _ (by omega),
    show 64 * (8 * (t.val % 2) + h) + d = 512 * (t.val % 2) + (64 * h + d) by omega]

/-- The result array: at a batch row and lane, the head's attention over the values times the gate. -/
def res (x0 : S8x2048x1024.Idx → EReal) (x1 : S8x2048x2048.Idx → EReal) (x2 : S8x2048x1024.Idx → EReal) (i : S8x2048x1024.Idx) : EReal :=
  att (rz x0 x1 (i 0).val ((i 2).val / 64) (i 1).val) (i 1).val (fun k => at3 x1 (i 0).val k (1024 + (i 2).val)) * gate (x2 i)

theorem covers_5 : ((cfg0 (F := Ideal)).win 5).Covers := by decide +kernel

theorem arr_eq (h0 : ∀ i, a0 m c i ≠ ⊤ ∧ a0 m c i ≠ ⊥) (h1 : ∀ b k l : ℕ, l < 1024 → at3 (a1 m c) b k l = (re3 (a1 m c) b k l : ℝ)) :
    (dats m 0 c).arrAt 5 (cfg0 (F := Ideal)).N = res (a0 m c) (a1 m c) (a2 m c) := by
  refine (dats m 0 c).arrAt_eq_of_covers 5 _ covers_5 fun t hf y => ?_
  blk_simp
  rw [after_5]
  have b0 : (y 0).val < 1 := (y 0).isLt
  have b1 : (y 1).val < 2048 := (y 1).isLt
  have b2 : (y 2).val < 512 := (y 2).isLt
  have e0 : (((win0_5.blk t).view.emb y) 0).val = t.val / 2 := by blk_simp [idx_5 t] <;> simp <;> omega
  have e1 : (((win0_5.blk t).view.emb y) 1).val = (y 1).val := by blk_simp [idx_5 t] <;> simp
  have e2 : (((win0_5.blk t).view.emb y) 2).val = 512 * (t.val % 2) + (y 2).val := by blk_simp [idx_5 t] <;> simp <;> omega
  refine (OUT_at (fine h0 h1 t) y).trans ?_
  unfold res
  rw [at3_eq (a2 m c) _ e0 e1 e2, e0, e1, e2, bz_eq _ _ _ (by omega), at_z _ _ _ b2,
    show (512 * (t.val % 2) + (y 2).val) / 64 = 8 * (t.val % 2) + (y 2).val / 64 by omega]
  simp only [at_v _ _ _ b2]

end Cert.Proof.Val
end
-- ==== Proof.Val.Pre.lean ====
/-
  The precondition read back: where it holds, the queries and the keys are finite.
-/
module

public import proofs.«01_k».proof.Pre_finite
public import proofs.«01_k».proof.Proof.Val.Real
public import Idealize.ShloMosaic.Lib.ReduceAll
public import Idealize.ShloMosaic.Lib.Pipeline.Value

@[expose] public section

noncomputable section

namespace Cert.Proof.Val

open Idealize.ShloMosaic
open Cert.Pre_finite

theorem pre_facts : Cert.Pre_finite.Facts :=
  ⟨by decide, by decide, by decide, by decide⟩

theorem finite_of_lt {x : EReal} (h : max x (-x) < ⊤) : x ≠ ⊤ ∧ x ≠ ⊥ := by
  refine ⟨?_, ?_⟩ <;> rintro rfl <;> simp at h

variable [Cert.Pre_finite.Facts]

/-- An array whose elements' magnitudes are all below infinity is finite. -/
theorem finite_of_all (x : FVec Ideal S8x2048x1024 .bf16) (j : S_.Idx)
    (h : Host.reduce IntOp.andi (cmpf .olt (Host.absf x) (broadcastInDim S8x2048x1024 ![] Facts.bcast_S_S8x2048x1024 (constant S_ .bf16 0x7F80#16)))
      (constantI S_ 1 1#1) Facts.reducesTo_S8x2048x1024_S_d0_1_2 Facts.h_S_ j = 1#1) (i : S8x2048x1024.Idx) : (x i : EReal) ≠ ⊤ ∧ (x i : EReal) ≠ ⊥ := by
  haveI : Subsingleton S_.Idx := ⟨fun a b => funext fun k => k.elim0⟩
  have e := Host.reduce_andi_all _ _ _ _ j h i
  have e' : BitVec.ofBool (decide (max (x i : EReal) (-(x i : EReal)) < Ideal.ofBits .bf16 0x7F80#16)) = 1#1 := e
  rw [ofBits_inf_bf16] at e'
  refine finite_of_lt ?_
  by_contra hc
  rw [decide_eq_false hc] at e'
  exact absurd e' (by decide)

variable {x0 : FVec Ideal S8x2048x1024 .bf16} {x1 : FVec Ideal S8x2048x2048 .bf16} {x2 : FVec Ideal S8x2048x1024 .f32}

theorem pre_both (h : Cert.Pre_finite.fn (F := Ideal) x0 x1 x2 = fun _ => 1#1) :
    (∀ i, (x0 i : EReal) ≠ ⊤ ∧ (x0 i : EReal) ≠ ⊥) ∧ ∀ i : S8x2048x1024.Idx,
      (extractStridedSlice S8x2048x1024 ![0, 0, 0] x1 Facts.slices_S8x2048x2048_S8x2048x1024_0_0_0 i : EReal) ≠ ⊤
      ∧ (extractStridedSlice S8x2048x1024 ![0, 0, 0] x1 Facts.slices_S8x2048x2048_S8x2048x1024_0_0_0 i : EReal) ≠ ⊥ := by
  have hand (p q : BitVec 1) (e : p &&& q = 1#1) : p = 1#1 ∧ q = 1#1 := by revert p q; decide
  have hj := congrFun h (fun k => k.elim0)
  dsimp only [Cert.Pre_finite.fn] at hj
  obtain ⟨ha, hb⟩ := hand _ _ hj
  exact ⟨finite_of_all x0 _ ha, finite_of_all _ _ hb⟩

/-- Where the precondition holds the queries are finite, -/
theorem pre_q (h : Cert.Pre_finite.fn (F := Ideal) x0 x1 x2 = fun _ => 1#1) (i : S8x2048x1024.Idx) : (x0 i : EReal) ≠ ⊤ ∧ (x0 i : EReal) ≠ ⊥ := (pre_both h).1 i

/-- and so are the keys. -/
theorem pre_k (h : Cert.Pre_finite.fn (F := Ideal) x0 x1 x2 = fun _ => 1#1) (b k l : ℕ) (hl : l < 1024) : at3 x1 b k l = (re3 x1 b k l : ℝ) := by
  by_cases hb : b < 8 ∧ k < 2048
  · have e := (pre_both h).2 (ValueIdx.ix3 ⟨b, hb.1⟩ ⟨k, hb.2⟩ ⟨l, hl⟩)
    rw [extractStridedSlice_apply (k := ValueIdx.ix3 ⟨b, hb.1⟩ ⟨k, hb.2⟩ ⟨l, by omega⟩)
      (hk := fun a => by
        match a with
        | ⟨0, _⟩ => exact (Nat.zero_add _).symm
        | ⟨1, _⟩ => exact (Nat.zero_add _).symm
        | ⟨2, _⟩ => exact (Nat.zero_add _).symm)] at e
    rw [at3_eq x1 (ValueIdx.ix3 ⟨b, hb.1⟩ ⟨k, hb.2⟩ ⟨l, by omega⟩) (a := b) (b := k) (c := l) rfl rfl rfl] at e
    exact (EReal.coe_toReal e.1 e.2).symm
  · have e : at3 x1 b k l = 0 := by unfold at3; rw [dif_neg (fun hh => hb ⟨hh.1, hh.2.1⟩)]
    unfold re3; rw [e]; rfl

end Cert.Proof.Val
end
-- ==== Proof.Proj.Spec.lean ====
/-
  What the projections compute at an index: the two normalized streams and their products with the weights.
-/
module

public import proofs.«01_k».proof.Proof.Val.Real
public import Idealize.ShloMosaic.Lib.ValueIdx
public import Idealize.ShloMosaic.PureOps.Ideal.Laws

@[expose] public section

noncomputable section

namespace Cert.Proof.Proj

open Idealize.ShloMosaic Idealize.ShloMosaic.ValueIdx

abbrev A3 (a b c : ℕ) : Shape := ⟨3, ![a, b, c]⟩
abbrev A2 (a b : ℕ) : Shape := ⟨2, ![a, b]⟩

/-- The row's reciprocal root mean square. -/
def inv (x : Fin 1024 → EReal) : EReal :=
  Ideal.rsqrt (Ideal.div (∑ k, x k * x k) (Ideal.ofBits .f32 0x44800000#32) + Ideal.ofBits .f32 0x358637BD#32)

/-- The normalized row, scaled and shifted. -/
def nrm (x : Fin 1024 → EReal) (g sh sc : EReal) (d : Fin 1024) : EReal := x d * inv x * (g * (1 + sc)) + sh

/-- The two products. -/
def prod {n : ℕ} (x : (A3 8 2048 1024).Idx → EReal) (mo : (A3 8 n 1024).Idx → EReal) (g : (A2 1 1024).Idx → EReal) (w : (A2 1024 2048).Idx → EReal)
    (i0 i1 : Fin n) (b : Fin 8) (r c : Fin 2048) : EReal :=
  ∑ d : Fin 1024, nrm (fun k => x (ix3 b r k)) (g (ix2 0 d)) (mo (ix3 b i0 d)) (mo (ix3 b i1 d)) d * w (ix2 d c)

variable (x : (A3 8 2048 1024).Idx → EReal) (mk : (A3 8 2 1024).Idx → EReal) (mb : (A3 8 3 1024).Idx → EReal)
  (gk gb : (A2 1 1024).Idx → EReal) (wk wq : (A2 1024 2048).Idx → EReal)

/-- The keys and values. -/
def kvR (i : (A3 8 2048 2048).Idx) : EReal := prod x mk gk wk 0 1 (i 0) (i 1) (i 2)
/-- The queries, scaled. -/
def qR (i : (A3 8 2048 1024).Idx) : EReal :=
  prod x mb gb wq 0 1 (i 0) (i 1) ⟨(i 2).val, by have : (i 2).val < 1024 := (i 2).isLt; omega⟩ * ((8⁻¹ * (Real.log 2)⁻¹ : ℝ) : EReal)
/-- The gate's logits. -/
def zR (i : (A3 8 2048 1024).Idx) : EReal :=
  prod x mb gb wq 0 1 (i 0) (i 1) ⟨1024 + (i 2).val, by have : (i 2).val < 1024 := (i 2).isLt; omega⟩

end Cert.Proof.Proj
end
-- ==== Proof.Proj.Kern.lean ====
/-
  The projection kernel's payloads at an index, and its three result arrays.
-/
module

public import proofs.«01_k».proof.Proof.Gen.ProjectionsIdeal.Value
public import proofs.«01_k».proof.Proof.Proj.Spec
public import Idealize.ShloMosaic.Lib.MatmulPlain
public import Idealize.ShloMosaic.Lib.Pipeline.Value
public import Idealize.ShloMosaic.Lib.Pipeline.ValueKit

@[expose] public section

set_option maxRecDepth 4096

noncomputable section

namespace Cert.Proof.Proj

open Idealize.ShloMosaic Idealize.ShloMosaic.TcCoe Idealize.ShloMosaic.ValueIdx
open Cert.ProjectionsIdeal Cert.ProjectionsIdeal.Gen

theorem drop3 {α : Type} {n k : ℕ} (v : (A3 1 n k).Idx → α) (h : (A3 1 n k).ShapeCasts (A2 n k)) (r : Fin n) (d : Fin k) :
    shapeCast (A2 n k) v h (ValueIdx.ix2 r d) = v (ValueIdx.ix3 0 r d) := by
  rw [shapeCast_dropUnit_apply]
  refine congrArg v (funext fun a => ?_)
  match a with
  | ⟨0, _⟩ => rfl
  | ⟨1, _⟩ => rfl
  | ⟨2, _⟩ => rfl
theorem add3 {α : Type} {n k : ℕ} (v : (A2 n k).Idx → α) (h : (A2 n k).ShapeCasts (A3 1 n k)) (i : (A3 1 n k).Idx) :
    shapeCast (A3 1 n k) v h i = v (ValueIdx.ix2 (i 1) (i 2)) := by
  rw [shapeCast_addUnit_apply]
  refine congrArg v (funext fun a => ?_)
  match a with
  | ⟨0, _⟩ => rfl
  | ⟨1, _⟩ => rfl

theorem row_at {α : Type} (v : S1x1024.Idx → α) (h : S1x1024.Broadcasts S1024x1024) (r d : Fin 1024) :
    broadcastTo S1024x1024 v h (ValueIdx.ix2 r d) = v (ValueIdx.ix2 0 d) :=
  broadcastTo_apply _ _ _ _ fun a => by
    match a with
    | ⟨0, _⟩ => rfl
    | ⟨1, _⟩ => rfl
theorem col_at {α : Type} (v : S1024x1.Idx → α) (h : S1024x1.Broadcasts S1024x1024) (r d : Fin 1024) :
    broadcastTo S1024x1024 v h (ValueIdx.ix2 r d) = v (ValueIdx.ix2 r 0) :=
  broadcastTo_apply _ _ _ _ fun a => by
    match a with
    | ⟨0, _⟩ => rfl
    | ⟨1, _⟩ => rfl

/-- The normalized row. -/
theorem pay4_at (v : Vec Ideal S1x1024x1024 .f32) (r d : Fin 1024) :
    k0_pay4 v (ValueIdx.ix2 r d) = (v (ValueIdx.ix3 0 r d) : EReal) * inv fun k => v (ValueIdx.ix3 0 r k) := by
  have hs : ∀ s : FVec Ideal S1024 .f32, shapeCast S1024x1 s shapeCasts_S1024_S1024x1 (ValueIdx.ix2 r 0) = s (ValueIdx.ix1 r) := fun s =>
    shapeCast_apply _ _ _ _ (by rw [Shape.rowMajor_val_one, Shape.rowMajor_val_two]; show r.val = r.val * 1 + 0; omega)
  unfold k0_pay4
  show (shapeCast S1024x1024 v shapeCasts_S1x1024x1024_S1024x1024 (ValueIdx.ix2 r d) : EReal) * broadcastTo S1024x1024 _ broadcasts_S1024x1_S1024x1024 (ValueIdx.ix2 r d) = _
  rw [col_at, show shapeCast S1024x1024 v shapeCasts_S1x1024x1024_S1024x1024 (ValueIdx.ix2 r d) = v (ValueIdx.ix3 0 r d) from drop3 _ _ _ _]
  refine congrArg _ ?_
  show Ideal.rsqrt (Ideal.div (shapeCast S1024x1 _ shapeCasts_S1024_S1024x1 (ValueIdx.ix2 r 0)) _ + _) = _
  rw [hs]
  unfold inv
  refine congrArg (fun y => Ideal.rsqrt (Ideal.div y _ + _)) ((Ideal.multiReduction_add_single _ _ _ _ _ _).trans (Finset.sum_congr rfl fun k _ => ?_))
  have e : Shape.Reduces.lift reduces_S1024x1024_S1024 (ValueIdx.ix1 r) k = ValueIdx.ix2 r k := by
    funext a; apply Fin.ext; match a with
    | ⟨0, _⟩ => rfl
    | ⟨1, _⟩ => rfl
  rw [e]
  have e' : (shapeCast S1024x1024 v shapeCasts_S1x1024x1024_S1024x1024 (ValueIdx.ix2 r k) : EReal) = v (ValueIdx.ix3 0 r k) := drop3 _ _ _ _
  exact congrArg₂ (fun a b : EReal => a * b) e' e'

theorem pay5_at (v : Vec Ideal S1x1024x1024 .f32) (mo : Vec Ideal S1x2x1024 .f32) (g : Vec Ideal S1x1024 .f32) (r d : Fin 1024) :
    k0_pay5 v mo g (ValueIdx.ix2 r d)
      = nrm (fun k => v (ValueIdx.ix3 0 r k)) (g (ValueIdx.ix2 0 d)) (mo (ValueIdx.ix3 0 0 d)) (mo (ValueIdx.ix3 0 1 d)) d := by
  unfold k0_pay5
  show (k0_pay4 v (ValueIdx.ix2 r d) : EReal) * broadcastTo S1024x1024 _ broadcasts_S1x1024_S1024x1024 (ValueIdx.ix2 r d)
    + broadcastTo S1024x1024 _ broadcasts_S1x1024_S1024x1024 (ValueIdx.ix2 r d) = _
  rw [row_at, row_at, pay4_at]
  have e0 : extractStridedSlice S1x1024 ![0, 0] (shapeCast S2x1024 mo shapeCasts_S1x2x1024_S2x1024) slices_S2x1024_o0_0_S1x1024 (ValueIdx.ix2 0 d) = mo (ValueIdx.ix3 0 0 d) := by
    refine (extractStridedSlice_apply _ _ _ _ (ValueIdx.ix2 0 d) fun a => ?_).trans (drop3 _ _ _ _)
    match a with
    | ⟨0, _⟩ => rfl
    | ⟨1, _⟩ => show d.val = 0 + d.val; omega
  have e1 : extractStridedSlice S1x1024 ![1, 0] (shapeCast S2x1024 mo shapeCasts_S1x2x1024_S2x1024) slices_S2x1024_o1_0_S1x1024 (ValueIdx.ix2 0 d) = mo (ValueIdx.ix3 0 1 d) := by
    refine (extractStridedSlice_apply _ _ _ _ (ValueIdx.ix2 1 d) fun a => ?_).trans (drop3 _ _ _ _)
    match a with
    | ⟨0, _⟩ => rfl
    | ⟨1, _⟩ => show d.val = 0 + d.val; omega
  show _ * ((g (ValueIdx.ix2 0 d) : EReal) * (Ideal.ofBits .f32 0x3F800000#32 + extractStridedSlice S1x1024 ![1, 0] (shapeCast S2x1024 mo shapeCasts_S1x2x1024_S2x1024) slices_S2x1024_o1_0_S1x1024 (ValueIdx.ix2 0 d))) + _ = _
  rw [e0, e1, Val.ofBits_one]; rfl

theorem pay6_at (v : Vec Ideal S1x1024x1024 .f32) (mo : Vec Ideal S1x3x1024 .f32) (g : Vec Ideal S1x1024 .f32) (r d : Fin 1024) :
    k0_pay6 v mo g (ValueIdx.ix2 r d)
      = nrm (fun k => v (ValueIdx.ix3 0 r k)) (g (ValueIdx.ix2 0 d)) (mo (ValueIdx.ix3 0 0 d)) (mo (ValueIdx.ix3 0 1 d)) d := by
  unfold k0_pay6
  show (k0_pay4 v (ValueIdx.ix2 r d) : EReal) * broadcastTo S1024x1024 _ broadcasts_S1x1024_S1024x1024 (ValueIdx.ix2 r d)
    + broadcastTo S1024x1024 _ broadcasts_S1x1024_S1024x1024 (ValueIdx.ix2 r d) = _
  rw [row_at, row_at, pay4_at]
  have e0 : extractStridedSlice S1x1024 ![0, 0] (shapeCast S3x1024 mo shapeCasts_S1x3x1024_S3x1024) slices_S3x1024_o0_0_S1x1024 (ValueIdx.ix2 0 d) = mo (ValueIdx.ix3 0 0 d) := by
    refine (extractStridedSlice_apply _ _ _ _ (ValueIdx.ix2 0 d) fun a => ?_).trans (drop3 _ _ _ _)
    match a with
    | ⟨0, _⟩ => rfl
    | ⟨1, _⟩ => show d.val = 0 + d.val; omega
  have e1 : extractStridedSlice S1x1024 ![1, 0] (shapeCast S3x1024 mo shapeCasts_S1x3x1024_S3x1024) slices_S3x1024_o1_0_S1x1024 (ValueIdx.ix2 0 d) = mo (ValueIdx.ix3 0 1 d) := by
    refine (extractStridedSlice_apply _ _ _ _ (ValueIdx.ix2 1 d) fun a => ?_).trans (drop3 _ _ _ _)
    match a with
    | ⟨0, _⟩ => rfl
    | ⟨1, _⟩ => show d.val = 0 + d.val; omega
  show _ * ((g (ValueIdx.ix2 0 d) : EReal) * (Ideal.ofBits .f32 0x3F800000#32 + extractStridedSlice S1x1024 ![1, 0] (shapeCast S3x1024 mo shapeCasts_S1x3x1024_S3x1024) slices_S3x1024_o1_0_S1x1024 (ValueIdx.ix2 0 d))) + _ = _
  rw [e0, e1, Val.ofBits_one]; rfl

theorem mm_at (h : FVec Ideal S1024x1024 .bf16) (w : FVec Ideal S1024x1024 .f32) (r c : Fin 1024) :
    matmul (F := Ideal) dot_S1024x1024_S1024x1024_S1024x1024_1_0_0_1_n_n none h (truncf .bf16 w bitsLt_bf16_f32) (constant S1024x1024 .f32 0x00000000#32) (ValueIdx.ix2 r c)
      = ∑ k : Fin 1024, (h (ValueIdx.ix2 r k) : EReal) * (w (ValueIdx.ix2 k c) : EReal) := by
  have e : matmul (F := Ideal) dot_S1024x1024_S1024x1024_S1024x1024_1_0_0_1_n_n none h (truncf .bf16 w bitsLt_bf16_f32) (constant S1024x1024 .f32 0x00000000#32) (ValueIdx.ix2 r c)
    = FloatOps.matmul (DotDims.plain 1024 1024 1024) none h (truncf .bf16 w bitsLt_bf16_f32) (constant S1024x1024 .f32 0x00000000#32) (ValueIdx.ix2 r c) := rfl
  rw [e, Ideal.matmul_plain_apply]
  have c0 : (constant (F := Ideal) S1024x1024 .f32 0x00000000#32) (ValueIdx.ix2 r c) = (0 : EReal) := Ideal.ofBits_zero_f32
  rw [c0, zero_add]; rfl
theorem mmw_at (h : FVec Ideal S1024x1024 .bf16) (w : FVec Ideal S1024x2048 .f32) (r : Fin 1024) (c : Fin 2048) :
    matmul (F := Ideal) dot_S1024x1024_S1024x2048_S1024x2048_1_0_0_1_n_n none h (truncf .bf16 w bitsLt_bf16_f32) (constant S1024x2048 .f32 0x00000000#32) (ValueIdx.ix2 r c)
      = ∑ k : Fin 1024, (h (ValueIdx.ix2 r k) : EReal) * (w (ValueIdx.ix2 k c) : EReal) := by
  have e : matmul (F := Ideal) dot_S1024x1024_S1024x2048_S1024x2048_1_0_0_1_n_n none h (truncf .bf16 w bitsLt_bf16_f32) (constant S1024x2048 .f32 0x00000000#32) (ValueIdx.ix2 r c)
    = FloatOps.matmul (DotDims.plain 1024 1024 2048) none h (truncf .bf16 w bitsLt_bf16_f32) (constant S1024x2048 .f32 0x00000000#32) (ValueIdx.ix2 r c) := rfl
  rw [e, Ideal.matmul_plain_apply]
  have c0 : (constant (F := Ideal) S1024x2048 .f32 0x00000000#32) (ValueIdx.ix2 r c) = (0 : EReal) := Ideal.ofBits_zero_f32
  rw [c0, zero_add]; rfl

theorem pay1_at (h : FVec Ideal S1024x1024 .bf16) (w : FVec Ideal S1024x2048 .f32) (i : S1x1024x2048.Idx) :
    k0_pay1 h w i = ∑ k : Fin 1024, (h (ValueIdx.ix2 (i 1) k) : EReal) * (w (ValueIdx.ix2 k (i 2)) : EReal) := by
  unfold k0_pay1
  exact (add3 _ _ i).trans (mmw_at h w (i 1) (i 2))
theorem pay2_at (h : FVec Ideal S1024x1024 .bf16) (w : FVec Ideal S1024x1024 .f32) (i : S1x1024x1024.Idx) :
    k0_pay2 h w i = (∑ k : Fin 1024, (h (ValueIdx.ix2 (i 1) k) : EReal) * (w (ValueIdx.ix2 k (i 2)) : EReal)) * ((8⁻¹ * (Real.log 2)⁻¹ : ℝ) : EReal) := by
  unfold k0_pay2
  exact (add3 _ _ i).trans (congrArg (fun y : EReal => y * ((8⁻¹ * (Real.log 2)⁻¹ : ℝ) : EReal)) (mm_at h w (i 1) (i 2)))
theorem pay3_at (h : FVec Ideal S1024x1024 .bf16) (w : FVec Ideal S1024x1024 .f32) (i : S1x1024x1024.Idx) :
    k0_pay3 h w i = ∑ k : Fin 1024, (h (ValueIdx.ix2 (i 1) k) : EReal) * (w (ValueIdx.ix2 k (i 2)) : EReal) := by
  unfold k0_pay3
  exact (add3 _ _ i).trans (mm_at h w (i 1) (i 2))

/-! ### The argument arrays and the blocks -/

variable (m : (ℓ : Loc nD τ sig) → Buf (Elt Ideal) ℓ) (c : Dev nD)

abbrev b0 : S8x2048x1024.Idx → EReal := m ((c.tc : Thread nD τ).loc main_arg0)
abbrev b1 : S8x2x1024.Idx → EReal := m ((c.tc : Thread nD τ).loc main_arg1)
abbrev b2 : S8x3x1024.Idx → EReal := m ((c.tc : Thread nD τ).loc main_arg2)
abbrev b3 : S1x1024.Idx → EReal := m ((c.tc : Thread nD τ).loc main_arg3)
abbrev b4 : S1x1024.Idx → EReal := m ((c.tc : Thread nD τ).loc main_arg4)
abbrev b5 : S1024x2048.Idx → EReal := m ((c.tc : Thread nD τ).loc main_arg5)
abbrev b6 : S1024x2048.Idx → EReal := m ((c.tc : Thread nD τ).loc main_arg6)

theorem idx_0 : ∀ t : Fin cfg0.N, win0_0.index t = ![t.val / 2, t.val % 2, 0] := (by decide +kernel : ∀ t : Fin grid0.N, _)
theorem idx_1 : ∀ t : Fin cfg0.N, win0_1.index t = ![t.val / 2, 0, 0] := (by decide +kernel : ∀ t : Fin grid0.N, _)
theorem idx_2 : ∀ t : Fin cfg0.N, win0_2.index t = ![t.val / 2, 0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![t.val / 2, t.val % 2, 0] := (by decide +kernel : ∀ t : Fin grid0.N, _)
theorem idx_8 : ∀ t : Fin cfg0.N, win0_8.index t = ![t.val / 2, t.val % 2, 0] := (by decide +kernel : ∀ t : Fin grid0.N, _)
theorem idx_9 : ∀ t : Fin cfg0.N, win0_9.index t = ![t.val / 2, t.val % 2, 0] := (by decide +kernel : ∀ t : Fin grid0.N, _)

theorem N_eq : cfg0.N = 16 := by decide +kernel

/-- The batch and the row of a grid point's block. -/
def bat (t : Fin cfg0.N) : Fin 8 := ⟨t.val / 2, by have h : t.val < 16 := lt_of_lt_of_eq t.isLt N_eq; omega⟩
def row (t : Fin cfg0.N) (r : Fin 1024) : Fin 2048 := ⟨1024 * (t.val % 2) + r.val, by omega⟩

theorem ext3 {a b c : ℕ} (i : (A3 a b c).Idx) (x : Fin a) (y : Fin b) (z : Fin c) (h0 : (i 0).val = x.val) (h1 : (i 1).val = y.val) (h2 : (i 2).val = z.val) :
    i = ValueIdx.ix3 x y z := by
  funext k; apply Fin.ext
  match k with
  | ⟨0, _⟩ => exact h0
  | ⟨1, _⟩ => exact h1
  | ⟨2, _⟩ => exact h2
theorem ext2 {a b : ℕ} (i : (A2 a b).Idx) (x : Fin a) (y : Fin b) (h0 : (i 0).val = x.val) (h1 : (i 1).val = y.val) :
    i = ValueIdx.ix2 x y := by
  funext k; apply Fin.ext
  match k with
  | ⟨0, _⟩ => exact h0
  | ⟨1, _⟩ => exact h1

theorem i0_all (t : Fin cfg0.N) (i : S1x1024x1024.Idx) : (iblk m c 0 t i : EReal) = b0 m c (ValueIdx.ix3 (bat t) (row t (i 1)) (i 2)) := by
  have h0 : (i 0).val < 1 := (i 0).isLt
  refine (show _ = b0 m c ((win0_0.blk t).view.emb i) from rfl).trans (congrArg _ (ext3 _ _ _ _ ?_ ?_ ?_))
  · show _ = t.val / 2; blk_simp [idx_0 t] <;> simp <;> omega
  · show _ = 1024 * (t.val % 2) + (i 1).val; blk_simp [idx_0 t] <;> simp <;> omega
  · blk_simp [idx_0 t] <;> simp
theorem i0_at (t : Fin cfg0.N) (r d : Fin 1024) : (iblk m c 0 t (ValueIdx.ix3 0 r d) : EReal) = b0 m c (ValueIdx.ix3 (bat t) (row t r) d) := i0_all m c t _
theorem i1_all (t : Fin cfg0.N) (i : S1x2x1024.Idx) : (iblk m c 1 t i : EReal) = b1 m c (ValueIdx.ix3 (bat t) (i 1) (i 2)) := by
  have h0 : (i 0).val < 1 := (i 0).isLt
  refine (show _ = b1 m c ((win0_1.blk t).view.emb i) from rfl).trans (congrArg _ (ext3 _ _ _ _ ?_ ?_ ?_))
  · show _ = t.val / 2; blk_simp [idx_1 t] <;> simp <;> omega
  · blk_simp [idx_1 t] <;> simp
  · blk_simp [idx_1 t] <;> simp
theorem i1_at (t : Fin cfg0.N) (r : Fin 2) (d : Fin 1024) : (iblk m c 1 t (ValueIdx.ix3 0 r d) : EReal) = b1 m c (ValueIdx.ix3 (bat t) r d) := i1_all m c t _
theorem i2_all (t : Fin cfg0.N) (i : S1x3x1024.Idx) : (iblk m c 2 t i : EReal) = b2 m c (ValueIdx.ix3 (bat t) (i 1) (i 2)) := by
  have h0 : (i 0).val < 1 := (i 0).isLt
  refine (show _ = b2 m c ((win0_2.blk t).view.emb i) from rfl).trans (congrArg _ (ext3 _ _ _ _ ?_ ?_ ?_))
  · show _ = t.val / 2; blk_simp [idx_2 t] <;> simp <;> omega
  · blk_simp [idx_2 t] <;> simp
  · blk_simp [idx_2 t] <;> simp
theorem i2_at (t : Fin cfg0.N) (r : Fin 3) (d : Fin 1024) : (iblk m c 2 t (ValueIdx.ix3 0 r d) : EReal) = b2 m c (ValueIdx.ix3 (bat t) r d) := i2_all m c t _
theorem i3_all (t : Fin cfg0.N) (i : S1x1024.Idx) : (iblk m c 3 t i : EReal) = b3 m c (ValueIdx.ix2 (i 0) (i 1)) := by
  refine (show _ = b3 m c ((win0_3.blk t).view.emb i) from rfl).trans (congrArg _ (ext2 _ _ _ ?_ ?_))
  · blk_simp [idx_3 t] <;> simp
  · blk_simp [idx_3 t] <;> simp
theorem i3_at (t : Fin cfg0.N) (d : Fin 1024) : (iblk m c 3 t (ValueIdx.ix2 0 d) : EReal) = b3 m c (ValueIdx.ix2 0 d) := i3_all m c t _
theorem i4_all (t : Fin cfg0.N) (i : S1x1024.Idx) : (iblk m c 4 t i : EReal) = b4 m c (ValueIdx.ix2 (i 0) (i 1)) := by
  refine (show _ = b4 m c ((win0_4.blk t).view.emb i) from rfl).trans (congrArg _ (ext2 _ _ _ ?_ ?_))
  · blk_simp [idx_4 t] <;> simp
  · blk_simp [idx_4 t] <;> simp
theorem i4_at (t : Fin cfg0.N) (d : Fin 1024) : (iblk m c 4 t (ValueIdx.ix2 0 d) : EReal) = b4 m c (ValueIdx.ix2 0 d) := i4_all m c t _
theorem i5_all (t : Fin cfg0.N) (i : S1024x2048.Idx) : (iblk m c 5 t i : EReal) = b5 m c (ValueIdx.ix2 (i 0) (i 1)) := by
  refine (show _ = b5 m c ((win0_5.blk t).view.emb i) from rfl).trans (congrArg _ (ext2 _ _ _ ?_ ?_))
  · blk_simp [idx_5 t] <;> simp
  · blk_simp [idx_5 t] <;> simp
theorem i5_at (t : Fin cfg0.N) (k : Fin 1024) (d : Fin 2048) : (iblk m c 5 t (ValueIdx.ix2 k d) : EReal) = b5 m c (ValueIdx.ix2 k d) := i5_all m c t _
theorem i6_all (t : Fin cfg0.N) (i : S1024x2048.Idx) : (iblk m c 6 t i : EReal) = b6 m c (ValueIdx.ix2 (i 0) (i 1)) := by
  refine (show _ = b6 m c ((win0_6.blk t).view.emb i) from rfl).trans (congrArg _ (ext2 _ _ _ ?_ ?_))
  · blk_simp [idx_6 t] <;> simp
  · blk_simp [idx_6 t] <;> simp
theorem i6_at (t : Fin cfg0.N) (k : Fin 1024) (d : Fin 2048) : (iblk m c 6 t (ValueIdx.ix2 k d) : EReal) = b6 m c (ValueIdx.ix2 k d) := i6_all m c t _

theorem h_b (t : Fin cfg0.N) (r d : Fin 1024) :
    k0_pay6 (iblk m c 0 t) (iblk m c 2 t) (iblk m c 4 t) (ValueIdx.ix2 r d)
      = nrm (fun k => b0 m c (ValueIdx.ix3 (bat t) (row t r) k)) (b4 m c (ValueIdx.ix2 0 d)) (b2 m c (ValueIdx.ix3 (bat t) 0 d)) (b2 m c (ValueIdx.ix3 (bat t) 1 d)) d := by
  refine (pay6_at _ _ _ r d).trans ?_
  simp only [i0_at, i2_at, i4_at]
theorem h_b7 (t : Fin cfg0.N) (r d : Fin 1024) :
    k0_pay7 (iblk m c 0 t) (iblk m c 1 t) (iblk m c 2 t) (iblk m c 3 t) (iblk m c 4 t) (iblk m c 5 t) (iblk m c 6 t) (ValueIdx.ix2 r d)
      = nrm (fun k => b0 m c (ValueIdx.ix3 (bat t) (row t r) k)) (b4 m c (ValueIdx.ix2 0 d)) (b2 m c (ValueIdx.ix3 (bat t) 0 d)) (b2 m c (ValueIdx.ix3 (bat t) 1 d)) d := by
  unfold k0_pay7
  frame_out
  exact h_b m c t r d
theorem h_kv (t : Fin cfg0.N) (r d : Fin 1024) :
    k0_pay5 (iblk m c 0 t) (iblk m c 1 t) (iblk m c 3 t) (ValueIdx.ix2 r d)
      = nrm (fun k => b0 m c (ValueIdx.ix3 (bat t) (row t r) k)) (b3 m c (ValueIdx.ix2 0 d)) (b1 m c (ValueIdx.ix3 (bat t) 0 d)) (b1 m c (ValueIdx.ix3 (bat t) 1 d)) d := by
  refine (pay5_at _ _ _ r d).trans ?_
  simp only [i0_at, i1_at, i3_at]

theorem covers_7 : (cfg0.win 7).Covers := by decide +kernel
theorem covers_8 : (cfg0.win 8).Covers := by decide +kernel
theorem covers_9 : (cfg0.win 9).Covers := by decide +kernel

theorem emb_7 (t : Fin cfg0.N) (y : S1x1024x1024.Idx) : (win0_7.blk t).view.emb y = ValueIdx.ix3 (bat t) (row t (y 1)) (y 2) := by
  have h0 : (y 0).val < 1 := (y 0).isLt
  refine ext3 _ _ _ _ ?_ ?_ ?_
  · show _ = t.val / 2; blk_simp [idx_7 t] <;> simp <;> omega
  · show _ = 1024 * (t.val % 2) + (y 1).val; blk_simp [idx_7 t] <;> simp <;> omega
  · blk_simp [idx_7 t] <;> simp
theorem emb_8 (t : Fin cfg0.N) (y : S1x1024x2048.Idx) : (win0_8.blk t).view.emb y = ValueIdx.ix3 (bat t) (row t (y 1)) (y 2) := by
  have h0 : (y 0).val < 1 := (y 0).isLt
  refine ext3 _ _ _ _ ?_ ?_ ?_
  · show _ = t.val / 2; blk_simp [idx_8 t] <;> simp <;> omega
  · show _ = 1024 * (t.val % 2) + (y 1).val; blk_simp [idx_8 t] <;> simp <;> omega
  · blk_simp [idx_8 t] <;> simp
theorem emb_9 (t : Fin cfg0.N) (y : S1x1024x1024.Idx) : (win0_9.blk t).view.emb y = ValueIdx.ix3 (bat t) (row t (y 1)) (y 2) := by
  have h0 : (y 0).val < 1 := (y 0).isLt
  refine ext3 _ _ _ _ ?_ ?_ ?_
  · show _ = t.val / 2; blk_simp [idx_9 t] <;> simp <;> omega
  · show _ = 1024 * (t.val % 2) + (y 1).val; blk_simp [idx_9 t] <;> simp <;> omega
  · blk_simp [idx_9 t] <;> simp

/-- The two halves of the second weights. -/
theorem wq_at (x : Vec Ideal S1024x2048 .f32) (k d : Fin 1024) : View.ld x r0_6 (ValueIdx.ix2 k d) = x (ValueIdx.ix2 k ⟨d.val, by omega⟩) := by
  refine (show _ = x (r0_6.emb (ValueIdx.ix2 k d)) from rfl).trans (congrArg x (ext2 _ _ _ ?_ ?_)) <;> simp [Rect.emb_apply]
theorem wz_at (x : Vec Ideal S1024x2048 .f32) (k d : Fin 1024) : View.ld x r0_7 (ValueIdx.ix2 k d) = x (ValueIdx.ix2 k ⟨1024 + d.val, by omega⟩) := by
  refine (show _ = x (r0_7.emb (ValueIdx.ix2 k d)) from rfl).trans (congrArg x (ext2 _ _ _ ?_ ?_)) <;> simp [Rect.emb_apply]

theorem kv_eq : (dats m 0 c).arrAt 8 cfg0.N = kvR (b0 m c) (b1 m c) (b3 m c) (b5 m c) := by
  refine (dats m 0 c).arrAt_eq_of_covers 8 _ covers_8 fun t hf y => ?_
  blk_simp
  rw [after0_8]; frame_out
  rw [emb_8]
  refine (pay1_at _ _ y).trans ?_
  unfold kvR prod
  refine Finset.sum_congr rfl fun k _ => ?_
  exact congrArg₂ (fun a b : EReal => a * b) (h_kv m c t (y 1) k) (i5_at m c t k (y 2))

theorem q_eq : (dats m 0 c).arrAt 7 cfg0.N = qR (b0 m c) (b2 m c) (b4 m c) (b6 m c) := by
  refine (dats m 0 c).arrAt_eq_of_covers 7 _ covers_7 fun t hf y => ?_
  blk_simp
  rw [after0_7]; frame_out
  rw [emb_7]
  refine (pay2_at _ _ y).trans ?_
  unfold qR prod
  refine congrArg (fun y : EReal => y * _) (Finset.sum_congr rfl fun k _ => ?_)
  exact congrArg₂ (fun a b : EReal => a * b) (h_b7 m c t (y 1) k) ((wq_at _ k (y 2)).trans (i6_at m c t k _))

theorem z_eq : (dats m 0 c).arrAt 9 cfg0.N = zR (b0 m c) (b2 m c) (b4 m c) (b6 m c) := by
  refine (dats m 0 c).arrAt_eq_of_covers 9 _ covers_9 fun t hf y => ?_
  blk_simp
  rw [after0_9]; frame_out
  rw [emb_9]
  refine (pay3_at _ _ y).trans ?_
  unfold zR prod
  refine Finset.sum_congr rfl fun k _ => ?_
  exact congrArg₂ (fun a b : EReal => a * b) (h_b7 m c t (y 1) k) ((wz_at _ k (y 2)).trans (i6_at m c t k _))

end Cert.Proof.Proj
end
-- ==== Proof.Proj.Ref.lean ====
/-
  The projections' reference read at an index.
-/
module

public import proofs.«01_k».proof.Proof.Gen.ProjectionsReferenceIdeal.Read
public import proofs.«01_k».proof.Proof.Proj.Spec

@[expose] public section

noncomputable section

namespace Cert.Proof.Proj

open Idealize.ShloMosaic Idealize.ShloMosaic.ValueIdx
open Cert.ProjectionsReferenceIdeal Cert.ProjectionsReferenceIdeal.Gen Cert.ProjectionsReferenceIdeal.Read

variable (x0 : S8x2048x1024.Idx → EReal) (x1 : S8x2x1024.Idx → EReal) (x2 : S8x3x1024.Idx → EReal)
  (x3 x4 : S1x1024.Idx → EReal) (x5 x6 : S1024x2048.Idx → EReal)

theorem ref_inv (b : Fin 8) (r : Fin 2048) : val_main_v11 (F := Ideal) x0 (ix3 b r 0) = inv fun k => x0 (ix3 b r k) := by
  rw [val_main_v11_apply, val_main_v10_apply, val_main_v8_apply, val_main_v6_apply, val_main_v5_apply, val_main_v7_apply, val_main_v9_apply,
    val_main_cst_apply, val_main_cst_0_apply, val_main_cst_1_apply]
  show Ideal.rsqrt (Ideal.div (Ideal.ofBits .f32 0x00000000#32 + ∑ k : Fin 1024, (x0 _ : EReal) * x0 _) _ + _) = _
  rw [Ideal.ofBits_zero_f32, zero_add]; unfold inv
  have e : ∀ k, idx_main_v5 (idx_main_v6 (ix3 b r 0)) k = ix3 b r k := fun k => by
    funext a; match a with
    | ⟨0, _⟩ => rfl
    | ⟨1, _⟩ => rfl
    | ⟨2, _⟩ => rfl
  simp only [e]; rfl

theorem ref_nrm_kv (b : Fin 8) (r : Fin 2048) (d : Fin 1024) :
    val_main_v24 (F := Ideal) x0 x1 x3 (ix3 b r d) = nrm (fun k => x0 (ix3 b r k)) (x3 (ix2 0 d)) (x1 (ix3 b 0 d)) (x1 (ix3 b 1 d)) d := by
  rw [val_main_v24_apply, val_main_v21_apply, val_main_v16_apply, val_main_v13_apply, val_main_v12_apply, val_main_v15_apply, val_main_v14_apply,
    val_main_v20_apply, val_main_v19_apply, val_main_v18_apply, val_main_v17_apply, val_main_v3_apply, val_main_v2_apply, val_main_v23_apply, val_main_v22_apply,
    val_main_v1_apply, val_main_v0_apply, val_main_cst_2_apply]
  rw [show idx_main_v12 (ix3 b r d) = ix3 b r 0 from by
    funext a; match a with
    | ⟨0, _⟩ => rfl
    | ⟨1, _⟩ => rfl
    | ⟨2, _⟩ => rfl, ref_inv]
  have eg : idx_main_v14 (idx_main_v15 (ix3 b r d)) = ix2 0 d := by
    funext a; match a with
    | ⟨0, _⟩ => rfl
    | ⟨1, _⟩ => rfl
  have hb := b.isLt
  have hd := d.isLt
  have e1 : idx_main_v2 (idx_main_v3 (idx_main_v17 (idx_main_v20 (ix3 b r d)))) = ix3 b 1 d := by
    funext a; apply Fin.ext; match a with
    | ⟨0, _⟩ => show (b.val * 1024 + d.val) / 1024 = b.val; omega
    | ⟨1, _⟩ => rfl
    | ⟨2, _⟩ => show (b.val * 1024 + d.val) % 1024 = d.val; omega
  have e0 : idx_main_v0 (idx_main_v1 (idx_main_v22 (idx_main_v23 (ix3 b r d)))) = ix3 b 0 d := by
    funext a; apply Fin.ext; match a with
    | ⟨0, _⟩ => show (b.val * 1024 + d.val) / 1024 = b.val; omega
    | ⟨1, _⟩ => rfl
    | ⟨2, _⟩ => show (b.val * 1024 + d.val) % 1024 = d.val; omega
  rw [eg, e1, e0]
  show (x0 (ix3 b r d) : EReal) * _ * x3 (ix2 0 d) * (Ideal.ofBits .f32 0x3F800000#32 + x1 (ix3 b 1 d)) + x1 (ix3 b 0 d) = _
  rw [Val.ofBits_one, mul_assoc]; rfl

theorem ref_inv' (b : Fin 8) (r : Fin 2048) : val_main_v37 (F := Ideal) x0 (ix3 b r 0) = inv fun k => x0 (ix3 b r k) := by
  rw [val_main_v37_apply, val_main_v36_apply, val_main_v34_apply, val_main_v32_apply, val_main_v31_apply, val_main_v33_apply, val_main_v35_apply,
    val_main_cst_3_apply, val_main_cst_4_apply, val_main_cst_5_apply]
  show Ideal.rsqrt (Ideal.div (Ideal.ofBits .f32 0x00000000#32 + ∑ k : Fin 1024, (x0 _ : EReal) * x0 _) _ + _) = _
  rw [Ideal.ofBits_zero_f32, zero_add]; unfold inv
  have e : ∀ k, idx_main_v31 (idx_main_v32 (ix3 b r 0)) k = ix3 b r k := fun k => by
    funext a; match a with
    | ⟨0, _⟩ => rfl
    | ⟨1, _⟩ => rfl
    | ⟨2, _⟩ => rfl
  simp only [e]; rfl

theorem ref_nrm_b (b : Fin 8) (r : Fin 2048) (d : Fin 1024) :
    val_main_v50 (F := Ideal) x0 x2 x4 (ix3 b r d) = nrm (fun k => x0 (ix3 b r k)) (x4 (ix2 0 d)) (x2 (ix3 b 0 d)) (x2 (ix3 b 1 d)) d := by
  rw [val_main_v50_apply, val_main_v47_apply, val_main_v42_apply, val_main_v39_apply, val_main_v38_apply, val_main_v41_apply, val_main_v40_apply,
    val_main_v46_apply, val_main_v45_apply, val_main_v44_apply, val_main_v43_apply, val_main_v29_apply, val_main_v28_apply, val_main_v49_apply, val_main_v48_apply,
    val_main_v27_apply, val_main_v26_apply, val_main_cst_6_apply]
  rw [show idx_main_v38 (ix3 b r d) = ix3 b r 0 from by
    funext a; match a with
    | ⟨0, _⟩ => rfl
    | ⟨1, _⟩ => rfl
    | ⟨2, _⟩ => rfl, ref_inv']
  have eg : idx_main_v40 (idx_main_v41 (ix3 b r d)) = ix2 0 d := by
    funext a; match a with
    | ⟨0, _⟩ => rfl
    | ⟨1, _⟩ => rfl
  have hb := b.isLt
  have hd := d.isLt
  have e1 : idx_main_v28 (idx_main_v29 (idx_main_v43 (idx_main_v46 (ix3 b r d)))) = ix3 b 1 d := by
    funext a; apply Fin.ext; match a with
    | ⟨0, _⟩ => show (b.val * 1024 + d.val) / 1024 = b.val; omega
    | ⟨1, _⟩ => rfl
    | ⟨2, _⟩ => show (b.val * 1024 + d.val) % 1024 = d.val; omega
  have e0 : idx_main_v26 (idx_main_v27 (idx_main_v48 (idx_main_v49 (ix3 b r d)))) = ix3 b 0 d := by
    funext a; apply Fin.ext; match a with
    | ⟨0, _⟩ => show (b.val * 1024 + d.val) / 1024 = b.val; omega
    | ⟨1, _⟩ => rfl
    | ⟨2, _⟩ => show (b.val * 1024 + d.val) % 1024 = d.val; omega
  rw [eg, e1, e0]
  show (x0 (ix3 b r d) : EReal) * _ * x4 (ix2 0 d) * (Ideal.ofBits .f32 0x3F800000#32 + x2 (ix3 b 1 d)) + x2 (ix3 b 0 d) = _
  rw [Val.ofBits_one, mul_assoc]; rfl

theorem ref_kv : val_main_v60 (F := Ideal) x0 x1 x3 x5 = kvR x0 x1 x3 x5 := by
  funext i
  rw [val_main_v60_apply]
  show (val_main_v25 (F := Ideal) x0 x1 x3 x5 i : EReal) = _
  rw [val_main_v25_apply]; unfold kvR prod
  refine Finset.sum_congr rfl fun k _ => ?_
  have el : lidx_main_v25 i k = ix3 (i 0) (i 1) k := by
    funext a; match a with
    | ⟨0, _⟩ => rfl
    | ⟨1, _⟩ => rfl
    | ⟨2, _⟩ => rfl
  have er : ridx_main_v25 i k = ix2 k (i 2) := by
    funext a; match a with
    | ⟨0, _⟩ => rfl
    | ⟨1, _⟩ => rfl
  rw [el, er]
  exact congrArg (fun y : EReal => y * x5 (ix2 k (i 2))) (ref_nrm_kv x0 x1 x3 (i 0) (i 1) k)

theorem ref_prod (i : S8x2048x2048.Idx) : val_main_v51 (F := Ideal) x0 x2 x4 x6 i = prod x0 x2 x4 x6 0 1 (i 0) (i 1) (i 2) := by
  rw [val_main_v51_apply]; unfold prod
  refine Finset.sum_congr rfl fun k _ => ?_
  have el : lidx_main_v51 i k = ix3 (i 0) (i 1) k := by
    funext a; match a with
    | ⟨0, _⟩ => rfl
    | ⟨1, _⟩ => rfl
    | ⟨2, _⟩ => rfl
  have er : ridx_main_v51 i k = ix2 k (i 2) := by
    funext a; match a with
    | ⟨0, _⟩ => rfl
    | ⟨1, _⟩ => rfl
  rw [el, er]
  exact congrArg (fun y : EReal => y * x6 (ix2 k (i 2))) (ref_nrm_b x0 x2 x4 (i 0) (i 1) k)

theorem ofBits_eighth : Ideal.ofBits .f32 0x3E000000#32 = ((8⁻¹ : ℝ) : EReal) := by
  simp [Ideal.ofBits, Ideal.ieee, -EReal.coe_mul]; norm_num

theorem ref_q : val_main_v59 (F := Ideal) x0 x2 x4 x6 = qR x0 x2 x4 x6 := by
  funext i
  rw [val_main_v59_apply]
  show (val_main_v58 (F := Ideal) x0 x2 x4 x6 i : EReal) = _
  rw [val_main_v58_apply, val_main_v55_apply, val_main_v52_apply, val_main_v54_apply, val_main_v57_apply, val_main_v56_apply, val_main_cst_7_apply, val_main_cst_8_apply,
    ref_prod]
  show Ideal.div (prod x0 x2 x4 x6 0 1 _ _ _ * Ideal.ofBits .f32 0x3E000000#32) (Ideal.log (Ideal.ofBits .f32 0x40000000#32)) = _
  rw [ofBits_eighth, Val.ofBits_two, Val.log_coe (by norm_num)]
  unfold qR
  rw [EReal.coe_mul, ← mul_assoc]
  unfold Ideal.div
  rw [if_neg (by exact_mod_cast Val.log2_pos.ne')]
  rw [EReal.coe_inv (Real.log 2)]
  refine congrArg (fun y => prod x0 x2 x4 x6 0 1 (i 0) (i 1) y * _ * _) (Fin.ext ?_)
  first | rfl | (show 0 + (i 2).val = (i 2).val; omega)

theorem ref_z : val_main_v53 (F := Ideal) x0 x2 x4 x6 = zR x0 x2 x4 x6 := by
  funext i
  rw [val_main_v53_apply, ref_prod]
  unfold zR
  refine congrArg (fun y => prod x0 x2 x4 x6 0 1 (i 0) (i 1) y) (Fin.ext ?_)
  rfl

end Cert.Proof.Proj
end
-- ==== Proof.Conv.Spec.lean ====
/-
  What the convolution layer computes at an index: the four products of the normalized rows, the products convolved
  causally along the rows, the gate, and the product with the second weights added back.
-/
module

public import proofs.«01_k».proof.Proof.Proj.Spec

@[expose] public section

noncomputable section

namespace Cert.Proof.Conv

open Idealize.ShloMosaic Idealize.ShloMosaic.ValueIdx
open Cert.Proof.Proj (A3 A2 nrm)

variable (x : (A3 8 2048 1024).Idx → EReal) (mo : (A3 8 3 1024).Idx → EReal) (g : (A2 1 1024).Idx → EReal)
  (w : (A2 1024 4096).Idx → EReal) (cw : (A2 3 1024).Idx → EReal) (wo : (A2 1024 1024).Idx → EReal)

/-- A normalized row times a column of the first weights. -/
def pr (b : Fin 8) (r : Fin 2048) (c : Fin 4096) : EReal :=
  ∑ d : Fin 1024, nrm (fun k => x (ix3 b r k)) (g (ix2 0 d)) (mo (ix3 b 0 d)) (mo (ix3 b 1 d)) d * w (ix2 d c)

/-- The columns of the first weights, four parts of 1024. -/
abbrev col (p : Fin 4) (c : Fin 1024) : Fin 4096 := ⟨1024 * p.val + c.val, by omega⟩

/-- The convolved rows: the second product times the third, with two rows of zeros before the first. -/
def P (b : Fin 8) (n : ℕ) (c : Fin 1024) : EReal :=
  if h : 2 ≤ n ∧ n < 2050 then pr x mo g w b ⟨n - 2, by omega⟩ (col 1 c) * pr x mo g w b ⟨n - 2, by omega⟩ (col 2 c) else 0

/-- The gated convolution. -/
def yR (b : Fin 8) (r : Fin 2048) (c : Fin 1024) : EReal :=
  pr x mo g w b r (col 0 c)
    * (cw (ix2 0 c) * P x mo g w b r.val c + cw (ix2 1 c) * P x mo g w b (r.val + 1) c + cw (ix2 2 c) * P x mo g w b (r.val + 2) c)
    * (pr x mo g w b r (col 3 c) * Ideal.logistic (pr x mo g w b r (col 3 c)))

/-- The layer's result. -/
def outR (i : (A3 8 2048 1024).Idx) : EReal :=
  x i + mo (ix3 (i 0) 2 (i 2)) * ∑ k : Fin 1024, yR x mo g w cw (i 0) (i 1) k * wo (ix2 k (i 2))

theorem P_low (b : Fin 8) (n : ℕ) (c : Fin 1024) (h : n < 2) : P x mo g w b n c = 0 := dif_neg (by omega)
theorem P_at (b : Fin 8) (r : Fin 2048) (c : Fin 1024) :
    P x mo g w b (r.val + 2) c = pr x mo g w b r (col 1 c) * pr x mo g w b r (col 2 c) := by
  unfold P
  rw [dif_pos ⟨by omega, by omega⟩]
  have e : (⟨r.val + 2 - 2, by omega⟩ : Fin 2048) = r := Fin.ext (by simp)
  rw [e]

end Cert.Proof.Conv
end
-- ==== Proof.Conv.Chunk.lean ====
/-
  One chunk of 256 rows of the convolution kernel: its normalized rows, its products, its last rows and its result, at an index.
-/
module

public import proofs.«01_k».proof.Proof.Gen.ConvLayerIdeal.Value
public import proofs.«01_k».proof.Proof.Proj.Kern
public import proofs.«01_k».proof.Proof.Conv.Spec
public import Idealize.ShloMosaic.Lib.KernelVsHost

@[expose] public section

set_option maxRecDepth 4096

noncomputable section

namespace Cert.Proof.Conv

open Idealize.ShloMosaic Idealize.ShloMosaic.TcCoe Idealize.ShloMosaic.ValueIdx
open Cert.ConvLayerIdeal Cert.ConvLayerIdeal.Gen
open Cert.Proof.Proj (A3 A2 nrm drop3 add3 ext2 ext3)

/-- The chunk's normalized rows. -/
def hch (md : Vec Ideal S1x3x1024 .f32) (g : Vec Ideal S1x1024 .f32) (x : Vec Ideal S1x256x1024 .f32) : FVec Ideal S256x1024 .bf16 :=
  k0_pay71 (k0_pay48 md) (k0_pay50 md g) x
/-- The chunk's rows to convolve. -/
def cch (md : Vec Ideal S1x3x1024 .f32) (g : Vec Ideal S1x1024 .f32) (w1 w2 : Vec Ideal S1024x1024 .f32) (x : Vec Ideal S1x256x1024 .f32) : FVec Ideal S256x1024 .f32 :=
  k0_pay72 (k0_pay48 md) (k0_pay50 md g) (k0_pay52 w1) (k0_pay53 w2) x
/-- Their last eight. -/
def tch (md : Vec Ideal S1x3x1024 .f32) (g : Vec Ideal S1x1024 .f32) (w1 w2 : Vec Ideal S1024x1024 .f32) (x : Vec Ideal S1x256x1024 .f32) : FVec Ideal S8x1024 .f32 :=
  k0_pay73 (k0_pay48 md) (k0_pay50 md g) (k0_pay52 w1) (k0_pay53 w2) x
/-- The chunk's gated convolution, the eight rows before it given. -/
def ych (md : Vec Ideal S1x3x1024 .f32) (g : Vec Ideal S1x1024 .f32) (cw : Vec Ideal S3x1024 .f32) (w0 w1 w2 w3 : Vec Ideal S1024x1024 .f32)
    (tl : Vec Ideal S8x1024 .f32) (x : Vec Ideal S1x256x1024 .f32) : FVec Ideal S256x1024 .f32 :=
  k0_pay80 (k0_pay48 md) (k0_pay50 md g) cw (k0_pay51 w0) (k0_pay52 w1) (k0_pay53 w2) (k0_pay54 w3) tl x
/-- The chunk's result. -/
def och (md : Vec Ideal S1x3x1024 .f32) (g : Vec Ideal S1x1024 .f32) (cw : Vec Ideal S3x1024 .f32) (w0 w1 w2 w3 wo : Vec Ideal S1024x1024 .f32)
    (tl : Vec Ideal S8x1024 .f32) (x : Vec Ideal S1x256x1024 .f32) : FVec Ideal S1x256x1024 .f32 :=
  k0_pay5 (k0_pay49 md) (k0_pay55 wo) (k0_pay76 x) (ych md g cw w0 w1 w2 w3 tl x)

theorem row_at {α : Type} (v : S1x1024.Idx → α) (h : S1x1024.Broadcasts S256x1024) (r : Fin 256) (d : Fin 1024) :
    broadcastTo S256x1024 v h (ValueIdx.ix2 r d) = v (ValueIdx.ix2 0 d) :=
  broadcastTo_apply _ _ _ _ fun a => by
    match a with
    | ⟨0, _⟩ => rfl
    | ⟨1, _⟩ => rfl
theorem colv_at {α : Type} (v : S256x1.Idx → α) (h : S256x1.Broadcasts S256x1024) (r : Fin 256) (d : Fin 1024) :
    broadcastTo S256x1024 v h (ValueIdx.ix2 r d) = v (ValueIdx.ix2 r 0) :=
  broadcastTo_apply _ _ _ _ fun a => by
    match a with
    | ⟨0, _⟩ => rfl
    | ⟨1, _⟩ => rfl

theorem md0 (md : Vec Ideal S1x3x1024 .f32) (d : Fin 1024) : k0_pay48 md (ValueIdx.ix2 0 d) = md (ValueIdx.ix3 0 0 d) := by
  unfold k0_pay48 k0_pay47
  refine (extractStridedSlice_apply _ _ _ _ (ValueIdx.ix2 0 d) fun a => ?_).trans (drop3 _ _ _ _)
  match a with
  | ⟨0, _⟩ => rfl
  | ⟨1, _⟩ => show d.val = 0 + d.val; omega
theorem md2 (md : Vec Ideal S1x3x1024 .f32) (d : Fin 1024) : k0_pay49 md (ValueIdx.ix2 0 d) = md (ValueIdx.ix3 0 2 d) := by
  unfold k0_pay49 k0_pay47
  refine (extractStridedSlice_apply _ _ _ _ (ValueIdx.ix2 2 d) fun a => ?_).trans (drop3 _ _ _ _)
  match a with
  | ⟨0, _⟩ => rfl
  | ⟨1, _⟩ => show d.val = 0 + d.val; omega
theorem md1 (md : Vec Ideal S1x3x1024 .f32) (g : Vec Ideal S1x1024 .f32) (d : Fin 1024) :
    k0_pay50 md g (ValueIdx.ix2 0 d) = (g (ValueIdx.ix2 0 d) : EReal) * (1 + md (ValueIdx.ix3 0 1 d)) := by
  unfold k0_pay50 k0_pay47
  have e1 : extractStridedSlice S1x1024 ![1, 0] (shapeCast S3x1024 md shapeCasts_S1x3x1024_S3x1024) slices_S3x1024_o1_0_S1x1024 (ValueIdx.ix2 0 d) = md (ValueIdx.ix3 0 1 d) := by
    refine (extractStridedSlice_apply _ _ _ _ (ValueIdx.ix2 1 d) fun a => ?_).trans (drop3 _ _ _ _)
    match a with
    | ⟨0, _⟩ => rfl
    | ⟨1, _⟩ => show d.val = 0 + d.val; omega
  show (g (ValueIdx.ix2 0 d) : EReal) * (Ideal.ofBits .f32 0x3F800000#32 + extractStridedSlice S1x1024 ![1, 0] (shapeCast S3x1024 md shapeCasts_S1x3x1024_S3x1024) slices_S3x1024_o1_0_S1x1024 (ValueIdx.ix2 0 d)) = _
  rw [e1, Val.ofBits_one]

theorem hch_at (md : Vec Ideal S1x3x1024 .f32) (g : Vec Ideal S1x1024 .f32) (x : Vec Ideal S1x256x1024 .f32) (r : Fin 256) (d : Fin 1024) :
    hch md g x (ValueIdx.ix2 r d)
      = nrm (fun k => x (ValueIdx.ix3 0 r k)) (g (ValueIdx.ix2 0 d)) (md (ValueIdx.ix3 0 0 d)) (md (ValueIdx.ix3 0 1 d)) d := by
  have hs : ∀ s : FVec Ideal S256 .f32, shapeCast S256x1 s shapeCasts_S256_S256x1 (ValueIdx.ix2 r 0) = s (ValueIdx.ix1 r) := fun s =>
    shapeCast_apply _ _ _ _ (by rw [Shape.rowMajor_val_one, Shape.rowMajor_val_two]; show r.val = r.val * 1 + 0; omega)
  have hx : ∀ k : Fin 1024, (k0_pay70 x (ValueIdx.ix2 r k) : EReal) = x (ValueIdx.ix3 0 r k) := fun k => drop3 _ _ _ _
  unfold hch k0_pay71
  show (k0_pay70 x (ValueIdx.ix2 r d) : EReal) * broadcastTo S256x1024 _ broadcasts_S256x1_S256x1024 (ValueIdx.ix2 r d)
    * broadcastTo S256x1024 _ broadcasts_S1x1024_S256x1024 (ValueIdx.ix2 r d) + broadcastTo S256x1024 _ broadcasts_S1x1024_S256x1024 (ValueIdx.ix2 r d) = _
  rw [colv_at, row_at, row_at, md0, md1, hx]
  unfold nrm
  refine congrArg (fun y : EReal => x (ValueIdx.ix3 0 r d) * y * _ + _) ?_
  show Ideal.rsqrt (Ideal.div (shapeCast S256x1 _ shapeCasts_S256_S256x1 (ValueIdx.ix2 r 0)) _ + _) = _
  rw [hs]
  unfold Proj.inv
  refine congrArg (fun y => Ideal.rsqrt (Ideal.div y _ + _)) ((Ideal.multiReduction_add_single _ _ _ _ _ _).trans (Finset.sum_congr rfl fun k _ => ?_))
  have e : Shape.Reduces.lift reduces_S256x1024_S256 (ValueIdx.ix1 r) k = ValueIdx.ix2 r k := by
    funext a; apply Fin.ext; match a with
    | ⟨0, _⟩ => rfl
    | ⟨1, _⟩ => rfl
  rw [e]
  exact congrArg₂ (fun a b : EReal => a * b) (hx k) (hx k)

theorem mm_at (h : FVec Ideal S256x1024 .bf16) (w : FVec Ideal S1024x1024 .bf16) (r : Fin 256) (c : Fin 1024) :
    matmul (F := Ideal) dot_S256x1024_S1024x1024_S256x1024_1_0_0_1_n_n none h w (constant S256x1024 .f32 0x00000000#32) (ValueIdx.ix2 r c)
      = ∑ k : Fin 1024, (h (ValueIdx.ix2 r k) : EReal) * (w (ValueIdx.ix2 k c) : EReal) := by
  have e : matmul (F := Ideal) dot_S256x1024_S1024x1024_S256x1024_1_0_0_1_n_n none h w (constant S256x1024 .f32 0x00000000#32) (ValueIdx.ix2 r c)
    = FloatOps.matmul (DotDims.plain 256 1024 1024) none h w (constant S256x1024 .f32 0x00000000#32) (ValueIdx.ix2 r c) := rfl
  rw [e, Ideal.matmul_plain_apply]
  have c0 : (constant (F := Ideal) S256x1024 .f32 0x00000000#32) (ValueIdx.ix2 r c) = (0 : EReal) := Ideal.ofBits_zero_f32
  rw [c0, zero_add]

/-- A normalized row of the chunk times a column of a weight. -/
def hw (md : Vec Ideal S1x3x1024 .f32) (g : Vec Ideal S1x1024 .f32) (w : Vec Ideal S1024x1024 .f32) (x : Vec Ideal S1x256x1024 .f32) (r : Fin 256) (c : Fin 1024) : EReal :=
  ∑ k : Fin 1024, nrm (fun k => x (ValueIdx.ix3 0 r k)) (g (ValueIdx.ix2 0 k)) (md (ValueIdx.ix3 0 0 k)) (md (ValueIdx.ix3 0 1 k)) k * w (ValueIdx.ix2 k c)

theorem hw_at (md : Vec Ideal S1x3x1024 .f32) (g : Vec Ideal S1x1024 .f32) (w : Vec Ideal S1024x1024 .f32) (x : Vec Ideal S1x256x1024 .f32) (r : Fin 256) (c : Fin 1024) :
    matmul (F := Ideal) dot_S256x1024_S1024x1024_S256x1024_1_0_0_1_n_n none (hch md g x) (truncf .bf16 w bitsLt_bf16_f32) (constant S256x1024 .f32 0x00000000#32) (ValueIdx.ix2 r c)
      = hw md g w x r c :=
  (mm_at _ _ r c).trans (Finset.sum_congr rfl fun k _ => congrArg (fun y : EReal => y * w (ValueIdx.ix2 k c)) (hch_at md g x r k))

theorem cch_at (md : Vec Ideal S1x3x1024 .f32) (g : Vec Ideal S1x1024 .f32) (w1 w2 : Vec Ideal S1024x1024 .f32) (x : Vec Ideal S1x256x1024 .f32) (r : Fin 256) (c : Fin 1024) :
    (cch md g w1 w2 x (ValueIdx.ix2 r c) : EReal) = hw md g w1 x r c * hw md g w2 x r c :=
  congrArg₂ (fun a b : EReal => a * b) (hw_at md g w1 x r c) (hw_at md g w2 x r c)

theorem tch_at (md : Vec Ideal S1x3x1024 .f32) (g : Vec Ideal S1x1024 .f32) (w1 w2 : Vec Ideal S1024x1024 .f32) (x : Vec Ideal S1x256x1024 .f32) (i : Fin 8) (c : Fin 1024) :
    tch md g w1 w2 x (ValueIdx.ix2 i c) = cch md g w1 w2 x (ValueIdx.ix2 ⟨248 + i.val, by omega⟩ c) := by
  unfold tch k0_pay73
  refine extractStridedSlice_apply _ _ _ _ _ fun a => ?_
  match a with
  | ⟨0, _⟩ => rfl
  | ⟨1, _⟩ => show c.val = 0 + c.val; omega

/-! ### The chunk's rows behind the eight before them, shifted -/

/-- The row `n` of the eight rows followed by the chunk's. -/
def ext (tl : Vec Ideal S8x1024 .f32) (cu : FVec Ideal S256x1024 .f32) (n : Fin 264) (c : Fin 1024) : EReal :=
  if h : n.val < 8 then tl (ValueIdx.ix2 ⟨n.val, h⟩ c) else cu (ValueIdx.ix2 ⟨n.val - 8, by omega⟩ c)

theorem cat_at (tl : Vec Ideal S8x1024 .f32) (cu : FVec Ideal S256x1024 .f32) (n : Fin 264) (c : Fin 1024) :
    concatenate S264x1024 0 [⟨S8x1024, tl⟩, ⟨S256x1024, cu⟩] concatenates_S8x1024_S256x1024_S264x1024_d0 (ValueIdx.ix2 n c) = ext tl cu n c := by
  unfold ext
  by_cases h : n.val < 8
  · rw [dif_pos h]
    refine concatenate_pair_apply_left (t := S264x1024) 0 tl cu _ _ rfl (ValueIdx.ix2 ⟨n.val, h⟩ c) fun b => ?_
    match b with
    | ⟨0, _⟩ => rfl
    | ⟨1, _⟩ => rfl
  · rw [dif_neg h]
    refine concatenate_pair_apply_right (t := S264x1024) 0 tl cu _ _ rfl rfl (ValueIdx.ix2 ⟨n.val - 8, by omega⟩ c) (fun b hb => ?_) ?_
    · match b with
      | ⟨0, _⟩ => exact absurd rfl hb
      | ⟨1, _⟩ => rfl
    · show n.val - 8 + 8 = n.val; omega

theorem rot1_at (tl : Vec Ideal S8x1024 .f32) (cu : FVec Ideal S256x1024 .f32) (r : Fin 256) (c : Fin 1024) :
    extractStridedSlice S256x1024 ![8, 0] (dynamicRotate 0 1#32 none (concatenate S264x1024 0 [⟨S8x1024, tl⟩, ⟨S256x1024, cu⟩] concatenates_S8x1024_S256x1024_S264x1024_d0)
      rotates_S264x1024_d0) slices_S264x1024_o8_0_S256x1024 (ValueIdx.ix2 r c) = ext tl cu ⟨r.val + 7, by omega⟩ c := by
  refine (extractStridedSlice_apply _ _ _ _ (ValueIdx.ix2 (⟨8 + r.val, by omega⟩ : Fin 264) c) fun a => ?_).trans
    ((dynamicRotate_apply _ _ _ _ _ (ValueIdx.ix2 (⟨r.val + 7, by omega⟩ : Fin 264) c) fun b => ?_).trans (cat_at tl cu _ c))
  · match a with
    | ⟨0, _⟩ => rfl
    | ⟨1, _⟩ => show c.val = 0 + c.val; omega
  · match b with
    | ⟨0, _⟩ => show r.val + 7 = (8 + r.val + 264 - 1 % 264) % 264; omega
    | ⟨1, _⟩ => rfl

theorem rot2_at (tl : Vec Ideal S8x1024 .f32) (cu : FVec Ideal S256x1024 .f32) (r : Fin 256) (c : Fin 1024) :
    extractStridedSlice S256x1024 ![8, 0] (dynamicRotate 0 2#32 none (concatenate S264x1024 0 [⟨S8x1024, tl⟩, ⟨S256x1024, cu⟩] concatenates_S8x1024_S256x1024_S264x1024_d0)
      rotates_S264x1024_d0) slices_S264x1024_o8_0_S256x1024 (ValueIdx.ix2 r c) = ext tl cu ⟨r.val + 6, by omega⟩ c := by
  refine (extractStridedSlice_apply _ _ _ _ (ValueIdx.ix2 (⟨8 + r.val, by omega⟩ : Fin 264) c) fun a => ?_).trans
    ((dynamicRotate_apply _ _ _ _ _ (ValueIdx.ix2 (⟨r.val + 6, by omega⟩ : Fin 264) c) fun b => ?_).trans (cat_at tl cu _ c))
  · match a with
    | ⟨0, _⟩ => rfl
    | ⟨1, _⟩ => show c.val = 0 + c.val; omega
  · match b with
    | ⟨0, _⟩ => show r.val + 6 = (8 + r.val + 264 - 2 % 264) % 264; omega
    | ⟨1, _⟩ => rfl

/-- A tap's weights. -/
theorem cw_at (cw : Vec Ideal S3x1024 .f32) (p : Fin 3) (h : S3x1024.Slices ![p.val, 0] S1x1024) (r : Fin 256) (c : Fin 1024) :
    broadcastTo S256x1024 (extractStridedSlice S1x1024 ![p.val, 0] cw h) broadcasts_S1x1024_S256x1024 (ValueIdx.ix2 r c) = cw (ValueIdx.ix2 p c) := by
  rw [row_at]
  refine extractStridedSlice_apply _ _ _ _ _ fun a => ?_
  match a with
  | ⟨0, _⟩ => rfl
  | ⟨1, _⟩ => show c.val = 0 + c.val; omega

theorem ych_at (md : Vec Ideal S1x3x1024 .f32) (g : Vec Ideal S1x1024 .f32) (cw : Vec Ideal S3x1024 .f32) (w0 w1 w2 w3 : Vec Ideal S1024x1024 .f32)
    (tl : Vec Ideal S8x1024 .f32) (x : Vec Ideal S1x256x1024 .f32) (r : Fin 256) (c : Fin 1024) :
    (ych md g cw w0 w1 w2 w3 tl x (ValueIdx.ix2 r c) : EReal)
      = hw md g w0 x r c
        * (cw (ValueIdx.ix2 0 c) * ext tl (cch md g w1 w2 x) ⟨r.val + 6, by omega⟩ c + cw (ValueIdx.ix2 1 c) * ext tl (cch md g w1 w2 x) ⟨r.val + 7, by omega⟩ c
          + cw (ValueIdx.ix2 2 c) * cch md g w1 w2 x (ValueIdx.ix2 r c))
        * (hw md g w3 x r c * Ideal.logistic (hw md g w3 x r c)) := by
  have e0 := hw_at md g w0 x r c
  have e3 := hw_at md g w3 x r c
  have t0 := cw_at cw 0 slices_S3x1024_o0_0_S1x1024 r c
  have t1 := cw_at cw 1 slices_S3x1024_o1_0_S1x1024 r c
  have t2 := cw_at cw 2 slices_S3x1024_o2_0_S1x1024 r c
  have s1 := rot1_at tl (cch md g w1 w2 x) r c
  have s2 := rot2_at tl (cch md g w1 w2 x) r c
  exact congrArg₂ (fun a b : EReal => a * b)
    (congrArg₂ (fun a b : EReal => a * b) e0
      (congrArg₂ (fun a b : EReal => a + b)
        (congrArg₂ (fun a b : EReal => a + b) (congrArg₂ (fun a b : EReal => a * b) t0 s2) (congrArg₂ (fun a b : EReal => a * b) t1 s1))
        (congrArg (fun a : EReal => a * cch md g w1 w2 x (ValueIdx.ix2 r c)) t2)))
    (congrArg (fun a : EReal => a * Ideal.logistic a) e3)

theorem och_at (md : Vec Ideal S1x3x1024 .f32) (g : Vec Ideal S1x1024 .f32) (cw : Vec Ideal S3x1024 .f32) (w0 w1 w2 w3 wo : Vec Ideal S1024x1024 .f32)
    (tl : Vec Ideal S8x1024 .f32) (x : Vec Ideal S1x256x1024 .f32) (i : S1x256x1024.Idx) :
    (och md g cw w0 w1 w2 w3 wo tl x i : EReal)
      = x (ValueIdx.ix3 0 (i 1) (i 2)) + md (ValueIdx.ix3 0 2 (i 2)) * ∑ k : Fin 1024, (ych md g cw w0 w1 w2 w3 tl x (ValueIdx.ix2 (i 1) k) : EReal) * wo (ValueIdx.ix2 k (i 2)) := by
  unfold och k0_pay5
  refine (add3 _ _ i).trans ?_
  have ex : (k0_pay76 x (ValueIdx.ix2 (i 1) (i 2)) : EReal) = x (ValueIdx.ix3 0 (i 1) (i 2)) := drop3 _ _ _ _
  have eg := (row_at (k0_pay49 md) broadcasts_S1x1024_S256x1024 (i 1) (i 2)).trans (md2 md (i 2))
  have em := mm_at (truncf .bf16 (ych md g cw w0 w1 w2 w3 tl x) bitsLt_bf16_f32) (k0_pay55 wo) (i 1) (i 2)
  exact congrArg₂ (fun a b : EReal => a + b) ex (congrArg₂ (fun a b : EReal => a * b) eg em)

end Cert.Proof.Conv
end
-- ==== Proof.Conv.Pays.lean ====
/-
  The chunks' payloads of the convolution kernel, however the kernel splits a chunk's computation, are the chunk functions.
-/
module

public import proofs.«01_k».proof.Proof.Conv.Chunk

@[expose] public section

set_option maxRecDepth 4096

noncomputable section

namespace Cert.Proof.Conv

open Idealize.ShloMosaic Idealize.ShloMosaic.TcCoe Idealize.ShloMosaic.ValueIdx
open Cert.ConvLayerIdeal Cert.ConvLayerIdeal.Gen

variable (md : Vec Ideal S1x3x1024 .f32) (g : Vec Ideal S1x1024 .f32) (cw : Vec Ideal S3x1024 .f32) (w0 w1 w2 w3 wo : Vec Ideal S1024x1024 .f32)
  (tl : Vec Ideal S8x1024 .f32) (x : Vec Ideal S1x256x1024 .f32)

theorem b0_och : k0_pay62 (k0_pay48 md) (k0_pay49 md) cw (k0_pay51 w0) (k0_pay52 w1) (k0_pay53 w2) (k0_pay54 w3) (k0_pay55 wo) tl (k0_pay56 x) (k0_pay57 x) (k0_pay58 md g)
    = och md g cw w0 w1 w2 w3 wo tl x := rfl

theorem b0_tch : k0_pay61 (k0_pay48 md) (k0_pay52 w1) (k0_pay53 w2) (k0_pay57 x) (k0_pay58 md g)
    = tch md g w1 w2 x := rfl

theorem b1_och : k0_pay69 (k0_pay48 md) (k0_pay49 md) (k0_pay50 md g) cw (k0_pay51 w0) (k0_pay52 w1) (k0_pay53 w2) (k0_pay54 w3) (k0_pay55 wo) tl (k0_pay63 x) (k0_pay64 x) k0_pay65
    = och md g cw w0 w1 w2 w3 wo tl x := rfl

theorem b1_tch : k0_pay68 (k0_pay48 md) (k0_pay50 md g) (k0_pay52 w1) (k0_pay53 w2) (k0_pay63 x) (k0_pay64 x) k0_pay65
    = tch md g w1 w2 x := rfl

theorem b2_och : k0_pay75 (k0_pay74 (k0_pay48 md) (k0_pay49 md) (k0_pay50 md g) cw (k0_pay51 w0) (k0_pay52 w1) (k0_pay53 w2) (k0_pay54 w3) (k0_pay55 wo) tl x)
    = och md g cw w0 w1 w2 w3 wo tl x := rfl

theorem b2_tch : k0_pay73 (k0_pay48 md) (k0_pay50 md g) (k0_pay52 w1) (k0_pay53 w2) x
    = tch md g w1 w2 x := rfl

theorem b3_och : k0_pay5 (k0_pay49 md) (k0_pay55 wo) (k0_pay76 x) (k0_pay80 (k0_pay48 md) (k0_pay50 md g) cw (k0_pay51 w0) (k0_pay52 w1) (k0_pay53 w2) (k0_pay54 w3) tl x)
    = och md g cw w0 w1 w2 w3 wo tl x := rfl

theorem b3_tch : k0_pay6 (k0_pay79 (k0_pay48 md) (k0_pay50 md g) (k0_pay52 w1) (k0_pay53 w2) x) = tch md g w1 w2 x := by
  unfold k0_pay6; exact (shapeCast_self _ _)

theorem a0_och : k0_pay23 (k0_pay9 md) (k0_pay11 x) (k0_pay21 cw tl (k0_pay12 (k0_pay8 md) (k0_pay10 md g) x) (k0_pay14 (k0_pay8 md) (k0_pay10 md g) x w0) (k0_pay16 (k0_pay8 md) (k0_pay10 md g) x w1) w2 w3) wo
    = och md g cw w0 w1 w2 w3 wo tl x := rfl

theorem a0_tch : k0_pay20 (k0_pay12 (k0_pay8 md) (k0_pay10 md g) x) (k0_pay16 (k0_pay8 md) (k0_pay10 md g) x w1) w2
    = tch md g w1 w2 x := rfl

theorem a1_och : k0_pay33 (k0_pay9 md) cw (k0_pay22 wo) (k0_pay24 x) (k0_pay26 (k0_pay8 md) (k0_pay10 md g) (k0_pay13 w0) x) (k0_pay27 (k0_pay8 md) (k0_pay10 md g) (k0_pay18 w3) x) (k0_pay28 (k0_pay8 md) (k0_pay10 md g) (k0_pay15 w1) (k0_pay17 w2) x) (k0_pay30 (k0_pay8 md) (k0_pay10 md g) (k0_pay15 w1) (k0_pay17 w2) tl x) (k0_pay32 (k0_pay8 md) (k0_pay10 md g) cw (k0_pay15 w1) (k0_pay17 w2) tl x)
    = och md g cw w0 w1 w2 w3 wo tl x := rfl

theorem a1_tch : k0_pay31 (k0_pay8 md) (k0_pay10 md g) (k0_pay15 w1) (k0_pay17 w2) x
    = tch md g w1 w2 x := rfl

theorem a2_och : k0_pay42 (k0_pay9 md) cw (k0_pay22 wo) (k0_pay34 x) (k0_pay36 (k0_pay8 md) (k0_pay10 md g) (k0_pay13 w0) x) (k0_pay37 (k0_pay8 md) (k0_pay10 md g) (k0_pay18 w3) x) (k0_pay38 (k0_pay8 md) (k0_pay10 md g) (k0_pay15 w1) (k0_pay17 w2) x) (k0_pay39 (k0_pay8 md) (k0_pay10 md g) (k0_pay15 w1) (k0_pay17 w2) tl x) (k0_pay40 (k0_pay8 md) (k0_pay10 md g) (k0_pay15 w1) (k0_pay17 w2) tl x)
    = och md g cw w0 w1 w2 w3 wo tl x := rfl

theorem a2_tch : k0_pay41 (k0_pay38 (k0_pay8 md) (k0_pay10 md g) (k0_pay15 w1) (k0_pay17 w2) x)
    = tch md g w1 w2 x := rfl

theorem a3_och : k0_pay3 (k0_pay9 md) cw (k0_pay17 w2) (k0_pay18 w3) (k0_pay22 wo) tl (k0_pay43 x) (k0_pay44 (k0_pay8 md) (k0_pay10 md g) x) (k0_pay45 (k0_pay8 md) (k0_pay10 md g) (k0_pay13 w0) x) (k0_pay46 (k0_pay8 md) (k0_pay10 md g) (k0_pay15 w1) x)
    = och md g cw w0 w1 w2 w3 wo tl x := rfl

theorem a3_tch : k0_pay4 (k0_pay17 w2) (k0_pay44 (k0_pay8 md) (k0_pay10 md g) x) (k0_pay46 (k0_pay8 md) (k0_pay10 md g) (k0_pay15 w1) x) = tch md g w1 w2 x := by
  unfold k0_pay4; exact (shapeCast_self _ _)

end Cert.Proof.Conv
end
-- ==== Proof.Conv.Kern.lean ====
/-
  The convolution kernel's blocks, what it carries from one grid point to the next, and its result array.
-/
module

public import proofs.«01_k».proof.Proof.Conv.Pays
public import Idealize.ShloMosaic.Lib.Pipeline.ReadBack
public import Idealize.ShloMosaic.Lib.Pipeline.ValueKit

@[expose] public section

set_option maxRecDepth 4096

noncomputable section

namespace Cert.Proof.Conv

open Idealize.ShloMosaic Idealize.ShloMosaic.TcCoe Idealize.ShloMosaic.ValueIdx
open Cert.ConvLayerIdeal Cert.ConvLayerIdeal.Gen
open Cert.Proof.Proj (A3 A2 nrm drop3 add3 ext2 ext3)

variable (m : (ℓ : Loc nD τ sig) → Buf (Elt Ideal) ℓ) (c : Dev nD)

/-! ### The argument arrays and the blocks -/

def b0 : (A3 8 2048 1024).Idx → EReal := V m c main_arg0
def b1 : (A3 8 3 1024).Idx → EReal := V m c main_arg1
def b2 : (A2 1 1024).Idx → EReal := V m c main_arg2
def b3 : (A2 1024 4096).Idx → EReal := V m c main_arg3
def b4 : (A2 3 1024).Idx → EReal := V m c main_arg4
def b5 : (A2 1024 1024).Idx → EReal := V m c main_arg5

theorem N_eq : cfg0.N = 16 := by decide +kernel

/-- The batch of a grid point's block. -/
def bat (t : Fin cfg0.N) : Fin 8 := ⟨t.val / 2, by have h : t.val < 16 := lt_of_lt_of_eq t.isLt N_eq; omega⟩
/-- The row `o + r` of a grid point's block. -/
def row (t : Fin cfg0.N) (o r : ℕ) (h : o + r < 1024) : Fin 2048 := ⟨1024 * (t.val % 2) + o + r, by omega⟩

theorem idx_0 : ∀ t : Fin cfg0.N, win0_0.index t = ![t.val / 2, t.val % 2, 0] := (by decide +kernel : ∀ t : Fin grid0.N, _)
theorem idx_1 : ∀ t : Fin cfg0.N, win0_1.index t = ![t.val / 2, 0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![t.val / 2, t.val % 2, 0] := (by decide +kernel : ∀ t : Fin grid0.N, _)

theorem i0_all (t : Fin cfg0.N) (i : S1x1024x1024.Idx) : (iblk m c 0 t i : EReal) = b0 m c (ValueIdx.ix3 (bat t) (row t 0 (i 1).val (by have h : (i 1).val < 1024 := (i 1).isLt; omega)) (i 2)) := by
  have h0 : (i 0).val < 1 := (i 0).isLt
  refine (show _ = b0 m c ((win0_0.blk t).view.emb i) from rfl).trans (congrArg _ (ext3 _ _ _ _ ?_ ?_ ?_))
  · show _ = t.val / 2; blk_simp [idx_0 t] <;> simp <;> omega
  · show _ = 1024 * (t.val % 2) + 0 + (i 1).val; blk_simp [idx_0 t] <;> simp <;> omega
  · blk_simp [idx_0 t] <;> simp
theorem i1_all (t : Fin cfg0.N) (i : S1x3x1024.Idx) : (iblk m c 1 t i : EReal) = b1 m c (ValueIdx.ix3 (bat t) (i 1) (i 2)) := by
  have h0 : (i 0).val < 1 := (i 0).isLt
  refine (show _ = b1 m c ((win0_1.blk t).view.emb i) from rfl).trans (congrArg _ (ext3 _ _ _ _ ?_ ?_ ?_))
  · show _ = t.val / 2; blk_simp [idx_1 t] <;> simp <;> omega
  · blk_simp [idx_1 t] <;> simp
  · blk_simp [idx_1 t] <;> simp
theorem i1_at (t : Fin cfg0.N) (r : Fin 3) (d : Fin 1024) : (iblk m c 1 t (ValueIdx.ix3 0 r d) : EReal) = b1 m c (ValueIdx.ix3 (bat t) r d) := i1_all m c t _
theorem i2_all (t : Fin cfg0.N) (i : S1x1024.Idx) : (iblk m c 2 t i : EReal) = b2 m c (ValueIdx.ix2 (i 0) (i 1)) := by
  refine (show _ = b2 m c ((win0_2.blk t).view.emb i) from rfl).trans (congrArg _ (ext2 _ _ _ ?_ ?_))
  · blk_simp [idx_2 t] <;> simp
  · blk_simp [idx_2 t] <;> simp
theorem i2_at (t : Fin cfg0.N) (d : Fin 1024) : (iblk m c 2 t (ValueIdx.ix2 0 d) : EReal) = b2 m c (ValueIdx.ix2 0 d) := i2_all m c t _
theorem i3_all (t : Fin cfg0.N) (i : S3x1024.Idx) : (iblk m c 3 t i : EReal) = b4 m c (ValueIdx.ix2 (i 0) (i 1)) := by
  refine (show _ = b4 m c ((win0_3.blk t).view.emb i) from rfl).trans (congrArg _ (ext2 _ _ _ ?_ ?_))
  · blk_simp [idx_3 t] <;> simp
  · blk_simp [idx_3 t] <;> simp
theorem i3_at (t : Fin cfg0.N) (p : Fin 3) (d : Fin 1024) : (iblk m c 3 t (ValueIdx.ix2 p d) : EReal) = b4 m c (ValueIdx.ix2 p d) := i3_all m c t _

/-- A chunk of a point's block. -/
abbrev xc (t : Fin cfg0.N) (o : ℕ) (h : ∀ a, ![0, o, 0] a + ![1, 256, 1024] a ≤ S1x1024x1024.size a) : Vec Ideal S1x256x1024 .f32 :=
  View.ld (iblk m c 0 t) (Rect.unit ![0, o, 0] ![1, 256, 1024] h)

theorem xc_at (t : Fin cfg0.N) (o : ℕ) (h) (ho : o + 256 ≤ 1024) (r : Fin 256) (d : Fin 1024) :
    (xc m c t o h (ValueIdx.ix3 0 r d) : EReal) = b0 m c (ValueIdx.ix3 (bat t) (row t o r.val (by omega)) d) := by
  have e : (Rect.unit (s := S1x1024x1024) ![0, o, 0] ![1, 256, 1024] h).emb (ValueIdx.ix3 (0 : Fin 1) r d)
      = ValueIdx.ix3 (0 : Fin 1) (⟨o + r.val, by omega⟩ : Fin 1024) d := by
    refine ext3 _ _ _ _ ?_ ?_ ?_ <;> simp [Rect.emb_apply]
  refine (show _ = iblk m c 0 t ((Rect.unit (s := S1x1024x1024) ![0, o, 0] ![1, 256, 1024] h).emb (ValueIdx.ix3 (0 : Fin 1) r d)) from rfl).trans ?_
  rw [e]
  refine (i0_all m c t _).trans (congrArg (b0 m c) (ext3 _ _ _ _ rfl ?_ rfl))
  show 1024 * (t.val % 2) + 0 + (o + r.val) = 1024 * (t.val % 2) + o + r.val
  omega

/-! ### One chunk -/

/-- A quarter of the first weights, and the second weights. -/
def IsW (p : Fin 4) (w : Vec Ideal S1024x1024 .f32) : Prop := ∀ k d : Fin 1024, (w (ValueIdx.ix2 k d) : EReal) = b3 m c (ValueIdx.ix2 k (col p d))
def IsO (w : Vec Ideal S1024x1024 .f32) : Prop := ∀ k d : Fin 1024, (w (ValueIdx.ix2 k d) : EReal) = b5 m c (ValueIdx.ix2 k d)

/-- The rows to convolve of the launch's arrays. -/
abbrev Pb (b : Fin 8) (n : ℕ) (d : Fin 1024) : EReal := P (b0 m c) (b1 m c) (b2 m c) (b3 m c) b n d
abbrev prb (b : Fin 8) (r : Fin 2048) (d : Fin 4096) : EReal := pr (b0 m c) (b1 m c) (b2 m c) (b3 m c) b r d

/-- The last two of the eight rows are the two before row `n` of the block. -/
def Tail (t : Fin cfg0.N) (o : ℕ) (tl : Vec Ideal S8x1024 .f32) : Prop :=
  ∀ d : Fin 1024, (tl (ValueIdx.ix2 6 d) : EReal) = Pb m c (bat t) (1024 * (t.val % 2) + o) d
    ∧ (tl (ValueIdx.ix2 7 d) : EReal) = Pb m c (bat t) (1024 * (t.val % 2) + o + 1) d

theorem hw_b (t : Fin cfg0.N) (o : ℕ) (h) (ho : o + 256 ≤ 1024) (p : Fin 4) (w : Vec Ideal S1024x1024 .f32) (hW : IsW m c p w) (r : Fin 256) (d : Fin 1024) :
    hw (iblk m c 1 t) (iblk m c 2 t) w (xc m c t o h) r d = prb m c (bat t) (row t o r.val (by omega)) (col p d) := by
  unfold hw prb pr
  refine Finset.sum_congr rfl fun k _ => congrArg₂ (fun a b : EReal => a * b) ?_ (hW k d)
  rw [i1_at, i1_at, i2_at]
  refine congrArg (fun f => nrm f _ _ _ k) (funext fun j => xc_at m c t o h ho r j)

theorem cch_b (t : Fin cfg0.N) (o : ℕ) (h) (ho : o + 256 ≤ 1024) (w1 w2 : Vec Ideal S1024x1024 .f32) (h1 : IsW m c 1 w1) (h2 : IsW m c 2 w2) (r : Fin 256) (d : Fin 1024) :
    (cch (iblk m c 1 t) (iblk m c 2 t) w1 w2 (xc m c t o h) (ValueIdx.ix2 r d) : EReal) = Pb m c (bat t) (1024 * (t.val % 2) + o + r.val + 2) d := by
  rw [cch_at, hw_b m c t o h ho 1 w1 h1, hw_b m c t o h ho 2 w2 h2]
  exact (P_at _ _ _ _ (bat t) (row t o r.val (by omega)) d).symm

theorem tch_b (t : Fin cfg0.N) (o : ℕ) (h) (ho : o + 256 ≤ 1024) (w1 w2 : Vec Ideal S1024x1024 .f32) (h1 : IsW m c 1 w1) (h2 : IsW m c 2 w2) :
    Tail m c t (o + 256) (tch (iblk m c 1 t) (iblk m c 2 t) w1 w2 (xc m c t o h)) := fun d => by
  constructor
  · rw [tch_at, cch_b m c t o h ho w1 w2 h1 h2]; rfl
  · rw [tch_at, cch_b m c t o h ho w1 w2 h1 h2]; rfl

theorem ext_b (t : Fin cfg0.N) (o : ℕ) (h) (ho : o + 256 ≤ 1024) (w1 w2 : Vec Ideal S1024x1024 .f32) (h1 : IsW m c 1 w1) (h2 : IsW m c 2 w2)
    (tl : Vec Ideal S8x1024 .f32) (ht : Tail m c t o tl) (n : Fin 264) (hn : 6 ≤ n.val) (d : Fin 1024) :
    ext tl (cch (iblk m c 1 t) (iblk m c 2 t) w1 w2 (xc m c t o h)) n d = Pb m c (bat t) (1024 * (t.val % 2) + o + (n.val - 6)) d := by
  unfold ext
  by_cases hl : n.val < 8
  · rw [dif_pos hl]
    rcases (by omega : n.val = 6 ∨ n.val = 7) with e | e
    · have e' : (⟨n.val, hl⟩ : Fin 8) = 6 := Fin.ext e
      rw [e', (ht d).1, e]
      rfl
    · have e' : (⟨n.val, hl⟩ : Fin 8) = 7 := Fin.ext e
      rw [e', (ht d).2, e]
  · rw [dif_neg hl, cch_b m c t o h ho w1 w2 h1 h2]
    refine congrArg (fun n => Pb m c (bat t) n d) ?_
    show 1024 * (t.val % 2) + o + (n.val - 8) + 2 = _
    omega

/-- A chunk's gated convolution, the rows before it right. -/
theorem ych_b (t : Fin cfg0.N) (o : ℕ) (h) (ho : o + 256 ≤ 1024) (w0 w1 w2 w3 : Vec Ideal S1024x1024 .f32)
    (h0 : IsW m c 0 w0) (h1 : IsW m c 1 w1) (h2 : IsW m c 2 w2) (h3 : IsW m c 3 w3)
    (tl : Vec Ideal S8x1024 .f32) (ht : Tail m c t o tl) (r : Fin 256) (k : Fin 1024) :
    (ych (iblk m c 1 t) (iblk m c 2 t) (iblk m c 3 t) w0 w1 w2 w3 tl (xc m c t o h) (ValueIdx.ix2 r k) : EReal)
      = yR (b0 m c) (b1 m c) (b2 m c) (b3 m c) (b4 m c) (bat t) (row t o r.val (by omega)) k := by
  rw [ych_at, hw_b m c t o h ho 0 w0 h0, hw_b m c t o h ho 3 w3 h3, ext_b m c t o h ho w1 w2 h1 h2 tl ht _ (by show 6 ≤ r.val + 6; omega),
    ext_b m c t o h ho w1 w2 h1 h2 tl ht _ (by show 6 ≤ r.val + 7; omega), cch_b m c t o h ho w1 w2 h1 h2, i3_at, i3_at, i3_at]
  rfl

/-- A chunk's result, the rows before it right, is the layer's there. -/
theorem och_b (t : Fin cfg0.N) (o : ℕ) (h) (ho : o + 256 ≤ 1024) (w0 w1 w2 w3 wo : Vec Ideal S1024x1024 .f32)
    (h0 : IsW m c 0 w0) (h1 : IsW m c 1 w1) (h2 : IsW m c 2 w2) (h3 : IsW m c 3 w3) (h4 : IsO m c wo)
    (tl : Vec Ideal S8x1024 .f32) (ht : Tail m c t o tl) (x : S1x256x1024.Idx) (i : (A3 8 2048 1024).Idx)
    (e0 : (i 0).val = t.val / 2) (e1 : (i 1).val = 1024 * (t.val % 2) + o + (x 1).val) (e2 : (i 2).val = (x 2).val) :
    (och (iblk m c 1 t) (iblk m c 2 t) (iblk m c 3 t) w0 w1 w2 w3 wo tl (xc m c t o h) x : EReal)
      = outR (b0 m c) (b1 m c) (b2 m c) (b3 m c) (b4 m c) (b5 m c) i := by
  have hx : (x 1).val < 256 := (x 1).isLt
  have ei : i = ValueIdx.ix3 (bat t) (row t o (x 1).val (by omega)) (x 2) := ext3 _ _ _ _ e0 e1 e2
  rw [ei]
  refine (och_at _ _ _ _ _ _ _ _ _ _ x).trans ?_
  unfold outR
  refine congrArg₂ (fun a b : EReal => a + b) (xc_at m c t o h ho (x 1) (x 2)) (congrArg₂ (fun a b : EReal => a * b) (i1_at m c t 2 (x 2)) (Finset.sum_congr rfl fun k _ => ?_))
  exact congrArg₂ (fun a b : EReal => a * b) (ych_b m c t o h ho w0 w1 w2 w3 h0 h1 h2 h3 tl ht (x 1) k) (h4 k (x 2))

/-! ### What the scratches hold -/

/-- Weights the kernel copied whole are the argument; a load of a quarter is a quarter. -/
theorem ld_w (p : Fin 4) (o : ℕ) (ho : o = 1024 * p.val) (h) (W : Vec Ideal S1024x4096 .f32) (hW : W = V m c main_arg3) :
    IsW m c p (View.ld W (Rect.unit (s := S1024x4096) ![0, o] ![1024, 1024] h)) := fun k d => by
  subst hW
  refine (show _ = b3 m c ((Rect.unit (s := S1024x4096) ![0, o] ![1024, 1024] h).emb (ValueIdx.ix2 k d)) from rfl).trans (congrArg _ (ext2 _ _ _ ?_ ?_))
  · simp [Rect.emb_apply]
  · simp [Rect.emb_apply, ho]

theorem canon_wo (v : Vec Ideal S1024x1024 .f32) : View.canon [⟨Rect.whole S1024x1024, v⟩] = v := by
  funext y
  have e := View.canon_cons_emb (Val := Elt Ideal) (Rect.whole S1024x1024) v [] y
  simpa using e

theorem cov_wo (v : Vec Ideal S1024x1024 .f32) :
    (View.whole cc0_scratch2).readCov (Val := Elt Ideal) [⟨Rect.whole S1024x1024, v⟩] (Rect.unit (s := S1024x1024) ![0, 0] ![1024, 1024] inb_S1024x1024_S1024x1024_0_0).toLoadRect = v := by
  rw [View.readCov_eq_canon', canon_wo]
  funext j
  refine congrArg v (funext fun a => Fin.ext ?_)
  match a with
  | ⟨0, _⟩ => simp [Rect.idx_unit_val]
  | ⟨1, _⟩ => simp [Rect.idx_unit_val]

/-- The first eight rows of zeros. -/
theorem tail_zero (t : Fin cfg0.N) (h : t.val % 2 = 0) : Tail m c t 0 (k0_pay1 (F := Ideal)) := fun d => by
  have e : ∀ i, (k0_pay1 (F := Ideal) i : EReal) = 0 := fun i =>
    (congrFun (shapeCast_self _ _ : k0_pay1 (F := Ideal) = _) i).trans Ideal.ofBits_zero_f32
  rw [e, e, h]
  exact ⟨(P_low _ _ _ _ _ _ _ (by norm_num)).symm, (P_low _ _ _ _ _ _ _ (by norm_num)).symm⟩

/-- The rows carried out of a block's first half are those before its second half. -/
theorem tail_next (s t : Fin cfg0.N) (e : t.val = s.val + 1) (h : s.val % 2 = 0) (tl : Vec Ideal S8x1024 .f32) (ht : Tail m c s 1024 tl) : Tail m c t 0 tl := fun d => by
  have hb : bat t = bat s := Fin.ext (by show t.val / 2 = s.val / 2; omega)
  have hn : 1024 * (t.val % 2) + 0 = 1024 * (s.val % 2) + 1024 := by omega
  rw [hb, hn]
  exact ht d

theorem winA (t : Fin cfg0.N) (h0 : t.val % 2 = 0) (h1 : t.val % 16 = 0) : (outsAt0 m c t.val t.isLt).2.2.1 = V m c main_arg3 := by
  rw [outsAt0_A m c t h0 h1]
  frame_out
  funext y
  canon_tiles x h
  · refine (show _ = b3 m c ((Rect.unit (s := S1024x4096) ![0, 3072] ![1024, 1024] inb_S1024x4096_S1024x1024_0_3072).emb x) from rfl).trans (congrArg (b3 m c) (funext fun a => Fin.ext ?_))
    match a with
    | ⟨0, _⟩ => simp [Rect.emb_apply]; omega
    | ⟨1, _⟩ => simp [Rect.emb_apply]; omega
  · refine (show _ = b3 m c ((Rect.unit (s := S1024x4096) ![0, 2048] ![1024, 1024] inb_S1024x4096_S1024x1024_0_2048).emb x) from rfl).trans (congrArg (b3 m c) (funext fun a => Fin.ext ?_))
    match a with
    | ⟨0, _⟩ => simp [Rect.emb_apply]; omega
    | ⟨1, _⟩ => simp [Rect.emb_apply]; omega
  · refine (show _ = b3 m c ((Rect.unit (s := S1024x4096) ![0, 1024] ![1024, 1024] inb_S1024x4096_S1024x1024_0_1024).emb x) from rfl).trans (congrArg (b3 m c) (funext fun a => Fin.ext ?_))
    match a with
    | ⟨0, _⟩ => simp [Rect.emb_apply]; omega
    | ⟨1, _⟩ => simp [Rect.emb_apply]; omega
  · refine (show _ = b3 m c ((Rect.unit (s := S1024x4096) ![0, 0] ![1024, 1024] inb_S1024x4096_S1024x1024_0_0).emb x) from rfl).trans (congrArg (b3 m c) (funext fun a => Fin.ext ?_))
    match a with
    | ⟨0, _⟩ => simp [Rect.emb_apply]; omega
    | ⟨1, _⟩ => simp [Rect.emb_apply]; omega
theorem woutA (t : Fin cfg0.N) (h0 : t.val % 2 = 0) (h1 : t.val % 16 = 0) : (outsAt0 m c t.val t.isLt).2.2.2 = V m c main_arg5 := by
  rw [outsAt0_A m c t h0 h1]
  frame_out
  exact (canon_wo _).trans rfl
theorem winB (t : Fin cfg0.N) (h0 : ¬t.val % 2 = 0) (h1 : ¬t.val % 16 = 0) :
    (outsAt0 m c t.val t.isLt).2.2.1 = (outsAt0 m c (t.val - 1) (Nat.lt_of_le_of_lt (Nat.sub_le _ _) t.isLt)).2.2.1 := by
  rw [outsAt0_B m c t h0 h1]
  exact rfl
theorem woutB (t : Fin cfg0.N) (h0 : ¬t.val % 2 = 0) (h1 : ¬t.val % 16 = 0) :
    (outsAt0 m c t.val t.isLt).2.2.2 = (outsAt0 m c (t.val - 1) (Nat.lt_of_le_of_lt (Nat.sub_le _ _) t.isLt)).2.2.2 := by
  rw [outsAt0_B m c t h0 h1]
  exact rfl
theorem winC (t : Fin cfg0.N) (h0 : t.val % 2 = 0) (h1 : ¬t.val % 16 = 0) :
    (outsAt0 m c t.val t.isLt).2.2.1 = (outsAt0 m c (t.val - 1) (Nat.lt_of_le_of_lt (Nat.sub_le _ _) t.isLt)).2.2.1 := by
  rw [outsAt0_C m c t h0 h1]
  exact rfl
theorem woutC (t : Fin cfg0.N) (h0 : t.val % 2 = 0) (h1 : ¬t.val % 16 = 0) :
    (outsAt0 m c t.val t.isLt).2.2.2 = (outsAt0 m c (t.val - 1) (Nat.lt_of_le_of_lt (Nat.sub_le _ _) t.isLt)).2.2.2 := by
  rw [outsAt0_C m c t h0 h1]
  exact rfl

/-- Both weights are the arguments after every point. -/
theorem held : ∀ n (hn : n < cfg0.N), (outsAt0 m c n hn).2.2.1 = V m c main_arg3 ∧ (outsAt0 m c n hn).2.2.2 = V m c main_arg5 := by
  intro n
  induction n with
  | zero => exact fun hn => ⟨winA m c ⟨0, hn⟩ rfl rfl, woutA m c ⟨0, hn⟩ rfl rfl⟩
  | succ n ih =>
    intro hn
    have hN : n + 1 < 16 := lt_of_lt_of_eq hn N_eq
    have h1 : ¬(n + 1) % 16 = 0 := by omega
    obtain ⟨i1, i2⟩ := ih (Nat.lt_of_succ_lt hn)
    by_cases h0 : (n + 1) % 2 = 0
    · exact ⟨(winC m c ⟨n + 1, hn⟩ h0 h1).trans i1, (woutC m c ⟨n + 1, hn⟩ h0 h1).trans i2⟩
    · exact ⟨(winB m c ⟨n + 1, hn⟩ h0 h1).trans i1, (woutB m c ⟨n + 1, hn⟩ h0 h1).trans i2⟩

theorem isO_of (w : Vec Ideal S1024x1024 .f32) (h : w = V m c main_arg5) : IsO m c w := fun k d => by subst h; rfl

theorem isO_cov (w : Vec Ideal S1024x1024 .f32) (h : IsO m c w) :
    IsO m c ((View.whole cc0_scratch2).readCov (Val := Elt Ideal) [⟨Rect.whole S1024x1024, w⟩] (Rect.unit (s := S1024x1024) ![0, 0] ![1024, 1024] inb_S1024x1024_S1024x1024_0_0).toLoadRect) := by
  rw [cov_wo]; exact h

/-- What a batch's first half carries to its second. -/
theorem carry (s : Fin cfg0.N) (h : s.val % 2 = 0) : Tail m c s 1024 (outsAt0 m c s.val s.isLt).2.1 := by
  by_cases h1 : s.val % 16 = 0
  · rw [outsAt0_A m c s h h1]
    frame_out
    simp (disch := decide) only [↓ View.readCov_skip, ↓ View.readCov_cons_toLoadRect, ↓ View.readCov_fill]
    rw [a3_tch]
    exact tch_b m c s 768 _ (by norm_num) _ _ (ld_w m c 1 1024 rfl _ _ rfl) (ld_w m c 2 2048 rfl _ _ rfl)
  · rw [outsAt0_C m c s h h1]
    frame_out
    simp only [read_unread_whole]
    rw [b3_tch]
    exact tch_b m c s 768 _ (by norm_num) _ _ (ld_w m c 1 1024 rfl _ _ (held m c _ _).1) (ld_w m c 2 2048 rfl _ _ (held m c _ _).1)

/-! ### The result array -/

theorem covers_4 : (cfg0.win 4).Covers := by decide +kernel
theorem emb_4 (t : Fin cfg0.N) (y : S1x1024x1024.Idx) :
    (win0_4.blk t).view.emb y = ValueIdx.ix3 (bat t) (row t 0 (y 1).val (by have h : (y 1).val < 1024 := (y 1).isLt; omega)) (y 2) := by
  have h0 : (y 0).val < 1 := (y 0).isLt
  refine ext3 _ _ _ _ ?_ ?_ ?_
  · show _ = t.val / 2; blk_simp [idx_4 t] <;> simp <;> omega
  · show _ = 1024 * (t.val % 2) + 0 + (y 1).val; blk_simp [idx_4 t] <;> simp <;> omega
  · blk_simp [idx_4 t] <;> simp

/-- The layer's result at a point's block. -/
abbrev outB (t : Fin cfg0.N) (y : S1x1024x1024.Idx) : EReal := outR (b0 m c) (b1 m c) (b2 m c) (b3 m c) (b4 m c) (b5 m c)
  (ValueIdx.ix3 (bat t) (row t 0 (y 1).val (by have h : (y 1).val < 1024 := (y 1).isLt; omega)) (y 2))

theorem out_A (t : Fin cfg0.N) (h0 : t.val % 2 = 0) (h1 : t.val % 16 = 0) (y) : (dats m 0 c).after 4 t y = outB m c t y := by
  rw [after0_4, outsAt0_A m c t h0 h1]
  frame_out
  simp (disch := decide) only [↓ View.readCov_skip, ↓ View.readCov_cons_toLoadRect, ↓ View.readCov_fill]
  have i0 : IsW m c 0 (ReadAs.same.apply (View.read (Elt Ideal) ((View.whole main_arg3).slice (Rect.unit (s := S1024x4096) ![0, 0] ![1024, 1024] inb_S1024x4096_S1024x1024_0_0)) (V m c main_arg3))) := ld_w m c 0 0 rfl inb_S1024x4096_S1024x1024_0_0 _ rfl
  generalize ReadAs.same.apply (View.read (Elt Ideal) ((View.whole main_arg3).slice (Rect.unit (s := S1024x4096) ![0, 0] ![1024, 1024] inb_S1024x4096_S1024x1024_0_0)) (V m c main_arg3)) = w0 at i0 ⊢
  have i1 : IsW m c 1 (ReadAs.same.apply (View.read (Elt Ideal) ((View.whole main_arg3).slice (Rect.unit (s := S1024x4096) ![0, 1024] ![1024, 1024] inb_S1024x4096_S1024x1024_0_1024)) (V m c main_arg3))) := ld_w m c 1 1024 rfl inb_S1024x4096_S1024x1024_0_1024 _ rfl
  generalize ReadAs.same.apply (View.read (Elt Ideal) ((View.whole main_arg3).slice (Rect.unit (s := S1024x4096) ![0, 1024] ![1024, 1024] inb_S1024x4096_S1024x1024_0_1024)) (V m c main_arg3)) = w1 at i1 ⊢
  have i2 : IsW m c 2 (ReadAs.same.apply (View.read (Elt Ideal) ((View.whole main_arg3).slice (Rect.unit (s := S1024x4096) ![0, 2048] ![1024, 1024] inb_S1024x4096_S1024x1024_0_2048)) (V m c main_arg3))) := ld_w m c 2 2048 rfl inb_S1024x4096_S1024x1024_0_2048 _ rfl
  generalize ReadAs.same.apply (View.read (Elt Ideal) ((View.whole main_arg3).slice (Rect.unit (s := S1024x4096) ![0, 2048] ![1024, 1024] inb_S1024x4096_S1024x1024_0_2048)) (V m c main_arg3)) = w2 at i2 ⊢
  have i3 : IsW m c 3 (ReadAs.same.apply (View.read (Elt Ideal) ((View.whole main_arg3).slice (Rect.unit (s := S1024x4096) ![0, 3072] ![1024, 1024] inb_S1024x4096_S1024x1024_0_3072)) (V m c main_arg3))) := ld_w m c 3 3072 rfl inb_S1024x4096_S1024x1024_0_3072 _ rfl
  generalize ReadAs.same.apply (View.read (Elt Ideal) ((View.whole main_arg3).slice (Rect.unit (s := S1024x4096) ![0, 3072] ![1024, 1024] inb_S1024x4096_S1024x1024_0_3072)) (V m c main_arg3)) = w3 at i3 ⊢
  have i4 : IsO m c (ReadAs.same.apply (View.read (Elt Ideal) (View.whole main_arg5) (V m c main_arg5))) := isO_of m c _ rfl
  generalize ReadAs.same.apply (View.read (Elt Ideal) (View.whole main_arg5) (V m c main_arg5)) = wo at i4 ⊢
  canon_tiles x h
  · rw [a3_och, a2_tch]
    exact och_b m c t 768 _ (by norm_num) _ _ _ _ _ i0 i1 i2 i3 (isO_cov m c wo i4) _ (tch_b m c t 512 _ (by norm_num) _ _ i1 i2) x _ rfl (by show 1024 * (t.val % 2) + 0 + (y 1).val = 1024 * (t.val % 2) + 768 + (x 1).val; omega) h2
  · rw [a2_och, a1_tch]
    exact och_b m c t 512 _ (by norm_num) _ _ _ _ _ i0 i1 i2 i3 (isO_cov m c wo i4) _ (tch_b m c t 256 _ (by norm_num) _ _ i1 i2) x _ rfl (by show 1024 * (t.val % 2) + 0 + (y 1).val = 1024 * (t.val % 2) + 512 + (x 1).val; omega) h2
  · rw [a1_och, a0_tch]
    exact och_b m c t 256 _ (by norm_num) _ _ _ _ _ i0 i1 i2 i3 (isO_cov m c wo i4) _ (tch_b m c t 0 _ (by norm_num) _ _ i1 i2) x _ rfl (by show 1024 * (t.val % 2) + 0 + (y 1).val = 1024 * (t.val % 2) + 256 + (x 1).val; omega) h2
  · rw [a0_och]
    exact och_b m c t 0 _ (by norm_num) _ _ _ _ _ i0 i1 i2 i3 (isO_cov m c wo i4) _ (tail_zero m c t ‹_›) x _ rfl (by show 1024 * (t.val % 2) + 0 + (y 1).val = 1024 * (t.val % 2) + 0 + (x 1).val; omega) h2

theorem out_B (t : Fin cfg0.N) (h0 : ¬t.val % 2 = 0) (h1 : ¬t.val % 16 = 0) (y) : (dats m 0 c).after 4 t y = outB m c t y := by
  have hc : Tail m c t 0 (outsAt0 m c (t.val - 1) (Nat.lt_of_le_of_lt (Nat.sub_le _ _) t.isLt)).2.1 :=
    tail_next m c ⟨t.val - 1, Nat.lt_of_le_of_lt (Nat.sub_le _ _) t.isLt⟩ t (by show t.val = t.val - 1 + 1; omega) (by show (t.val - 1) % 2 = 0; omega) _ (carry m c ⟨t.val - 1, _⟩ (by show (t.val - 1) % 2 = 0; omega))
  rw [after0_4, outsAt0_B m c t h0 h1]
  frame_out
  simp only [read_unread_whole]
  canon_tiles x h
  · rw [b3_och, b2_tch]
    exact och_b m c t 768 _ (by norm_num) _ _ _ _ _ (ld_w m c 0 0 rfl _ _ (held m c _ _).1) (ld_w m c 1 1024 rfl _ _ (held m c _ _).1) (ld_w m c 2 2048 rfl _ _ (held m c _ _).1) (ld_w m c 3 3072 rfl _ _ (held m c _ _).1) (isO_of m c _ (held m c _ _).2) _ (tch_b m c t 512 _ (by norm_num) _ _ (ld_w m c 1 1024 rfl _ _ (held m c _ _).1) (ld_w m c 2 2048 rfl _ _ (held m c _ _).1)) x _ rfl (by show 1024 * (t.val % 2) + 0 + (y 1).val = 1024 * (t.val % 2) + 768 + (x 1).val; omega) h2
  · rw [b2_och, b1_tch]
    exact och_b m c t 512 _ (by norm_num) _ _ _ _ _ (ld_w m c 0 0 rfl _ _ (held m c _ _).1) (ld_w m c 1 1024 rfl _ _ (held m c _ _).1) (ld_w m c 2 2048 rfl _ _ (held m c _ _).1) (ld_w m c 3 3072 rfl _ _ (held m c _ _).1) (isO_of m c _ (held m c _ _).2) _ (tch_b m c t 256 _ (by norm_num) _ _ (ld_w m c 1 1024 rfl _ _ (held m c _ _).1) (ld_w m c 2 2048 rfl _ _ (held m c _ _).1)) x _ rfl (by show 1024 * (t.val % 2) + 0 + (y 1).val = 1024 * (t.val % 2) + 512 + (x 1).val; omega) h2
  · rw [b1_och, b0_tch]
    exact och_b m c t 256 _ (by norm_num) _ _ _ _ _ (ld_w m c 0 0 rfl _ _ (held m c _ _).1) (ld_w m c 1 1024 rfl _ _ (held m c _ _).1) (ld_w m c 2 2048 rfl _ _ (held m c _ _).1) (ld_w m c 3 3072 rfl _ _ (held m c _ _).1) (isO_of m c _ (held m c _ _).2) _ (tch_b m c t 0 _ (by norm_num) _ _ (ld_w m c 1 1024 rfl _ _ (held m c _ _).1) (ld_w m c 2 2048 rfl _ _ (held m c _ _).1)) x _ rfl (by show 1024 * (t.val % 2) + 0 + (y 1).val = 1024 * (t.val % 2) + 256 + (x 1).val; omega) h2
  · rw [b0_och]
    exact och_b m c t 0 _ (by norm_num) _ _ _ _ _ (ld_w m c 0 0 rfl _ _ (held m c _ _).1) (ld_w m c 1 1024 rfl _ _ (held m c _ _).1) (ld_w m c 2 2048 rfl _ _ (held m c _ _).1) (ld_w m c 3 3072 rfl _ _ (held m c _ _).1) (isO_of m c _ (held m c _ _).2) _ hc x _ rfl (by show 1024 * (t.val % 2) + 0 + (y 1).val = 1024 * (t.val % 2) + 0 + (x 1).val; omega) h2

theorem out_C (t : Fin cfg0.N) (h0 : t.val % 2 = 0) (h1 : ¬t.val % 16 = 0) (y) : (dats m 0 c).after 4 t y = outB m c t y := by
  rw [after0_4, outsAt0_C m c t h0 h1]
  frame_out
  simp only [read_unread_whole]
  canon_tiles x h
  · rw [b3_och, b2_tch]
    exact och_b m c t 768 _ (by norm_num) _ _ _ _ _ (ld_w m c 0 0 rfl _ _ (held m c _ _).1) (ld_w m c 1 1024 rfl _ _ (held m c _ _).1) (ld_w m c 2 2048 rfl _ _ (held m c _ _).1) (ld_w m c 3 3072 rfl _ _ (held m c _ _).1) (isO_of m c _ (held m c _ _).2) _ (tch_b m c t 512 _ (by norm_num) _ _ (ld_w m c 1 1024 rfl _ _ (held m c _ _).1) (ld_w m c 2 2048 rfl _ _ (held m c _ _).1)) x _ rfl (by show 1024 * (t.val % 2) + 0 + (y 1).val = 1024 * (t.val % 2) + 768 + (x 1).val; omega) h2
  · rw [b2_och, b1_tch]
    exact och_b m c t 512 _ (by norm_num) _ _ _ _ _ (ld_w m c 0 0 rfl _ _ (held m c _ _).1) (ld_w m c 1 1024 rfl _ _ (held m c _ _).1) (ld_w m c 2 2048 rfl _ _ (held m c _ _).1) (ld_w m c 3 3072 rfl _ _ (held m c _ _).1) (isO_of m c _ (held m c _ _).2) _ (tch_b m c t 256 _ (by norm_num) _ _ (ld_w m c 1 1024 rfl _ _ (held m c _ _).1) (ld_w m c 2 2048 rfl _ _ (held m c _ _).1)) x _ rfl (by show 1024 * (t.val % 2) + 0 + (y 1).val = 1024 * (t.val % 2) + 512 + (x 1).val; omega) h2
  · rw [b1_och, b0_tch]
    exact och_b m c t 256 _ (by norm_num) _ _ _ _ _ (ld_w m c 0 0 rfl _ _ (held m c _ _).1) (ld_w m c 1 1024 rfl _ _ (held m c _ _).1) (ld_w m c 2 2048 rfl _ _ (held m c _ _).1) (ld_w m c 3 3072 rfl _ _ (held m c _ _).1) (isO_of m c _ (held m c _ _).2) _ (tch_b m c t 0 _ (by norm_num) _ _ (ld_w m c 1 1024 rfl _ _ (held m c _ _).1) (ld_w m c 2 2048 rfl _ _ (held m c _ _).1)) x _ rfl (by show 1024 * (t.val % 2) + 0 + (y 1).val = 1024 * (t.val % 2) + 256 + (x 1).val; omega) h2
  · rw [b0_och]
    exact och_b m c t 0 _ (by norm_num) _ _ _ _ _ (ld_w m c 0 0 rfl _ _ (held m c _ _).1) (ld_w m c 1 1024 rfl _ _ (held m c _ _).1) (ld_w m c 2 2048 rfl _ _ (held m c _ _).1) (ld_w m c 3 3072 rfl _ _ (held m c _ _).1) (isO_of m c _ (held m c _ _).2) _ (tail_zero m c t ‹_›) x _ rfl (by show 1024 * (t.val % 2) + 0 + (y 1).val = 1024 * (t.val % 2) + 0 + (x 1).val; omega) h2

theorem arr_eq : (dats m 0 c).arrAt 4 cfg0.N = outR (b0 m c) (b1 m c) (b2 m c) (b3 m c) (b4 m c) (b5 m c) := by
  refine (dats m 0 c).arrAt_eq_of_covers 4 _ covers_4 fun t hf y => ?_
  blk_simp
  rw [emb_4]
  by_cases h0 : t.val % 2 = 0
  · by_cases h1 : t.val % 16 = 0
    · exact out_A m c t h0 h1 y
    · exact out_C m c t h0 h1 y
  · exact out_B m c t h0 (by omega) y

end Cert.Proof.Conv
end
-- ==== Proof.Conv.Ref.lean ====
/-
  The convolution layer's reference read at an index.
-/
module

public import proofs.«01_k».proof.Proof.Gen.ConvLayerReferenceIdeal.Read
public import proofs.«01_k».proof.Proof.Conv.Spec
public import Idealize.ShloMosaic.Lib.KernelVsHost

@[expose] public section

noncomputable section

namespace Cert.Proof.Conv

open Idealize.ShloMosaic Idealize.ShloMosaic.ValueIdx
open Cert.ConvLayerReferenceIdeal Cert.ConvLayerReferenceIdeal.Gen Cert.ConvLayerReferenceIdeal.Read
open Cert.Proof.Proj (nrm)

variable (x0 : S8x2048x1024.Idx → EReal) (x1 : S8x3x1024.Idx → EReal) (x2 : S1x1024.Idx → EReal)
  (x3 : S1024x4096.Idx → EReal) (x4 : S3x1024.Idx → EReal) (x5 : S1024x1024.Idx → EReal)

theorem ref_inv (b : Fin 8) (r : Fin 2048) : val_main_v13 (F := Ideal) x0 (ix3 b r 0) = Proj.inv fun k => x0 (ix3 b r k) := by
  rw [val_main_v13_apply, val_main_v12_apply, val_main_v10_apply, val_main_v8_apply, val_main_v7_apply, val_main_v9_apply, val_main_v11_apply,
    val_main_cst_apply, val_main_cst_0_apply, val_main_cst_1_apply]
  show Ideal.rsqrt (Ideal.div (Ideal.ofBits .f32 0x00000000#32 + ∑ k : Fin 1024, (x0 _ : EReal) * x0 _) _ + _) = _
  rw [Ideal.ofBits_zero_f32, zero_add]; unfold Proj.inv
  have e : ∀ k, idx_main_v7 (idx_main_v8 (ix3 b r 0)) k = ix3 b r k := fun k => by
    funext a; match a with
    | ⟨0, _⟩ => rfl
    | ⟨1, _⟩ => rfl
    | ⟨2, _⟩ => rfl
  simp only [e]; rfl

theorem ref_nrm (b : Fin 8) (r : Fin 2048) (d : Fin 1024) :
    val_main_v26 (F := Ideal) x0 x1 x2 (ix3 b r d) = nrm (fun k => x0 (ix3 b r k)) (x2 (ix2 0 d)) (x1 (ix3 b 0 d)) (x1 (ix3 b 1 d)) d := by
  rw [val_main_v26_apply, val_main_v23_apply, val_main_v18_apply, val_main_v15_apply, val_main_v14_apply, val_main_v17_apply, val_main_v16_apply,
    val_main_v22_apply, val_main_v21_apply, val_main_v20_apply, val_main_v19_apply, val_main_v3_apply, val_main_v2_apply, val_main_v25_apply, val_main_v24_apply,
    val_main_v1_apply, val_main_v0_apply, val_main_cst_2_apply]
  rw [show idx_main_v14 (ix3 b r d) = ix3 b r 0 from by
    funext a; match a with
    | ⟨0, _⟩ => rfl
    | ⟨1, _⟩ => rfl
    | ⟨2, _⟩ => rfl, ref_inv]
  have eg : idx_main_v16 (idx_main_v17 (ix3 b r d)) = ix2 0 d := by
    funext a; match a with
    | ⟨0, _⟩ => rfl
    | ⟨1, _⟩ => rfl
  have hb := b.isLt
  have hd := d.isLt
  have e1 : idx_main_v2 (idx_main_v3 (idx_main_v19 (idx_main_v22 (ix3 b r d)))) = ix3 b 1 d := by
    funext a; apply Fin.ext; match a with
    | ⟨0, _⟩ => show (b.val * 1024 + d.val) / 1024 = b.val; omega
    | ⟨1, _⟩ => rfl
    | ⟨2, _⟩ => show (b.val * 1024 + d.val) % 1024 = d.val; omega
  have e0 : idx_main_v0 (idx_main_v1 (idx_main_v24 (idx_main_v25 (ix3 b r d)))) = ix3 b 0 d := by
    funext a; apply Fin.ext; match a with
    | ⟨0, _⟩ => show (b.val * 1024 + d.val) / 1024 = b.val; omega
    | ⟨1, _⟩ => rfl
    | ⟨2, _⟩ => show (b.val * 1024 + d.val) % 1024 = d.val; omega
  rw [eg, e1, e0]
  show (x0 (ix3 b r d) : EReal) * _ * x2 (ix2 0 d) * (Ideal.ofBits .f32 0x3F800000#32 + x1 (ix3 b 1 d)) + x1 (ix3 b 0 d) = _
  rw [Val.ofBits_one, mul_assoc]; rfl

theorem ref_pr (i : S8x2048x4096.Idx) : val_main_v27 (F := Ideal) x0 x1 x2 x3 i = pr x0 x1 x2 x3 (i 0) (i 1) (i 2) := by
  rw [val_main_v27_apply]; unfold pr
  refine Finset.sum_congr rfl fun k _ => ?_
  have el : lidx_main_v27 i k = ix3 (i 0) (i 1) k := by
    funext a; match a with
    | ⟨0, _⟩ => rfl
    | ⟨1, _⟩ => rfl
    | ⟨2, _⟩ => rfl
  have er : ridx_main_v27 i k = ix2 k (i 2) := by
    funext a; match a with
    | ⟨0, _⟩ => rfl
    | ⟨1, _⟩ => rfl
  rw [el, er]
  exact congrArg (fun y : EReal => y * x3 (ix2 k (i 2))) (ref_nrm x0 x1 x2 (i 0) (i 1) k)

theorem ref_p0 (b : Fin 8) (r : Fin 2048) (c : Fin 1024) : val_main_v28 (F := Ideal) x0 x1 x2 x3 (ix3 b r c) = pr x0 x1 x2 x3 b r (col 0 c) := by
  rw [val_main_v28_apply, ref_pr]
  refine congrArg (pr x0 x1 x2 x3 b r) (Fin.ext ?_)
  show c.val = 1024 * 0 + c.val
  omega
theorem ref_p1 (b : Fin 8) (r : Fin 2048) (c : Fin 1024) : val_main_v29 (F := Ideal) x0 x1 x2 x3 (ix3 b r c) = pr x0 x1 x2 x3 b r (col 1 c) := by
  rw [val_main_v29_apply, ref_pr]
  refine congrArg (pr x0 x1 x2 x3 b r) (Fin.ext ?_)
  show 1024 + c.val = 1024 * 1 + c.val
  omega
theorem ref_p2 (b : Fin 8) (r : Fin 2048) (c : Fin 1024) : val_main_v30 (F := Ideal) x0 x1 x2 x3 (ix3 b r c) = pr x0 x1 x2 x3 b r (col 2 c) := by
  rw [val_main_v30_apply, ref_pr]
  refine congrArg (pr x0 x1 x2 x3 b r) (Fin.ext ?_)
  show 2048 + c.val = 1024 * 2 + c.val
  omega
theorem ref_p3 (b : Fin 8) (r : Fin 2048) (c : Fin 1024) : val_main_v31 (F := Ideal) x0 x1 x2 x3 (ix3 b r c) = pr x0 x1 x2 x3 b r (col 3 c) := by
  rw [val_main_v31_apply, ref_pr]
  refine congrArg (pr x0 x1 x2 x3 b r) (Fin.ext ?_)
  show 3072 + c.val = 1024 * 3 + c.val
  omega

/-- The padded products. -/
theorem ref_pad (b : Fin 8) (n : Fin 2050) (c : Fin 1024) : val_main_v33 (F := Ideal) x0 x1 x2 x3 (ix3 b n c) = P x0 x1 x2 x3 b n.val c := by
  unfold val_main_v33
  by_cases h : n.val < 2
  · rw [P_low _ _ _ _ _ _ _ h]
    refine (pad_apply_of_not_inside _ _ _ _ _ _ _ _ (1 : Fin 3) (fun hh => ?_)).trans ?_
    · have h2 : 2 ≤ n.val := hh.1
      omega
    · rw [val_main_call0_v0_apply]
      show (((0#32 : BitVec 32).toInt : ℝ) : EReal) = 0
      simp
  · obtain ⟨r, hr⟩ : ∃ r : Fin 2048, n.val = r.val + 2 := ⟨⟨n.val - 2, by omega⟩, by show n.val = n.val - 2 + 2; omega⟩
    rw [hr, P_at]
    refine (pad_apply_of_inside _ _ _ _ _ _ _ _ (ix3 b r c) (fun a => ?_)).trans ?_
    · match a with
      | ⟨0, _⟩ => show b.val = 0 + b.val * 1; omega
      | ⟨1, _⟩ => show n.val = 2 + r.val * 1; omega
      | ⟨2, _⟩ => show c.val = 0 + c.val * 1; omega
    · rw [val_main_v32_apply]
      exact congrArg₂ (fun a b : EReal => a * b) (ref_p1 x0 x1 x2 x3 b r c) (ref_p2 x0 x1 x2 x3 b r c)

/-- The three taps. -/
theorem ref_t0 (b : Fin 8) (r : Fin 2048) (c : Fin 1024) : val_main_v36 (F := Ideal) x0 x1 x2 x3 (ix3 b r c) = P x0 x1 x2 x3 b r.val c := by
  rw [val_main_v36_apply]
  refine (congrArg _ (?_ : _ = ix3 b (⟨r.val, by omega⟩ : Fin 2050) c)).trans (ref_pad x0 x1 x2 x3 b _ c)
  funext a; match a with
  | ⟨0, _⟩ => rfl
  | ⟨1, _⟩ => rfl
  | ⟨2, _⟩ => rfl
theorem ref_t1 (b : Fin 8) (r : Fin 2048) (c : Fin 1024) : val_main_v42 (F := Ideal) x0 x1 x2 x3 (ix3 b r c) = P x0 x1 x2 x3 b (r.val + 1) c := by
  rw [val_main_v42_apply]
  refine (congrArg _ (?_ : _ = ix3 b (⟨r.val + 1, by omega⟩ : Fin 2050) c)).trans (ref_pad x0 x1 x2 x3 b _ c)
  funext a; apply Fin.ext; match a with
  | ⟨0, _⟩ => rfl
  | ⟨1, _⟩ => show 1 + r.val = r.val + 1; omega
  | ⟨2, _⟩ => rfl
theorem ref_t2 (b : Fin 8) (r : Fin 2048) (c : Fin 1024) : val_main_v49 (F := Ideal) x0 x1 x2 x3 (ix3 b r c) = P x0 x1 x2 x3 b (r.val + 2) c := by
  rw [val_main_v49_apply]
  refine (congrArg _ (?_ : _ = ix3 b (⟨r.val + 2, by omega⟩ : Fin 2050) c)).trans (ref_pad x0 x1 x2 x3 b _ c)
  funext a; apply Fin.ext; match a with
  | ⟨0, _⟩ => rfl
  | ⟨1, _⟩ => show 2 + r.val = r.val + 2; omega
  | ⟨2, _⟩ => rfl

/-- The three taps' weights. -/
theorem ref_w0 (b : Fin 8) (r : Fin 2048) (c : Fin 1024) : val_main_v38 (F := Ideal) x4 (ix3 b r c) = x4 (ix2 0 c) := by
  rw [val_main_v38_apply, val_main_v37_apply, val_main_v35_apply, val_main_v34_apply]
  refine congrArg x4 ?_
  have hc := c.isLt
  funext a; apply Fin.ext; match a with
  | ⟨0, _⟩ => rfl
  | ⟨1, _⟩ => first | rfl | (show c.val % 1024 = c.val; omega)
theorem ref_w1 (b : Fin 8) (r : Fin 2048) (c : Fin 1024) : val_main_v44 (F := Ideal) x4 (ix3 b r c) = x4 (ix2 1 c) := by
  rw [val_main_v44_apply, val_main_v43_apply, val_main_v41_apply, val_main_v40_apply]
  refine congrArg x4 ?_
  have hc := c.isLt
  funext a; apply Fin.ext; match a with
  | ⟨0, _⟩ => rfl
  | ⟨1, _⟩ => first | rfl | (show c.val % 1024 = c.val; omega)
theorem ref_w2 (b : Fin 8) (r : Fin 2048) (c : Fin 1024) : val_main_v51 (F := Ideal) x4 (ix3 b r c) = x4 (ix2 2 c) := by
  rw [val_main_v51_apply, val_main_v50_apply, val_main_v48_apply, val_main_v47_apply]
  refine congrArg x4 ?_
  have hc := c.isLt
  funext a; apply Fin.ext; match a with
  | ⟨0, _⟩ => rfl
  | ⟨1, _⟩ => first | rfl | (show c.val % 1024 = c.val; omega)

theorem ref_y (b : Fin 8) (r : Fin 2048) (c : Fin 1024) : val_main_v56 (F := Ideal) x0 x1 x2 x3 x4 (ix3 b r c) = yR x0 x1 x2 x3 x4 b r c := by
  rw [val_main_v56_apply, val_main_v55_apply, val_main_v54_apply, val_main_v53_apply, val_main_v46_apply, val_main_v39_apply, val_main_v45_apply, val_main_v52_apply,
    val_main_call1_v5_apply, val_main_call1_v4_apply, val_main_call1_v3_apply, val_main_call1_v2_apply, val_main_call1_v1_apply, val_main_call1_v0_apply,
    val_main_call1_cst_apply, val_main_call1_cst_0_apply,
    ref_p0, ref_p3, ref_t0, ref_t1, ref_t2, ref_w0, ref_w1, ref_w2]
  show pr x0 x1 x2 x3 b r (col 0 c) * _ * (pr x0 x1 x2 x3 b r (col 3 c) * Ideal.div (Ideal.ofBits .f32 0x3F800000#32) (Ideal.ofBits .f32 0x3F800000#32 + Ideal.exp (-_))) = _
  rw [Val.ofBits_one]; rfl

theorem ref_gate (b : Fin 8) (r : Fin 2048) (c : Fin 1024) : val_main_v59 (F := Ideal) x1 (ix3 b r c) = x1 (ix3 b 2 c) := by
  rw [val_main_v59_apply, val_main_v57_apply, val_main_v5_apply, val_main_v4_apply]
  refine congrArg x1 ?_
  have hb := b.isLt
  have hd := c.isLt
  funext a; apply Fin.ext; match a with
  | ⟨0, _⟩ => show (b.val * 1024 + c.val) / 1024 = b.val; omega
  | ⟨1, _⟩ => rfl
  | ⟨2, _⟩ => show (b.val * 1024 + c.val) % 1024 = c.val; omega

theorem ref_out : val_main_v61 (F := Ideal) x0 x1 x2 x3 x4 x5 = outR x0 x1 x2 x3 x4 x5 := by
  funext i
  rw [val_main_v61_apply, val_main_v60_apply, val_main_v58_apply]
  have hi : i = ix3 (i 0) (i 1) (i 2) := by
    funext a; match a with
    | ⟨0, _⟩ => rfl
    | ⟨1, _⟩ => rfl
    | ⟨2, _⟩ => rfl
  unfold outR
  refine congrArg₂ (fun a b : EReal => x0 i + a * b) ((congrArg _ hi).trans (ref_gate x1 (i 0) (i 1) (i 2))) (Finset.sum_congr rfl fun k _ => ?_)
  have el : lidx_main_v58 i k = ix3 (i 0) (i 1) k := by
    funext a; match a with
    | ⟨0, _⟩ => rfl
    | ⟨1, _⟩ => rfl
    | ⟨2, _⟩ => rfl
  have er : ridx_main_v58 i k = ix2 k (i 2) := by
    funext a; match a with
    | ⟨0, _⟩ => rfl
    | ⟨1, _⟩ => rfl
  rw [el, er]
  exact congrArg (fun y : EReal => y * x5 (ix2 k (i 2))) (ref_y x0 x1 x2 x3 x4 (i 0) (i 1) k)

end Cert.Proof.Conv
end
-- ==== Proof.Out.Spec.lean ====
/-
  What the output layer computes at an index: the stream with the gated product added, its rows normalized.
-/
module

public import proofs.«01_k».proof.Proof.Proj.Spec

@[expose] public section

noncomputable section

namespace Cert.Proof.Out

open Idealize.ShloMosaic Idealize.ShloMosaic.ValueIdx
open Cert.Proof.Proj (A3 A2)

variable (o x : (A3 8 2048 1024).Idx → EReal) (mo : (A3 8 3 1024).Idx → EReal) (w : (A2 1024 1024).Idx → EReal) (g : (A2 1 1024).Idx → EReal)

/-- The new stream. -/
def yR (b : Fin 8) (r : Fin 2048) (c : Fin 1024) : EReal :=
  x (ix3 b r c) + mo (ix3 b 2 c) * ∑ k : Fin 1024, o (ix3 b r k) * w (ix2 k c)

/-- The layer's result. -/
def outR (i : (A3 8 2048 1024).Idx) : EReal :=
  yR o x mo w (i 0) (i 1) (i 2) * Proj.inv (fun k => yR o x mo w (i 0) (i 1) k) * g (ix2 0 (i 2))

end Cert.Proof.Out
end
-- ==== Proof.Out.Chunk.lean ====
/-
  One chunk of 256 rows of the output layer's kernel at an index, and what its two rings hold.
-/
module

public import proofs.«01_k».proof.Proof.Gen.OutLayerIdeal.Value
public import proofs.«01_k».proof.Proof.Proj.Kern
public import proofs.«01_k».proof.Proof.Out.Spec
public import Idealize.ShloMosaic.Lib.KernelVsHost
public import Idealize.ShloMosaic.Lib.ValueLayout

@[expose] public section

set_option maxRecDepth 4096

noncomputable section

namespace Cert.Proof.Out

open Idealize.ShloMosaic Idealize.ShloMosaic.TcCoe Idealize.ShloMosaic.ValueIdx
open Cert.OutLayerIdeal Cert.OutLayerIdeal.Gen
open Cert.Proof.Proj (A3 A2 drop3 add3 ext2 ext3)

section
variable (md : Vec Ideal S1x3x1024 .f32) (w : Vec Ideal S1024x1024 .f32) (x : Vec Ideal S1x256x1024 .f32) (o : Vec Ideal S1x256x1024 .bf16)
  (g : Vec Ideal S1x1024 .f32)

/-- The chunk's result. -/
def och : FVec Ideal S1x256x1024 .f32 := k0_pay5 md w x o g
theorem p0_och : k0_pay5 md w x o g = och md w x o g := rfl
theorem p1_och : k0_pay8 (k0_pay6 x) (k0_pay7 md w o) g = och md w x o g := rfl
theorem p2_och : k0_pay1 (k0_pay9 (k0_pay3 md) (k0_pay4 w) x o g) = och md w x o g := rfl
theorem p3_och : k0_pay2 (k0_pay3 md) (k0_pay4 w) x o g = och md w x o g := rfl

/-- The chunk's rows of the new stream. -/
def ych : FVec Ideal S256x1024 .f32 := addf (k0_pay6 x) (k0_pay7 md w o)

theorem row_at {α : Type} (v : S1x1024.Idx → α) (h : S1x1024.Broadcasts S256x1024) (r : Fin 256) (d : Fin 1024) :
    broadcastTo S256x1024 v h (ValueIdx.ix2 r d) = v (ValueIdx.ix2 0 d) :=
  broadcastTo_apply _ _ _ _ fun a => by
    match a with
    | ⟨0, _⟩ => rfl
    | ⟨1, _⟩ => rfl
theorem colv_at {α : Type} (v : S256x1.Idx → α) (h : S256x1.Broadcasts S256x1024) (r : Fin 256) (d : Fin 1024) :
    broadcastTo S256x1024 v h (ValueIdx.ix2 r d) = v (ValueIdx.ix2 r 0) :=
  broadcastTo_apply _ _ _ _ fun a => by
    match a with
    | ⟨0, _⟩ => rfl
    | ⟨1, _⟩ => rfl

theorem md2 (d : Fin 1024) : k0_pay3 md (ValueIdx.ix2 0 d) = md (ValueIdx.ix3 0 2 d) := by
  unfold k0_pay3
  refine (extractStridedSlice_apply _ _ _ _ (ValueIdx.ix2 2 d) fun a => ?_).trans (drop3 _ _ _ _)
  match a with
  | ⟨0, _⟩ => rfl
  | ⟨1, _⟩ => show d.val = 0 + d.val; omega

theorem mm_at (h : FVec Ideal S256x1024 .bf16) (v : FVec Ideal S1024x1024 .bf16) (r : Fin 256) (c : Fin 1024) :
    matmul (F := Ideal) dot_S256x1024_S1024x1024_S256x1024_1_0_0_1_n_n none h v (constant S256x1024 .f32 0x00000000#32) (ValueIdx.ix2 r c)
      = ∑ k : Fin 1024, (h (ValueIdx.ix2 r k) : EReal) * (v (ValueIdx.ix2 k c) : EReal) := by
  have e : matmul (F := Ideal) dot_S256x1024_S1024x1024_S256x1024_1_0_0_1_n_n none h v (constant S256x1024 .f32 0x00000000#32) (ValueIdx.ix2 r c)
    = FloatOps.matmul (DotDims.plain 256 1024 1024) none h v (constant S256x1024 .f32 0x00000000#32) (ValueIdx.ix2 r c) := rfl
  rw [e, Ideal.matmul_plain_apply]
  have c0 : (constant (F := Ideal) S256x1024 .f32 0x00000000#32) (ValueIdx.ix2 r c) = (0 : EReal) := Ideal.ofBits_zero_f32
  rw [c0, zero_add]

/-- A row of the new stream, in the chunk's arrays. -/
def yc (r : Fin 256) (c : Fin 1024) : EReal :=
  x (ValueIdx.ix3 0 r c) + md (ValueIdx.ix3 0 2 c) * ∑ k : Fin 1024, (o (ValueIdx.ix3 0 r k) : EReal) * (w (ValueIdx.ix2 k c) : EReal)

theorem ych_at (r : Fin 256) (c : Fin 1024) : (ych md w x o (ValueIdx.ix2 r c) : EReal) = yc md w x o r c := by
  unfold ych k0_pay6 k0_pay7 yc
  show (shapeCast S256x1024 x _ (ValueIdx.ix2 r c) : EReal) + broadcastTo S256x1024 _ broadcasts_S1x1024_S256x1024 (ValueIdx.ix2 r c)
    * matmul (F := Ideal) dot_S256x1024_S1024x1024_S256x1024_1_0_0_1_n_n none _ _ (constant S256x1024 .f32 0x00000000#32) (ValueIdx.ix2 r c) = _
  rw [row_at, md2, mm_at]
  refine congrArg₂ (fun a b : EReal => a + md (ValueIdx.ix3 0 2 c) * b) (drop3 _ _ _ _) (Finset.sum_congr rfl fun k _ => ?_)
  exact congrArg (fun a : EReal => a * (w (ValueIdx.ix2 k c) : EReal)) (drop3 _ _ _ _)

theorem nch_at (r : Fin 256) (d : Fin 1024) :
    (k0_pay9 (k0_pay3 md) (k0_pay4 w) x o g (ValueIdx.ix2 r d) : EReal) = yc md w x o r d * Proj.inv (fun k => yc md w x o r k) * (g (ValueIdx.ix2 0 d) : EReal) := by
  have hs : ∀ s : FVec Ideal S256 .f32, shapeCast S256x1 s shapeCasts_S256_S256x1 (ValueIdx.ix2 r 0) = s (ValueIdx.ix1 r) := fun s =>
    shapeCast_apply _ _ _ _ (by rw [Shape.rowMajor_val_one, Shape.rowMajor_val_two]; show r.val = r.val * 1 + 0; omega)
  unfold k0_pay9
  show (ych md w x o (ValueIdx.ix2 r d) : EReal) * broadcastTo S256x1024 _ broadcasts_S256x1_S256x1024 (ValueIdx.ix2 r d)
    * broadcastTo S256x1024 _ broadcasts_S1x1024_S256x1024 (ValueIdx.ix2 r d) = _
  rw [colv_at, row_at, ych_at]
  refine congrArg (fun y : EReal => yc md w x o r d * y * _) ?_
  show Ideal.rsqrt (Ideal.div (shapeCast S256x1 _ shapeCasts_S256_S256x1 (ValueIdx.ix2 r 0)) _ + _) = _
  rw [hs]
  unfold Proj.inv
  refine congrArg (fun y => Ideal.rsqrt (Ideal.div y _ + _)) ((Ideal.multiReduction_add_single _ _ _ _ _ _).trans (Finset.sum_congr rfl fun k _ => ?_))
  have e : Shape.Reduces.lift reduces_S256x1024_S256 (ValueIdx.ix1 r) k = ValueIdx.ix2 r k := by
    funext a; apply Fin.ext; match a with
    | ⟨0, _⟩ => rfl
    | ⟨1, _⟩ => rfl
  rw [e]
  exact congrArg₂ (fun a b : EReal => a * b) (ych_at md w x o r k) (ych_at md w x o r k)

theorem och_at (i : S1x256x1024.Idx) :
    (och md w x o g i : EReal) = yc md w x o (i 1) (i 2) * Proj.inv (fun k => yc md w x o (i 1) k) * (g (ValueIdx.ix2 0 (i 2)) : EReal) := by
  rw [← p2_och]
  unfold k0_pay1
  exact (add3 _ _ i).trans (nch_at md w x o g (i 1) (i 2))

end

/-! ### The rings -/

theorem slot0_emb (s : Fin 3) (r d : Fin 1024) : (rslot0_0 s).view.emb (ValueIdx.ix2 r d) = ValueIdx.ix3 s r d := by
  refine (show _ = (Rect.unit (s := S3x1024x1024) ![s.val, 0, 0] S1x1024x1024.size (inb_slot0_0 s)).emb
    (Shape.reshapeEquiv squeezes_S1x1024x1024_S1024x1024.numel_eq (ValueIdx.ix2 r d)) from rfl).trans ?_
  rw [reshapeEquiv_ix2_1ab]
  refine ext3 _ _ _ _ ?_ ?_ ?_ <;> simp [Rect.emb_apply]
theorem slot1_emb (s : Fin 3) (r d : Fin 1024) : (rslot0_1 s).view.emb (ValueIdx.ix2 r d) = ValueIdx.ix3 s r d := by
  refine (show _ = (Rect.unit (s := S3x1024x1024) ![s.val, 0, 0] S1x1024x1024.size (inb_slot0_1 s)).emb
    (Shape.reshapeEquiv squeezes_S1x1024x1024_S1024x1024.numel_eq (ValueIdx.ix2 r d)) from rfl).trans ?_
  rw [reshapeEquiv_ix2_1ab]
  refine ext3 _ _ _ _ ?_ ?_ ?_ <;> simp [Rect.emb_apply]

theorem src0_emb (b : Fin 16) (r d : Fin 1024) : (srcB0_0 b).view.emb (ValueIdx.ix2 r d)
    = ValueIdx.ix3 (⟨b.val / 2, by omega⟩ : Fin 8) (⟨1024 * (b.val % 2) + r.val, by omega⟩ : Fin 2048) d := by
  refine (show _ = (Rect.unit (s := S8x2048x1024) ![b.val / 2, 1024 * (b.val % 2), 0] S1x1024x1024.size (inb_src0_0 b)).emb
    (Shape.reshapeEquiv squeezes_S1x1024x1024_S1024x1024.numel_eq (ValueIdx.ix2 r d)) from rfl).trans ?_
  rw [reshapeEquiv_ix2_1ab]
  refine ext3 _ _ _ _ ?_ ?_ ?_ <;> simp [Rect.emb_apply]
theorem src1_emb (b : Fin 16) (r d : Fin 1024) : (srcB0_1 b).view.emb (ValueIdx.ix2 r d)
    = ValueIdx.ix3 (⟨b.val / 2, by omega⟩ : Fin 8) (⟨1024 * (b.val % 2) + r.val, by omega⟩ : Fin 2048) d := by
  refine (show _ = (Rect.unit (s := S8x2048x1024) ![b.val / 2, 1024 * (b.val % 2), 0] S1x1024x1024.size (inb_src0_1 b)).emb
    (Shape.reshapeEquiv squeezes_S1x1024x1024_S1024x1024.numel_eq (ValueIdx.ix2 r d)) from rfl).trans ?_
  rw [reshapeEquiv_ix2_1ab]
  refine ext3 _ _ _ _ ?_ ?_ ?_ <;> simp [Rect.emb_apply]

/-- A load of a chunk of a slot whose block has landed. -/
theorem ring0 (s : Fin 3) (p : S1024x1024.Idx → Elt Ideal .bf16) (off : Fin 3 → ℕ) (o : ℕ) (e : off = ![s.val, o, 0]) (h : ∀ a, off a + ![1, 256, 1024] a ≤ S3x1024x1024.size a)
    (ho : o + 256 ≤ 1024) (r : Fin 256) (d : Fin 1024) :
    View.readAt (Elt Ideal) (View.whole cc0_scratch0) (Rect.unit (s := S3x1024x1024) off ![1, 256, 1024] h).toLoadRect
      ((rslot0_0 s).view.writes (Elt Ideal) (rslot0_0 s).view.junk [⟨Rect.whole S1024x1024, p⟩]) (ValueIdx.ix3 0 r d)
      = p (ValueIdx.ix2 ⟨o + r.val, by omega⟩ d) := by
  subst e
  refine Eq.trans ?_ (congrFun (View.read_writes_whole (rslot0_0 s).view (rslot0_0 s).view.junk p) (ValueIdx.ix2 ⟨o + r.val, by omega⟩ d))
  generalize (rslot0_0 s).view.writes (Elt Ideal) (rslot0_0 s).view.junk [⟨Rect.whole S1024x1024, p⟩] = f
  refine (show _ = f ((Rect.unit (s := S3x1024x1024) ![s.val, o, 0] ![1, 256, 1024] h).emb (ValueIdx.ix3 0 r d)) from rfl).trans (Eq.trans (congrArg f ?_) (show f ((rslot0_0 s).view.emb (ValueIdx.ix2 ⟨o + r.val, by omega⟩ d)) = _ from rfl))
  rw [slot0_emb]
  refine ext3 _ _ _ _ ?_ ?_ ?_ <;> simp [Rect.emb_apply]
theorem ring1 (s : Fin 3) (p : S1024x1024.Idx → Elt Ideal .f32) (off : Fin 3 → ℕ) (o : ℕ) (e : off = ![s.val, o, 0]) (h : ∀ a, off a + ![1, 256, 1024] a ≤ S3x1024x1024.size a)
    (ho : o + 256 ≤ 1024) (r : Fin 256) (d : Fin 1024) :
    View.readAt (Elt Ideal) (View.whole cc0_scratch1) (Rect.unit (s := S3x1024x1024) off ![1, 256, 1024] h).toLoadRect
      ((rslot0_1 s).view.writes (Elt Ideal) (rslot0_1 s).view.junk [⟨Rect.whole S1024x1024, p⟩]) (ValueIdx.ix3 0 r d)
      = p (ValueIdx.ix2 ⟨o + r.val, by omega⟩ d) := by
  subst e
  refine Eq.trans ?_ (congrFun (View.read_writes_whole (rslot0_1 s).view (rslot0_1 s).view.junk p) (ValueIdx.ix2 ⟨o + r.val, by omega⟩ d))
  generalize (rslot0_1 s).view.writes (Elt Ideal) (rslot0_1 s).view.junk [⟨Rect.whole S1024x1024, p⟩] = f
  refine (show _ = f ((Rect.unit (s := S3x1024x1024) ![s.val, o, 0] ![1, 256, 1024] h).emb (ValueIdx.ix3 0 r d)) from rfl).trans (Eq.trans (congrArg f ?_) (show f ((rslot0_1 s).view.emb (ValueIdx.ix2 ⟨o + r.val, by omega⟩ d)) = _ from rfl))
  rw [slot1_emb]
  refine ext3 _ _ _ _ ?_ ?_ ?_ <;> simp [Rect.emb_apply]

end Cert.Proof.Out
end
-- ==== Proof.Out.Kern.lean ====
/-
  The output layer's kernel: its blocks, its result array.
-/
module

public import proofs.«01_k».proof.Proof.Out.Chunk
public import Idealize.ShloMosaic.Lib.Pipeline.ReadBack
public import Idealize.ShloMosaic.Lib.Pipeline.ValueKit

@[expose] public section

set_option maxRecDepth 4096

noncomputable section

namespace Cert.Proof.Out

open Idealize.ShloMosaic Idealize.ShloMosaic.TcCoe Idealize.ShloMosaic.ValueIdx
open Cert.OutLayerIdeal Cert.OutLayerIdeal.Gen
open Cert.Proof.Proj (A3 A2 ext2 ext3)

variable (m : (ℓ : Loc nD τ sig) → Buf (Elt Ideal) ℓ) (c : Dev nD)

def b0 : (A3 8 2048 1024).Idx → EReal := V m c main_arg0
def b1 : (A3 8 2048 1024).Idx → EReal := V m c main_arg1
def b2 : (A3 8 3 1024).Idx → EReal := V m c main_arg2
def b3 : (A2 1024 1024).Idx → EReal := V m c main_arg3
def b4 : (A2 1 1024).Idx → EReal := V m c main_arg4

theorem N_eq : cfg0.N = 16 := by decide +kernel

/-- The batch of a grid point's block. -/
def bat (t : Fin cfg0.N) : Fin 8 := ⟨t.val / 2, by have h : t.val < 16 := lt_of_lt_of_eq t.isLt N_eq; omega⟩
/-- The row `o + r` of a grid point's block. -/
def row (t : Fin cfg0.N) (o r : ℕ) (h : o + r < 1024) : Fin 2048 := ⟨1024 * (t.val % 2) + o + r, by omega⟩

theorem idx_0 : ∀ t : Fin cfg0.N, win0_0.index t = ![t.val / 2, 0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![t.val / 2, t.val % 2, 0] := (by decide +kernel : ∀ t : Fin grid0.N, _)

theorem i0_all (t : Fin cfg0.N) (i : S1x3x1024.Idx) : (iblk m c 0 t i : EReal) = b2 m c (ValueIdx.ix3 (bat t) (i 1) (i 2)) := by
  have h0 : (i 0).val < 1 := (i 0).isLt
  refine (show _ = b2 m c ((win0_0.blk t).view.emb i) from rfl).trans (congrArg _ (ext3 _ _ _ _ ?_ ?_ ?_))
  · show _ = t.val / 2; blk_simp [idx_0 t] <;> simp <;> omega
  · blk_simp [idx_0 t] <;> simp
  · blk_simp [idx_0 t] <;> simp
theorem i0_at (t : Fin cfg0.N) (r : Fin 3) (d : Fin 1024) : (iblk m c 0 t (ValueIdx.ix3 0 r d) : EReal) = b2 m c (ValueIdx.ix3 (bat t) r d) := i0_all m c t _
theorem i1_all (t : Fin cfg0.N) (i : S1024x1024.Idx) : (iblk m c 1 t i : EReal) = b3 m c (ValueIdx.ix2 (i 0) (i 1)) := by
  refine (show _ = b3 m c ((win0_1.blk t).view.emb i) from rfl).trans (congrArg _ (ext2 _ _ _ ?_ ?_))
  · blk_simp [idx_1 t] <;> simp
  · blk_simp [idx_1 t] <;> simp
theorem i1_at (t : Fin cfg0.N) (k d : Fin 1024) : (iblk m c 1 t (ValueIdx.ix2 k d) : EReal) = b3 m c (ValueIdx.ix2 k d) := i1_all m c t _
theorem i2_all (t : Fin cfg0.N) (i : S1x1024.Idx) : (iblk m c 2 t i : EReal) = b4 m c (ValueIdx.ix2 (i 0) (i 1)) := by
  refine (show _ = b4 m c ((win0_2.blk t).view.emb i) from rfl).trans (congrArg _ (ext2 _ _ _ ?_ ?_))
  · blk_simp [idx_2 t] <;> simp
  · blk_simp [idx_2 t] <;> simp
theorem i2_at (t : Fin cfg0.N) (d : Fin 1024) : (iblk m c 2 t (ValueIdx.ix2 0 d) : EReal) = b4 m c (ValueIdx.ix2 0 d) := i2_all m c t _

/-- A chunk of a point's block of the attention's result, and of the stream. -/
def IsO (t : Fin cfg0.N) (o : ℕ) (ho : o + 256 ≤ 1024) (v : Vec Ideal S1x256x1024 .bf16) : Prop :=
  ∀ (r : Fin 256) (d : Fin 1024), (v (ValueIdx.ix3 0 r d) : EReal) = b0 m c (ValueIdx.ix3 (bat t) (row t o r.val (by omega)) d)
def IsX (t : Fin cfg0.N) (o : ℕ) (ho : o + 256 ≤ 1024) (v : Vec Ideal S1x256x1024 .f32) : Prop :=
  ∀ (r : Fin 256) (d : Fin 1024), (v (ValueIdx.ix3 0 r d) : EReal) = b1 m c (ValueIdx.ix3 (bat t) (row t o r.val (by omega)) d)

theorem bk_eq (t : Fin cfg0.N) : (Ring.bk 16 t.val).val = t.val := Ring.bk_val (lt_of_lt_of_eq t.isLt N_eq)

theorem isO (t : Fin cfg0.N) (o : ℕ) (ho : o + 256 ≤ 1024) (off : Fin 3 → ℕ) (e : off = ![(Ring.sl 3 t.val).val, o, 0]) (h : ∀ a, off a + ![1, 256, 1024] a ≤ S3x1024x1024.size a) :
    IsO m c t o ho (View.readAt (Elt Ideal) (View.whole cc0_scratch0) (Rect.unit (s := S3x1024x1024) off ![1, 256, 1024] h).toLoadRect
      ((rslot0_0 (Fin.ofNat 3 t.val)).view.writes (Elt Ideal) (rslot0_0 (Fin.ofNat 3 t.val)).view.junk
        [⟨Rect.whole S1024x1024, ReadAs.same.apply (View.read (Elt Ideal) (srcB0_0 (Ring.bk 16 t.val)).view (V m c main_arg0))⟩])) := fun r d => by
  refine (ring0 _ _ off o e h ho r d).trans ((show _ = b0 m c ((srcB0_0 (Ring.bk 16 t.val)).view.emb (ValueIdx.ix2 ⟨o + r.val, by omega⟩ d)) from rfl).trans (congrArg (b0 m c) ?_))
  rw [src0_emb]
  refine ext3 _ _ _ _ ?_ ?_ rfl
  · show (Ring.bk 16 t.val).val / 2 = t.val / 2
    rw [bk_eq]
  · show 1024 * ((Ring.bk 16 t.val).val % 2) + (o + r.val) = 1024 * (t.val % 2) + o + r.val
    rw [bk_eq]; omega
theorem isX (t : Fin cfg0.N) (o : ℕ) (ho : o + 256 ≤ 1024) (off : Fin 3 → ℕ) (e : off = ![(Ring.sl 3 t.val).val, o, 0]) (h : ∀ a, off a + ![1, 256, 1024] a ≤ S3x1024x1024.size a) :
    IsX m c t o ho (View.readAt (Elt Ideal) (View.whole cc0_scratch1) (Rect.unit (s := S3x1024x1024) off ![1, 256, 1024] h).toLoadRect
      ((rslot0_1 (Fin.ofNat 3 t.val)).view.writes (Elt Ideal) (rslot0_1 (Fin.ofNat 3 t.val)).view.junk
        [⟨Rect.whole S1024x1024, ReadAs.same.apply (View.read (Elt Ideal) (srcB0_1 (Ring.bk 16 t.val)).view (V m c main_arg1))⟩])) := fun r d => by
  refine (ring1 _ _ off o e h ho r d).trans ((show _ = b1 m c ((srcB0_1 (Ring.bk 16 t.val)).view.emb (ValueIdx.ix2 ⟨o + r.val, by omega⟩ d)) from rfl).trans (congrArg (b1 m c) ?_))
  rw [src1_emb]
  refine ext3 _ _ _ _ ?_ ?_ rfl
  · show (Ring.bk 16 t.val).val / 2 = t.val / 2
    rw [bk_eq]
  · show 1024 * ((Ring.bk 16 t.val).val % 2) + (o + r.val) = 1024 * (t.val % 2) + o + r.val
    rw [bk_eq]; omega

/-- A chunk's result is the layer's there. -/
theorem och_b (t : Fin cfg0.N) (o : ℕ) (ho : o + 256 ≤ 1024) (vx : Vec Ideal S1x256x1024 .f32) (vo : Vec Ideal S1x256x1024 .bf16)
    (hx : IsX m c t o ho vx) (hv : IsO m c t o ho vo) (x : S1x256x1024.Idx) (i : (A3 8 2048 1024).Idx)
    (e0 : (i 0).val = t.val / 2) (e1 : (i 1).val = 1024 * (t.val % 2) + o + (x 1).val) (e2 : (i 2).val = (x 2).val) :
    (och (iblk m c 0 t) (iblk m c 1 t) vx vo (iblk m c 2 t) x : EReal) = outR (b0 m c) (b1 m c) (b2 m c) (b3 m c) (b4 m c) i := by
  have hx1 : (x 1).val < 256 := (x 1).isLt
  have ei : i = ValueIdx.ix3 (bat t) (row t o (x 1).val (by omega)) (x 2) := ext3 _ _ _ _ e0 e1 e2
  have hy : ∀ (r : Fin 256) (k : Fin 1024), yc (iblk m c 0 t) (iblk m c 1 t) vx vo r k
      = yR (b0 m c) (b1 m c) (b2 m c) (b3 m c) (bat t) (row t o r.val (by omega)) k := fun r k => by
    unfold yc yR
    rw [hx, i0_at]
    refine congrArg (fun s : EReal => _ + _ * s) (Finset.sum_congr rfl fun j _ => ?_)
    rw [hv, i1_at]
  rw [ei]
  refine (och_at _ _ _ _ _ x).trans ?_
  unfold outR
  refine congrArg₂ (fun a b : EReal => a * b) (congrArg₂ (fun a b : EReal => a * b) (hy (x 1) (x 2)) (congrArg Proj.inv (funext fun k => hy (x 1) k))) (i2_at m c t (x 2))

theorem covers_3 : (cfg0.win 3).Covers := by decide +kernel
theorem emb_3 (t : Fin cfg0.N) (y : S1x1024x1024.Idx) :
    (win0_3.blk t).view.emb y = ValueIdx.ix3 (bat t) (row t 0 (y 1).val (by have h : (y 1).val < 1024 := (y 1).isLt; omega)) (y 2) := by
  have h0 : (y 0).val < 1 := (y 0).isLt
  refine ext3 _ _ _ _ ?_ ?_ ?_
  · show _ = t.val / 2; blk_simp [idx_3 t] <;> simp <;> omega
  · show _ = 1024 * (t.val % 2) + 0 + (y 1).val; blk_simp [idx_3 t] <;> simp <;> omega
  · blk_simp [idx_3 t] <;> simp

/-- The layer's result at a point's block. -/
abbrev outB (t : Fin cfg0.N) (y : S1x1024x1024.Idx) : EReal := outR (b0 m c) (b1 m c) (b2 m c) (b3 m c) (b4 m c)
  (ValueIdx.ix3 (bat t) (row t 0 (y 1).val (by have h : (y 1).val < 1024 := (y 1).isLt; omega)) (y 2))

theorem out_A (t : Fin cfg0.N) (h0 : t.val % 16 = 0) (h1 : t.val < 14) (y) : (dats m 0 c).after 3 t y = outB m c t y := by
  rw [after0_3, outsAt0_A m c t h0 h1]
  frame_out
  canon_tiles x h
  · rw [p3_och]
    exact och_b m c t 768 (by norm_num) _ _ (isX m c t 768 (by norm_num) _ (coff0_1_16 t) _) (isO m c t 768 (by norm_num) _ (coff0_0_16 t) _) x _ rfl (by show 1024 * (t.val % 2) + 0 + (y 1).val = 1024 * (t.val % 2) + 768 + (x 1).val; omega) h2
  · rw [p2_och]
    exact och_b m c t 512 (by norm_num) _ _ (isX m c t 512 (by norm_num) _ (coff0_1_15 t) _) (isO m c t 512 (by norm_num) _ (coff0_0_15 t) _) x _ rfl (by show 1024 * (t.val % 2) + 0 + (y 1).val = 1024 * (t.val % 2) + 512 + (x 1).val; omega) h2
  · rw [p1_och]
    exact och_b m c t 256 (by norm_num) _ _ (isX m c t 256 (by norm_num) _ (coff0_1_14 t) _) (isO m c t 256 (by norm_num) _ (coff0_0_14 t) _) x _ rfl (by show 1024 * (t.val % 2) + 0 + (y 1).val = 1024 * (t.val % 2) + 256 + (x 1).val; omega) h2
  · rw [p0_och]
    exact och_b m c t 0 (by norm_num) _ _ (isX m c t 0 (by norm_num) _ (coff0_1_13 t) _) (isO m c t 0 (by norm_num) _ (coff0_0_13 t) _) x _ rfl (by show 1024 * (t.val % 2) + 0 + (y 1).val = 1024 * (t.val % 2) + 0 + (x 1).val; omega) h2

theorem out_B (t : Fin cfg0.N) (h0 : ¬t.val % 16 = 0) (h1 : t.val < 14) (y) : (dats m 0 c).after 3 t y = outB m c t y := by
  rw [after0_3, outsAt0_B m c t h0 h1]
  frame_out
  canon_tiles x h
  · rw [p3_och]
    exact och_b m c t 768 (by norm_num) _ _ (isX m c t 768 (by norm_num) _ (coff0_1_16 t) _) (isO m c t 768 (by norm_num) _ (coff0_0_16 t) _) x _ rfl (by show 1024 * (t.val % 2) + 0 + (y 1).val = 1024 * (t.val % 2) + 768 + (x 1).val; omega) h2
  · rw [p2_och]
    exact och_b m c t 512 (by norm_num) _ _ (isX m c t 512 (by norm_num) _ (coff0_1_15 t) _) (isO m c t 512 (by norm_num) _ (coff0_0_15 t) _) x _ rfl (by show 1024 * (t.val % 2) + 0 + (y 1).val = 1024 * (t.val % 2) + 512 + (x 1).val; omega) h2
  · rw [p1_och]
    exact och_b m c t 256 (by norm_num) _ _ (isX m c t 256 (by norm_num) _ (coff0_1_14 t) _) (isO m c t 256 (by norm_num) _ (coff0_0_14 t) _) x _ rfl (by show 1024 * (t.val % 2) + 0 + (y 1).val = 1024 * (t.val % 2) + 256 + (x 1).val; omega) h2
  · rw [p0_och]
    exact och_b m c t 0 (by norm_num) _ _ (isX m c t 0 (by norm_num) _ (coff0_1_13 t) _) (isO m c t 0 (by norm_num) _ (coff0_0_13 t) _) x _ rfl (by show 1024 * (t.val % 2) + 0 + (y 1).val = 1024 * (t.val % 2) + 0 + (x 1).val; omega) h2

theorem out_C (t : Fin cfg0.N) (h0 : ¬t.val % 16 = 0) (h1 : ¬t.val < 14) (y) : (dats m 0 c).after 3 t y = outB m c t y := by
  rw [after0_3, outsAt0_C m c t h0 h1]
  frame_out
  canon_tiles x h
  · rw [p3_och]
    exact och_b m c t 768 (by norm_num) _ _ (isX m c t 768 (by norm_num) _ (coff0_1_16 t) _) (isO m c t 768 (by norm_num) _ (coff0_0_16 t) _) x _ rfl (by show 1024 * (t.val % 2) + 0 + (y 1).val = 1024 * (t.val % 2) + 768 + (x 1).val; omega) h2
  · rw [p2_och]
    exact och_b m c t 512 (by norm_num) _ _ (isX m c t 512 (by norm_num) _ (coff0_1_15 t) _) (isO m c t 512 (by norm_num) _ (coff0_0_15 t) _) x _ rfl (by show 1024 * (t.val % 2) + 0 + (y 1).val = 1024 * (t.val % 2) + 512 + (x 1).val; omega) h2
  · rw [p1_och]
    exact och_b m c t 256 (by norm_num) _ _ (isX m c t 256 (by norm_num) _ (coff0_1_14 t) _) (isO m c t 256 (by norm_num) _ (coff0_0_14 t) _) x _ rfl (by show 1024 * (t.val % 2) + 0 + (y 1).val = 1024 * (t.val % 2) + 256 + (x 1).val; omega) h2
  · rw [p0_och]
    exact och_b m c t 0 (by norm_num) _ _ (isX m c t 0 (by norm_num) _ (coff0_1_13 t) _) (isO m c t 0 (by norm_num) _ (coff0_0_13 t) _) x _ rfl (by show 1024 * (t.val % 2) + 0 + (y 1).val = 1024 * (t.val % 2) + 0 + (x 1).val; omega) h2

theorem arr_eq : (dats m 0 c).arrAt 3 cfg0.N = outR (b0 m c) (b1 m c) (b2 m c) (b3 m c) (b4 m c) := by
  refine (dats m 0 c).arrAt_eq_of_covers 3 _ covers_3 fun t hf y => ?_
  blk_simp
  rw [emb_3]
  by_cases h0 : t.val % 16 = 0
  · exact out_A m c t h0 (by have h : t.val < 16 := lt_of_lt_of_eq t.isLt N_eq; omega) y
  · by_cases h1 : t.val < 14
    · exact out_B m c t h0 h1 y
    · exact out_C m c t h0 h1 y

end Cert.Proof.Out
end
-- ==== Proof.Out.Ref.lean ====
/-
  The output layer's reference read at an index.
-/
module

public import proofs.«01_k».proof.Proof.Gen.OutLayerReferenceIdeal.Read
public import proofs.«01_k».proof.Proof.Out.Spec
public import Idealize.ShloMosaic.Lib.KernelVsHost

@[expose] public section

noncomputable section

namespace Cert.Proof.Out

open Idealize.ShloMosaic Idealize.ShloMosaic.ValueIdx
open Cert.OutLayerReferenceIdeal Cert.OutLayerReferenceIdeal.Gen Cert.OutLayerReferenceIdeal.Read

variable (x0 x1 : S8x2048x1024.Idx → EReal) (x2 : S8x3x1024.Idx → EReal) (x3 : S1024x1024.Idx → EReal) (x4 : S1x1024.Idx → EReal)

theorem ref_gate (b : Fin 8) (r : Fin 2048) (c : Fin 1024) : val_main_v5 (F := Ideal) x2 (ix3 b r c) = x2 (ix3 b 2 c) := by
  rw [val_main_v5_apply, val_main_v2_apply, val_main_v1_apply, val_main_v0_apply]
  refine congrArg x2 ?_
  have hb := b.isLt
  have hd := c.isLt
  funext a; apply Fin.ext; match a with
  | ⟨0, _⟩ => show (b.val * 1024 + c.val) / 1024 = b.val; omega
  | ⟨1, _⟩ => rfl
  | ⟨2, _⟩ => show (b.val * 1024 + c.val) % 1024 = c.val; omega

theorem ref_y (b : Fin 8) (r : Fin 2048) (c : Fin 1024) : val_main_v7 (F := Ideal) x0 x1 x2 x3 (ix3 b r c) = yR x0 x1 x2 x3 b r c := by
  rw [val_main_v7_apply, val_main_v6_apply, val_main_v4_apply, ref_gate]
  unfold yR
  refine congrArg (fun s : EReal => x1 (ix3 b r c) + x2 (ix3 b 2 c) * s) (Finset.sum_congr rfl fun k _ => ?_)
  have el : lidx_main_v4 (ix3 b r c) k = ix3 b r k := by
    funext a; match a with
    | ⟨0, _⟩ => rfl
    | ⟨1, _⟩ => rfl
    | ⟨2, _⟩ => rfl
  have er : ridx_main_v4 (ix3 b r c) k = ix2 k c := by
    funext a; match a with
    | ⟨0, _⟩ => rfl
    | ⟨1, _⟩ => rfl
  rw [el, er, val_main_v3_apply]
  rfl

theorem ref_inv (b : Fin 8) (r : Fin 2048) : val_main_v15 (F := Ideal) x0 x1 x2 x3 (ix3 b r 0) = Proj.inv fun k => yR x0 x1 x2 x3 b r k := by
  rw [val_main_v15_apply, val_main_v14_apply, val_main_v12_apply, val_main_v10_apply, val_main_v9_apply, val_main_v11_apply, val_main_v13_apply,
    val_main_cst_apply, val_main_cst_0_apply, val_main_cst_1_apply]
  have e : ∀ k, (val_main_v8 (F := Ideal) x0 x1 x2 x3 (idx_main_v9 (idx_main_v10 (ix3 b r 0)) k) : EReal) = yR x0 x1 x2 x3 b r k * yR x0 x1 x2 x3 b r k := fun k => by
    have e : idx_main_v9 (idx_main_v10 (ix3 b r 0)) k = ix3 b r k := by
      funext a; match a with
      | ⟨0, _⟩ => rfl
      | ⟨1, _⟩ => rfl
      | ⟨2, _⟩ => rfl
    rw [e, val_main_v8_apply, ref_y]; rfl
  show Ideal.rsqrt (Ideal.div (Ideal.ofBits .f32 0x00000000#32 + ∑ k : Fin 1024, (val_main_v8 (F := Ideal) x0 x1 x2 x3 _ : EReal)) _ + _) = _
  rw [Ideal.ofBits_zero_f32, zero_add]; unfold Proj.inv
  rw [Finset.sum_congr rfl fun k _ => e k]; rfl

theorem ref_at (b : Fin 8) (r : Fin 2048) (c : Fin 1024) : val_main_v20 (F := Ideal) x0 x1 x2 x3 x4 (ix3 b r c)
    = yR x0 x1 x2 x3 b r c * Proj.inv (fun k => yR x0 x1 x2 x3 b r k) * x4 (ix2 0 c) := by
  rw [val_main_v20_apply, val_main_v17_apply, val_main_v16_apply, val_main_v19_apply, val_main_v18_apply, ref_y]
  have e : idx_main_v16 (ix3 b r c) = ix3 b r 0 := by
    funext a; match a with
    | ⟨0, _⟩ => rfl
    | ⟨1, _⟩ => rfl
    | ⟨2, _⟩ => rfl
  have eg : idx_main_v18 (idx_main_v19 (ix3 b r c)) = ix2 0 c := by
    funext a; match a with
    | ⟨0, _⟩ => rfl
    | ⟨1, _⟩ => rfl
  rw [e, eg, ref_inv]
  rfl

theorem ref_out : val_main_v20 (F := Ideal) x0 x1 x2 x3 x4 = outR x0 x1 x2 x3 x4 := by
  funext i
  have hi : i = ix3 (i 0) (i 1) (i 2) := by
    funext a; match a with
    | ⟨0, _⟩ => rfl
    | ⟨1, _⟩ => rfl
    | ⟨2, _⟩ => rfl
  exact (congrArg _ hi).trans (ref_at x0 x1 x2 x3 x4 (i 0) (i 1) (i 2))

end Cert.Proof.Out
end
-- ==== Proof.Mod.Spec.lean ====
/-
  What the modulations compute at an index: the gated vector's product with the weights, plus the bias.
-/
module

public import proofs.«01_k».proof.Proof.Proj.Spec

@[expose] public section

noncomputable section

namespace Cert.Proof.Mod

open Idealize.ShloMosaic Idealize.ShloMosaic.ValueIdx
open Cert.Proof.Proj (A2)

/-- The vector, gated by its logistic. -/
def sl (x : (A2 8 1024).Idx → EReal) (b : Fin 8) (k : Fin 1024) : EReal := x (ix2 b k) * Ideal.logistic (x (ix2 b k))

/-- One modulation. -/
def one {n : ℕ} (x : (A2 8 1024).Idx → EReal) (w : (A2 1024 n).Idx → EReal) (p : (A2 1 n).Idx → EReal) (b : Fin 8) (c : Fin n) : EReal :=
  (∑ k : Fin 1024, sl x b k * w (ix2 k c)) + p (ix2 0 c)

variable (x : (A2 8 1024).Idx → EReal) (wa : (A2 1024 3072).Idx → EReal) (wk : (A2 1024 2048).Idx → EReal) (wb : (A2 1024 3072).Idx → EReal)
  (pa : (A2 1 3072).Idx → EReal) (pk : (A2 1 2048).Idx → EReal) (pb : (A2 1 3072).Idx → EReal)

/-- The three, side by side. -/
def outR (i : (A2 8 8192).Idx) : EReal :=
  if ha : (i 1).val < 3072 then one x wa pa (i 0) ⟨(i 1).val, ha⟩
  else if hk : (i 1).val < 5120 then one x wk pk (i 0) ⟨(i 1).val - 3072, by omega⟩
  else one x wb pb (i 0) ⟨(i 1).val - 5120, by have h : (i 1).val < 8192 := (i 1).isLt; omega⟩

end Cert.Proof.Mod
end
-- ==== Proof.Mod.Kern.lean ====
/-
  The modulations' kernel: its blocks, its result array.
-/
module

public import proofs.«01_k».proof.Proof.Gen.ModulationIdeal.Value
public import proofs.«01_k».proof.Proof.Proj.Kern
public import proofs.«01_k».proof.Proof.Mod.Spec
public import Idealize.ShloMosaic.Lib.KernelVsHost
public import Idealize.ShloMosaic.Lib.ValueLayout
public import Idealize.ShloMosaic.Lib.Pipeline.ReadBack
public import Idealize.ShloMosaic.Lib.Pipeline.ValueKit

@[expose] public section

set_option maxRecDepth 4096

noncomputable section

namespace Cert.Proof.Mod

open Idealize.ShloMosaic Idealize.ShloMosaic.TcCoe Idealize.ShloMosaic.ValueIdx
open Cert.ModulationIdeal Cert.ModulationIdeal.Gen
open Cert.Proof.Proj (A2 ext2)

section
variable (x : Vec Ideal S8x1024 .f32) (w : Vec Ideal S1024x1024 .f32) (p : Vec Ideal S1x1024 .f32)

theorem p3_eq : k0_pay3 x w p = k0_pay2 x w p := rfl
theorem p4_eq : k0_pay4 x w p = k0_pay2 x w p := rfl

theorem bias_at {α : Type} (v : S1x1024.Idx → α) (h : S1x1024.Broadcasts S8x1024) (r : Fin 8) (d : Fin 1024) :
    broadcastTo S8x1024 v h (ValueIdx.ix2 r d) = v (ValueIdx.ix2 0 d) :=
  broadcastTo_apply _ _ _ _ fun a => by
    match a with
    | ⟨0, _⟩ => rfl
    | ⟨1, _⟩ => rfl

theorem mm_at (h : FVec Ideal S8x1024 .bf16) (v : FVec Ideal S1024x1024 .bf16) (r : Fin 8) (c : Fin 1024) :
    matmul (F := Ideal) dot_S8x1024_S1024x1024_S8x1024_1_0_0_1_n_n none h v (constant S8x1024 .f32 0x00000000#32) (ValueIdx.ix2 r c)
      = ∑ k : Fin 1024, (h (ValueIdx.ix2 r k) : EReal) * (v (ValueIdx.ix2 k c) : EReal) := by
  have e : matmul (F := Ideal) dot_S8x1024_S1024x1024_S8x1024_1_0_0_1_n_n none h v (constant S8x1024 .f32 0x00000000#32) (ValueIdx.ix2 r c)
    = FloatOps.matmul (DotDims.plain 8 1024 1024) none h v (constant S8x1024 .f32 0x00000000#32) (ValueIdx.ix2 r c) := rfl
  rw [e, Ideal.matmul_plain_apply]
  have c0 : (constant (F := Ideal) S8x1024 .f32 0x00000000#32) (ValueIdx.ix2 r c) = (0 : EReal) := Ideal.ofBits_zero_f32
  rw [c0, zero_add]

/-- What a point stores is one modulation's tile. -/
theorem tile_at (r : Fin 8) (d : Fin 1024) : (k0_pay2 x w p (ValueIdx.ix2 r d) : EReal) = one (n := 1024) x w p r d := by
  unfold k0_pay2 one
  show (matmul (F := Ideal) dot_S8x1024_S1024x1024_S8x1024_1_0_0_1_n_n none _ _ (constant S8x1024 .f32 0x00000000#32) (ValueIdx.ix2 r d) : EReal)
    + broadcastTo S8x1024 p broadcasts_S1x1024_S8x1024 (ValueIdx.ix2 r d) = _
  rw [bias_at, mm_at]
  rfl
end

variable (m : (ℓ : Loc nD τ sig) → Buf (Elt Ideal) ℓ) (c : Dev nD)

def b0 : (A2 8 1024).Idx → EReal := V m c main_arg0
def b1 : (A2 1024 3072).Idx → EReal := V m c main_arg1
def b2 : (A2 1024 2048).Idx → EReal := V m c main_arg2
def b3 : (A2 1024 3072).Idx → EReal := V m c main_arg3
def b4 : (A2 1 3072).Idx → EReal := V m c main_arg4
def b5 : (A2 1 2048).Idx → EReal := V m c main_arg5
def b6 : (A2 1 3072).Idx → EReal := V m c main_arg6

theorem N_eq : cfg0.N = 8 := by decide +kernel

theorem idx_0 : ∀ t : Fin cfg0.N, win0_0.index t = ![0, 0] := (by decide +kernel : ∀ t : Fin grid0.N, _)
theorem idx_1 : ∀ t : Fin cfg0.N, win0_1.index t = ![0, min t.val 2] := (by decide +kernel : ∀ t : Fin grid0.N, _)
theorem idx_2 : ∀ t : Fin cfg0.N, win0_2.index t = ![0, min (t.val - 3) 1] := (by decide +kernel : ∀ t : Fin grid0.N, _)
theorem idx_3 : ∀ t : Fin cfg0.N, win0_3.index t = ![0, min (t.val - 5) 2] := (by decide +kernel : ∀ t : Fin grid0.N, _)
theorem idx_4 : ∀ t : Fin cfg0.N, win0_4.index t = ![0, min t.val 2] := (by decide +kernel : ∀ t : Fin grid0.N, _)
theorem idx_5 : ∀ t : Fin cfg0.N, win0_5.index t = ![0, min (t.val - 3) 1] := (by decide +kernel : ∀ t : Fin grid0.N, _)
theorem idx_6 : ∀ t : Fin cfg0.N, win0_6.index t = ![0, min (t.val - 5) 2] := (by decide +kernel : ∀ t : Fin grid0.N, _)
theorem idx_7 : ∀ t : Fin cfg0.N, win0_7.index t = ![0, t.val] := (by decide +kernel : ∀ t : Fin grid0.N, _)

theorem i0_at (t : Fin cfg0.N) (i : S8x1024.Idx) : (iblk m c 0 t i : EReal) = b0 m c (ValueIdx.ix2 (i 0) (i 1)) := by
  refine (show _ = b0 m c ((win0_0.blk t).view.emb i) from rfl).trans (congrArg _ (ext2 _ _ _ ?_ ?_))
  · blk_simp [idx_0 t] <;> simp
  · blk_simp [idx_0 t] <;> simp
theorem i1_at (t : Fin cfg0.N) (i : S1024x1024.Idx) (d : Fin 3072) (h : d.val = 1024 * min t.val 2 + (i 1).val) :
    (iblk m c 1 t i : EReal) = b1 m c (ValueIdx.ix2 (i 0) d) := by
  refine (show _ = b1 m c ((win0_1.blk t).view.emb i) from rfl).trans (congrArg _ (ext2 _ _ _ ?_ ?_))
  · blk_simp [idx_1 t] <;> simp
  · rw [h]; blk_simp [idx_1 t] <;> simp <;> omega
theorem i2_at (t : Fin cfg0.N) (i : S1024x1024.Idx) (d : Fin 2048) (h : d.val = 1024 * min (t.val - 3) 1 + (i 1).val) :
    (iblk m c 2 t i : EReal) = b2 m c (ValueIdx.ix2 (i 0) d) := by
  refine (show _ = b2 m c ((win0_2.blk t).view.emb i) from rfl).trans (congrArg _ (ext2 _ _ _ ?_ ?_))
  · blk_simp [idx_2 t] <;> simp
  · rw [h]; blk_simp [idx_2 t] <;> simp <;> omega
theorem i3_at (t : Fin cfg0.N) (i : S1024x1024.Idx) (d : Fin 3072) (h : d.val = 1024 * min (t.val - 5) 2 + (i 1).val) :
    (iblk m c 3 t i : EReal) = b3 m c (ValueIdx.ix2 (i 0) d) := by
  refine (show _ = b3 m c ((win0_3.blk t).view.emb i) from rfl).trans (congrArg _ (ext2 _ _ _ ?_ ?_))
  · blk_simp [idx_3 t] <;> simp
  · rw [h]; blk_simp [idx_3 t] <;> simp <;> omega
theorem i4_at (t : Fin cfg0.N) (i : S1x1024.Idx) (d : Fin 3072) (h : d.val = 1024 * min t.val 2 + (i 1).val) :
    (iblk m c 4 t i : EReal) = b4 m c (ValueIdx.ix2 (i 0) d) := by
  refine (show _ = b4 m c ((win0_4.blk t).view.emb i) from rfl).trans (congrArg _ (ext2 _ _ _ ?_ ?_))
  · blk_simp [idx_4 t] <;> simp
  · rw [h]; blk_simp [idx_4 t] <;> simp <;> omega
theorem i5_at (t : Fin cfg0.N) (i : S1x1024.Idx) (d : Fin 2048) (h : d.val = 1024 * min (t.val - 3) 1 + (i 1).val) :
    (iblk m c 5 t i : EReal) = b5 m c (ValueIdx.ix2 (i 0) d) := by
  refine (show _ = b5 m c ((win0_5.blk t).view.emb i) from rfl).trans (congrArg _ (ext2 _ _ _ ?_ ?_))
  · blk_simp [idx_5 t] <;> simp
  · rw [h]; blk_simp [idx_5 t] <;> simp <;> omega
theorem i6_at (t : Fin cfg0.N) (i : S1x1024.Idx) (d : Fin 3072) (h : d.val = 1024 * min (t.val - 5) 2 + (i 1).val) :
    (iblk m c 6 t i : EReal) = b6 m c (ValueIdx.ix2 (i 0) d) := by
  refine (show _ = b6 m c ((win0_6.blk t).view.emb i) from rfl).trans (congrArg _ (ext2 _ _ _ ?_ ?_))
  · blk_simp [idx_6 t] <;> simp
  · rw [h]; blk_simp [idx_6 t] <;> simp <;> omega

/-- The column of a point's block. -/
def col (t : Fin cfg0.N) (d : Fin 1024) : Fin 8192 := ⟨1024 * t.val + d.val, by have h : t.val < 8 := lt_of_lt_of_eq t.isLt N_eq; omega⟩

/-- The modulations at a point's block. -/
abbrev outB (t : Fin cfg0.N) (r : Fin 8) (d : Fin 1024) : EReal :=
  outR (b0 m c) (b1 m c) (b2 m c) (b3 m c) (b4 m c) (b5 m c) (b6 m c) (ValueIdx.ix2 r (col t d))

theorem tile_b {n : ℕ} (t : Fin cfg0.N) (w : Vec Ideal S1024x1024 .f32) (p : Vec Ideal S1x1024 .f32) (W : (A2 1024 n).Idx → EReal) (P : (A2 1 n).Idx → EReal)
    (r : Fin 8) (d : Fin 1024) (e : Fin n) (hw : ∀ k : Fin 1024, (w (ValueIdx.ix2 k d) : EReal) = W (ValueIdx.ix2 k e))
    (hp : (p (ValueIdx.ix2 0 d) : EReal) = P (ValueIdx.ix2 0 e)) :
    (k0_pay2 (iblk m c 0 t) w p (ValueIdx.ix2 r d) : EReal) = one (b0 m c) W P r e := by
  rw [tile_at]
  unfold one
  refine congrArg₂ (fun a b : EReal => a + b) (Finset.sum_congr rfl fun k _ => ?_) hp
  rw [hw]
  unfold sl
  rw [i0_at]

theorem ta (t : Fin cfg0.N) (h : t.val < 3) (r : Fin 8) (d : Fin 1024) :
    (k0_pay2 (iblk m c 0 t) (iblk m c 1 t) (iblk m c 4 t) (ValueIdx.ix2 r d) : EReal) = outB m c t r d := by
  have hd := d.isLt
  have hc : (col t d).val < 3072 := by show 1024 * t.val + d.val < 3072; omega
  refine (tile_b m c t _ _ (b1 m c) (b4 m c) r d ⟨(col t d).val, hc⟩ (fun k => i1_at m c t _ _ ?_) (i4_at m c t _ _ ?_)).trans ?_
  · show 1024 * t.val + d.val = 1024 * min t.val 2 + d.val; omega
  · show 1024 * t.val + d.val = 1024 * min t.val 2 + d.val; omega
  · unfold outB outR
    rw [dif_pos (show (ValueIdx.ix2 r (col t d) 1).val < 3072 from hc)]
theorem tk (t : Fin cfg0.N) (h : 3 ≤ t.val) (h' : t.val < 5) (r : Fin 8) (d : Fin 1024) :
    (k0_pay2 (iblk m c 0 t) (iblk m c 2 t) (iblk m c 5 t) (ValueIdx.ix2 r d) : EReal) = outB m c t r d := by
  have hd := d.isLt
  have hn : ¬(col t d).val < 3072 := by show ¬1024 * t.val + d.val < 3072; omega
  have hc : (col t d).val < 5120 := by show 1024 * t.val + d.val < 5120; omega
  refine (tile_b m c t _ _ (b2 m c) (b5 m c) r d ⟨(col t d).val - 3072, by omega⟩ (fun k => i2_at m c t _ _ ?_) (i5_at m c t _ _ ?_)).trans ?_
  · show 1024 * t.val + d.val - 3072 = 1024 * min (t.val - 3) 1 + d.val; omega
  · show 1024 * t.val + d.val - 3072 = 1024 * min (t.val - 3) 1 + d.val; omega
  · unfold outB outR
    exact ((dif_neg hn).trans (dif_pos hc)).symm
theorem tb (t : Fin cfg0.N) (h : 5 ≤ t.val) (r : Fin 8) (d : Fin 1024) :
    (k0_pay2 (iblk m c 0 t) (iblk m c 3 t) (iblk m c 6 t) (ValueIdx.ix2 r d) : EReal) = outB m c t r d := by
  have hd := d.isLt
  have h8 : t.val < 8 := lt_of_lt_of_eq t.isLt N_eq
  have hn : ¬(col t d).val < 3072 := by show ¬1024 * t.val + d.val < 3072; omega
  have hc : ¬(col t d).val < 5120 := by show ¬1024 * t.val + d.val < 5120; omega
  refine (tile_b m c t _ _ (b3 m c) (b6 m c) r d ⟨(col t d).val - 5120, by have := (col t d).isLt; omega⟩ (fun k => i3_at m c t _ _ ?_) (i6_at m c t _ _ ?_)).trans ?_
  · show 1024 * t.val + d.val - 5120 = 1024 * min (t.val - 5) 2 + d.val; omega
  · show 1024 * t.val + d.val - 5120 = 1024 * min (t.val - 5) 2 + d.val; omega
  · unfold outB outR
    exact ((dif_neg hn).trans (dif_neg hc)).symm

theorem covers_7 : (cfg0.win 7).Covers := by decide +kernel
theorem emb_7 (t : Fin cfg0.N) (y : S8x1024.Idx) : (win0_7.blk t).view.emb y = ValueIdx.ix2 (y 0) (col t (y 1)) := by
  refine ext2 _ _ _ ?_ ?_
  · blk_simp [idx_7 t] <;> simp
  · show _ = 1024 * t.val + (y 1).val; blk_simp [idx_7 t] <;> simp <;> omega

theorem out_A (t : Fin cfg0.N) (h : t.val < 3) (y) : (dats m 0 c).after 7 t y = outB m c t (y 0) (y 1) := by
  rw [after0_7, outsAt0_A m c t h (by omega) (by omega)]
  frame_out
  rw [ext2 y (y 0) (y 1) rfl rfl]
  exact ta m c t h (y 0) (y 1)
theorem out_B (t : Fin cfg0.N) (h : 3 ≤ t.val) (h' : t.val < 5) (y) : (dats m 0 c).after 7 t y = outB m c t (y 0) (y 1) := by
  rw [after0_7, outsAt0_B m c t (by omega) (by omega) (by omega)]
  frame_out
  rw [p3_eq, ext2 y (y 0) (y 1) rfl rfl]
  exact tk m c t h h' (y 0) (y 1)
theorem out_C (t : Fin cfg0.N) (h : 5 ≤ t.val) (y) : (dats m 0 c).after 7 t y = outB m c t (y 0) (y 1) := by
  have h8 : t.val < 8 := lt_of_lt_of_eq t.isLt N_eq
  rw [after0_7, outsAt0_C m c t (by omega) (by omega) h]
  frame_out
  rw [p4_eq, ext2 y (y 0) (y 1) rfl rfl]
  exact tb m c t h (y 0) (y 1)

theorem arr_eq : (dats m 0 c).arrAt 7 cfg0.N = outR (b0 m c) (b1 m c) (b2 m c) (b3 m c) (b4 m c) (b5 m c) (b6 m c) := by
  refine (dats m 0 c).arrAt_eq_of_covers 7 _ covers_7 fun t hf y => ?_
  blk_simp
  rw [emb_7]
  by_cases h0 : t.val < 3
  · exact out_A m c t h0 y
  · by_cases h1 : t.val < 5
    · exact out_B m c t (by omega) h1 y
    · exact out_C m c t (by omega) y

end Cert.Proof.Mod
end
-- ==== Proof.Mod.Ref.lean ====
/-
  The modulations' reference read at an index.
-/
module

public import proofs.«01_k».proof.Proof.Gen.ModulationReferenceIdeal.Read
public import proofs.«01_k».proof.Proof.Proj.Kern
public import proofs.«01_k».proof.Proof.Mod.Spec
public import Idealize.ShloMosaic.Lib.KernelVsHost

@[expose] public section

set_option maxRecDepth 4096

noncomputable section

namespace Cert.Proof.Mod

open Idealize.ShloMosaic Idealize.ShloMosaic.ValueIdx
open Cert.ModulationReferenceIdeal Cert.ModulationReferenceIdeal.Gen Cert.ModulationReferenceIdeal.Read
open Cert.Proof.Proj (ext2)

variable (x : S8x1024.Idx → EReal) (wa : S1024x3072.Idx → EReal) (wk : S1024x2048.Idx → EReal) (wb : S1024x3072.Idx → EReal)
  (pa : S1x3072.Idx → EReal) (pk : S1x2048.Idx → EReal) (pb : S1x3072.Idx → EReal)

theorem ref_s0 (b : Fin 8) (k : Fin 1024) : val_main_v0 (F := Ideal) x (ValueIdx.ix2 b k) = sl x b k := by
  rw [val_main_v0_apply, val_main_call0_v5_apply, val_main_call0_v4_apply, val_main_call0_v3_apply, val_main_call0_v2_apply, val_main_call0_v1_apply,
    val_main_call0_v0_apply, val_main_call0_cst_apply, val_main_call0_cst_0_apply]
  show x _ * Ideal.div (Ideal.ofBits .f32 0x3F800000#32) (Ideal.ofBits .f32 0x3F800000#32 + Ideal.exp (-_)) = _
  rw [Val.ofBits_one]; rfl
theorem ref_s1 (b : Fin 8) (k : Fin 1024) : val_main_v4 (F := Ideal) x (ValueIdx.ix2 b k) = sl x b k := ref_s0 x b k
theorem ref_s2 (b : Fin 8) (k : Fin 1024) : val_main_v8 (F := Ideal) x (ValueIdx.ix2 b k) = sl x b k := ref_s0 x b k

theorem ref_a (b : Fin 8) (c : Fin 3072) : val_main_v3 (F := Ideal) x wa pa (ValueIdx.ix2 b c) = one x wa pa b c := by
  rw [val_main_v3_apply, val_main_v1_apply, val_main_v2_apply]
  have ep : idx_main_v2 (ValueIdx.ix2 b c) = ValueIdx.ix2 0 c := ext2 _ _ _ rfl rfl
  rw [ep]
  refine congrArg (fun s : EReal => s + pa (ValueIdx.ix2 0 c)) (Finset.sum_congr rfl fun k _ => ?_)
  have el : lidx_main_v1 (ValueIdx.ix2 b c) k = ValueIdx.ix2 b k := ext2 _ _ _ rfl rfl
  have er : ridx_main_v1 (ValueIdx.ix2 b c) k = ValueIdx.ix2 k c := ext2 _ _ _ rfl rfl
  rw [el, er, ref_s0]
theorem ref_k (b : Fin 8) (c : Fin 2048) : val_main_v7 (F := Ideal) x wk pk (ValueIdx.ix2 b c) = one x wk pk b c := by
  rw [val_main_v7_apply, val_main_v5_apply, val_main_v6_apply]
  have ep : idx_main_v6 (ValueIdx.ix2 b c) = ValueIdx.ix2 0 c := ext2 _ _ _ rfl rfl
  rw [ep]
  refine congrArg (fun s : EReal => s + pk (ValueIdx.ix2 0 c)) (Finset.sum_congr rfl fun k _ => ?_)
  have el : lidx_main_v5 (ValueIdx.ix2 b c) k = ValueIdx.ix2 b k := ext2 _ _ _ rfl rfl
  have er : ridx_main_v5 (ValueIdx.ix2 b c) k = ValueIdx.ix2 k c := ext2 _ _ _ rfl rfl
  rw [el, er, ref_s1]
theorem ref_b (b : Fin 8) (c : Fin 3072) : val_main_v11 (F := Ideal) x wb pb (ValueIdx.ix2 b c) = one x wb pb b c := by
  rw [val_main_v11_apply, val_main_v9_apply, val_main_v10_apply]
  have ep : idx_main_v10 (ValueIdx.ix2 b c) = ValueIdx.ix2 0 c := ext2 _ _ _ rfl rfl
  rw [ep]
  refine congrArg (fun s : EReal => s + pb (ValueIdx.ix2 0 c)) (Finset.sum_congr rfl fun k _ => ?_)
  have el : lidx_main_v9 (ValueIdx.ix2 b c) k = ValueIdx.ix2 b k := ext2 _ _ _ rfl rfl
  have er : ridx_main_v9 (ValueIdx.ix2 b c) k = ValueIdx.ix2 k c := ext2 _ _ _ rfl rfl
  rw [el, er, ref_s2]

theorem ref_out : val_main_v12 (F := Ideal) x wa wk wb pa pk pb = outR x wa wk wb pa pk pb := by
  funext i
  have hi : (i 1).val < 8192 := (i 1).isLt
  unfold val_main_v12 outR
  split_ifs with ha hk
  · refine (concatenate_apply_piece (t := S8x8192) 1
      [⟨S8x3072, val_main_v3 (F := Ideal) x wa pa⟩, ⟨S8x2048, val_main_v7 (F := Ideal) x wk pk⟩, ⟨S8x3072, val_main_v11 (F := Ideal) x wb pb⟩]
      _ i 0 (show 0 < 3 by decide) S8x3072 _ rfl rfl 0 rfl (ValueIdx.ix2 (i 0) ⟨(i 1).val, ha⟩) (fun a h => ?_) ?_).trans (ref_a x wa pa _ _)
    · match a with
      | ⟨0, _⟩ => rfl
      | ⟨1, _⟩ => exact absurd rfl h
    · show 0 + (i 1).val = _; omega
  · refine (concatenate_apply_piece (t := S8x8192) 1
      [⟨S8x3072, val_main_v3 (F := Ideal) x wa pa⟩, ⟨S8x2048, val_main_v7 (F := Ideal) x wk pk⟩, ⟨S8x3072, val_main_v11 (F := Ideal) x wb pb⟩]
      _ i 1 (show 1 < 3 by decide) S8x2048 _ rfl rfl 3072 rfl (ValueIdx.ix2 (i 0) ⟨(i 1).val - 3072, by omega⟩) (fun a h => ?_) ?_).trans (ref_k x wk pk _ _)
    · match a with
      | ⟨0, _⟩ => rfl
      | ⟨1, _⟩ => exact absurd rfl h
    · show 3072 + ((i 1).val - 3072) = _; omega
  · refine (concatenate_apply_piece (t := S8x8192) 1
      [⟨S8x3072, val_main_v3 (F := Ideal) x wa pa⟩, ⟨S8x2048, val_main_v7 (F := Ideal) x wk pk⟩, ⟨S8x3072, val_main_v11 (F := Ideal) x wb pb⟩]
      _ i 2 (show 2 < 3 by decide) S8x3072 _ rfl rfl 5120 rfl (ValueIdx.ix2 (i 0) ⟨(i 1).val - 5120, by omega⟩) (fun a h => ?_) ?_).trans (ref_b x wb pb _ _)
    · match a with
      | ⟨0, _⟩ => rfl
      | ⟨1, _⟩ => exact absurd rfl h
    · show 5120 + ((i 1).val - 5120) = _; omega

end Cert.Proof.Mod
end
-- ==== Proof.lean ====
module

public import proofs.«01_k».proof.Proof.Gen.ConvLayer.Frame
public import proofs.«01_k».proof.Proof.Gen.ConvLayerIdeal.Frame
public import proofs.«01_k».proof.Proof.Gen.ConvLayerIdeal.Value
public import proofs.«01_k».proof.Proof.Gen.ConvLayerReferenceIdeal.Run
public import proofs.«01_k».proof.Proof.Gen.ConvLayerReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init
public import proofs.«01_k».proof.Proof.K.Launch
public import proofs.«01_k».proof.Proof.KI.Launch
public import proofs.«01_k».proof.Proof.Gen.ReferenceIdeal.Run
public import proofs.«01_k».proof.Proof.Gen.ReferenceIdeal.Read
public import proofs.«01_k».proof.Proof.Gen.Projections
public import proofs.«01_k».proof.Proof.Gen.Projections.Frame
public import proofs.«01_k».proof.Proof.Gen.ProjectionsIdeal
public import proofs.«01_k».proof.Proof.Gen.ProjectionsIdeal.Value
public import proofs.«01_k».proof.Proof.Gen.ProjectionsReferenceIdeal
public import proofs.«01_k».proof.Proof.Gen.ProjectionsReferenceIdeal.Run
public import proofs.«01_k».proof.Proof.Gen.ProjectionsReferenceIdeal.Read
public import proofs.«01_k».proof.Proof.Val.Arr
public import proofs.«01_k».proof.Proof.Val.Pre
public import proofs.«01_k».proof.Proof.Proj.Kern
public import proofs.«01_k».proof.Proof.Proj.Ref
public import proofs.«01_k».proof.Proof.Conv.Kern
public import proofs.«01_k».proof.Proof.Conv.Ref
public import proofs.«01_k».proof.Proof.Gen.OutLayer.Frame
public import proofs.«01_k».proof.Proof.Gen.OutLayerIdeal.Frame
public import proofs.«01_k».proof.Proof.Gen.OutLayerIdeal.Value
public import proofs.«01_k».proof.Proof.Gen.OutLayerReferenceIdeal.Run
public import proofs.«01_k».proof.Proof.Gen.OutLayerReferenceIdeal.Read
public import proofs.«01_k».proof.Proof.Out.Kern
public import proofs.«01_k».proof.Proof.Out.Ref
public import proofs.«01_k».proof.Proof.Mod.Kern
public import proofs.«01_k».proof.Proof.Mod.Ref
public import proofs.«01_k».proof.Proof.Gen.Modulation.Frame
public import proofs.«01_k».proof.Proof.Gen.ModulationIdeal.Frame
public import proofs.«01_k».proof.Proof.Gen.ModulationIdeal.Value
public import proofs.«01_k».proof.Proof.Gen.ModulationReferenceIdeal.Run
public import proofs.«01_k».proof.Proof.Gen.ModulationReferenceIdeal.Read

@[expose] public section

noncomputable section

namespace Cert.Proof

open Idealize.ShloMosaic Idealize.SL.Sem

theorem frame_K : Cert.quiescent_Kernel := fun m ρ _ =>
  (θ_run Cert.Kernel.defs _ _).mono (fun r h => ⟨fun c => (h.1 c).2, h.2⟩) (Cert.Proof.K.run_read (F := Bits) m ρ)

theorem frame_KI : Cert.quiescent_KernelIdeal := fun m ρ _ =>
  (θ_run Cert.KernelIdeal.defs _ _).mono (fun r h => ⟨fun c => (h.1 c).2, h.2⟩) (Cert.Proof.KI.run_read (F := Ideal) m ρ)

theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants stand for their values. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "negligible" .f32 0xC3070000#32 ⊥ rfl⟩

/-- At exact arithmetic, where the queries and keys are finite, the kernel's result is the reference's. -/
theorem algebraic : Cert.algebraic_KernelIdeal_ReferenceIdeal_pre_finite (hPre_finite := Val.pre_facts) := by
  intro m ρ m' ρ' hpre hagree
  haveI := Val.pre_facts
  refine ⟨fun c => Val.res (Val.a0 m c) (Val.a1 m c) (Val.a2 m c),
    (θ_run Cert.KernelIdeal.defs _ _).mono (fun r h c => ⟨(h.1 c).1.trans (Val.arr_eq (Val.pre_q (hpre c)) (Val.pre_k (hpre c))), (h.1 c).2⟩)
      (Cert.Proof.KI.run_read (F := Ideal) m ρ),
    (θ_run Cert.ReferenceIdeal.defs _ _).mono (fun r h c => ⟨(h c).1.trans ?_, (h c).2⟩) (Cert.ReferenceIdeal.Value.run (F := Ideal) m' ρ')⟩
  rw [Cert.ReferenceIdeal.Read.val_main_v35_eq, (hagree c).1, (hagree c).2.1, (hagree c).2.2]
  funext i
  exact Val.ref_out (Val.pre_q (hpre c)) (Val.pre_k (hpre c)) i

/-! ### The projections -/

theorem frame_P : Cert.quiescent_Projections := fun m ρ _ => Cert.Projections.Gen.frame m ρ
theorem frame_PI : Cert.quiescent_ProjectionsIdeal := fun m ρ _ => Cert.ProjectionsIdeal.Gen.frame m ρ
theorem frame_PRI : Cert.quiescent_ProjectionsReferenceIdeal := fun m ρ _ =>
  (θ_run Cert.ProjectionsReferenceIdeal.defs _ _).mono (fun r h => ⟨fun c => (h c).2.2.2, sem_eq_zero_of_no_sems (by decide) r.2⟩)
    (Cert.ProjectionsReferenceIdeal.Value.run (F := Ideal) m ρ)

theorem preserves_P : Cert.preserves_Projections_ProjectionsIdeal :=
  IdealRules.named_const.statement Cert.ProjectionsIdeal.κ "qscale" .f32 0x3E38AA3B#32 ((8⁻¹ * (Real.log 2)⁻¹ : ℝ) : EReal) rfl

/-- At exact arithmetic the projections' three results are the reference's. -/
theorem algebraic_P : Cert.algebraic_ProjectionsIdeal_ProjectionsReferenceIdeal := by
  intro m ρ m' ρ' _ hagree
  refine ⟨fun c => Proj.qR (Proj.b0 m c) (Proj.b2 m c) (Proj.b4 m c) (Proj.b6 m c), fun c => Proj.kvR (Proj.b0 m c) (Proj.b1 m c) (Proj.b3 m c) (Proj.b5 m c),
    fun c => Proj.zR (Proj.b0 m c) (Proj.b2 m c) (Proj.b4 m c) (Proj.b6 m c),
    (θ_run Cert.ProjectionsIdeal.defs _ _).mono (fun r h c => ⟨(h c).1.trans (Proj.q_eq m c), (h c).2.1.trans (Proj.kv_eq m c), (h c).2.2.1.trans (Proj.z_eq m c), (h c).2.2.2⟩)
      (Cert.ProjectionsIdeal.Value.run_blocks (F := Ideal) m ρ),
    (θ_run Cert.ProjectionsReferenceIdeal.defs _ _).mono (fun r h c => ⟨(h c).1.trans ?_, (h c).2.1.trans ?_, (h c).2.2.1.trans ?_, (h c).2.2.2⟩)
      (Cert.ProjectionsReferenceIdeal.Value.run (F := Ideal) m' ρ')⟩
  · rw [Cert.ProjectionsReferenceIdeal.Read.val_main_v59_eq, (hagree c).1, (hagree c).2.2.1, (hagree c).2.2.2.2.1, (hagree c).2.2.2.2.2.2]
    exact Proj.ref_q _ _ _ _
  · rw [Cert.ProjectionsReferenceIdeal.Read.val_main_v60_eq, (hagree c).1, (hagree c).2.1, (hagree c).2.2.2.1, (hagree c).2.2.2.2.2.1]
    exact Proj.ref_kv _ _ _ _
  · rw [Cert.ProjectionsReferenceIdeal.Read.val_main_v53_eq, (hagree c).1, (hagree c).2.2.1, (hagree c).2.2.2.2.1, (hagree c).2.2.2.2.2.2]
    exact Proj.ref_z _ _ _ _

/-! ### The convolution layer -/

theorem frame_C : Cert.quiescent_ConvLayer := fun m ρ _ => Cert.ConvLayer.Gen.frame m ρ
theorem frame_CI : Cert.quiescent_ConvLayerIdeal := fun m ρ _ => Cert.ConvLayerIdeal.Gen.frame m ρ
theorem frame_CRI : Cert.quiescent_ConvLayerReferenceIdeal := fun m ρ _ =>
  (θ_run Cert.ConvLayerReferenceIdeal.defs _ _).mono (fun r h => ⟨fun c => (h c).2, sem_eq_zero_of_no_sems (by decide) r.2⟩)
    (Cert.ConvLayerReferenceIdeal.Value.run (F := Ideal) m ρ)

theorem preserves_C : Cert.preserves_ConvLayer_ConvLayerIdeal := trivial

/-- At exact arithmetic the convolution layer's result is the reference's. -/
theorem algebraic_C : Cert.algebraic_ConvLayerIdeal_ConvLayerReferenceIdeal := by
  intro m ρ m' ρ' _ hagree
  refine ⟨fun c => Conv.outR (Conv.b0 m c) (Conv.b1 m c) (Conv.b2 m c) (Conv.b3 m c) (Conv.b4 m c) (Conv.b5 m c),
    (θ_run Cert.ConvLayerIdeal.defs _ _).mono (fun r h c => ⟨(h c).1.trans (Conv.arr_eq m c), (h c).2⟩)
      (Cert.ConvLayerIdeal.Value.run_blocks (F := Ideal) m ρ),
    (θ_run Cert.ConvLayerReferenceIdeal.defs _ _).mono (fun r h c => ⟨(h c).1.trans ?_, (h c).2⟩)
      (Cert.ConvLayerReferenceIdeal.Value.run (F := Ideal) m' ρ')⟩
  rw [Cert.ConvLayerReferenceIdeal.Read.val_main_v61_eq, (hagree c).1, (hagree c).2.1, (hagree c).2.2.1, (hagree c).2.2.2.1, (hagree c).2.2.2.2.1, (hagree c).2.2.2.2.2]
  exact Conv.ref_out _ _ _ _ _ _

/-! ### The output layer -/

theorem frame_O : Cert.quiescent_OutLayer := fun m ρ _ => Cert.OutLayer.Gen.frame m ρ
theorem frame_OI : Cert.quiescent_OutLayerIdeal := fun m ρ _ => Cert.OutLayerIdeal.Gen.frame m ρ
theorem frame_ORI : Cert.quiescent_OutLayerReferenceIdeal := fun m ρ _ =>
  (θ_run Cert.OutLayerReferenceIdeal.defs _ _).mono (fun r h => ⟨fun c => (h c).2, sem_eq_zero_of_no_sems (by decide) r.2⟩)
    (Cert.OutLayerReferenceIdeal.Value.run (F := Ideal) m ρ)

theorem preserves_O : Cert.preserves_OutLayer_OutLayerIdeal := trivial

/-- At exact arithmetic the output layer's result is the reference's. -/
theorem algebraic_O : Cert.algebraic_OutLayerIdeal_OutLayerReferenceIdeal := by
  intro m ρ m' ρ' _ hagree
  refine ⟨fun c => Out.outR (Out.b0 m c) (Out.b1 m c) (Out.b2 m c) (Out.b3 m c) (Out.b4 m c),
    (θ_run Cert.OutLayerIdeal.defs _ _).mono (fun r h c => ⟨(h c).1.trans (Out.arr_eq m c), (h c).2⟩)
      (Cert.OutLayerIdeal.Value.run_blocks (F := Ideal) m ρ),
    (θ_run Cert.OutLayerReferenceIdeal.defs _ _).mono (fun r h c => ⟨(h c).1.trans ?_, (h c).2⟩)
      (Cert.OutLayerReferenceIdeal.Value.run (F := Ideal) m' ρ')⟩
  rw [Cert.OutLayerReferenceIdeal.Read.val_main_v20_eq, (hagree c).1, (hagree c).2.1, (hagree c).2.2.1, (hagree c).2.2.2.1, (hagree c).2.2.2.2]
  exact Out.ref_out _ _ _ _ _

theorem frame_M : Cert.quiescent_Modulation := fun m ρ _ => Cert.Modulation.Gen.frame m ρ
theorem frame_MI : Cert.quiescent_ModulationIdeal := fun m ρ _ => Cert.ModulationIdeal.Gen.frame m ρ
theorem frame_MRI : Cert.quiescent_ModulationReferenceIdeal := fun m ρ _ =>
  (θ_run Cert.ModulationReferenceIdeal.defs _ _).mono (fun r h => ⟨fun c => (h c).2, sem_eq_zero_of_no_sems (by decide) r.2⟩)
    (Cert.ModulationReferenceIdeal.Value.run (F := Ideal) m ρ)

theorem preserves_M : Cert.preserves_Modulation_ModulationIdeal := trivial

/-- The modulations' kernel and their reference return the same array. -/
theorem algebraic_M : Cert.algebraic_ModulationIdeal_ModulationReferenceIdeal := by
  intro m ρ m' ρ' _ hagree
  refine ⟨fun c => Mod.outR (Mod.b0 m c) (Mod.b1 m c) (Mod.b2 m c) (Mod.b3 m c) (Mod.b4 m c) (Mod.b5 m c) (Mod.b6 m c),
    (θ_run Cert.ModulationIdeal.defs _ _).mono (fun r h c => ⟨(h c).1.trans (Mod.arr_eq m c), (h c).2⟩)
      (Cert.ModulationIdeal.Value.run_blocks (F := Ideal) m ρ),
    (θ_run Cert.ModulationReferenceIdeal.defs _ _).mono (fun r h c => ⟨(h c).1.trans ?_, (h c).2⟩)
      (Cert.ModulationReferenceIdeal.Value.run (F := Ideal) m' ρ')⟩
  rw [Cert.ModulationReferenceIdeal.Read.val_main_v12_eq, (hagree c).1, (hagree c).2.1, (hagree c).2.2.1, (hagree c).2.2.2.1, (hagree c).2.2.2.2.1,
    (hagree c).2.2.2.2.2.1, (hagree c).2.2.2.2.2.2]
  exact Mod.ref_out _ _ _ _ _ _ _

theorem claim : Cert.Claim :=
  ⟨Cert.Kernel.Gen.facts, Cert.KernelIdeal.Gen.facts, Cert.ReferenceIdeal.Gen.facts, Cert.Projections.Gen.facts, Cert.ProjectionsIdeal.Gen.facts,
    Cert.ProjectionsReferenceIdeal.Gen.facts, Cert.ConvLayer.Gen.facts, Cert.ConvLayerIdeal.Gen.facts, Cert.ConvLayerReferenceIdeal.Gen.facts,
    Cert.OutLayer.Gen.facts, Cert.OutLayerIdeal.Gen.facts, Cert.OutLayerReferenceIdeal.Gen.facts,
    Cert.Modulation.Gen.facts, Cert.ModulationIdeal.Gen.facts, Cert.ModulationReferenceIdeal.Gen.facts,
    Val.pre_facts, frame_K, frame_KI, fun m ρ _ => frame_KI m ρ trivial,
    frame_RI, fun m ρ _ => frame_RI m ρ trivial, frame_P, frame_PI, frame_PRI, frame_C, frame_CI, frame_CRI, frame_O, frame_OI, frame_ORI, frame_M, frame_MI, frame_MRI,
    preserves, algebraic, preserves_P, algebraic_P, preserves_C, algebraic_C, preserves_O, algebraic_O, preserves_M, algebraic_M⟩

end Cert.Proof

end
